-- ==== Defs.lean ====
def Pre_Kernel [hPre_experts_in_range : Cert.Pre_experts_in_range.Facts] (m : (ℓ : Loc Cert.Kernel.nD Cert.Kernel.τ Cert.Kernel.sig) → Buf (Elt Bits) ℓ) : Prop :=
  ∀ c : Dev Cert.Kernel.nD,
    (Cert.Pre_experts_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_experts_in_range : Cert.Pre_experts_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_experts_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_experts_in_range : Cert.Pre_experts_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_experts_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite [hPre_finite : Cert.Pre_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite [hPre_finite : Cert.Pre_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite8 [hPre_finite8 : Cert.Pre_finite8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite8 [hPre_finite8 : Cert.Pre_finite8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5))) = (fun _ => 1#1)

def quiescent_Kernel [hKernel : Cert.Kernel.Facts] [hPre_experts_in_range : Cert.Pre_experts_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_experts_in_range : Cert.Pre_experts_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] [hPre_experts_in_range : Cert.Pre_experts_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Kernel5Ideal_pre_finite [hKernel5Ideal : Cert.Kernel5Ideal.Facts] [hPre_finite : Cert.Pre_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Reference5Ideal_pre_finite [hReference5Ideal : Cert.Reference5Ideal.Facts] [hPre_finite : Cert.Pre_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Kernel8Ideal_pre_finite8 [hKernel8Ideal : Cert.Kernel8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Reference8Ideal_pre_finite8 [hReference8Ideal : Cert.Reference8Ideal.Facts] [hPre_finite8 : Cert.Pre_finite8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_experts_in_range : Cert.Pre_experts_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v33_0)) (v1 : (c : Dev Cert.Kernel2Ideal.nD) → Buf (Elt Ideal) ((c.tc : Thread Cert.Kernel2Ideal.nD Cert.Kernel2Ideal.τ).loc Cert.Kernel2Ideal.main_v33_1)) (v2 : (c : Dev Cert.Kernel2Ideal.nD) → Buf (Elt Ideal) ((c.tc : Thread Cert.Kernel2Ideal.nD Cert.Kernel2Ideal.τ).loc Cert.Kernel2Ideal.main_v33_2)) (v3 : (c : Dev Cert.Kernel2Ideal.nD) → Buf (Elt Ideal) ((c.tc : Thread Cert.Kernel2Ideal.nD Cert.Kernel2Ideal.τ).loc Cert.Kernel2Ideal.main_v33_3)) (v4 : (c : Dev Cert.Kernel2Ideal.nD) → Buf (Elt Ideal) ((c.tc : Thread Cert.Kernel2Ideal.nD Cert.Kernel2Ideal.τ).loc Cert.Kernel2Ideal.main_v33_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v33_0) = v0 c
          ∧ r.2.mem ((c.tc : Thread Cert.Kernel2Ideal.nD Cert.Kernel2Ideal.τ).loc Cert.Kernel2Ideal.main_v33_1) = v1 c
          ∧ r.2.mem ((c.tc : Thread Cert.Kernel2Ideal.nD Cert.Kernel2Ideal.τ).loc Cert.Kernel2Ideal.main_v33_2) = v2 c
          ∧ r.2.mem ((c.tc : Thread Cert.Kernel2Ideal.nD Cert.Kernel2Ideal.τ).loc Cert.Kernel2Ideal.main_v33_3) = v3 c
          ∧ r.2.mem ((c.tc : Thread Cert.Kernel2Ideal.nD Cert.Kernel2Ideal.τ).loc Cert.Kernel2Ideal.main_v33_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v36) = v0 c
          ∧ r.2.mem ((c.tc : Thread Cert.Reference2Ideal.nD Cert.Reference2Ideal.τ).loc Cert.Reference2Ideal.main_v31) = v1 c
          ∧ r.2.mem ((c.tc : Thread Cert.Reference2Ideal.nD Cert.Reference2Ideal.τ).loc Cert.Reference2Ideal.main_v38) = v2 c
          ∧ r.2.mem ((c.tc : Thread Cert.Reference2Ideal.nD Cert.Reference2Ideal.τ).loc Cert.Reference2Ideal.main_v40) = v3 c
          ∧ r.2.mem ((c.tc : Thread Cert.Reference2Ideal.nD Cert.Reference2Ideal.τ).loc Cert.Reference2Ideal.main_v42) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v5_0)) (v1 : (c : Dev Cert.Kernel4Ideal.nD) → Buf (Elt Ideal) ((c.tc : Thread Cert.Kernel4Ideal.nD Cert.Kernel4Ideal.τ).loc Cert.Kernel4Ideal.main_v5_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5_0) = v0 c
          ∧ r.2.mem ((c.tc : Thread Cert.Kernel4Ideal.nD Cert.Kernel4Ideal.τ).loc Cert.Kernel4Ideal.main_v5_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v40) = v0 c
          ∧ r.2.mem ((c.tc : Thread Cert.Reference4Ideal.nD Cert.Reference4Ideal.τ).loc Cert.Reference4Ideal.main_v54) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  IdealRules.named_const.Statement Cert.Kernel5Ideal.κ "mask" .f32 0xF149F2CA#32 ⊥

def algebraic_Kernel5Ideal_Reference5Ideal_pre_finite [hKernel5Ideal : Cert.Kernel5Ideal.Facts] [hReference5Ideal : Cert.Reference5Ideal.Facts] [hPre_finite : Cert.Pre_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v32) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v20) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v20) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal_pre_finite8 [hKernel8Ideal : Cert.Kernel8Ideal.Facts] [hReference8Ideal : Cert.Reference8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v27_0)) (v1 : (c : Dev Cert.Kernel8Ideal.nD) → Buf (Elt Ideal) ((c.tc : Thread Cert.Kernel8Ideal.nD Cert.Kernel8Ideal.τ).loc Cert.Kernel8Ideal.main_v27_1)) (v2 : (c : Dev Cert.Kernel8Ideal.nD) → Buf (Elt Ideal) ((c.tc : Thread Cert.Kernel8Ideal.nD Cert.Kernel8Ideal.τ).loc Cert.Kernel8Ideal.main_v27_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v27_0) = v0 c
          ∧ r.2.mem ((c.tc : Thread Cert.Kernel8Ideal.nD Cert.Kernel8Ideal.τ).loc Cert.Kernel8Ideal.main_v27_1) = v1 c
          ∧ r.2.mem ((c.tc : Thread Cert.Kernel8Ideal.nD Cert.Kernel8Ideal.τ).loc Cert.Kernel8Ideal.main_v27_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v38) = v0 c
          ∧ r.2.mem ((c.tc : Thread Cert.Reference8Ideal.nD Cert.Reference8Ideal.τ).loc Cert.Reference8Ideal.main_v31) = v1 c
          ∧ r.2.mem ((c.tc : Thread Cert.Reference8Ideal.nD Cert.Reference8Ideal.τ).loc Cert.Reference8Ideal.main_v37) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_experts_in_range : Cert.Pre_experts_in_range.Facts) (hPre_finite : Cert.Pre_finite.Facts) (hPre_finite8 : Cert.Pre_finite8.Facts),
    quiescent_Kernel (hKernel := hKernel) (hPre_experts_in_range := hPre_experts_in_range)
    ∧ quiescent_KernelIdeal (hKernelIdeal := hKernelIdeal) (hPre_experts_in_range := hPre_experts_in_range)
    ∧ quiescent_ReferenceIdeal (hReferenceIdeal := hReferenceIdeal) (hPre_experts_in_range := hPre_experts_in_range)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite (hKernel5Ideal := hKernel5Ideal) (hPre_finite := hPre_finite)
    ∧ quiescent_Reference5Ideal (hReference5Ideal := hReference5Ideal)
    ∧ quiescent_Reference5Ideal_pre_finite (hReference5Ideal := hReference5Ideal) (hPre_finite := hPre_finite)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite8 (hKernel8Ideal := hKernel8Ideal) (hPre_finite8 := hPre_finite8)
    ∧ quiescent_Reference8Ideal (hReference8Ideal := hReference8Ideal)
    ∧ quiescent_Reference8Ideal_pre_finite8 (hReference8Ideal := hReference8Ideal) (hPre_finite8 := hPre_finite8)
    ∧ preserves_Kernel_KernelIdeal
    ∧ algebraic_KernelIdeal_ReferenceIdeal (hKernelIdeal := hKernelIdeal) (hReferenceIdeal := hReferenceIdeal) (hPre_experts_in_range := hPre_experts_in_range)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite (hKernel5Ideal := hKernel5Ideal) (hReference5Ideal := hReference5Ideal) (hPre_finite := hPre_finite)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite8 (hKernel8Ideal := hKernel8Ideal) (hReference8Ideal := hReference8Ideal) (hPre_finite8 := hPre_finite8)
-- ==== Pre_experts_in_range.lean ====
abbrev S40 : Shape := ⟨1, ![40]⟩
abbrev S40960x1024 : Shape := ⟨2, ![40960, 1024]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S40 : S_.BroadcastsInDim S40 (![] : Fin 0 → Fin S40.rank)
  reducesTo_S40_S_d0 : S40.ReducesTo [0] S_
  h_S_ : 0 < S_.numel

variable [Facts]

def fn {F : FTy → Type} [FloatOps F] (main_arg0 : IVec S40 32) (main_arg1 : IVec S40 32) (main_arg2 : FVec F S40960x1024 .f32) (main_arg3 : FVec F S8x1024x3584 .f32) (main_arg4 : FVec F S8x1024x3584 .f32) (main_arg5 : FVec F S8x3584x1024 .f32) : IVec S_ 1 :=
  let main_c : IVec S_ 32 := constantI S_ 32 0#32
  let main_v0 : IVec S40 32 := broadcastInDim S40 ![] bcast_S_S40 main_c
  let main_v1 : IVec S40 1 := cmpi .sge main_arg0 main_v0
  let main_c_0 : IVec S_ 32 := constantI S_ 32 8#32
  let main_v2 : IVec S40 32 := broadcastInDim S40 ![] bcast_S_S40 main_c_0
  let main_v3 : IVec S40 1 := cmpi .slt main_arg0 main_v2
  let main_v4 : IVec S40 1 := andi main_v1 main_v3
  let main_c_1 : IVec S_ 1 := constantI S_ 1 1#1
  let main_v5 : IVec S_ 1 := (fun x v => Host.reduce IntOp.andi x v reducesTo_S40_S_d0 h_S_) main_v4 main_c_1
  main_v5
-- ==== Pre_finite.lean ====
abbrev S2x8320x5632 : Shape := ⟨3, ![2, 8320, 5632]⟩
abbrev S2x8x64x8320 : Shape := ⟨4, ![2, 8, 64, 8320]⟩
abbrev S2x8x8320 : Shape := ⟨3, ![2, 8, 8320]⟩
abbrev S2x8320x512 : Shape := ⟨3, ![2, 8320, 512]⟩
abbrev S_ : Shape := ⟨0, ![]⟩

class Facts : Prop where
  slices_S2x8320x5632_S2x8320x512_0_0_5120 : S2x8320x5632.Slices ![0, 0, 5120] S2x8320x512
  bcast_S_S2x8320x512 : S_.BroadcastsInDim S2x8320x512 (![] : Fin 0 → Fin S2x8320x512.rank)
  reducesTo_S2x8320x512_S_d0_1_2 : S2x8320x512.ReducesTo [0, 1, 2] S_
  h_S_ : 0 < S_.numel
  bcast_S_S2x8x64x8320 : S_.BroadcastsInDim S2x8x64x8320 (![] : Fin 0 → Fin S2x8x64x8320.rank)
  reducesTo_S2x8x64x8320_S_d0_1_2_3 : S2x8x64x8320.ReducesTo [0, 1, 2, 3] S_
  bcast_S_S2x8x8320 : S_.BroadcastsInDim S2x8x8320 (![] : Fin 0 → Fin S2x8x8320.rank)
  reducesTo_S2x8x8320_S_d0_1_2 : S2x8x8320.ReducesTo [0, 1, 2] S_

variable [Facts]

def fn_part1 {F : FTy → Type} [FloatOps F] (main_v14 : IVec S_ 1) (main_v15 : FVec F S2x8x8320 .f32) (main_v16 : FVec F S2x8x8320 .f32) : IVec S_ 1 :=
  let main_v17 : IVec S2x8x8320 1 := cmpf .olt main_v15 main_v16
  let main_c_5 : IVec S_ 1 := constantI S_ 1 1#1
  let main_v18 : IVec S_ 1 := (fun x v => Host.reduce IntOp.andi x v reducesTo_S2x8x8320_S_d0_1_2 h_S_) main_v17 main_c_5
  let main_v19 : IVec S_ 1 := andi main_v14 main_v18
  main_v19

def fn {F : FTy → Type} [FloatOps F] (main_arg0 : FVec F S2x8320x5632 .f32) (main_arg1 : FVec F S2x8x64x8320 .f32) (main_arg2 : FVec F S2x8x64x8320 .f32) (main_arg3 : FVec F S2x8x8320 .f32) : IVec S_ 1 :=
  let main_v0 : FVec F S2x8320x512 .f32 := (extractStridedSlice S2x8320x512 ![0, 0, 5120] · slices_S2x8320x5632_S2x8320x512_0_0_5120) main_arg0
  let main_v1 : FVec F S2x8320x512 .f32 := Host.absf main_v0
  let main_cst : FVec F S_ .f32 := constant S_ .f32 0x7F800000#32
  let main_v2 : FVec F S2x8320x512 .f32 := broadcastInDim S2x8320x512 ![] bcast_S_S2x8320x512 main_cst
  let main_v3 : IVec S2x8320x512 1 := cmpf .olt main_v1 main_v2
  let main_c : IVec S_ 1 := constantI S_ 1 1#1
  let main_v4 : IVec S_ 1 := (fun x v => Host.reduce IntOp.andi x v reducesTo_S2x8320x512_S_d0_1_2 h_S_) main_v3 main_c
  let main_v5 : FVec F S2x8x64x8320 .f32 := Host.absf main_arg1
  let main_cst_0 : FVec F S_ .f32 := constant S_ .f32 0x7F800000#32
  let main_v6 : FVec F S2x8x64x8320 .f32 := broadcastInDim S2x8x64x8320 ![] bcast_S_S2x8x64x8320 main_cst_0
  let main_v7 : IVec S2x8x64x8320 1 := cmpf .olt main_v5 main_v6
  let main_c_1 : IVec S_ 1 := constantI S_ 1 1#1
  let main_v8 : IVec S_ 1 := (fun x v => Host.reduce IntOp.andi x v reducesTo_S2x8x64x8320_S_d0_1_2_3 h_S_) main_v7 main_c_1
  let main_v9 : IVec S_ 1 := andi main_v4 main_v8
  let main_v10 : FVec F S2x8x64x8320 .f32 := Host.absf main_arg2
  let main_cst_2 : FVec F S_ .f32 := constant S_ .f32 0x7F800000#32
  let main_v11 : FVec F S2x8x64x8320 .f32 := broadcastInDim S2x8x64x8320 ![] bcast_S_S2x8x64x8320 main_cst_2
  let main_v12 : IVec S2x8x64x8320 1 := cmpf .olt main_v10 main_v11
  let main_c_3 : IVec S_ 1 := constantI S_ 1 1#1
  let main_v13 : IVec S_ 1 := (fun x v => Host.reduce IntOp.andi x v reducesTo_S2x8x64x8320_S_d0_1_2_3 h_S_) main_v12 main_c_3
  let main_v14 : IVec S_ 1 := andi main_v9 main_v13
  let main_v15 : FVec F S2x8x8320 .f32 := Host.absf main_arg3
  let main_cst_4 : FVec F S_ .f32 := constant S_ .f32 0x7F800000#32
  let main_v16 : FVec F S2x8x8320 .f32 := broadcastInDim S2x8x8320 ![] bcast_S_S2x8x8320 main_cst_4
  fn_part1 (F := F) main_v14 main_v15 main_v16
-- ==== Pre_finite8.lean ====
abbrev S128x1024 : Shape := ⟨2, ![128, 1024]⟩
abbrev S1024 : Shape := ⟨1, ![1024]⟩
abbrev S1024x6680 : Shape := ⟨2, ![1024, 6680]⟩
abbrev S16x512 : Shape := ⟨2, ![16, 512]⟩
abbrev S512 : Shape := ⟨1, ![512]⟩
abbrev S8 : Shape := ⟨1, ![8]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x6680 : S_.BroadcastsInDim S1024x6680 (![] : Fin 0 → Fin S1024x6680.rank)
  reducesTo_S1024x6680_S_d0_1 : S1024x6680.ReducesTo [0, 1] S_
  bcast_S_S16x512 : S_.BroadcastsInDim S16x512 (![] : Fin 0 → Fin S16x512.rank)
  reducesTo_S16x512_S_d0_1 : S16x512.ReducesTo [0, 1] S_

variable [Facts]

def fn {F : FTy → Type} [FloatOps F] (main_arg0 : FVec F S128x1024 .f32) (main_arg1 : FVec F S1024 .f32) (main_arg2 : FVec F S1024x6680 .f32) (main_arg3 : FVec F S16x512 .f32) (main_arg4 : FVec F S512 .f32) (main_arg5 : FVec F S8 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x6680 .f32 := Host.absf main_arg2
  let main_cst_0 : FVec F S_ .f32 := constant S_ .f32 0x7F800000#32
  let main_v5 : FVec F S1024x6680 .f32 := broadcastInDim S1024x6680 ![] bcast_S_S1024x6680 main_cst_0
  let main_v6 : IVec S1024x6680 1 := cmpf .olt main_v4 main_v5
  let main_c_1 : IVec S_ 1 := constantI S_ 1 1#1
  let main_v7 : IVec S_ 1 := (fun x v => Host.reduce IntOp.andi x v reducesTo_S1024x6680_S_d0_1 h_S_) main_v6 main_c_1
  let main_v8 : IVec S_ 1 := andi main_v3 main_v7
  let main_v9 : FVec F S16x512 .f32 := Host.absf main_arg3
  let main_cst_2 : FVec F S_ .f32 := constant S_ .f32 0x7F800000#32
  let main_v10 : FVec F S16x512 .f32 := broadcastInDim S16x512 ![] bcast_S_S16x512 main_cst_2
  let main_v11 : IVec S16x512 1 := cmpf .olt main_v9 main_v10
  let main_c_3 : IVec S_ 1 := constantI S_ 1 1#1
  let main_v12 : IVec S_ 1 := (fun x v => Host.reduce IntOp.andi x v reducesTo_S16x512_S_d0_1 h_S_) main_v11 main_c_3
  let main_v13 : IVec S_ 1 := andi main_v8 main_v12
  main_v13
-- ==== Kernel.lean ====
abbrev S40 : Shape := ⟨1, ![40]⟩
abbrev S40960x1024 : Shape := ⟨2, ![40960, 1024]⟩
abbrev S8x1024x3584 : Shape := ⟨3, ![8, 1024, 3584]⟩
abbrev S8x3584x1024 : Shape := ⟨3, ![8, 3584, 1024]⟩
abbrev S1024x1024 : Shape := ⟨2, ![1024, 1024]⟩
abbrev S1x1024x512 : Shape := ⟨3, ![1, 1024, 512]⟩
abbrev S1 : Shape := ⟨1, ![1]⟩
abbrev S1x512x1024 : Shape := ⟨3, ![1, 512, 1024]⟩
abbrev S1024x512 : Shape := ⟨2, ![1024, 512]⟩
abbrev S512x1024 : Shape := ⟨2, ![512, 1024]⟩

abbrev nBuf : Space → Nat
  | .hbm => 5
  | .vmem => 11
  | .smem => 2
  | _ => 0

abbrev bufTy : (tb : Table) → Fin (tcTables nBuf tb) → BufTy
  | .hbm, ⟨0, _⟩ => ⟨S40960x1024, .f32⟩
  | .hbm, ⟨1, _⟩ => ⟨S8x1024x3584, .f32⟩
  | .hbm, ⟨2, _⟩ => ⟨S8x1024x3584, .f32⟩
  | .hbm, ⟨3, _⟩ => ⟨S8x3584x1024, .f32⟩
  | .hbm, ⟨4, _⟩ => ⟨S40960x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024x512, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x512x1024, .f32⟩
  | .local _ .vmem, ⟨7, _⟩ => ⟨S1x512x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .smem, ⟨0, _⟩ => ⟨S40, .i32⟩
  | .local _ .smem, ⟨1, _⟩ => ⟨S40, .i32⟩
  | _, _ => ⟨S40960x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![40, 7], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg1 : BitVec 32 := BitVec.ofNat 32 (i 1).val
  let c0_i32_0 : BitVec 32 := 0#32
  let v3 : BitVec 1 := Scalar.cmpi .eq arg1 c0_i32_0
  let v4 : BitVec 32 := Scalar.extui v3
  let c0_i32_1 : BitVec 32 := 0#32
  let v5 : BitVec 1 := Scalar.cmpi .ne v4 c0_i32_1
  v5

def k0_cond2 (v1 : BitVec 32) : BitVec 1 :=
  let c0_i32 : BitVec 32 := 0#32
  let v2 : BitVec 1 := Scalar.cmpi .sgt v1 c0_i32
  let v6 : BitVec 32 := Scalar.extui v2
  let c0_i32_2 : BitVec 32 := 0#32
  let v7 : BitVec 1 := Scalar.cmpi .ne v6 c0_i32_2
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let v2 : Index := Scalar.indexCast arg0
  let v3 : BitVec 32 := pf.at 1 (Rect.unit (s := S40) ![v2.toNat] S1.size (k0_off1_inb i)) numel1_S1
  let c0_i32 : BitVec 32 := 0#32
  let v4 : BitVec 1 := Scalar.cmpi .sgt v3 c0_i32
  let c6_i32 : BitVec 32 := 6#32
  let v5 : BitVec 32 := Scalar.select v4 arg1 c6_i32
  let c0_i32_0 : BitVec 32 := 0#32
  let c0_i32_1 : BitVec 32 := 0#32
  ![v1.toNat, c0_i32_0.toNat, v5.toNat]

def cc0_transform_2 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let v2 : Index := Scalar.indexCast arg0
  let v3 : BitVec 32 := pf.at 1 (Rect.unit (s := S40) ![v2.toNat] S1.size (k0_off1_inb i)) numel1_S1
  let c0_i32 : BitVec 32 := 0#32
  let v4 : BitVec 1 := Scalar.cmpi .sgt v3 c0_i32
  let c6_i32 : BitVec 32 := 6#32
  let v5 : BitVec 32 := Scalar.select v4 arg1 c6_i32
  let c0_i32_0 : BitVec 32 := 0#32
  let c0_i32_1 : BitVec 32 := 0#32
  ![v1.toNat, c0_i32_0.toNat, v5.toNat]

def cc0_transform_3 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let v2 : Index := Scalar.indexCast arg0
  let v3 : BitVec 32 := pf.at 1 (Rect.unit (s := S40) ![v2.toNat] S1.size (k0_off1_inb i)) numel1_S1
  let c0_i32 : BitVec 32 := 0#32
  let v4 : BitVec 1 := Scalar.cmpi .sgt v3 c0_i32
  let c6_i32 : BitVec 32 := 6#32
  let v5 : BitVec 32 := Scalar.select v4 arg1 c6_i32
  let c0_i32_0 : BitVec 32 := 0#32
  let c0_i32_1 : BitVec 32 := 0#32
  ![v1.toNat, v5.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S40 : Shape := ⟨1, ![40]⟩
abbrev S40960x1024 : Shape := ⟨2, ![40960, 1024]⟩
abbrev S8x1024x3584 : Shape := ⟨3, ![8, 1024, 3584]⟩
abbrev S8x3584x1024 : Shape := ⟨3, ![8, 3584, 1024]⟩
abbrev S40x1 : Shape := ⟨2, ![40, 1]⟩
abbrev S40x1024 : Shape := ⟨2, ![40, 1024]⟩
abbrev S40960 : Shape := ⟨1, ![40960]⟩
abbrev S40960x1 : Shape := ⟨2, ![40960, 1]⟩
abbrev S1x8 : Shape := ⟨2, ![1, 8]⟩
abbrev S40960x8 : Shape := ⟨2, ![40960, 8]⟩
abbrev S_ : Shape := ⟨0, ![]⟩
abbrev S1x1024x3584 : Shape := ⟨3, ![1, 1024, 3584]⟩
abbrev S1024x3584 : Shape := ⟨2, ![1024, 3584]⟩
abbrev S1x3584x1024 : Shape := ⟨3, ![1, 3584, 1024]⟩
abbrev S3584x1024 : Shape := ⟨2, ![3584, 1024]⟩
abbrev S40960x3584 : Shape := ⟨2, ![40960, 3584]⟩

abbrev nBuf : Space → Nat
  | .hbm => 211
  | .vmem => 0
  | .smem => 0
  | _ => 0

abbrev hbmTy0_0 (i : Nat) : BufTy := match i % 128 with
  | 0 => ⟨S40, .i32⟩
  | 1 => ⟨S40, .i32⟩
  | 2 => ⟨S40960x1024, .f32⟩
  | 3 => ⟨S8x1024x3584, .f32⟩
  | 4 => ⟨S8x1024x3584, .f32⟩
  | 5 => ⟨S8x3584x1024, .f32⟩
  | 6 => ⟨S40x1, .i32⟩
  | 7 => ⟨S40x1024, .i32⟩
  | 8 => ⟨S40960, .i32⟩
  | 9 => ⟨S40x1, .i32⟩
  | 10 => ⟨S40x1024, .i32⟩
  | 11 => ⟨S40960, .i32⟩
  | 12 => ⟨S40960x1, .i32⟩
  | 13 => ⟨S1x8, .i32⟩
  | 14 => ⟨S40960x8, .i32⟩
  | 15 => ⟨S40960x8, .i32⟩
  | 16 => ⟨S40960x8, .i1⟩
  | 17 => ⟨S40960x8, .f32⟩
  | 18 => ⟨S_, .i32⟩
  | 19 => ⟨S40960, .i32⟩
  | 20 => ⟨S40960, .i1⟩
  | 21 => ⟨S40960, .f32⟩
  | 22 => ⟨S40960x1, .f32⟩
  | 23 => ⟨S40960x8, .f32⟩
  | 24 => ⟨S40960x8, .f32⟩
  | 25 => ⟨S_, .f32⟩
  | 26 => ⟨S40960x1024, .f32⟩
  | 27 => ⟨S40960x1, .f32⟩
  | 28 => ⟨S1x1024x3584, .f32⟩
  | 29 => ⟨S1024x3584, .f32⟩
  | 30 => ⟨S1x1024x3584, .f32⟩
  | 31 => ⟨S1024x3584, .f32⟩
  | 32 => ⟨S1x3584x1024, .f32⟩
  | 33 => ⟨S3584x1024, .f32⟩
  | 34 => ⟨S40960x3584, .f32⟩
  | 35 => ⟨S40960x3584, .f32⟩
  | 36 => ⟨S40960x3584, .f32⟩
  | 37 => ⟨S_, .f32⟩
  | 38 => ⟨S40960x3584, .f32⟩
  | 39 => ⟨S40960x3584, .f32⟩
  | 40 => ⟨S_, .f32⟩
  | 41 => ⟨S40960x3584, .f32⟩
  | 42 => ⟨S40960x3584, .f32⟩
  | 43 => ⟨S40960x3584, .f32⟩
  | 44 => ⟨S40960x3584, .f32⟩
  | 45 => ⟨S40960x3584, .f32⟩
  | 46 => ⟨S40960x1024, .f32⟩
  | 47 => ⟨S40960x1024, .f32⟩
  | 48 => ⟨S40960x1024, .f32⟩
  | 49 => ⟨S40960x1024, .f32⟩
  | 50 => ⟨S40960x1, .f32⟩
  | 51 => ⟨S1x1024x3584, .f32⟩
  | 52 => ⟨S1024x3584, .f32⟩
  | 53 => ⟨S1x1024x3584, .f32⟩
  | 54 => ⟨S1024x3584, .f32⟩
  | 55 => ⟨S1x3584x1024, .f32⟩
  | 56 => ⟨S3584x1024, .f32⟩
  | 57 => ⟨S40960x3584, .f32⟩
  | 58 => ⟨S40960x3584, .f32⟩
  | 59 => ⟨S40960x3584, .f32⟩
  | 60 => ⟨S_, .f32⟩
  | 61 => ⟨S40960x3584, .f32⟩
  | 62 => ⟨S40960x3584, .f32⟩
  | 63 => ⟨S_, .f32⟩
  | 64 => ⟨S40960x3584, .f32⟩
  | 65 => ⟨S40960x3584, .f32⟩
  | 66 => ⟨S40960x3584, .f32⟩
  | 67 => ⟨S40960x3584, .f32⟩
  | 68 => ⟨S40960x3584, .f32⟩
  | 69 => ⟨S40960x1024, .f32⟩
  | 70 => ⟨S40960x1024, .f32⟩
  | 71 => ⟨S40960x1024, .f32⟩
  | 72 => ⟨S40960x1024, .f32⟩
  | 73 => ⟨S40960x1, .f32⟩
  | 74 => ⟨S1x1024x3584, .f32⟩
  | 75 => ⟨S1024x3584, .f32⟩
  | 76 => ⟨S1x1024x3584, .f32⟩
  | 77 => ⟨S1024x3584, .f32⟩
  | 78 => ⟨S1x3584x1024, .f32⟩
  | 79 => ⟨S3584x1024, .f32⟩
  | 80 => ⟨S40960x3584, .f32⟩
  | 81 => ⟨S40960x3584, .f32⟩
  | 82 => ⟨S40960x3584, .f32⟩
  | 83 => ⟨S_, .f32⟩
  | 84 => ⟨S40960x3584, .f32⟩
  | 85 => ⟨S40960x3584, .f32⟩
  | 86 => ⟨S_, .f32⟩
  | 87 => ⟨S40960x3584, .f32⟩
  | 88 => ⟨S40960x3584, .f32⟩
  | 89 => ⟨S40960x3584, .f32⟩
  | 90 => ⟨S40960x3584, .f32⟩
  | 91 => ⟨S40960x3584, .f32⟩
  | 92 => ⟨S40960x1024, .f32⟩
  | 93 => ⟨S40960x1024, .f32⟩
  | 94 => ⟨S40960x1024, .f32⟩
  | 95 => ⟨S40960x1024, .f32⟩
  | 96 => ⟨S40960x1, .f32⟩
  | 97 => ⟨S1x1024x3584, .f32⟩
  | 98 => ⟨S1024x3584, .f32⟩
  | 99 => ⟨S1x1024x3584, .f32⟩
  | 100 => ⟨S1024x3584, .f32⟩
  | 101 => ⟨S1x3584x1024, .f32⟩
  | 102 => ⟨S3584x1024, .f32⟩
  | 103 => ⟨S40960x3584, .f32⟩
  | 104 => ⟨S40960x3584, .f32⟩
  | 105 => ⟨S40960x3584, .f32⟩
  | 106 => ⟨S_, .f32⟩
  | 107 => ⟨S40960x3584, .f32⟩
  | 108 => ⟨S40960x3584, .f32⟩
  | 109 => ⟨S_, .f32⟩
  | 110 => ⟨S40960x3584, .f32⟩
  | 111 => ⟨S40960x3584, .f32⟩
  | 112 => ⟨S40960x3584, .f32⟩
  | 113 => ⟨S40960x3584, .f32⟩
  | 114 => ⟨S40960x3584, .f32⟩
  | 115 => ⟨S40960x1024, .f32⟩
  | 116 => ⟨S40960x1024, .f32⟩
  | 117 => ⟨S40960x1024, .f32⟩
  | 118 => ⟨S40960x1024, .f32⟩
  | 119 => ⟨S40960x1, .f32⟩
  | 120 => ⟨S1x1024x3584, .f32⟩
  | 121 => ⟨S1024x3584, .f32⟩
  | 122 => ⟨S1x1024x3584, .f32⟩
  | 123 => ⟨S1024x3584, .f32⟩
  | 124 => ⟨S1x3584x1024, .f32⟩
  | 125 => ⟨S3584x1024, .f32⟩
  | 126 => ⟨S40960x3584, .f32⟩
  | 127 => ⟨S40960x3584, .f32⟩
  | _ => ⟨S40, .i32⟩

abbrev hbmTy0_1 (i : Nat) : BufTy := match i % 128 with
  | 0 => ⟨S40960x3584, .f32⟩
  | 1 => ⟨S_, .f32⟩
  | 2 => ⟨S40960x3584, .f32⟩
  | 3 => ⟨S40960x3584, .f32⟩
  | 4 => ⟨S_, .f32⟩
  | 5 => ⟨S40960x3584, .f32⟩
  | 6 => ⟨S40960x3584, .f32⟩
  | 7 => ⟨S40960x3584, .f32⟩
  | 8 => ⟨S40960x3584, .f32⟩
  | 9 => ⟨S40960x3584, .f32⟩
  | 10 => ⟨S40960x1024, .f32⟩
  | 11 => ⟨S40960x1024, .f32⟩
  | 12 => ⟨S40960x1024, .f32⟩
  | 13 => ⟨S40960x1024, .f32⟩
  | 14 => ⟨S40960x1, .f32⟩
  | 15 => ⟨S1x1024x3584, .f32⟩
  | 16 => ⟨S1024x3584, .f32⟩
  | 17 => ⟨S1x1024x3584, .f32⟩
  | 18 => ⟨S1024x3584, .f32⟩
  | 19 => ⟨S1x3584x1024, .f32⟩
  | 20 => ⟨S3584x1024, .f32⟩
  | 21 => ⟨S40960x3584, .f32⟩
  | 22 => ⟨S40960x3584, .f32⟩
  | 23 => ⟨S40960x3584, .f32⟩
  | 24 => ⟨S_, .f32⟩
  | 25 => ⟨S40960x3584, .f32⟩
  | 26 => ⟨S40960x3584, .f32⟩
  | 27 => ⟨S_, .f32⟩
  | 28 => ⟨S40960x3584, .f32⟩
  | 29 => ⟨S40960x3584, .f32⟩
  | 30 => ⟨S40960x3584, .f32⟩
  | 31 => ⟨S40960x3584, .f32⟩
  | 32 => ⟨S40960x3584, .f32⟩
  | 33 => ⟨S40960x1024, .f32⟩
  | 34 => ⟨S40960x1024, .f32⟩
  | 35 => ⟨S40960x1024, .f32⟩
  | 36 => ⟨S40960x1024, .f32⟩
  | 37 => ⟨S40960x1, .f32⟩
  | 38 => ⟨S1x1024x3584, .f32⟩
  | 39 => ⟨S1024x3584, .f32⟩
  | 40 => ⟨S1x1024x3584, .f32⟩
  | 41 => ⟨S1024x3584, .f32⟩
  | 42 => ⟨S1x3584x1024, .f32⟩
  | 43 => ⟨S3584x1024, .f32⟩
  | 44 => ⟨S40960x3584, .f32⟩
  | 45 => ⟨S40960x3584, .f32⟩
  | 46 => ⟨S40960x3584, .f32⟩
  | 47 => ⟨S_, .f32⟩
  | 48 => ⟨S40960x3584, .f32⟩
  | 49 => ⟨S40960x3584, .f32⟩
  | 50 => ⟨S_, .f32⟩
  | 51 => ⟨S40960x3584, .f32⟩
  | 52 => ⟨S40960x3584, .f32⟩
  | 53 => ⟨S40960x3584, .f32⟩
  | 54 => ⟨S40960x3584, .f32⟩
  | 55 => ⟨S40960x3584, .f32⟩
  | 56 => ⟨S40960x1024, .f32⟩
  | 57 => ⟨S40960x1024, .f32⟩
  | 58 => ⟨S40960x1024, .f32⟩
  | 59 => ⟨S40960x1024, .f32⟩
  | 60 => ⟨S40960x1, .f32⟩
  | 61 => ⟨S1x1024x3584, .f32⟩
  | 62 => ⟨S1024x3584, .f32⟩
  | 63 => ⟨S1x1024x3584, .f32⟩
  | 64 => ⟨S1024x3584, .f32⟩
  | 65 => ⟨S1x3584x1024, .f32⟩
  | 66 => ⟨S3584x1024, .f32⟩
  | 67 => ⟨S40960x3584, .f32⟩
  | 68 => ⟨S40960x3584, .f32⟩
  | 69 => ⟨S40960x3584, .f32⟩
  | 70 => ⟨S_, .f32⟩
  | 71 => ⟨S40960x3584, .f32⟩
  | 72 => ⟨S40960x3584, .f32⟩
  | 73 => ⟨S_, .f32⟩
  | 74 => ⟨S40960x3584, .f32⟩
  | 75 => ⟨S40960x3584, .f32⟩
  | 76 => ⟨S40960x3584, .f32⟩
  | 77 => ⟨S40960x3584, .f32⟩
  | 78 => ⟨S40960x3584, .f32⟩
  | 79 => ⟨S40960x1024, .f32⟩
  | 80 => ⟨S40960x1024, .f32⟩
  | 81 => ⟨S40960x1024, .f32⟩
  | 82 => ⟨S40960x1024, .f32⟩
  | _ => ⟨S40, .i32⟩

abbrev hbmTy (i : Nat) : BufTy := match i / 128 with
  | 0 => hbmTy0_0 i
  | 1 => hbmTy0_1 i
  | _ => ⟨S40, .i32⟩

abbrev bufTy : (tb : Table) → Fin (tcTables nBuf tb) → BufTy
  | .hbm, ⟨i, _⟩ => hbmTy i
  | _, _ => ⟨S40, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v6 : Ref sig .tc := ⟨.hbm, 17, rfl⟩
abbrev main_c : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_call1_v0 : Ref sig .tc := ⟨.hbm, 35, rfl⟩
abbrev main_call1_v1 : Ref sig .tc := ⟨.hbm, 36, rfl⟩
abbrev main_call1_cst : Ref sig .tc := ⟨.hbm, 37, rfl⟩
abbrev main_call1_v2 : Ref sig .tc := ⟨.hbm, 38, rfl⟩
abbrev main_call1_v3 : Ref sig .tc := ⟨.hbm, 39, rfl⟩
abbrev main_call1_cst_0 : Ref sig .tc := ⟨.hbm, 40, rfl⟩
abbrev main_call1_v4 : Ref sig .tc := ⟨.hbm, 41, rfl⟩
abbrev main_call1_v5 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_call2_v0 : Ref sig .tc := ⟨.hbm, 58, rfl⟩
abbrev main_call2_v1 : Ref sig .tc := ⟨.hbm, 59, rfl⟩
abbrev main_call2_cst : Ref sig .tc := ⟨.hbm, 60, rfl⟩
abbrev main_call2_v2 : Ref sig .tc := ⟨.hbm, 61, rfl⟩
abbrev main_call2_v3 : Ref sig .tc := ⟨.hbm, 62, rfl⟩
abbrev main_call2_cst_0 : Ref sig .tc := ⟨.hbm, 63, rfl⟩
abbrev main_call2_v4 : Ref sig .tc := ⟨.hbm, 64, rfl⟩
abbrev main_call2_v5 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_call3_v0 : Ref sig .tc := ⟨.hbm, 81, rfl⟩
abbrev main_call3_v1 : Ref sig .tc := ⟨.hbm, 82, rfl⟩
abbrev main_call3_cst : Ref sig .tc := ⟨.hbm, 83, rfl⟩
abbrev main_call3_v2 : Ref sig .tc := ⟨.hbm, 84, rfl⟩
abbrev main_call3_v3 : Ref sig .tc := ⟨.hbm, 85, rfl⟩
abbrev main_call3_cst_0 : Ref sig .tc := ⟨.hbm, 86, rfl⟩
abbrev main_call3_v4 : Ref sig .tc := ⟨.hbm, 87, rfl⟩
abbrev main_call3_v5 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_call4_v0 : Ref sig .tc := ⟨.hbm, 104, rfl⟩
abbrev main_call4_v1 : Ref sig .tc := ⟨.hbm, 105, rfl⟩
abbrev main_call4_cst : Ref sig .tc := ⟨.hbm, 106, rfl⟩
abbrev main_call4_v2 : Ref sig .tc := ⟨.hbm, 107, rfl⟩
abbrev main_call4_v3 : Ref sig .tc := ⟨.hbm, 108, rfl⟩
abbrev main_call4_cst_0 : Ref sig .tc := ⟨.hbm, 109, rfl⟩
abbrev main_call4_v4 : Ref sig .tc := ⟨.hbm, 110, rfl⟩
abbrev main_call4_v5 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_call5_v0 : Ref sig .tc := ⟨.hbm, 127, rfl⟩
abbrev main_call5_v1 : Ref sig .tc := ⟨.hbm, 128, rfl⟩
abbrev main_call5_cst : Ref sig .tc := ⟨.hbm, 129, rfl⟩
abbrev main_call5_v2 : Ref sig .tc := ⟨.hbm, 130, rfl⟩
abbrev main_call5_v3 : Ref sig .tc := ⟨.hbm, 131, rfl⟩
abbrev main_call5_cst_0 : Ref sig .tc := ⟨.hbm, 132, rfl⟩
abbrev main_call5_v4 : Ref sig .tc := ⟨.hbm, 133, rfl⟩
abbrev main_call5_v5 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_call6_v0 : Ref sig .tc := ⟨.hbm, 150, rfl⟩
abbrev main_call6_v1 : Ref sig .tc := ⟨.hbm, 151, rfl⟩
abbrev main_call6_cst : Ref sig .tc := ⟨.hbm, 152, rfl⟩
abbrev main_call6_v2 : Ref sig .tc := ⟨.hbm, 153, rfl⟩
abbrev main_call6_v3 : Ref sig .tc := ⟨.hbm, 154, rfl⟩
abbrev main_call6_cst_0 : Ref sig .tc := ⟨.hbm, 155, rfl⟩
abbrev main_call6_v4 : Ref sig .tc := ⟨.hbm, 156, rfl⟩
abbrev main_call6_v5 : Ref sig .tc := ⟨.hbm, 157, rfl⟩
abbrev main_v97 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_v105 : Ref sig .tc := ⟨.hbm, 166, rfl⟩
abbrev main_v106 : Ref sig .tc := ⟨.hbm, 167, rfl⟩
abbrev main_v107 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev main_call7_v0 : Ref sig .tc := ⟨.hbm, 173, rfl⟩
abbrev main_call7_v1 : Ref sig .tc := ⟨.hbm, 174, rfl⟩
abbrev main_call7_cst : Ref sig .tc := ⟨.hbm, 175, rfl⟩
abbrev main_call7_v2 : Ref sig .tc := ⟨.hbm, 176, rfl⟩
abbrev main_call7_v3 : Ref sig .tc := ⟨.hbm, 177, rfl⟩
abbrev main_call7_cst_0 : Ref sig .tc := ⟨.hbm, 178, rfl⟩
abbrev main_call7_v4 : Ref sig .tc := ⟨.hbm, 179, rfl⟩
abbrev main_call7_v5 : Ref sig .tc := ⟨.hbm, 180, rfl⟩
abbrev main_v112 : Ref sig .tc := ⟨.hbm, 181, rfl⟩
abbrev main_v113 : Ref sig .tc := ⟨.hbm, 182, rfl⟩
abbrev main_v114 : Ref sig .tc := ⟨.hbm, 183, rfl⟩
abbrev main_v115 : Ref sig .tc := ⟨.hbm, 184, rfl⟩
abbrev main_v116 : Ref sig .tc := ⟨.hbm, 185, rfl⟩
abbrev main_v117 : Ref sig .tc := ⟨.hbm, 186, rfl⟩
abbrev main_v118 : Ref sig .tc := ⟨.hbm, 187, rfl⟩
abbrev main_v119 : Ref sig .tc := ⟨.hbm, 188, rfl⟩
abbrev main_v120 : Ref sig .tc := ⟨.hbm, 189, rfl⟩
abbrev main_v121 : Ref sig .tc := ⟨.hbm, 190, rfl⟩
abbrev main_v122 : Ref sig .tc := ⟨.hbm, 191, rfl⟩
abbrev main_v123 : Ref sig .tc := ⟨.hbm, 192, rfl⟩
abbrev main_v124 : Ref sig .tc := ⟨.hbm, 193, rfl⟩
abbrev main_v125 : Ref sig .tc := ⟨.hbm, 194, rfl⟩
abbrev main_v126 : Ref sig .tc := ⟨.hbm, 195, rfl⟩
abbrev main_call8_v0 : Ref sig .tc := ⟨.hbm, 196, rfl⟩
abbrev main_call8_v1 : Ref sig .tc := ⟨.hbm, 197, rfl⟩
abbrev main_call8_cst : Ref sig .tc := ⟨.hbm, 198, rfl⟩
abbrev main_call8_v2 : Ref sig .tc := ⟨.hbm, 199, rfl⟩
abbrev main_call8_v3 : Ref sig .tc := ⟨.hbm, 200, rfl⟩
abbrev main_call8_cst_0 : Ref sig .tc := ⟨.hbm, 201, rfl⟩
abbrev main_call8_v4 : Ref sig .tc := ⟨.hbm, 202, rfl⟩
abbrev main_call8_v5 : Ref sig .tc := ⟨.hbm, 203, rfl⟩
abbrev main_v127 : Ref sig .tc := ⟨.hbm, 204, rfl⟩
abbrev main_v128 : Ref sig .tc := ⟨.hbm, 205, rfl⟩
abbrev main_v129 : Ref sig .tc := ⟨.hbm, 206, rfl⟩
abbrev main_v130 : Ref sig .tc := ⟨.hbm, 207, rfl⟩
abbrev main_v131 : Ref sig .tc := ⟨.hbm, 208, rfl⟩
abbrev main_v132 : Ref sig .tc := ⟨.hbm, 209, rfl⟩
abbrev main_v133 : Ref sig .tc := ⟨.hbm, 210, rfl⟩

abbrev nD : Nat := 1
abbrev τ : Topo := Topo.v7x

variable {F : FTy → Type} [FloatOps F]
-- ==== Kernel2.lean ====
abbrev S16640x1024 : Shape := ⟨2, ![16640, 1024]⟩
abbrev S1024 : Shape := ⟨1, ![1024]⟩
abbrev S1024x6680 : Shape := ⟨2, ![1024, 6680]⟩
abbrev S16x512 : Shape := ⟨2, ![16, 512]⟩
abbrev S512 : Shape := ⟨1, ![512]⟩
abbrev S8 : Shape := ⟨1, ![8]⟩
abbrev S1024x512 : Shape := ⟨2, ![1024, 512]⟩
abbrev S1024x1024 : Shape := ⟨2, ![1024, 1024]⟩
abbrev S1024x16 : Shape := ⟨2, ![1024, 16]⟩
abbrev S1024x8 : Shape := ⟨2, ![1024, 8]⟩
abbrev S1024x6656 : Shape := ⟨2, ![1024, 6656]⟩
abbrev S_ : Shape := ⟨0, ![]⟩
abbrev S1024x104 : Shape := ⟨2, ![1024, 104]⟩
abbrev S1024x128 : Shape := ⟨2, ![1024, 128]⟩
abbrev S1024x5632 : Shape := ⟨2, ![1024, 5632]⟩
abbrev S128x1024 : Shape := ⟨2, ![128, 1024]⟩
abbrev S128x512 : Shape := ⟨2, ![128, 512]⟩
abbrev S1 : Shape := ⟨1, ![1]⟩
abbrev S1x512 : Shape := ⟨2, ![1, 512]⟩
abbrev S1x128 : Shape := ⟨2, ![1, 128]⟩
abbrev S2 : Shape := ⟨1, ![2]⟩
abbrev S8x1 : Shape := ⟨2, ![8, 1]⟩
abbrev S1x1024 : Shape := ⟨2, ![1, 1024]⟩
abbrev S16640x5632 : Shape := ⟨2, ![16640, 5632]⟩
abbrev S16640x512 : Shape := ⟨2, ![16640, 512]⟩
abbrev S2x8x64x8320 : Shape := ⟨4, ![2, 8, 64, 8320]⟩
abbrev S2x8x8320 : Shape := ⟨3, ![2, 8, 8320]⟩
abbrev S640x1024 : Shape := ⟨2, ![640, 1024]⟩
abbrev S1024x1408 : Shape := ⟨2, ![1024, 1408]⟩
abbrev S640x1408 : Shape := ⟨2, ![640, 1408]⟩
abbrev S640x512 : Shape := ⟨2, ![640, 512]⟩
abbrev S1x8x64x640 : Shape := ⟨4, ![1, 8, 64, 640]⟩
abbrev S1x8x640 : Shape := ⟨3, ![1, 8, 640]⟩
abbrev S2x640x1024 : Shape := ⟨3, ![2, 640, 1024]⟩
abbrev S640 : Shape := ⟨1, ![640]⟩
abbrev S640x1 : Shape := ⟨2, ![640, 1]⟩
abbrev S1x640x1024 : Shape := ⟨3, ![1, 640, 1024]⟩
abbrev S640x128 : Shape := ⟨2, ![640, 128]⟩
abbrev S1024x640 : Shape := ⟨2, ![1024, 640]⟩
abbrev S512x640 : Shape := ⟨2, ![512, 640]⟩
abbrev S8x64x640 : Shape := ⟨3, ![8, 64, 640]⟩
abbrev S128x640 : Shape := ⟨2, ![128, 640]⟩
abbrev S8x640 : Shape := ⟨2, ![8, 640]⟩

abbrev nBuf : Space → Nat
  | .hbm => 50
  | .vmem => 23
  | .smem => 0
  | _ => 0

abbrev bufTy : (tb : Table) → Fin (tcTables nBuf tb) → BufTy
  | .hbm, ⟨0, _⟩ => ⟨S16640x1024, .f32⟩
  | .hbm, ⟨1, _⟩ => ⟨S1024, .f32⟩
  | .hbm, ⟨2, _⟩ => ⟨S1024x6680, .f32⟩
  | .hbm, ⟨3, _⟩ => ⟨S16x512, .f32⟩
  | .hbm, ⟨4, _⟩ => ⟨S512, .f32⟩
  | .hbm, ⟨5, _⟩ => ⟨S8, .f32⟩
  | .hbm, ⟨6, _⟩ => ⟨S1024x512, .f32⟩
  | .hbm, ⟨7, _⟩ => ⟨S1024x512, .f32⟩
  | .hbm, ⟨8, _⟩ => ⟨S1024x1024, .f32⟩
  | .hbm, ⟨9, _⟩ => ⟨S1024x1024, .f32⟩
  | .hbm, ⟨10, _⟩ => ⟨S1024x16, .f32⟩
  | .hbm, ⟨11, _⟩ => ⟨S1024x512, .f32⟩
  | .hbm, ⟨12, _⟩ => ⟨S1024x512, .f32⟩
  | .hbm, ⟨13, _⟩ => ⟨S1024x512, .f32⟩
  | .hbm, ⟨14, _⟩ => ⟨S1024x8, .f32⟩
  | .hbm, ⟨15, _⟩ => ⟨S1024x1024, .f32⟩
  | .hbm, ⟨16, _⟩ => ⟨S1024x1024, .f32⟩
  | .hbm, ⟨17, _⟩ => ⟨S1024x6656, .f32⟩
  | .hbm, ⟨18, _⟩ => ⟨S_, .f32⟩
  | .hbm, ⟨19, _⟩ => ⟨S1024x104, .f32⟩
  | .hbm, ⟨20, _⟩ => ⟨S1024x128, .f32⟩
  | .hbm, ⟨21, _⟩ => ⟨S1024x1024, .f32⟩
  | .hbm, ⟨22, _⟩ => ⟨S1024x1024, .f32⟩
  | .hbm, ⟨23, _⟩ => ⟨S1024x1024, .bf16⟩
  | .hbm, ⟨24, _⟩ => ⟨S1024x5632, .f32⟩
  | .hbm, ⟨25, _⟩ => ⟨S1024x5632, .bf16⟩
  | .hbm, ⟨26, _⟩ => ⟨S1024x128, .bf16⟩
  | .hbm, ⟨27, _⟩ => ⟨S128x1024, .bf16⟩
  | .hbm, ⟨28, _⟩ => ⟨S_, .f32⟩
  | .hbm, ⟨29, _⟩ => ⟨S128x512, .f32⟩
  | .hbm, ⟨30, _⟩ => ⟨S_, .i32⟩
  | .hbm, ⟨31, _⟩ => ⟨S1, .i32⟩
  | .hbm, ⟨32, _⟩ => ⟨S128x512, .f32⟩
  | .hbm, ⟨33, _⟩ => ⟨S128x512, .bf16⟩
  | .hbm, ⟨34, _⟩ => ⟨S1x512, .f32⟩
  | .hbm, ⟨35, _⟩ => ⟨S_, .f32⟩
  | .hbm, ⟨36, _⟩ => ⟨S1x128, .f32⟩
  | .hbm, ⟨37, _⟩ => ⟨S_, .i32⟩
  | .hbm, ⟨38, _⟩ => ⟨S1, .i32⟩
  | .hbm, ⟨39, _⟩ => ⟨S_, .i32⟩
  | .hbm, ⟨40, _⟩ => ⟨S1, .i32⟩
  | .hbm, ⟨41, _⟩ => ⟨S2, .i32⟩
  | .hbm, ⟨42, _⟩ => ⟨S1x128, .f32⟩
  | .hbm, ⟨43, _⟩ => ⟨S8x1, .f32⟩
  | .hbm, ⟨44, _⟩ => ⟨S1x1024, .f32⟩
  | .hbm, ⟨45, _⟩ => ⟨S16640x5632, .f32⟩
  | .hbm, ⟨46, _⟩ => ⟨S16640x512, .f32⟩
  | .hbm, ⟨47, _⟩ => ⟨S2x8x64x8320, .f32⟩
  | .hbm, ⟨48, _⟩ => ⟨S2x8x64x8320, .f32⟩
  | .hbm, ⟨49, _⟩ => ⟨S2x8x8320, .f32⟩
  | .local _ .vmem, ⟨0, _⟩ => ⟨S640x1024, .f32⟩
  | .local _ .vmem, ⟨1, _⟩ => ⟨S640x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S1024x128, .bf16⟩
  | .local _ .vmem, ⟨6, _⟩ => ⟨S128x512, .bf16⟩
  | .local _ .vmem, ⟨7, _⟩ => ⟨S1x512, .f32⟩
  | .local _ .vmem, ⟨8, _⟩ => ⟨S1x128, .f32⟩
  | .local _ .vmem, ⟨9, _⟩ => ⟨S1024x1024, .bf16⟩
  | .local _ .vmem, ⟨10, _⟩ => ⟨S128x1024, .bf16⟩
  | .local _ .vmem, ⟨11, _⟩ => ⟨S8x1, .f32⟩
  | .local _ .vmem, ⟨12, _⟩ => ⟨S640x1408, .f32⟩
  | .local _ .vmem, ⟨13, _⟩ => ⟨S640x1408, .f32⟩
  | .local _ .vmem, ⟨14, _⟩ => ⟨S640x512, .f32⟩
  | .local _ .vmem, ⟨15, _⟩ => ⟨S640x512, .f32⟩
  | .local _ .vmem, ⟨16, _⟩ => ⟨S1x8x64x640, .f32⟩
  | .local _ .vmem, ⟨17, _⟩ => ⟨S1x8x64x640, .f32⟩
  | .local _ .vmem, ⟨18, _⟩ => ⟨S1x8x64x640, .f32⟩
  | .local _ .vmem, ⟨19, _⟩ => ⟨S1x8x64x640, .f32⟩
  | .local _ .vmem, ⟨20, _⟩ => ⟨S1x8x640, .f32⟩
  | .local _ .vmem, ⟨21, _⟩ => ⟨S1x8x640, .f32⟩
  | .local _ .vmem, ⟨22, _⟩ => ⟨S2x640x1024, .bf16⟩
  | _, _ => ⟨S16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_0 : Ref sig .tc := ⟨.hbm, 28, rfl⟩
abbrev main_v21 : Ref sig .tc := ⟨.hbm, 29, rfl⟩
abbrev main_c : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_1 : Ref sig .tc := ⟨.hbm, 35, rfl⟩
abbrev main_v26 : Ref sig .tc := ⟨.hbm, 36, rfl⟩
abbrev main_c_2 : Ref sig .tc := ⟨.hbm, 37, rfl⟩
abbrev main_v27 : Ref sig .tc := ⟨.hbm, 38, rfl⟩
abbrev main_c_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33_0 : Ref sig .tc := ⟨.hbm, 45, rfl⟩
abbrev main_v33_1 : Ref sig .tc := ⟨.hbm, 46, rfl⟩
abbrev main_v33_2 : Ref sig .tc := ⟨.hbm, 47, rfl⟩
abbrev main_v33_3 : Ref sig .tc := ⟨.hbm, 48, rfl⟩
abbrev main_v33_4 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21

abbrev nD : Nat := 1
abbrev τ : Topo := Topo.v7x

variable {F : FTy → Type} [FloatOps F]

abbrev grid0 : Pipeline.Grid := ⟨2, ![26, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 4 → Nat :=
  let arg0 : BitVec 32 := BitVec.ofNat 32 (i 0).val
  let arg1 : BitVec 32 := BitVec.ofNat 32 (i 1).val
  let c13_i32 : BitVec 32 := 13#32
  let v0 : BitVec 32 := Scalar.divsi arg0 c13_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c13_i32 c0_i32_1
  let v7 : BitVec 32 := Scalar.extui v6
  let c0_i32_2 : BitVec 32 := 0#32
  let v8 : BitVec 1 := Scalar.cmpi .slt c13_i32 c0_i32_2
  let v9 : BitVec 32 := Scalar.extui v8
  let v10 : BitVec 32 := Scalar.subi v7 v9
  let v11 : BitVec 1 := Scalar.cmpi .ne v5 v10
  let v12 : BitVec 32 := Scalar.remsi arg0 c13_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c13_i32_4 : BitVec 32 := 13#32
  let c0_i32_5 : BitVec 32 := 0#32
  let v17 : BitVec 1 := Scalar.cmpi .eq c13_i32_4 c0_i32_5
  let c1_i32_6 : BitVec 32 := 1#32
  let v18 : BitVec 32 := Scalar.select v17 c1_i32_6 c13_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_13 (i : grid0.Coords) : Fin 4 → Nat :=
  let arg0 : BitVec 32 := BitVec.ofNat 32 (i 0).val
  let arg1 : BitVec 32 := BitVec.ofNat 32 (i 1).val
  let c13_i32 : BitVec 32 := 13#32
  let v0 : BitVec 32 := Scalar.divsi arg0 c13_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c13_i32 c0_i32_1
  let v7 : BitVec 32 := Scalar.extui v6
  let c0_i32_2 : BitVec 32 := 0#32
  let v8 : BitVec 1 := Scalar.cmpi .slt c13_i32 c0_i32_2
  let v9 : BitVec 32 := Scalar.extui v8
  let v10 : BitVec 32 := Scalar.subi v7 v9
  let v11 : BitVec 1 := Scalar.cmpi .ne v5 v10
  let v12 : BitVec 32 := Scalar.remsi arg0 c13_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c13_i32_4 : BitVec 32 := 13#32
  let c0_i32_5 : BitVec 32 := 0#32
  let v17 : BitVec 1 := Scalar.cmpi .eq c13_i32_4 c0_i32_5
  let c1_i32_6 : BitVec 32 := 1#32
  let v18 : BitVec 32 := Scalar.select v17 c1_i32_6 c13_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_14 (i : grid0.Coords) : Fin 3 → Nat :=
  let arg0 : BitVec 32 := BitVec.ofNat 32 (i 0).val
  let arg1 : BitVec 32 := BitVec.ofNat 32 (i 1).val
  let c13_i32 : BitVec 32 := 13#32
  let v0 : BitVec 32 := Scalar.divsi arg0 c13_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c13_i32 c0_i32_1
  let v7 : BitVec 32 := Scalar.extui v6
  let c0_i32_2 : BitVec 32 := 0#32
  let v8 : BitVec 1 := Scalar.cmpi .slt c13_i32 c0_i32_2
  let v9 : BitVec 32 := Scalar.extui v8
  let v10 : BitVec 32 := Scalar.subi v7 v9
  let v11 : BitVec 1 := Scalar.cmpi .ne v5 v10
  let v12 : BitVec 32 := Scalar.remsi arg0 c13_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c13_i32_4 : BitVec 32 := 13#32
  let c0_i32_5 : BitVec 32 := 0#32
  let v17 : BitVec 1 := Scalar.cmpi .eq c13_i32_4 c0_i32_5
  let c1_i32_6 : BitVec 32 := 1#32
  let v18 : BitVec 32 := Scalar.select v17 c1_i32_6 c13_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S8x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S640x1408 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S640x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x8x64x640 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x8x64x640 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x8x640 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== Reference2Ideal.lean ====
abbrev S16640x1024 : Shape := ⟨2, ![16640, 1024]⟩
abbrev S1024 : Shape := ⟨1, ![1024]⟩
abbrev S1024x6680 : Shape := ⟨2, ![1024, 6680]⟩
abbrev S16x512 : Shape := ⟨2, ![16, 512]⟩
abbrev S512 : Shape := ⟨1, ![512]⟩
abbrev S8 : Shape := ⟨1, ![8]⟩
abbrev S_ : Shape := ⟨0, ![]⟩
abbrev S16640 : Shape := ⟨1, ![16640]⟩
abbrev S16640x1 : Shape := ⟨2, ![16640, 1]⟩
abbrev S1x1024 : Shape := ⟨2, ![1, 1024]⟩
abbrev S16640x6680 : Shape := ⟨2, ![16640, 6680]⟩
abbrev S16640x512 : Shape := ⟨2, ![16640, 512]⟩
abbrev S16640x16 : Shape := ⟨2, ![16640, 16]⟩
abbrev S16640x8 : Shape := ⟨2, ![16640, 8]⟩
abbrev S1x512 : Shape := ⟨2, ![1, 512]⟩
abbrev S1x8 : Shape := ⟨2, ![1, 8]⟩
abbrev S16640x5632 : Shape := ⟨2, ![16640, 5632]⟩
abbrev S2x8320x8x64 : Shape := ⟨4, ![2, 8320, 8, 64]⟩
abbrev S2x8x64x8320 : Shape := ⟨4, ![2, 8, 64, 8320]⟩
abbrev S2x8320x8 : Shape := ⟨3, ![2, 8320, 8]⟩
abbrev S2x8x8320 : Shape := ⟨3, ![2, 8, 8320]⟩

abbrev nBuf : Space → Nat
  | .hbm => 83
  | .vmem => 0
  | .smem => 0
  | _ => 0

abbrev bufTy : (tb : Table) → Fin (tcTables nBuf tb) → BufTy
  | .hbm, ⟨0, _⟩ => ⟨S16640x1024, .f32⟩
  | .hbm, ⟨1, _⟩ => ⟨S1024, .f32⟩
  | .hbm, ⟨2, _⟩ => ⟨S1024x6680, .f32⟩
  | .hbm, ⟨3, _⟩ => ⟨S16x512, .f32⟩
  | .hbm, ⟨4, _⟩ => ⟨S512, .f32⟩
  | .hbm, ⟨5, _⟩ => ⟨S8, .f32⟩
  | .hbm, ⟨6, _⟩ => ⟨S16640x1024, .f32⟩
  | .hbm, ⟨7, _⟩ => ⟨S_, .f32⟩
  | .hbm, ⟨8, _⟩ => ⟨S16640, .f32⟩
  | .hbm, ⟨9, _⟩ => ⟨S16640x1, .f32⟩
  | .hbm, ⟨10, _⟩ => ⟨S_, .f32⟩
  | .hbm, ⟨11, _⟩ => ⟨S16640x1, .f32⟩
  | .hbm, ⟨12, _⟩ => ⟨S16640x1, .f32⟩
  | .hbm, ⟨13, _⟩ => ⟨S_, .f32⟩
  | .hbm, ⟨14, _⟩ => ⟨S16640x1, .f32⟩
  | .hbm, ⟨15, _⟩ => ⟨S16640x1, .f32⟩
  | .hbm, ⟨16, _⟩ => ⟨S16640x1, .f32⟩
  | .hbm, ⟨17, _⟩ => ⟨S16640x1024, .f32⟩
  | .hbm, ⟨18, _⟩ => ⟨S16640x1024, .f32⟩
  | .hbm, ⟨19, _⟩ => ⟨S1x1024, .f32⟩
  | .hbm, ⟨20, _⟩ => ⟨S16640x1024, .f32⟩
  | .hbm, ⟨21, _⟩ => ⟨S16640x1024, .f32⟩
  | .hbm, ⟨22, _⟩ => ⟨S16640x6680, .f32⟩
  | .hbm, ⟨23, _⟩ => ⟨S16640x512, .f32⟩
  | .hbm, ⟨24, _⟩ => ⟨S16640x512, .f32⟩
  | .hbm, ⟨25, _⟩ => ⟨S16640x1024, .f32⟩
  | .hbm, ⟨26, _⟩ => ⟨S16640x1024, .f32⟩
  | .hbm, ⟨27, _⟩ => ⟨S16640x16, .f32⟩
  | .hbm, ⟨28, _⟩ => ⟨S16640x512, .f32⟩
  | .hbm, ⟨29, _⟩ => ⟨S16640x512, .f32⟩
  | .hbm, ⟨30, _⟩ => ⟨S16640x512, .f32⟩
  | .hbm, ⟨31, _⟩ => ⟨S16640x8, .f32⟩
  | .hbm, ⟨32, _⟩ => ⟨S16640x1024, .f32⟩
  | .hbm, ⟨33, _⟩ => ⟨S16640x1024, .f32⟩
  | .hbm, ⟨34, _⟩ => ⟨S16640x512, .f32⟩
  | .hbm, ⟨35, _⟩ => ⟨S1x512, .f32⟩
  | .hbm, ⟨36, _⟩ => ⟨S16640x512, .f32⟩
  | .hbm, ⟨37, _⟩ => ⟨S16640x512, .f32⟩
  | .hbm, ⟨38, _⟩ => ⟨S16640x512, .f32⟩
  | .hbm, ⟨39, _⟩ => ⟨S_, .f32⟩
  | .hbm, ⟨40, _⟩ => ⟨S16640x512, .f32⟩
  | .hbm, ⟨41, _⟩ => ⟨S16640x512, .f32⟩
  | .hbm, ⟨42, _⟩ => ⟨S16640x512, .f32⟩
  | .hbm, ⟨43, _⟩ => ⟨S16640x512, .f32⟩
  | .hbm, ⟨44, _⟩ => ⟨S16640x512, .i1⟩
  | .hbm, ⟨45, _⟩ => ⟨S16640x512, .f32⟩
  | .hbm, ⟨46, _⟩ => ⟨S16640x512, .f32⟩
  | .hbm, ⟨47, _⟩ => ⟨S16640x512, .f32⟩
  | .hbm, ⟨48, _⟩ => ⟨S16640x512, .f32⟩
  | .hbm, ⟨49, _⟩ => ⟨S16640x512, .f32⟩
  | .hbm, ⟨50, _⟩ => ⟨S16640x512, .f32⟩
  | .hbm, ⟨51, _⟩ => ⟨S16640x512, .f32⟩
  | .hbm, ⟨52, _⟩ => ⟨S16640x512, .f32⟩
  | .hbm, ⟨53, _⟩ => ⟨S16640x512, .f32⟩
  | .hbm, ⟨54, _⟩ => ⟨S_, .f32⟩
  | .hbm, ⟨55, _⟩ => ⟨S16640x512, .f32⟩
  | .hbm, ⟨56, _⟩ => ⟨S16640x512, .f32⟩
  | .hbm, ⟨57, _⟩ => ⟨S1x8, .f32⟩
  | .hbm, ⟨58, _⟩ => ⟨S16640x8, .f32⟩
  | .hbm, ⟨59, _⟩ => ⟨S16640x8, .f32⟩
  | .hbm, ⟨60, _⟩ => ⟨S16640x8, .f32⟩
  | .hbm, ⟨61, _⟩ => ⟨S_, .f32⟩
  | .hbm, ⟨62, _⟩ => ⟨S16640x8, .f32⟩
  | .hbm, ⟨63, _⟩ => ⟨S16640x8, .f32⟩
  | .hbm, ⟨64, _⟩ => ⟨S16640x8, .f32⟩
  | .hbm, ⟨65, _⟩ => ⟨S16640x8, .f32⟩
  | .hbm, ⟨66, _⟩ => ⟨S16640x8, .i1⟩
  | .hbm, ⟨67, _⟩ => ⟨S16640x8, .f32⟩
  | .hbm, ⟨68, _⟩ => ⟨S16640x8, .f32⟩
  | .hbm, ⟨69, _⟩ => ⟨S16640x8, .f32⟩
  | .hbm, ⟨70, _⟩ => ⟨S16640x8, .f32⟩
  | .hbm, ⟨71, _⟩ => ⟨S16640x8, .f32⟩
  | .hbm, ⟨72, _⟩ => ⟨S16640x8, .f32⟩
  | .hbm, ⟨73, _⟩ => ⟨S16640x8, .f32⟩
  | .hbm, ⟨74, _⟩ => ⟨S16640x8, .f32⟩
  | .hbm, ⟨75, _⟩ => ⟨S16640x8, .f32⟩
  | .hbm, ⟨76, _⟩ => ⟨S16640x5632, .f32⟩
  | .hbm, ⟨77, _⟩ => ⟨S2x8320x8x64, .f32⟩
  | .hbm, ⟨78, _⟩ => ⟨S2x8x64x8320, .f32⟩
  | .hbm, ⟨79, _⟩ => ⟨S2x8320x8x64, .f32⟩
  | .hbm, ⟨80, _⟩ => ⟨S2x8x64x8320, .f32⟩
  | .hbm, ⟨81, _⟩ => ⟨S2x8320x8, .f32⟩
  | .hbm, ⟨82, _⟩ => ⟨S2x8x8320, .f32⟩
  | _, _ => ⟨S16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_call0_v0 : Ref sig .tc := ⟨.hbm, 38, rfl⟩
abbrev main_call0_call0_cst : Ref sig .tc := ⟨.hbm, 39, rfl⟩
abbrev main_call0_call0_v0 : Ref sig .tc := ⟨.hbm, 40, rfl⟩
abbrev main_call0_call0_v1 : Ref sig .tc := ⟨.hbm, 41, rfl⟩
abbrev main_call0_call0_v2 : Ref sig .tc := ⟨.hbm, 42, rfl⟩
abbrev main_call0_call0_v3 : Ref sig .tc := ⟨.hbm, 43, rfl⟩
abbrev main_call0_call0_v4 : Ref sig .tc := ⟨.hbm, 44, rfl⟩
abbrev main_call0_call0_v5 : Ref sig .tc := ⟨.hbm, 45, rfl⟩
abbrev main_call0_call0_v6 : Ref sig .tc := ⟨.hbm, 46, rfl⟩
abbrev main_call0_call0_v7 : Ref sig .tc := ⟨.hbm, 47, rfl⟩
abbrev main_call0_call0_v8 : Ref sig .tc := ⟨.hbm, 48, rfl⟩
abbrev main_call0_call0_v9 : Ref sig .tc := ⟨.hbm, 49, rfl⟩
abbrev main_call0_call0_v10 : Ref sig .tc := ⟨.hbm, 50, rfl⟩
abbrev main_call0_call0_v11 : Ref sig .tc := ⟨.hbm, 51, rfl⟩
abbrev main_call0_v1 : Ref sig .tc := ⟨.hbm, 52, rfl⟩
abbrev main_v29 : Ref sig .tc := ⟨.hbm, 53, rfl⟩
abbrev main_cst_2 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_call1_v0 : Ref sig .tc := ⟨.hbm, 60, rfl⟩
abbrev main_call1_call0_cst : Ref sig .tc := ⟨.hbm, 61, rfl⟩
abbrev main_call1_call0_v0 : Ref sig .tc := ⟨.hbm, 62, rfl⟩
abbrev main_call1_call0_v1 : Ref sig .tc := ⟨.hbm, 63, rfl⟩
abbrev main_call1_call0_v2 : Ref sig .tc := ⟨.hbm, 64, rfl⟩
abbrev main_call1_call0_v3 : Ref sig .tc := ⟨.hbm, 65, rfl⟩
abbrev main_call1_call0_v4 : Ref sig .tc := ⟨.hbm, 66, rfl⟩
abbrev main_call1_call0_v5 : Ref sig .tc := ⟨.hbm, 67, rfl⟩
abbrev main_call1_call0_v6 : Ref sig .tc := ⟨.hbm, 68, rfl⟩
abbrev main_call1_call0_v7 : Ref sig .tc := ⟨.hbm, 69, rfl⟩
abbrev main_call1_call0_v8 : Ref sig .tc := ⟨.hbm, 70, rfl⟩
abbrev main_call1_call0_v9 : Ref sig .tc := ⟨.hbm, 71, rfl⟩
abbrev main_call1_call0_v10 : Ref sig .tc := ⟨.hbm, 72, rfl⟩
abbrev main_call1_call0_v11 : Ref sig .tc := ⟨.hbm, 73, rfl⟩
abbrev main_call1_v1 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩

abbrev nD : Nat := 1
abbrev τ : Topo := Topo.v7x

variable {F : FTy → Type} [FloatOps F]
-- ==== Kernel3.lean ====
abbrev S16640x1024 : Shape := ⟨2, ![16640, 1024]⟩
abbrev S1024x2816 : Shape := ⟨2, ![1024, 2816]⟩
abbrev S2816x1024 : Shape := ⟨2, ![2816, 1024]⟩
abbrev S1280x1024 : Shape := ⟨2, ![1280, 1024]⟩
abbrev S1024x256 : Shape := ⟨2, ![1024, 256]⟩
abbrev S256x1024 : Shape := ⟨2, ![256, 1024]⟩
abbrev S1280x256 : Shape := ⟨2, ![1280, 256]⟩

abbrev nBuf : Space → Nat
  | .hbm => 6
  | .vmem => 13
  | .smem => 0
  | _ => 0

abbrev bufTy : (tb : Table) → Fin (tcTables nBuf tb) → BufTy
  | .hbm, ⟨0, _⟩ => ⟨S16640x1024, .bf16⟩
  | .hbm, ⟨1, _⟩ => ⟨S16640x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S16640x1024, .f32⟩
  | .local _ .vmem, ⟨0, _⟩ => ⟨S1280x1024, .bf16⟩
  | .local _ .vmem, ⟨1, _⟩ => ⟨S1280x1024, .bf16⟩
  | .local _ .vmem, ⟨2, _⟩ => ⟨S1280x1024, .f32⟩
  | .local _ .vmem, ⟨3, _⟩ => ⟨S1280x1024, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S256x1024, .f32⟩
  | .local _ .vmem, ⟨9, _⟩ => ⟨S256x1024, .f32⟩
  | .local _ .vmem, ⟨10, _⟩ => ⟨S1280x1024, .f32⟩
  | .local _ .vmem, ⟨11, _⟩ => ⟨S1280x1024, .f32⟩
  | .local _ .vmem, ⟨12, _⟩ => ⟨S1280x1024, .f32⟩
  | _, _ => ⟨S16640x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![13, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1280x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1280x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1280x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference3Ideal.lean ====
abbrev S16640x1024 : Shape := ⟨2, ![16640, 1024]⟩
abbrev S1024x2816 : Shape := ⟨2, ![1024, 2816]⟩
abbrev S2816x1024 : Shape := ⟨2, ![2816, 1024]⟩
abbrev S16640x2816 : Shape := ⟨2, ![16640, 2816]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S16640x1024, .bf16⟩
  | .hbm, ⟨1, _⟩ => ⟨S16640x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S16640x1024, .f32⟩
  | .hbm, ⟨6, _⟩ => ⟨S16640x2816, .f32⟩
  | .hbm, ⟨7, _⟩ => ⟨S16640x2816, .f32⟩
  | .hbm, ⟨8, _⟩ => ⟨S16640x2816, .f32⟩
  | .hbm, ⟨9, _⟩ => ⟨S_, .f32⟩
  | .hbm, ⟨10, _⟩ => ⟨S16640x2816, .f32⟩
  | .hbm, ⟨11, _⟩ => ⟨S16640x2816, .f32⟩
  | .hbm, ⟨12, _⟩ => ⟨S_, .f32⟩
  | .hbm, ⟨13, _⟩ => ⟨S16640x2816, .f32⟩
  | .hbm, ⟨14, _⟩ => ⟨S16640x2816, .f32⟩
  | .hbm, ⟨15, _⟩ => ⟨S16640x2816, .f32⟩
  | .hbm, ⟨16, _⟩ => ⟨S16640x2816, .f32⟩
  | .hbm, ⟨17, _⟩ => ⟨S16640x2816, .f32⟩
  | .hbm, ⟨18, _⟩ => ⟨S16640x1024, .f32⟩
  | .hbm, ⟨19, _⟩ => ⟨S16640x1024, .f32⟩
  | _, _ => ⟨S16640x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩

abbrev nD : Nat := 1
abbrev τ : Topo := Topo.v7x

variable {F : FTy → Type} [FloatOps F]
-- ==== Kernel4.lean ====
abbrev S16640x1024 : Shape := ⟨2, ![16640, 1024]⟩
abbrev S16640x5632 : Shape := ⟨2, ![16640, 5632]⟩
abbrev S16640x512 : Shape := ⟨2, ![16640, 512]⟩
abbrev S256 : Shape := ⟨1, ![256]⟩
abbrev S1024x1024 : Shape := ⟨2, ![1024, 1024]⟩
abbrev S512x1024 : Shape := ⟨2, ![512, 1024]⟩
abbrev S1024 : Shape := ⟨1, ![1024]⟩
abbrev S1x256 : Shape := ⟨2, ![1, 256]⟩
abbrev S1x1024 : Shape := ⟨2, ![1, 1024]⟩
abbrev S320x1024 : Shape := ⟨2, ![320, 1024]⟩
abbrev S320x512 : Shape := ⟨2, ![320, 512]⟩
abbrev S320x256 : Shape := ⟨2, ![320, 256]⟩
abbrev S320 : Shape := ⟨1, ![320]⟩
abbrev S320x1 : Shape := ⟨2, ![320, 1]⟩

abbrev nBuf : Space → Nat
  | .hbm => 16
  | .vmem => 21
  | .smem => 0
  | _ => 0

abbrev bufTy : (tb : Table) → Fin (tcTables nBuf tb) → BufTy
  | .hbm, ⟨0, _⟩ => ⟨S16640x1024, .f32⟩
  | .hbm, ⟨1, _⟩ => ⟨S16640x5632, .f32⟩
  | .hbm, ⟨2, _⟩ => ⟨S16640x1024, .f32⟩
  | .hbm, ⟨3, _⟩ => ⟨S16640x512, .f32⟩
  | .hbm, ⟨4, _⟩ => ⟨S256, .f32⟩
  | .hbm, ⟨5, _⟩ => ⟨S1024x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1x256, .f32⟩
  | .hbm, ⟨10, _⟩ => ⟨S1024x1024, .bf16⟩
  | .hbm, ⟨11, _⟩ => ⟨S512x1024, .bf16⟩
  | .hbm, ⟨12, _⟩ => ⟨S1024x1024, .bf16⟩
  | .hbm, ⟨13, _⟩ => ⟨S1x1024, .f32⟩
  | .hbm, ⟨14, _⟩ => ⟨S16640x1024, .f32⟩
  | .hbm, ⟨15, _⟩ => ⟨S16640x1024, .bf16⟩
  | .local _ .vmem, ⟨0, _⟩ => ⟨S320x1024, .f32⟩
  | .local _ .vmem, ⟨1, _⟩ => ⟨S320x1024, .f32⟩
  | .local _ .vmem, ⟨2, _⟩ => ⟨S320x1024, .f32⟩
  | .local _ .vmem, ⟨3, _⟩ => ⟨S320x1024, .f32⟩
  | .local _ .vmem, ⟨4, _⟩ => ⟨S320x1024, .f32⟩
  | .local _ .vmem, ⟨5, _⟩ => ⟨S320x1024, .f32⟩
  | .local _ .vmem, ⟨6, _⟩ => ⟨S320x512, .f32⟩
  | .local _ .vmem, ⟨7, _⟩ => ⟨S320x512, .f32⟩
  | .local _ .vmem, ⟨8, _⟩ => ⟨S320x1024, .f32⟩
  | .local _ .vmem, ⟨9, _⟩ => ⟨S320x1024, .f32⟩
  | .local _ .vmem, ⟨10, _⟩ => ⟨S320x1024, .f32⟩
  | .local _ .vmem, ⟨11, _⟩ => ⟨S320x1024, .f32⟩
  | .local _ .vmem, ⟨12, _⟩ => ⟨S1x256, .f32⟩
  | .local _ .vmem, ⟨13, _⟩ => ⟨S1024x1024, .bf16⟩
  | .local _ .vmem, ⟨14, _⟩ => ⟨S512x1024, .bf16⟩
  | .local _ .vmem, ⟨15, _⟩ => ⟨S1024x1024, .bf16⟩
  | .local _ .vmem, ⟨16, _⟩ => ⟨S1x1024, .f32⟩
  | .local _ .vmem, ⟨17, _⟩ => ⟨S320x1024, .f32⟩
  | .local _ .vmem, ⟨18, _⟩ => ⟨S320x1024, .f32⟩
  | .local _ .vmem, ⟨19, _⟩ => ⟨S320x1024, .bf16⟩
  | .local _ .vmem, ⟨20, _⟩ => ⟨S320x1024, .bf16⟩
  | _, _ => ⟨S16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![52], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S320x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S320x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S320x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S320x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S320x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S320x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S320x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S320x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference4Ideal.lean ====
abbrev S16640x1024 : Shape := ⟨2, ![16640, 1024]⟩
abbrev S16640x5632 : Shape := ⟨2, ![16640, 5632]⟩
abbrev S16640x512 : Shape := ⟨2, ![16640, 512]⟩
abbrev S256 : Shape := ⟨1, ![256]⟩
abbrev S1024x1024 : Shape := ⟨2, ![1024, 1024]⟩
abbrev S512x1024 : Shape := ⟨2, ![512, 1024]⟩
abbrev S1024 : Shape := ⟨1, ![1024]⟩
abbrev S16640x1536 : Shape := ⟨2, ![16640, 1536]⟩
abbrev S16640x4x256 : Shape := ⟨3, ![16640, 4, 256]⟩
abbrev S_ : Shape := ⟨0, ![]⟩
abbrev S16640x4 : Shape := ⟨2, ![16640, 4]⟩
abbrev S16640x4x1 : Shape := ⟨3, ![16640, 4, 1]⟩
abbrev S1x1x256 : Shape := ⟨3, ![1, 1, 256]⟩
abbrev S16640 : Shape := ⟨1, ![16640]⟩
abbrev S16640x1 : Shape := ⟨2, ![16640, 1]⟩
abbrev S1x1024 : Shape := ⟨2, ![1, 1024]⟩

abbrev nBuf : Space → Nat
  | .hbm => 82
  | .vmem => 0
  | .smem => 0
  | _ => 0

abbrev bufTy : (tb : Table) → Fin (tcTables nBuf tb) → BufTy
  | .hbm, ⟨0, _⟩ => ⟨S16640x1024, .f32⟩
  | .hbm, ⟨1, _⟩ => ⟨S16640x5632, .f32⟩
  | .hbm, ⟨2, _⟩ => ⟨S16640x1024, .f32⟩
  | .hbm, ⟨3, _⟩ => ⟨S16640x512, .f32⟩
  | .hbm, ⟨4, _⟩ => ⟨S256, .f32⟩
  | .hbm, ⟨5, _⟩ => ⟨S1024x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S16640x1024, .f32⟩
  | .hbm, ⟨10, _⟩ => ⟨S16640x1024, .f32⟩
  | .hbm, ⟨11, _⟩ => ⟨S16640x1024, .f32⟩
  | .hbm, ⟨12, _⟩ => ⟨S16640x1024, .f32⟩
  | .hbm, ⟨13, _⟩ => ⟨S16640x1536, .f32⟩
  | .hbm, ⟨14, _⟩ => ⟨S16640x4x256, .f32⟩
  | .hbm, ⟨15, _⟩ => ⟨S16640x4x256, .f32⟩
  | .hbm, ⟨16, _⟩ => ⟨S_, .f32⟩
  | .hbm, ⟨17, _⟩ => ⟨S16640x4, .f32⟩
  | .hbm, ⟨18, _⟩ => ⟨S16640x4x1, .f32⟩
  | .hbm, ⟨19, _⟩ => ⟨S_, .f32⟩
  | .hbm, ⟨20, _⟩ => ⟨S16640x4x1, .f32⟩
  | .hbm, ⟨21, _⟩ => ⟨S16640x4x1, .f32⟩
  | .hbm, ⟨22, _⟩ => ⟨S_, .f32⟩
  | .hbm, ⟨23, _⟩ => ⟨S16640x4x1, .f32⟩
  | .hbm, ⟨24, _⟩ => ⟨S16640x4x1, .f32⟩
  | .hbm, ⟨25, _⟩ => ⟨S16640x4x1, .f32⟩
  | .hbm, ⟨26, _⟩ => ⟨S16640x4x256, .f32⟩
  | .hbm, ⟨27, _⟩ => ⟨S16640x4x256, .f32⟩
  | .hbm, ⟨28, _⟩ => ⟨S1x1x256, .f32⟩
  | .hbm, ⟨29, _⟩ => ⟨S16640x4x256, .f32⟩
  | .hbm, ⟨30, _⟩ => ⟨S16640x4x256, .f32⟩
  | .hbm, ⟨31, _⟩ => ⟨S16640x1024, .f32⟩
  | .hbm, ⟨32, _⟩ => ⟨S16640x1024, .f32⟩
  | .hbm, ⟨33, _⟩ => ⟨S16640x1024, .f32⟩
  | .hbm, ⟨34, _⟩ => ⟨S_, .f32⟩
  | .hbm, ⟨35, _⟩ => ⟨S16640x1024, .f32⟩
  | .hbm, ⟨36, _⟩ => ⟨S16640x1024, .f32⟩
  | .hbm, ⟨37, _⟩ => ⟨S_, .f32⟩
  | .hbm, ⟨38, _⟩ => ⟨S16640x1024, .f32⟩
  | .hbm, ⟨39, _⟩ => ⟨S16640x1024, .f32⟩
  | .hbm, ⟨40, _⟩ => ⟨S16640x1024, .f32⟩
  | .hbm, ⟨41, _⟩ => ⟨S16640x1024, .f32⟩
  | .hbm, ⟨42, _⟩ => ⟨S16640x1024, .f32⟩
  | .hbm, ⟨43, _⟩ => ⟨S16640x1024, .f32⟩
  | .hbm, ⟨44, _⟩ => ⟨S_, .f32⟩
  | .hbm, ⟨45, _⟩ => ⟨S16640x1024, .f32⟩
  | .hbm, ⟨46, _⟩ => ⟨S16640x1024, .f32⟩
  | .hbm, ⟨47, _⟩ => ⟨S_, .f32⟩
  | .hbm, ⟨48, _⟩ => ⟨S16640x1024, .f32⟩
  | .hbm, ⟨49, _⟩ => ⟨S16640x1024, .f32⟩
  | .hbm, ⟨50, _⟩ => ⟨S16640x1024, .f32⟩
  | .hbm, ⟨51, _⟩ => ⟨S16640x1024, .f32⟩
  | .hbm, ⟨52, _⟩ => ⟨S16640x1024, .f32⟩
  | .hbm, ⟨53, _⟩ => ⟨S16640x1024, .f32⟩
  | .hbm, ⟨54, _⟩ => ⟨S_, .f32⟩
  | .hbm, ⟨55, _⟩ => ⟨S16640x1024, .f32⟩
  | .hbm, ⟨56, _⟩ => ⟨S16640x1024, .f32⟩
  | .hbm, ⟨57, _⟩ => ⟨S_, .f32⟩
  | .hbm, ⟨58, _⟩ => ⟨S16640x1024, .f32⟩
  | .hbm, ⟨59, _⟩ => ⟨S16640x1024, .f32⟩
  | .hbm, ⟨60, _⟩ => ⟨S16640x1024, .f32⟩
  | .hbm, ⟨61, _⟩ => ⟨S16640x1024, .f32⟩
  | .hbm, ⟨62, _⟩ => ⟨S16640x1024, .f32⟩
  | .hbm, ⟨63, _⟩ => ⟨S16640x1024, .f32⟩
  | .hbm, ⟨64, _⟩ => ⟨S16640x1024, .f32⟩
  | .hbm, ⟨65, _⟩ => ⟨S16640x1024, .f32⟩
  | .hbm, ⟨66, _⟩ => ⟨S_, .f32⟩
  | .hbm, ⟨67, _⟩ => ⟨S16640, .f32⟩
  | .hbm, ⟨68, _⟩ => ⟨S16640x1, .f32⟩
  | .hbm, ⟨69, _⟩ => ⟨S_, .f32⟩
  | .hbm, ⟨70, _⟩ => ⟨S16640x1, .f32⟩
  | .hbm, ⟨71, _⟩ => ⟨S16640x1, .f32⟩
  | .hbm, ⟨72, _⟩ => ⟨S_, .f32⟩
  | .hbm, ⟨73, _⟩ => ⟨S16640x1, .f32⟩
  | .hbm, ⟨74, _⟩ => ⟨S16640x1, .f32⟩
  | .hbm, ⟨75, _⟩ => ⟨S16640x1, .f32⟩
  | .hbm, ⟨76, _⟩ => ⟨S16640x1024, .f32⟩
  | .hbm, ⟨77, _⟩ => ⟨S16640x1024, .f32⟩
  | .hbm, ⟨78, _⟩ => ⟨S1x1024, .f32⟩
  | .hbm, ⟨79, _⟩ => ⟨S16640x1024, .f32⟩
  | .hbm, ⟨80, _⟩ => ⟨S16640x1024, .f32⟩
  | .hbm, ⟨81, _⟩ => ⟨S16640x1024, .bf16⟩
  | _, _ => ⟨S16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_2 : Ref sig .tc := ⟨.hbm, 44, rfl⟩
abbrev main_v24 : Ref sig .tc := ⟨.hbm, 45, rfl⟩
abbrev main_v25 : Ref sig .tc := ⟨.hbm, 46, rfl⟩
abbrev main_cst_3 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_4 : Ref sig .tc := ⟨.hbm, 54, rfl⟩
abbrev main_v32 : Ref sig .tc := ⟨.hbm, 55, rfl⟩
abbrev main_v33 : Ref sig .tc := ⟨.hbm, 56, rfl⟩
abbrev main_cst_5 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_6 : Ref sig .tc := ⟨.hbm, 66, rfl⟩
abbrev main_v42 : Ref sig .tc := ⟨.hbm, 67, rfl⟩
abbrev main_v43 : Ref sig .tc := ⟨.hbm, 68, rfl⟩
abbrev main_cst_7 : Ref sig .tc := ⟨.hbm, 69, rfl⟩
abbrev main_v44 : Ref sig .tc := ⟨.hbm, 70, rfl⟩
abbrev main_v45 : Ref sig .tc := ⟨.hbm, 71, rfl⟩
abbrev main_cst_8 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩

abbrev nD : Nat := 1
abbrev τ : Topo := Topo.v7x

variable {F : FTy → Type} [FloatOps F]
-- ==== Kernel5.lean ====
abbrev S2x8320x5632 : Shape := ⟨3, ![2, 8320, 5632]⟩
abbrev S2x8x64x8320 : Shape := ⟨4, ![2, 8, 64, 8320]⟩
abbrev S2x8x8320 : Shape := ⟨3, ![2, 8, 8320]⟩
abbrev S2x4x2x8320 : Shape := ⟨4, ![2, 4, 2, 8320]⟩
abbrev S2x8320x512 : Shape := ⟨3, ![2, 8320, 512]⟩
abbrev S1x640x128 : Shape := ⟨3, ![1, 640, 128]⟩
abbrev S1x2x64x8320 : Shape := ⟨4, ![1, 2, 64, 8320]⟩
abbrev S1x1x2x8320 : Shape := ⟨4, ![1, 1, 2, 8320]⟩
abbrev S2x128x8320 : Shape := ⟨3, ![2, 128, 8320]⟩
abbrev S2x640x1 : Shape := ⟨3, ![2, 640, 1]⟩
abbrev S2x640x128 : Shape := ⟨3, ![2, 640, 128]⟩
abbrev S64x8320 : Shape := ⟨2, ![64, 8320]⟩
abbrev S1x1x1x8320 : Shape := ⟨4, ![1, 1, 1, 8320]⟩
abbrev S1x8320 : Shape := ⟨2, ![1, 8320]⟩
abbrev S1x1x64x8320 : Shape := ⟨4, ![1, 1, 64, 8320]⟩
abbrev S128x8320 : Shape := ⟨2, ![128, 8320]⟩
abbrev S1x128x8320 : Shape := ⟨3, ![1, 128, 8320]⟩
abbrev S1x128 : Shape := ⟨2, ![1, 128]⟩
abbrev S640x128 : Shape := ⟨2, ![640, 128]⟩
abbrev S1x128x640 : Shape := ⟨3, ![1, 128, 640]⟩
abbrev S128x640 : Shape := ⟨2, ![128, 640]⟩
abbrev S640x640 : Shape := ⟨2, ![640, 640]⟩
abbrev S1x640x1 : Shape := ⟨3, ![1, 640, 1]⟩
abbrev S640x1 : Shape := ⟨2, ![640, 1]⟩
abbrev S640 : Shape := ⟨1, ![640]⟩

abbrev nBuf : Space → Nat
  | .hbm => 6
  | .vmem => 14
  | .smem => 0
  | _ => 0

abbrev bufTy : (tb : Table) → Fin (tcTables nBuf tb) → BufTy
  | .hbm, ⟨0, _⟩ => ⟨S2x8320x5632, .f32⟩
  | .hbm, ⟨1, _⟩ => ⟨S2x8x64x8320, .f32⟩
  | .hbm, ⟨2, _⟩ => ⟨S2x8x64x8320, .f32⟩
  | .hbm, ⟨3, _⟩ => ⟨S2x8x8320, .f32⟩
  | .hbm, ⟨4, _⟩ => ⟨S2x4x2x8320, .f32⟩
  | .hbm, ⟨5, _⟩ => ⟨S2x8320x512, .f32⟩
  | .local _ .vmem, ⟨0, _⟩ => ⟨S1x640x128, .f32⟩
  | .local _ .vmem, ⟨1, _⟩ => ⟨S1x640x128, .f32⟩
  | .local _ .vmem, ⟨2, _⟩ => ⟨S1x2x64x8320, .f32⟩
  | .local _ .vmem, ⟨3, _⟩ => ⟨S1x2x64x8320, .f32⟩
  | .local _ .vmem, ⟨4, _⟩ => ⟨S1x2x64x8320, .f32⟩
  | .local _ .vmem, ⟨5, _⟩ => ⟨S1x2x64x8320, .f32⟩
  | .local _ .vmem, ⟨6, _⟩ => ⟨S1x1x2x8320, .f32⟩
  | .local _ .vmem, ⟨7, _⟩ => ⟨S1x1x2x8320, .f32⟩
  | .local _ .vmem, ⟨8, _⟩ => ⟨S1x640x128, .f32⟩
  | .local _ .vmem, ⟨9, _⟩ => ⟨S1x640x128, .f32⟩
  | .local _ .vmem, ⟨10, _⟩ => ⟨S2x128x8320, .bf16⟩
  | .local _ .vmem, ⟨11, _⟩ => ⟨S2x128x8320, .bf16⟩
  | .local _ .vmem, ⟨12, _⟩ => ⟨S2x640x1, .f32⟩
  | .local _ .vmem, ⟨13, _⟩ => ⟨S2x640x128, .f32⟩
  | _, _ => ⟨S2x8320x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 4, 13], ![false, false, false]⟩

@[reducible] def k0_t1_loop (i : grid0.Coords) : Scf.Loop 32 :=
  let c0_i32_22 : BitVec 32 := 0#32
  let arg2 : BitVec 32 := BitVec.ofNat 32 (i 2).val
  let c0_i32_16 : BitVec 32 := 0#32
  let v42 : BitVec 1 := Scalar.cmpi .sgt arg2 c0_i32_16
  let v43 : BitVec 32 := Scalar.extui v42
  let c0_i32_17 : BitVec 32 := 0#32
  let v44 : BitVec 1 := Scalar.cmpi .slt arg2 c0_i32_17
  let v45 : BitVec 32 := Scalar.extui v44
  let v46 : BitVec 32 := Scalar.subi v43 v45
  let c2_i32 : BitVec 32 := 2#32
  let c0_i32_18 : BitVec 32 := 0#32
  let v47 : BitVec 1 := Scalar.cmpi .sgt c2_i32 c0_i32_18
  let v48 : BitVec 32 := Scalar.extui v47
  let c0_i32_19 : BitVec 32 := 0#32
  let v49 : BitVec 1 := Scalar.cmpi .slt c2_i32 c0_i32_19
  let v50 : BitVec 32 := Scalar.extui v49
  let v51 : BitVec 32 := Scalar.subi v48 v50
  let v52 : BitVec 1 := Scalar.cmpi .ne v46 v51
  let v53 : BitVec 32 := Scalar.remsi arg2 c2_i32
  let c0_i32_20 : BitVec 32 := 0#32
  let v54 : BitVec 1 := Scalar.cmpi .ne v53 c0_i32_20
  let v55 : BitVec 1 := Scalar.andi v52 v54
  let v41 : BitVec 32 := Scalar.divsi arg2 c2_i32
  let c1_i32 : BitVec 32 := 1#32
  let v56 : BitVec 32 := Scalar.subi v41 c1_i32
  let v57 : BitVec 32 := Scalar.select v55 v56 v41
  let v58 : BitVec 32 := Scalar.subi v57 c0_i32_22
  let c1_i32_23 : BitVec 32 := 1#32
  let v60 : BitVec 32 := Scalar.divsi v58 c1_i32_23
  let v61 : BitVec 32 := Scalar.muli v60 c1_i32_23
  let v62 : BitVec 32 := Scalar.addi c0_i32_22 v61
  let c1_i32_24 : BitVec 32 := 1#32
  ⟨c0_i32_22, v62, c1_i32_24⟩
def k0_mult1 (i : grid0.Coords) (k0_t1 : Fin (k0_t1_loop i).trips) : BitVec 32 :=
  let c2_i32_42 : BitVec 32 := 2#32
  let c0_i32_22 : BitVec 32 := 0#32
  let c1_i32_24 : BitVec 32 := 1#32
  let arg12 : BitVec 32 := Scf.iv c0_i32_22 c1_i32_24 k0_t1
  let v90 : BitVec 32 := Scalar.muli c2_i32_42 arg12
  let c640_i32 : BitVec 32 := 640#32
  let v93 : BitVec 32 := Scalar.muli v90 c640_i32
  v93
def k0_off1 (i : grid0.Coords) (k0_t1 : Fin (k0_t1_loop i).trips) : Fin 3 → Nat :=
  let c0_45 : Index := 0#32
  let c0_46 : Index := 0#32
  let c2_i32_42 : BitVec 32 := 2#32
  let c0_i32_22 : BitVec 32 := 0#32
  let c1_i32_24 : BitVec 32 := 1#32
  let arg12 : BitVec 32 := Scf.iv c0_i32_22 c1_i32_24 k0_t1
  let v90 : BitVec 32 := Scalar.muli c2_i32_42 arg12
  let c640_i32 : BitVec 32 := 640#32
  let v93 : BitVec 32 := Scalar.muli v90 c640_i32
  let v94 : BitVec 32 := v93
  let v95 : Index := Scalar.indexCast v94
  ![0, 0, v95.toNat]
def k0_off2 (i : grid0.Coords) (k0_t1 : Fin (k0_t1_loop i).trips) : Fin 3 → Nat :=
  let c1_48 : Index := 1#32
  let c0_49 : Index := 0#32
  let c2_i32_42 : BitVec 32 := 2#32
  let c0_i32_22 : BitVec 32 := 0#32
  let c1_i32_24 : BitVec 32 := 1#32
  let arg12 : BitVec 32 := Scf.iv c0_i32_22 c1_i32_24 k0_t1
  let v90 : BitVec 32 := Scalar.muli c2_i32_42 arg12
  let c640_i32 : BitVec 32 := 640#32
  let v93 : BitVec 32 := Scalar.muli v90 c640_i32
  let v94 : BitVec 32 := v93
  let v99 : Index := Scalar.indexCast v94
  ![1, 0, v99.toNat]
def k0_mult2 (i : grid0.Coords) (k0_t1 : Fin (k0_t1_loop i).trips) : BitVec 32 :=
  let c2_i32_43 : BitVec 32 := 2#32
  let c0_i32_22 : BitVec 32 := 0#32
  let c1_i32_24 : BitVec 32 := 1#32
  let arg12 : BitVec 32 := Scf.iv c0_i32_22 c1_i32_24 k0_t1
  let v91 : BitVec 32 := Scalar.muli c2_i32_43 arg12
  let c1_i32_44 : BitVec 32 := 1#32
  let v92 : BitVec 32 := Scalar.addi v91 c1_i32_44
  let c640_i32_51 : BitVec 32 := 640#32
  let v103 : BitVec 32 := Scalar.muli v92 c640_i32_51
  v103
def k0_off3 (i : grid0.Coords) (k0_t1 : Fin (k0_t1_loop i).trips) : Fin 3 → Nat :=
  let c0_52 : Index := 0#32
  let c0_53 : Index := 0#32
  let c2_i32_43 : BitVec 32 := 2#32
  let c0_i32_22 : BitVec 32 := 0#32
  let c1_i32_24 : BitVec 32 := 1#32
  let arg12 : BitVec 32 := Scf.iv c0_i32_22 c1_i32_24 k0_t1
  let v91 : BitVec 32 := Scalar.muli c2_i32_43 arg12
  let c1_i32_44 : BitVec 32 := 1#32
  let v92 : BitVec 32 := Scalar.addi v91 c1_i32_44
  let c640_i32_51 : BitVec 32 := 640#32
  let v103 : BitVec 32 := Scalar.muli v92 c640_i32_51
  let v104 : BitVec 32 := v103
  let v105 : Index := Scalar.indexCast v104
  ![0, 0, v105.toNat]
def k0_off4 (i : grid0.Coords) (k0_t1 : Fin (k0_t1_loop i).trips) : Fin 3 → Nat :=
  let c1_55 : Index := 1#32
  let c0_56 : Index := 0#32
  let c2_i32_43 : BitVec 32 := 2#32
  let c0_i32_22 : BitVec 32 := 0#32
  let c1_i32_24 : BitVec 32 := 1#32
  let arg12 : BitVec 32 := Scf.iv c0_i32_22 c1_i32_24 k0_t1
  let v91 : BitVec 32 := Scalar.muli c2_i32_43 arg12
  let c1_i32_44 : BitVec 32 := 1#32
  let v92 : BitVec 32 := Scalar.addi v91 c1_i32_44
  let c640_i32_51 : BitVec 32 := 640#32
  let v103 : BitVec 32 := Scalar.muli v92 c640_i32_51
  let v104 : BitVec 32 := v103
  let v109 : Index := Scalar.indexCast v104
  ![1, 0, v109.toNat]
def k0_mult3 (i : grid0.Coords) (k0_t1 : Fin (k0_t1_loop i).trips) : BitVec 32 :=
  let c2_i32_42 : BitVec 32 := 2#32
  let c0_i32_22 : BitVec 32 := 0#32
  let c1_i32_24 : BitVec 32 := 1#32
  let arg12 : BitVec 32 := Scf.iv c0_i32_22 c1_i32_24 k0_t1
  let v90 : BitVec 32 := Scalar.muli c2_i32_42 arg12
  let c640_i32_58 : BitVec 32 := 640#32
  let v113 : BitVec 32 := Scalar.muli v90 c640_i32_58
  v113
def k0_mult4 (i : grid0.Coords) (k0_t1 : Fin (k0_t1_loop i).trips) : BitVec 32 :=
  let c2_i32_43 : BitVec 32 := 2#32
  let c0_i32_22 : BitVec 32 := 0#32
  let c1_i32_24 : BitVec 32 := 1#32
  let arg12 : BitVec 32 := Scf.iv c0_i32_22 c1_i32_24 k0_t1
  let v91 : BitVec 32 := Scalar.muli c2_i32_43 arg12
  let c1_i32_44 : BitVec 32 := 1#32
  let v92 : BitVec 32 := Scalar.addi v91 c1_i32_44
  let c640_i32_91 : BitVec 32 := 640#32
  let v167 : BitVec 32 := Scalar.muli v92 c640_i32_91
  v167
@[reducible] def k0_t2_loop (i : grid0.Coords) : Scf.Loop 32 :=
  let c0_i32_22 : BitVec 32 := 0#32
  let arg2 : BitVec 32 := BitVec.ofNat 32 (i 2).val
  let c0_i32_16 : BitVec 32 := 0#32
  let v42 : BitVec 1 := Scalar.cmpi .sgt arg2 c0_i32_16
  let v43 : BitVec 32 := Scalar.extui v42
  let c0_i32_17 : BitVec 32 := 0#32
  let v44 : BitVec 1 := Scalar.cmpi .slt arg2 c0_i32_17
  let v45 : BitVec 32 := Scalar.extui v44
  let v46 : BitVec 32 := Scalar.subi v43 v45
  let c2_i32 : BitVec 32 := 2#32
  let c0_i32_18 : BitVec 32 := 0#32
  let v47 : BitVec 1 := Scalar.cmpi .sgt c2_i32 c0_i32_18
  let v48 : BitVec 32 := Scalar.extui v47
  let c0_i32_19 : BitVec 32 := 0#32
  let v49 : BitVec 1 := Scalar.cmpi .slt c2_i32 c0_i32_19
  let v50 : BitVec 32 := Scalar.extui v49
  let v51 : BitVec 32 := Scalar.subi v48 v50
  let v52 : BitVec 1 := Scalar.cmpi .ne v46 v51
  let v53 : BitVec 32 := Scalar.remsi arg2 c2_i32
  let c0_i32_20 : BitVec 32 := 0#32
  let v54 : BitVec 1 := Scalar.cmpi .ne v53 c0_i32_20
  let v55 : BitVec 1 := Scalar.andi v52 v54
  let v41 : BitVec 32 := Scalar.divsi arg2 c2_i32
  let c1_i32 : BitVec 32 := 1#32
  let v56 : BitVec 32 := Scalar.subi v41 c1_i32
  let v57 : BitVec 32 := Scalar.select v55 v56 v41
  let v58 : BitVec 32 := Scalar.subi v57 c0_i32_22
  let c1_i32_23 : BitVec 32 := 1#32
  let v60 : BitVec 32 := Scalar.divsi v58 c1_i32_23
  let v61 : BitVec 32 := Scalar.muli v60 c1_i32_23
  let v62 : BitVec 32 := Scalar.addi c0_i32_22 v61
  let v59 : BitVec 32 := Scalar.addi c0_i32_22 v58
  let c1_i32_25 : BitVec 32 := 1#32
  ⟨v62, v59, c1_i32_25⟩
def k0_mult5 (i : grid0.Coords) (k0_t2 : Fin (k0_t2_loop i).trips) : BitVec 32 :=
  let c2_i32_42 : BitVec 32 := 2#32
  let c0_i32_22 : BitVec 32 := 0#32
  let arg2 : BitVec 32 := BitVec.ofNat 32 (i 2).val
  let c0_i32_16 : BitVec 32 := 0#32
  let v42 : BitVec 1 := Scalar.cmpi .sgt arg2 c0_i32_16
  let v43 : BitVec 32 := Scalar.extui v42
  let c0_i32_17 : BitVec 32 := 0#32
  let v44 : BitVec 1 := Scalar.cmpi .slt arg2 c0_i32_17
  let v45 : BitVec 32 := Scalar.extui v44
  let v46 : BitVec 32 := Scalar.subi v43 v45
  let c2_i32 : BitVec 32 := 2#32
  let c0_i32_18 : BitVec 32 := 0#32
  let v47 : BitVec 1 := Scalar.cmpi .sgt c2_i32 c0_i32_18
  let v48 : BitVec 32 := Scalar.extui v47
  let c0_i32_19 : BitVec 32 := 0#32
  let v49 : BitVec 1 := Scalar.cmpi .slt c2_i32 c0_i32_19
  let v50 : BitVec 32 := Scalar.extui v49
  let v51 : BitVec 32 := Scalar.subi v48 v50
  let v52 : BitVec 1 := Scalar.cmpi .ne v46 v51
  let v53 : BitVec 32 := Scalar.remsi arg2 c2_i32
  let c0_i32_20 : BitVec 32 := 0#32
  let v54 : BitVec 1 := Scalar.cmpi .ne v53 c0_i32_20
  let v55 : BitVec 1 := Scalar.andi v52 v54
  let v41 : BitVec 32 := Scalar.divsi arg2 c2_i32
  let c1_i32 : BitVec 32 := 1#32
  let v56 : BitVec 32 := Scalar.subi v41 c1_i32
  let v57 : BitVec 32 := Scalar.select v55 v56 v41
  let v58 : BitVec 32 := Scalar.subi v57 c0_i32_22
  let c1_i32_23 : BitVec 32 := 1#32
  let v60 : BitVec 32 := Scalar.divsi v58 c1_i32_23
  let v61 : BitVec 32 := Scalar.muli v60 c1_i32_23
  let v62 : BitVec 32 := Scalar.addi c0_i32_22 v61
  let c1_i32_25 : BitVec 32 := 1#32
  let arg12 : BitVec 32 := Scf.iv v62 c1_i32_25 k0_t2
  let v90 : BitVec 32 := Scalar.muli c2_i32_42 arg12
  let c640_i32 : BitVec 32 := 640#32
  let v93 : BitVec 32 := Scalar.muli v90 c640_i32
  v93
def k0_off5 (i : grid0.Coords) (k0_t2 : Fin (k0_t2_loop i).trips) : Fin 3 → Nat :=
  let c0_45 : Index := 0#32
  let c0_46 : Index := 0#32
  let c2_i32_42 : BitVec 32 := 2#32
  let c0_i32_22 : BitVec 32 := 0#32
  let arg2 : BitVec 32 := BitVec.ofNat 32 (i 2).val
  let c0_i32_16 : BitVec 32 := 0#32
  let v42 : BitVec 1 := Scalar.cmpi .sgt arg2 c0_i32_16
  let v43 : BitVec 32 := Scalar.extui v42
  let c0_i32_17 : BitVec 32 := 0#32
  let v44 : BitVec 1 := Scalar.cmpi .slt arg2 c0_i32_17
  let v45 : BitVec 32 := Scalar.extui v44
  let v46 : BitVec 32 := Scalar.subi v43 v45
  let c2_i32 : BitVec 32 := 2#32
  let c0_i32_18 : BitVec 32 := 0#32
  let v47 : BitVec 1 := Scalar.cmpi .sgt c2_i32 c0_i32_18
  let v48 : BitVec 32 := Scalar.extui v47
  let c0_i32_19 : BitVec 32 := 0#32
  let v49 : BitVec 1 := Scalar.cmpi .slt c2_i32 c0_i32_19
  let v50 : BitVec 32 := Scalar.extui v49
  let v51 : BitVec 32 := Scalar.subi v48 v50
  let v52 : BitVec 1 := Scalar.cmpi .ne v46 v51
  let v53 : BitVec 32 := Scalar.remsi arg2 c2_i32
  let c0_i32_20 : BitVec 32 := 0#32
  let v54 : BitVec 1 := Scalar.cmpi .ne v53 c0_i32_20
  let v55 : BitVec 1 := Scalar.andi v52 v54
  let v41 : BitVec 32 := Scalar.divsi arg2 c2_i32
  let c1_i32 : BitVec 32 := 1#32
  let v56 : BitVec 32 := Scalar.subi v41 c1_i32
  let v57 : BitVec 32 := Scalar.select v55 v56 v41
  let v58 : BitVec 32 := Scalar.subi v57 c0_i32_22
  let c1_i32_23 : BitVec 32 := 1#32
  let v60 : BitVec 32 := Scalar.divsi v58 c1_i32_23
  let v61 : BitVec 32 := Scalar.muli v60 c1_i32_23
  let v62 : BitVec 32 := Scalar.addi c0_i32_22 v61
  let c1_i32_25 : BitVec 32 := 1#32
  let arg12 : BitVec 32 := Scf.iv v62 c1_i32_25 k0_t2
  let v90 : BitVec 32 := Scalar.muli c2_i32_42 arg12
  let c640_i32 : BitVec 32 := 640#32
  let v93 : BitVec 32 := Scalar.muli v90 c640_i32
  let v94 : BitVec 32 := v93
  let v95 : Index := Scalar.indexCast v94
  ![0, 0, v95.toNat]
def k0_off6 (i : grid0.Coords) (k0_t2 : Fin (k0_t2_loop i).trips) : Fin 3 → Nat :=
  let c1_48 : Index := 1#32
  let c0_49 : Index := 0#32
  let c2_i32_42 : BitVec 32 := 2#32
  let c0_i32_22 : BitVec 32 := 0#32
  let arg2 : BitVec 32 := BitVec.ofNat 32 (i 2).val
  let c0_i32_16 : BitVec 32 := 0#32
  let v42 : BitVec 1 := Scalar.cmpi .sgt arg2 c0_i32_16
  let v43 : BitVec 32 := Scalar.extui v42
  let c0_i32_17 : BitVec 32 := 0#32
  let v44 : BitVec 1 := Scalar.cmpi .slt arg2 c0_i32_17
  let v45 : BitVec 32 := Scalar.extui v44
  let v46 : BitVec 32 := Scalar.subi v43 v45
  let c2_i32 : BitVec 32 := 2#32
  let c0_i32_18 : BitVec 32 := 0#32
  let v47 : BitVec 1 := Scalar.cmpi .sgt c2_i32 c0_i32_18
  let v48 : BitVec 32 := Scalar.extui v47
  let c0_i32_19 : BitVec 32 := 0#32
  let v49 : BitVec 1 := Scalar.cmpi .slt c2_i32 c0_i32_19
  let v50 : BitVec 32 := Scalar.extui v49
  let v51 : BitVec 32 := Scalar.subi v48 v50
  let v52 : BitVec 1 := Scalar.cmpi .ne v46 v51
  let v53 : BitVec 32 := Scalar.remsi arg2 c2_i32
  let c0_i32_20 : BitVec 32 := 0#32
  let v54 : BitVec 1 := Scalar.cmpi .ne v53 c0_i32_20
  let v55 : BitVec 1 := Scalar.andi v52 v54
  let v41 : BitVec 32 := Scalar.divsi arg2 c2_i32
  let c1_i32 : BitVec 32 := 1#32
  let v56 : BitVec 32 := Scalar.subi v41 c1_i32
  let v57 : BitVec 32 := Scalar.select v55 v56 v41
  let v58 : BitVec 32 := Scalar.subi v57 c0_i32_22
  let c1_i32_23 : BitVec 32 := 1#32
  let v60 : BitVec 32 := Scalar.divsi v58 c1_i32_23
  let v61 : BitVec 32 := Scalar.muli v60 c1_i32_23
  let v62 : BitVec 32 := Scalar.addi c0_i32_22 v61
  let c1_i32_25 : BitVec 32 := 1#32
  let arg12 : BitVec 32 := Scf.iv v62 c1_i32_25 k0_t2
  let v90 : BitVec 32 := Scalar.muli c2_i32_42 arg12
  let c640_i32 : BitVec 32 := 640#32
  let v93 : BitVec 32 := Scalar.muli v90 c640_i32
  let v94 : BitVec 32 := v93
  let v99 : Index := Scalar.indexCast v94
  ![1, 0, v99.toNat]
def k0_mult6 (i : grid0.Coords) (k0_t2 : Fin (k0_t2_loop i).trips) : BitVec 32 :=
  let c2_i32_43 : BitVec 32 := 2#32
  let c0_i32_22 : BitVec 32 := 0#32
  let arg2 : BitVec 32 := BitVec.ofNat 32 (i 2).val
  let c0_i32_16 : BitVec 32 := 0#32
  let v42 : BitVec 1 := Scalar.cmpi .sgt arg2 c0_i32_16
  let v43 : BitVec 32 := Scalar.extui v42
  let c0_i32_17 : BitVec 32 := 0#32
  let v44 : BitVec 1 := Scalar.cmpi .slt arg2 c0_i32_17
  let v45 : BitVec 32 := Scalar.extui v44
  let v46 : BitVec 32 := Scalar.subi v43 v45
  let c2_i32 : BitVec 32 := 2#32
  let c0_i32_18 : BitVec 32 := 0#32
  let v47 : BitVec 1 := Scalar.cmpi .sgt c2_i32 c0_i32_18
  let v48 : BitVec 32 := Scalar.extui v47
  let c0_i32_19 : BitVec 32 := 0#32
  let v49 : BitVec 1 := Scalar.cmpi .slt c2_i32 c0_i32_19
  let v50 : BitVec 32 := Scalar.extui v49
  let v51 : BitVec 32 := Scalar.subi v48 v50
  let v52 : BitVec 1 := Scalar.cmpi .ne v46 v51
  let v53 : BitVec 32 := Scalar.remsi arg2 c2_i32
  let c0_i32_20 : BitVec 32 := 0#32
  let v54 : BitVec 1 := Scalar.cmpi .ne v53 c0_i32_20
  let v55 : BitVec 1 := Scalar.andi v52 v54
  let v41 : BitVec 32 := Scalar.divsi arg2 c2_i32
  let c1_i32 : BitVec 32 := 1#32
  let v56 : BitVec 32 := Scalar.subi v41 c1_i32
  let v57 : BitVec 32 := Scalar.select v55 v56 v41
  let v58 : BitVec 32 := Scalar.subi v57 c0_i32_22
  let c1_i32_23 : BitVec 32 := 1#32
  let v60 : BitVec 32 := Scalar.divsi v58 c1_i32_23
  let v61 : BitVec 32 := Scalar.muli v60 c1_i32_23
  let v62 : BitVec 32 := Scalar.addi c0_i32_22 v61
  let c1_i32_25 : BitVec 32 := 1#32
  let arg12 : BitVec 32 := Scf.iv v62 c1_i32_25 k0_t2
  let v91 : BitVec 32 := Scalar.muli c2_i32_43 arg12
  let c1_i32_44 : BitVec 32 := 1#32
  let v92 : BitVec 32 := Scalar.addi v91 c1_i32_44
  let c640_i32_51 : BitVec 32 := 640#32
  let v103 : BitVec 32 := Scalar.muli v92 c640_i32_51
  v103
def k0_off7 (i : grid0.Coords) (k0_t2 : Fin (k0_t2_loop i).trips) : Fin 3 → Nat :=
  let c0_52 : Index := 0#32
  let c0_53 : Index := 0#32
  let c2_i32_43 : BitVec 32 := 2#32
  let c0_i32_22 : BitVec 32 := 0#32
  let arg2 : BitVec 32 := BitVec.ofNat 32 (i 2).val
  let c0_i32_16 : BitVec 32 := 0#32
  let v42 : BitVec 1 := Scalar.cmpi .sgt arg2 c0_i32_16
  let v43 : BitVec 32 := Scalar.extui v42
  let c0_i32_17 : BitVec 32 := 0#32
  let v44 : BitVec 1 := Scalar.cmpi .slt arg2 c0_i32_17
  let v45 : BitVec 32 := Scalar.extui v44
  let v46 : BitVec 32 := Scalar.subi v43 v45
  let c2_i32 : BitVec 32 := 2#32
  let c0_i32_18 : BitVec 32 := 0#32
  let v47 : BitVec 1 := Scalar.cmpi .sgt c2_i32 c0_i32_18
  let v48 : BitVec 32 := Scalar.extui v47
  let c0_i32_19 : BitVec 32 := 0#32
  let v49 : BitVec 1 := Scalar.cmpi .slt c2_i32 c0_i32_19
  let v50 : BitVec 32 := Scalar.extui v49
  let v51 : BitVec 32 := Scalar.subi v48 v50
  let v52 : BitVec 1 := Scalar.cmpi .ne v46 v51
  let v53 : BitVec 32 := Scalar.remsi arg2 c2_i32
  let c0_i32_20 : BitVec 32 := 0#32
  let v54 : BitVec 1 := Scalar.cmpi .ne v53 c0_i32_20
  let v55 : BitVec 1 := Scalar.andi v52 v54
  let v41 : BitVec 32 := Scalar.divsi arg2 c2_i32
  let c1_i32 : BitVec 32 := 1#32
  let v56 : BitVec 32 := Scalar.subi v41 c1_i32
  let v57 : BitVec 32 := Scalar.select v55 v56 v41
  let v58 : BitVec 32 := Scalar.subi v57 c0_i32_22
  let c1_i32_23 : BitVec 32 := 1#32
  let v60 : BitVec 32 := Scalar.divsi v58 c1_i32_23
  let v61 : BitVec 32 := Scalar.muli v60 c1_i32_23
  let v62 : BitVec 32 := Scalar.addi c0_i32_22 v61
  let c1_i32_25 : BitVec 32 := 1#32
  let arg12 : BitVec 32 := Scf.iv v62 c1_i32_25 k0_t2
  let v91 : BitVec 32 := Scalar.muli c2_i32_43 arg12
  let c1_i32_44 : BitVec 32 := 1#32
  let v92 : BitVec 32 := Scalar.addi v91 c1_i32_44
  let c640_i32_51 : BitVec 32 := 640#32
  let v103 : BitVec 32 := Scalar.muli v92 c640_i32_51
  let v104 : BitVec 32 := v103
  let v105 : Index := Scalar.indexCast v104
  ![0, 0, v105.toNat]
def k0_off8 (i : grid0.Coords) (k0_t2 : Fin (k0_t2_loop i).trips) : Fin 3 → Nat :=
  let c1_55 : Index := 1#32
  let c0_56 : Index := 0#32
  let c2_i32_43 : BitVec 32 := 2#32
  let c0_i32_22 : BitVec 32 := 0#32
  let arg2 : BitVec 32 := BitVec.ofNat 32 (i 2).val
  let c0_i32_16 : BitVec 32 := 0#32
  let v42 : BitVec 1 := Scalar.cmpi .sgt arg2 c0_i32_16
  let v43 : BitVec 32 := Scalar.extui v42
  let c0_i32_17 : BitVec 32 := 0#32
  let v44 : BitVec 1 := Scalar.cmpi .slt arg2 c0_i32_17
  let v45 : BitVec 32 := Scalar.extui v44
  let v46 : BitVec 32 := Scalar.subi v43 v45
  let c2_i32 : BitVec 32 := 2#32
  let c0_i32_18 : BitVec 32 := 0#32
  let v47 : BitVec 1 := Scalar.cmpi .sgt c2_i32 c0_i32_18
  let v48 : BitVec 32 := Scalar.extui v47
  let c0_i32_19 : BitVec 32 := 0#32
  let v49 : BitVec 1 := Scalar.cmpi .slt c2_i32 c0_i32_19
  let v50 : BitVec 32 := Scalar.extui v49
  let v51 : BitVec 32 := Scalar.subi v48 v50
  let v52 : BitVec 1 := Scalar.cmpi .ne v46 v51
  let v53 : BitVec 32 := Scalar.remsi arg2 c2_i32
  let c0_i32_20 : BitVec 32 := 0#32
  let v54 : BitVec 1 := Scalar.cmpi .ne v53 c0_i32_20
  let v55 : BitVec 1 := Scalar.andi v52 v54
  let v41 : BitVec 32 := Scalar.divsi arg2 c2_i32
  let c1_i32 : BitVec 32 := 1#32
  let v56 : BitVec 32 := Scalar.subi v41 c1_i32
  let v57 : BitVec 32 := Scalar.select v55 v56 v41
  let v58 : BitVec 32 := Scalar.subi v57 c0_i32_22
  let c1_i32_23 : BitVec 32 := 1#32
  let v60 : BitVec 32 := Scalar.divsi v58 c1_i32_23
  let v61 : BitVec 32 := Scalar.muli v60 c1_i32_23
  let v62 : BitVec 32 := Scalar.addi c0_i32_22 v61
  let c1_i32_25 : BitVec 32 := 1#32
  let arg12 : BitVec 32 := Scf.iv v62 c1_i32_25 k0_t2
  let v91 : BitVec 32 := Scalar.muli c2_i32_43 arg12
  let c1_i32_44 : BitVec 32 := 1#32
  let v92 : BitVec 32 := Scalar.addi v91 c1_i32_44
  let c640_i32_51 : BitVec 32 := 640#32
  let v103 : BitVec 32 := Scalar.muli v92 c640_i32_51
  let v104 : BitVec 32 := v103
  let v109 : Index := Scalar.indexCast v104
  ![1, 0, v109.toNat]
def k0_mult7 (i : grid0.Coords) (k0_t2 : Fin (k0_t2_loop i).trips) : BitVec 32 :=
  let c2_i32_42 : BitVec 32 := 2#32
  let c0_i32_22 : BitVec 32 := 0#32
  let arg2 : BitVec 32 := BitVec.ofNat 32 (i 2).val
  let c0_i32_16 : BitVec 32 := 0#32
  let v42 : BitVec 1 := Scalar.cmpi .sgt arg2 c0_i32_16
  let v43 : BitVec 32 := Scalar.extui v42
  let c0_i32_17 : BitVec 32 := 0#32
  let v44 : BitVec 1 := Scalar.cmpi .slt arg2 c0_i32_17
  let v45 : BitVec 32 := Scalar.extui v44
  let v46 : BitVec 32 := Scalar.subi v43 v45
  let c2_i32 : BitVec 32 := 2#32
  let c0_i32_18 : BitVec 32 := 0#32
  let v47 : BitVec 1 := Scalar.cmpi .sgt c2_i32 c0_i32_18
  let v48 : BitVec 32 := Scalar.extui v47
  let c0_i32_19 : BitVec 32 := 0#32
  let v49 : BitVec 1 := Scalar.cmpi .slt c2_i32 c0_i32_19
  let v50 : BitVec 32 := Scalar.extui v49
  let v51 : BitVec 32 := Scalar.subi v48 v50
  let v52 : BitVec 1 := Scalar.cmpi .ne v46 v51
  let v53 : BitVec 32 := Scalar.remsi arg2 c2_i32
  let c0_i32_20 : BitVec 32 := 0#32
  let v54 : BitVec 1 := Scalar.cmpi .ne v53 c0_i32_20
  let v55 : BitVec 1 := Scalar.andi v52 v54
  let v41 : BitVec 32 := Scalar.divsi arg2 c2_i32
  let c1_i32 : BitVec 32 := 1#32
  let v56 : BitVec 32 := Scalar.subi v41 c1_i32
  let v57 : BitVec 32 := Scalar.select v55 v56 v41
  let v58 : BitVec 32 := Scalar.subi v57 c0_i32_22
  let c1_i32_23 : BitVec 32 := 1#32
  let v60 : BitVec 32 := Scalar.divsi v58 c1_i32_23
  let v61 : BitVec 32 := Scalar.muli v60 c1_i32_23
  let v62 : BitVec 32 := Scalar.addi c0_i32_22 v61
  let c1_i32_25 : BitVec 32 := 1#32
  let arg12 : BitVec 32 := Scf.iv v62 c1_i32_25 k0_t2
  let v90 : BitVec 32 := Scalar.muli c2_i32_42 arg12
  let c640_i32_58 : BitVec 32 := 640#32
  let v113 : BitVec 32 := Scalar.muli v90 c640_i32_58
  v113
def k0_mult8 (i : grid0.Coords) (k0_t2 : Fin (k0_t2_loop i).trips) : BitVec 32 :=
  let c2_i32_43 : BitVec 32 := 2#32
  let c0_i32_22 : BitVec 32 := 0#32
  let arg2 : BitVec 32 := BitVec.ofNat 32 (i 2).val
  let c0_i32_16 : BitVec 32 := 0#32
  let v42 : BitVec 1 := Scalar.cmpi .sgt arg2 c0_i32_16
  let v43 : BitVec 32 := Scalar.extui v42
  let c0_i32_17 : BitVec 32 := 0#32
  let v44 : BitVec 1 := Scalar.cmpi .slt arg2 c0_i32_17
  let v45 : BitVec 32 := Scalar.extui v44
  let v46 : BitVec 32 := Scalar.subi v43 v45
  let c2_i32 : BitVec 32 := 2#32
  let c0_i32_18 : BitVec 32 := 0#32
  let v47 : BitVec 1 := Scalar.cmpi .sgt c2_i32 c0_i32_18
  let v48 : BitVec 32 := Scalar.extui v47
  let c0_i32_19 : BitVec 32 := 0#32
  let v49 : BitVec 1 := Scalar.cmpi .slt c2_i32 c0_i32_19
  let v50 : BitVec 32 := Scalar.extui v49
  let v51 : BitVec 32 := Scalar.subi v48 v50
  let v52 : BitVec 1 := Scalar.cmpi .ne v46 v51
  let v53 : BitVec 32 := Scalar.remsi arg2 c2_i32
  let c0_i32_20 : BitVec 32 := 0#32
  let v54 : BitVec 1 := Scalar.cmpi .ne v53 c0_i32_20
  let v55 : BitVec 1 := Scalar.andi v52 v54
  let v41 : BitVec 32 := Scalar.divsi arg2 c2_i32
  let c1_i32 : BitVec 32 := 1#32
  let v56 : BitVec 32 := Scalar.subi v41 c1_i32
  let v57 : BitVec 32 := Scalar.select v55 v56 v41
  let v58 : BitVec 32 := Scalar.subi v57 c0_i32_22
  let c1_i32_23 : BitVec 32 := 1#32
  let v60 : BitVec 32 := Scalar.divsi v58 c1_i32_23
  let v61 : BitVec 32 := Scalar.muli v60 c1_i32_23
  let v62 : BitVec 32 := Scalar.addi c0_i32_22 v61
  let c1_i32_25 : BitVec 32 := 1#32
  let arg12 : BitVec 32 := Scf.iv v62 c1_i32_25 k0_t2
  let v91 : BitVec 32 := Scalar.muli c2_i32_43 arg12
  let c1_i32_44 : BitVec 32 := 1#32
  let v92 : BitVec 32 := Scalar.addi v91 c1_i32_44
  let c640_i32_91 : BitVec 32 := 640#32
  let v167 : BitVec 32 := Scalar.muli v92 c640_i32_91
  v167
def k0_cond2 (i : grid0.Coords) : BitVec 1 :=
  let arg2 : BitVec 32 := BitVec.ofNat 32 (i 2).val
  let c1_i32_26 : BitVec 32 := 1#32
  let v63 : BitVec 32 := Scalar.andi arg2 c1_i32_26
  let c1_i32_27 : BitVec 32 := 1#32
  let v64 : BitVec 1 := Scalar.cmpi .eq v63 c1_i32_27
  let v65 : BitVec 32 := Scalar.extui v64
  let c0_i32_28 : BitVec 32 := 0#32
  let v66 : BitVec 1 := Scalar.cmpi .ne v65 c0_i32_28
  v66

def k0_mult9 (i : grid0.Coords) : BitVec 32 :=
  let arg2 : BitVec 32 := BitVec.ofNat 32 (i 2).val
  let c1_i32_42 : BitVec 32 := 1#32
  let v90 : BitVec 32 := Scalar.subi arg2 c1_i32_42
  let c640_i32 : BitVec 32 := 640#32
  let v91 : BitVec 32 := Scalar.muli v90 c640_i32
  v91
def k0_off9 (i : grid0.Coords) : Fin 3 → Nat :=
  let c0_43 : Index := 0#32
  let c0_44 : Index := 0#32
  let arg2 : BitVec 32 := BitVec.ofNat 32 (i 2).val
  let c1_i32_42 : BitVec 32 := 1#32
  let v90 : BitVec 32 := Scalar.subi arg2 c1_i32_42
  let c640_i32 : BitVec 32 := 640#32
  let v91 : BitVec 32 := Scalar.muli v90 c640_i32
  let v92 : BitVec 32 := v91
  let v93 : Index := Scalar.indexCast v92
  ![0, 0, v93.toNat]
def k0_off10 (i : grid0.Coords) : Fin 3 → Nat :=
  let c1_46 : Index := 1#32
  let c0_47 : Index := 0#32
  let arg2 : BitVec 32 := BitVec.ofNat 32 (i 2).val
  let c1_i32_42 : BitVec 32 := 1#32
  let v90 : BitVec 32 := Scalar.subi arg2 c1_i32_42
  let c640_i32 : BitVec 32 := 640#32
  let v91 : BitVec 32 := Scalar.muli v90 c640_i32
  let v92 : BitVec 32 := v91
  let v97 : Index := Scalar.indexCast v92
  ![1, 0, v97.toNat]
def k0_mult10 (i : grid0.Coords) : BitVec 32 :=
  let arg2 : BitVec 32 := BitVec.ofNat 32 (i 2).val
  let c640_i32_49 : BitVec 32 := 640#32
  let v101 : BitVec 32 := Scalar.muli arg2 c640_i32_49
  v101
def k0_off11 (i : grid0.Coords) : Fin 3 → Nat :=
  let c0_50 : Index := 0#32
  let c0_51 : Index := 0#32
  let arg2 : BitVec 32 := BitVec.ofNat 32 (i 2).val
  let c640_i32_49 : BitVec 32 := 640#32
  let v101 : BitVec 32 := Scalar.muli arg2 c640_i32_49
  let v102 : BitVec 32 := v101
  let v103 : Index := Scalar.indexCast v102
  ![0, 0, v103.toNat]
def k0_off12 (i : grid0.Coords) : Fin 3 → Nat :=
  let c1_53 : Index := 1#32
  let c0_54 : Index := 0#32
  let arg2 : BitVec 32 := BitVec.ofNat 32 (i 2).val
  let c640_i32_49 : BitVec 32 := 640#32
  let v101 : BitVec 32 := Scalar.muli arg2 c640_i32_49
  let v102 : BitVec 32 := v101
  let v107 : Index := Scalar.indexCast v102
  ![1, 0, v107.toNat]
def k0_mult11 (i : grid0.Coords) : BitVec 32 :=
  let arg2 : BitVec 32 := BitVec.ofNat 32 (i 2).val
  let c1_i32_42 : BitVec 32 := 1#32
  let v90 : BitVec 32 := Scalar.subi arg2 c1_i32_42
  let c640_i32_56 : BitVec 32 := 640#32
  let v111 : BitVec 32 := Scalar.muli v90 c640_i32_56
  v111
def k0_mult12 (i : grid0.Coords) : BitVec 32 :=
  let arg2 : BitVec 32 := BitVec.ofNat 32 (i 2).val
  let c640_i32_89 : BitVec 32 := 640#32
  let v165 : BitVec 32 := Scalar.muli arg2 c640_i32_89
  v165
def k0_cond3 (i : grid0.Coords) : BitVec 1 :=
  let arg2 : BitVec 32 := BitVec.ofNat 32 (i 2).val
  let c1_i32_29 : BitVec 32 := 1#32
  let v67 : BitVec 32 := Scalar.andi arg2 c1_i32_29
  let c0_i32_30 : BitVec 32 := 0#32
  let v68 : BitVec 1 := Scalar.cmpi .eq v67 c0_i32_30
  let v69 : BitVec 32 := Scalar.extui v68
  let c0_i32_31 : BitVec 32 := 0#32
  let v70 : BitVec 1 := Scalar.cmpi .ne v69 c0_i32_31
  v70

def k0_mult13 (i : grid0.Coords) : BitVec 32 :=
  let arg2 : BitVec 32 := BitVec.ofNat 32 (i 2).val
  let c640_i32 : BitVec 32 := 640#32
  let v90 : BitVec 32 := Scalar.muli arg2 c640_i32
  v90
def k0_off13 (i : grid0.Coords) : Fin 3 → Nat :=
  let c0_42 : Index := 0#32
  let c0_43 : Index := 0#32
  let arg2 : BitVec 32 := BitVec.ofNat 32 (i 2).val
  let c640_i32 : BitVec 32 := 640#32
  let v90 : BitVec 32 := Scalar.muli arg2 c640_i32
  let v91 : BitVec 32 := v90
  let v92 : Index := Scalar.indexCast v91
  ![0, 0, v92.toNat]
def k0_off14 (i : grid0.Coords) : Fin 3 → Nat :=
  let c1_45 : Index := 1#32
  let c0_46 : Index := 0#32
  let arg2 : BitVec 32 := BitVec.ofNat 32 (i 2).val
  let c640_i32 : BitVec 32 := 640#32
  let v90 : BitVec 32 := Scalar.muli arg2 c640_i32
  let v91 : BitVec 32 := v90
  let v96 : Index := Scalar.indexCast v91
  ![1, 0, v96.toNat]
def k0_mult14 (i : grid0.Coords) : BitVec 32 :=
  let arg2 : BitVec 32 := BitVec.ofNat 32 (i 2).val
  let c640_i32_48 : BitVec 32 := 640#32
  let v100 : BitVec 32 := Scalar.muli arg2 c640_i32_48
  v100
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c40_i32 : BitVec 32 := 40#32
  let v0 : BitVec 32 := Scalar.addi c40_i32 arg1
  let c0_i32 : BitVec 32 := 0#32
  ![arg0.toNat, arg2.toNat, v0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x640x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2x64x8320 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2x64x8320 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x2x8320 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x640x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Kernel5Ideal.lean ====
variable {F : FTy → Type} [FloatOps F] [Named F]
def κ : String → Option EReal := fun
  | "mask" => some ⊥
  | _ => none
-- ==== Reference5Ideal.lean ====
abbrev S2x8320x5632 : Shape := ⟨3, ![2, 8320, 5632]⟩
abbrev S2x8x64x8320 : Shape := ⟨4, ![2, 8, 64, 8320]⟩
abbrev S2x8x8320 : Shape := ⟨3, ![2, 8, 8320]⟩
abbrev S2x8320x512 : Shape := ⟨3, ![2, 8320, 512]⟩
abbrev S2x8320x8x64 : Shape := ⟨4, ![2, 8320, 8, 64]⟩
abbrev S8320 : Shape := ⟨1, ![8320]⟩
abbrev S2x8x8320x8320 : Shape := ⟨4, ![2, 8, 8320, 8320]⟩
abbrev S_ : Shape := ⟨0, ![]⟩
abbrev S2x8x8320x1 : Shape := ⟨4, ![2, 8, 8320, 1]⟩
abbrev S2x8x1x8320 : Shape := ⟨4, ![2, 8, 1, 8320]⟩
abbrev S1x8320 : Shape := ⟨2, ![1, 8320]⟩
abbrev S8320x1 : Shape := ⟨2, ![8320, 1]⟩
abbrev S8320x8320 : Shape := ⟨2, ![8320, 8320]⟩
abbrev S1x1x8320x8320 : Shape := ⟨4, ![1, 1, 8320, 8320]⟩

abbrev nBuf : Space → Nat
  | .hbm => 45
  | .vmem => 0
  | .smem => 0
  | _ => 0

abbrev bufTy : (tb : Table) → Fin (tcTables nBuf tb) → BufTy
  | .hbm, ⟨0, _⟩ => ⟨S2x8320x5632, .f32⟩
  | .hbm, ⟨1, _⟩ => ⟨S2x8x64x8320, .f32⟩
  | .hbm, ⟨2, _⟩ => ⟨S2x8x64x8320, .f32⟩
  | .hbm, ⟨3, _⟩ => ⟨S2x8x8320, .f32⟩
  | .hbm, ⟨4, _⟩ => ⟨S2x8320x512, .f32⟩
  | .hbm, ⟨5, _⟩ => ⟨S2x8320x8x64, .f32⟩
  | .hbm, ⟨6, _⟩ => ⟨S8320, .i32⟩
  | .hbm, ⟨7, _⟩ => ⟨S2x8x8320x8320, .f32⟩
  | .hbm, ⟨8, _⟩ => ⟨S_, .f32⟩
  | .hbm, ⟨9, _⟩ => ⟨S2x8x8320x8320, .f32⟩
  | .hbm, ⟨10, _⟩ => ⟨S2x8x8320x8320, .f32⟩
  | .hbm, ⟨11, _⟩ => ⟨S2x8x8320x1, .f32⟩
  | .hbm, ⟨12, _⟩ => ⟨S2x8x1x8320, .f32⟩
  | .hbm, ⟨13, _⟩ => ⟨S2x8x8320x8320, .f32⟩
  | .hbm, ⟨14, _⟩ => ⟨S2x8x8320x8320, .f32⟩
  | .hbm, ⟨15, _⟩ => ⟨S2x8x8320x8320, .f32⟩
  | .hbm, ⟨16, _⟩ => ⟨S1x8320, .i32⟩
  | .hbm, ⟨17, _⟩ => ⟨S8320x1, .i32⟩
  | .hbm, ⟨18, _⟩ => ⟨S8320x8320, .i32⟩
  | .hbm, ⟨19, _⟩ => ⟨S8320x8320, .i32⟩
  | .hbm, ⟨20, _⟩ => ⟨S8320x8320, .i1⟩
  | .hbm, ⟨21, _⟩ => ⟨S1x1x8320x8320, .i1⟩
  | .hbm, ⟨22, _⟩ => ⟨S2x8x8320x8320, .f32⟩
  | .hbm, ⟨23, _⟩ => ⟨S_, .f32⟩
  | .hbm, ⟨24, _⟩ => ⟨S_, .f32⟩
  | .hbm, ⟨25, _⟩ => ⟨S2x8x8320x8320, .i1⟩
  | .hbm, ⟨26, _⟩ => ⟨S2x8x8320x8320, .f32⟩
  | .hbm, ⟨27, _⟩ => ⟨S2x8x8320x8320, .f32⟩
  | .hbm, ⟨28, _⟩ => ⟨S_, .f32⟩
  | .hbm, ⟨29, _⟩ => ⟨S2x8x8320, .f32⟩
  | .hbm, ⟨30, _⟩ => ⟨S_, .f32⟩
  | .hbm, ⟨31, _⟩ => ⟨S2x8x8320, .f32⟩
  | .hbm, ⟨32, _⟩ => ⟨S2x8x8320, .f32⟩
  | .hbm, ⟨33, _⟩ => ⟨S2x8x8320x1, .f32⟩
  | .hbm, ⟨34, _⟩ => ⟨S2x8x8320x8320, .f32⟩
  | .hbm, ⟨35, _⟩ => ⟨S2x8x8320x8320, .f32⟩
  | .hbm, ⟨36, _⟩ => ⟨S2x8x8320x8320, .f32⟩
  | .hbm, ⟨37, _⟩ => ⟨S_, .f32⟩
  | .hbm, ⟨38, _⟩ => ⟨S2x8x8320, .f32⟩
  | .hbm, ⟨39, _⟩ => ⟨S2x8x8320x1, .f32⟩
  | .hbm, ⟨40, _⟩ => ⟨S2x8x8320x8320, .f32⟩
  | .hbm, ⟨41, _⟩ => ⟨S2x8x8320x8320, .f32⟩
  | .hbm, ⟨42, _⟩ => ⟨S2x8x64x8320, .f32⟩
  | .hbm, ⟨43, _⟩ => ⟨S2x8320x8x64, .f32⟩
  | .hbm, ⟨44, _⟩ => ⟨S2x8320x512, .f32⟩
  | _, _ => ⟨S2x8320x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Kernel6.lean ====
abbrev S16640x1024 : Shape := ⟨2, ![16640, 1024]⟩
abbrev S16640x128 : Shape := ⟨2, ![16640, 128]⟩
abbrev S1024 : Shape := ⟨1, ![1024]⟩
abbrev S1x1024 : Shape := ⟨2, ![1, 1024]⟩
abbrev S640x1024 : Shape := ⟨2, ![640, 1024]⟩
abbrev S640x128 : Shape := ⟨2, ![640, 128]⟩
abbrev S640x1 : Shape := ⟨2, ![640, 1]⟩
abbrev S640 : Shape := ⟨1, ![640]⟩

abbrev nBuf : Space → Nat
  | .hbm => 7
  | .vmem => 11
  | .smem => 0
  | _ => 0

abbrev bufTy : (tb : Table) → Fin (tcTables nBuf tb) → BufTy
  | .hbm, ⟨0, _⟩ => ⟨S16640x1024, .f32⟩
  | .hbm, ⟨1, _⟩ => ⟨S16640x1024, .f32⟩
  | .hbm, ⟨2, _⟩ => ⟨S16640x1024, .f32⟩
  | .hbm, ⟨3, _⟩ => ⟨S16640x128, .f32⟩
  | .hbm, ⟨4, _⟩ => ⟨S1024, .f32⟩
  | .hbm, ⟨5, _⟩ => ⟨S1x1024, .f32⟩
  | .hbm, ⟨6, _⟩ => ⟨S16640x1024, .f32⟩
  | .local _ .vmem, ⟨0, _⟩ => ⟨S640x1024, .f32⟩
  | .local _ .vmem, ⟨1, _⟩ => ⟨S640x1024, .f32⟩
  | .local _ .vmem, ⟨2, _⟩ => ⟨S640x1024, .f32⟩
  | .local _ .vmem, ⟨3, _⟩ => ⟨S640x1024, .f32⟩
  | .local _ .vmem, ⟨4, _⟩ => ⟨S640x1024, .f32⟩
  | .local _ .vmem, ⟨5, _⟩ => ⟨S640x1024, .f32⟩
  | .local _ .vmem, ⟨6, _⟩ => ⟨S640x128, .f32⟩
  | .local _ .vmem, ⟨7, _⟩ => ⟨S640x128, .f32⟩
  | .local _ .vmem, ⟨8, _⟩ => ⟨S1x1024, .f32⟩
  | .local _ .vmem, ⟨9, _⟩ => ⟨S640x1024, .f32⟩
  | .local _ .vmem, ⟨10, _⟩ => ⟨S640x1024, .f32⟩
  | _, _ => ⟨S16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S640x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S640x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S640x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference6Ideal.lean ====
abbrev S16640x1024 : Shape := ⟨2, ![16640, 1024]⟩
abbrev S16640x128 : Shape := ⟨2, ![16640, 128]⟩
abbrev S1024 : Shape := ⟨1, ![1024]⟩
abbrev S16640x1 : Shape := ⟨2, ![16640, 1]⟩
abbrev S_ : Shape := ⟨0, ![]⟩
abbrev S16640 : Shape := ⟨1, ![16640]⟩
abbrev S1x1024 : Shape := ⟨2, ![1, 1024]⟩

abbrev nBuf : Space → Nat
  | .hbm => 29
  | .vmem => 0
  | .smem => 0
  | _ => 0

abbrev bufTy : (tb : Table) → Fin (tcTables nBuf tb) → BufTy
  | .hbm, ⟨0, _⟩ => ⟨S16640x1024, .f32⟩
  | .hbm, ⟨1, _⟩ => ⟨S16640x1024, .f32⟩
  | .hbm, ⟨2, _⟩ => ⟨S16640x1024, .f32⟩
  | .hbm, ⟨3, _⟩ => ⟨S16640x128, .f32⟩
  | .hbm, ⟨4, _⟩ => ⟨S1024, .f32⟩
  | .hbm, ⟨5, _⟩ => ⟨S16640x1, .f32⟩
  | .hbm, ⟨6, _⟩ => ⟨S16640x1024, .f32⟩
  | .hbm, ⟨7, _⟩ => ⟨S16640x1024, .f32⟩
  | .hbm, ⟨8, _⟩ => ⟨S16640x1, .f32⟩
  | .hbm, ⟨9, _⟩ => ⟨S16640x1024, .f32⟩
  | .hbm, ⟨10, _⟩ => ⟨S16640x1024, .f32⟩
  | .hbm, ⟨11, _⟩ => ⟨S16640x1024, .f32⟩
  | .hbm, ⟨12, _⟩ => ⟨S16640x1024, .f32⟩
  | .hbm, ⟨13, _⟩ => ⟨S16640x1024, .f32⟩
  | .hbm, ⟨14, _⟩ => ⟨S_, .f32⟩
  | .hbm, ⟨15, _⟩ => ⟨S16640, .f32⟩
  | .hbm, ⟨16, _⟩ => ⟨S16640x1, .f32⟩
  | .hbm, ⟨17, _⟩ => ⟨S_, .f32⟩
  | .hbm, ⟨18, _⟩ => ⟨S16640x1, .f32⟩
  | .hbm, ⟨19, _⟩ => ⟨S16640x1, .f32⟩
  | .hbm, ⟨20, _⟩ => ⟨S_, .f32⟩
  | .hbm, ⟨21, _⟩ => ⟨S16640x1, .f32⟩
  | .hbm, ⟨22, _⟩ => ⟨S16640x1, .f32⟩
  | .hbm, ⟨23, _⟩ => ⟨S16640x1, .f32⟩
  | .hbm, ⟨24, _⟩ => ⟨S16640x1024, .f32⟩
  | .hbm, ⟨25, _⟩ => ⟨S16640x1024, .f32⟩
  | .hbm, ⟨26, _⟩ => ⟨S1x1024, .f32⟩
  | .hbm, ⟨27, _⟩ => ⟨S16640x1024, .f32⟩
  | .hbm, ⟨28, _⟩ => ⟨S16640x1024, .f32⟩
  | _, _ => ⟨S16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Kernel7.lean ====
abbrev S128x1024 : Shape := ⟨2, ![128, 1024]⟩
abbrev S128x128 : Shape := ⟨2, ![128, 128]⟩
abbrev S1024 : Shape := ⟨1, ![1024]⟩
abbrev S1x1024 : Shape := ⟨2, ![1, 1024]⟩
abbrev S128x1 : Shape := ⟨2, ![128, 1]⟩
abbrev S128 : Shape := ⟨1, ![128]⟩

abbrev nBuf : Space → Nat
  | .hbm => 7
  | .vmem => 6
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x128, .f32⟩
  | .hbm, ⟨4, _⟩ => ⟨S1024, .f32⟩
  | .hbm, ⟨5, _⟩ => ⟨S1x1024, .f32⟩
  | .hbm, ⟨6, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x128, .f32⟩
  | .local _ .vmem, ⟨4, _⟩ => ⟨S1x1024, .f32⟩
  | .local _ .vmem, ⟨5, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== Reference7Ideal.lean ====
abbrev S128x1024 : Shape := ⟨2, ![128, 1024]⟩
abbrev S128x128 : Shape := ⟨2, ![128, 128]⟩
abbrev S1024 : Shape := ⟨1, ![1024]⟩
abbrev S128x1 : Shape := ⟨2, ![128, 1]⟩
abbrev S_ : Shape := ⟨0, ![]⟩
abbrev S128 : Shape := ⟨1, ![128]⟩
abbrev S1x1024 : Shape := ⟨2, ![1, 1024]⟩

abbrev nBuf : Space → Nat
  | .hbm => 29
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x128, .f32⟩
  | .hbm, ⟨4, _⟩ => ⟨S1024, .f32⟩
  | .hbm, ⟨5, _⟩ => ⟨S128x1, .f32⟩
  | .hbm, ⟨6, _⟩ => ⟨S128x1024, .f32⟩
  | .hbm, ⟨7, _⟩ => ⟨S128x1024, .f32⟩
  | .hbm, ⟨8, _⟩ => ⟨S128x1, .f32⟩
  | .hbm, ⟨9, _⟩ => ⟨S128x1024, .f32⟩
  | .hbm, ⟨10, _⟩ => ⟨S128x1024, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128, .f32⟩
  | .hbm, ⟨16, _⟩ => ⟨S128x1, .f32⟩
  | .hbm, ⟨17, _⟩ => ⟨S_, .f32⟩
  | .hbm, ⟨18, _⟩ => ⟨S128x1, .f32⟩
  | .hbm, ⟨19, _⟩ => ⟨S128x1, .f32⟩
  | .hbm, ⟨20, _⟩ => ⟨S_, .f32⟩
  | .hbm, ⟨21, _⟩ => ⟨S128x1, .f32⟩
  | .hbm, ⟨22, _⟩ => ⟨S128x1, .f32⟩
  | .hbm, ⟨23, _⟩ => ⟨S128x1, .f32⟩
  | .hbm, ⟨24, _⟩ => ⟨S128x1024, .f32⟩
  | .hbm, ⟨25, _⟩ => ⟨S128x1024, .f32⟩
  | .hbm, ⟨26, _⟩ => ⟨S1x1024, .f32⟩
  | .hbm, ⟨27, _⟩ => ⟨S128x1024, .f32⟩
  | .hbm, ⟨28, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Kernel8.lean ====
abbrev S128x1024 : Shape := ⟨2, ![128, 1024]⟩
abbrev S1024 : Shape := ⟨1, ![1024]⟩
abbrev S1024x6680 : Shape := ⟨2, ![1024, 6680]⟩
abbrev S16x512 : Shape := ⟨2, ![16, 512]⟩
abbrev S512 : Shape := ⟨1, ![512]⟩
abbrev S8 : Shape := ⟨1, ![8]⟩
abbrev S1024x512 : Shape := ⟨2, ![1024, 512]⟩
abbrev S1024x1024 : Shape := ⟨2, ![1024, 1024]⟩
abbrev S1024x16 : Shape := ⟨2, ![1024, 16]⟩
abbrev S1024x8 : Shape := ⟨2, ![1024, 8]⟩
abbrev S1024x6656 : Shape := ⟨2, ![1024, 6656]⟩
abbrev S_ : Shape := ⟨0, ![]⟩
abbrev S1024x104 : Shape := ⟨2, ![1024, 104]⟩
abbrev S1024x128 : Shape := ⟨2, ![1024, 128]⟩
abbrev S128x512 : Shape := ⟨2, ![128, 512]⟩
abbrev S1 : Shape := ⟨1, ![1]⟩
abbrev S1x512 : Shape := ⟨2, ![1, 512]⟩
abbrev S1x128 : Shape := ⟨2, ![1, 128]⟩
abbrev S2 : Shape := ⟨1, ![2]⟩
abbrev S1x1024 : Shape := ⟨2, ![1, 1024]⟩
abbrev S128x6656 : Shape := ⟨2, ![128, 6656]⟩
abbrev S128x128 : Shape := ⟨2, ![128, 128]⟩
abbrev S1024x1664 : Shape := ⟨2, ![1024, 1664]⟩
abbrev S128x1664 : Shape := ⟨2, ![128, 1664]⟩
abbrev S2x128x1024 : Shape := ⟨3, ![2, 128, 1024]⟩
abbrev S128 : Shape := ⟨1, ![128]⟩
abbrev S128x1 : Shape := ⟨2, ![128, 1]⟩
abbrev S1x128x1024 : Shape := ⟨3, ![1, 128, 1024]⟩

abbrev nBuf : Space → Nat
  | .hbm => 42
  | .vmem => 13
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x6680, .f32⟩
  | .hbm, ⟨3, _⟩ => ⟨S16x512, .f32⟩
  | .hbm, ⟨4, _⟩ => ⟨S512, .f32⟩
  | .hbm, ⟨5, _⟩ => ⟨S8, .f32⟩
  | .hbm, ⟨6, _⟩ => ⟨S1024x512, .f32⟩
  | .hbm, ⟨7, _⟩ => ⟨S1024x512, .f32⟩
  | .hbm, ⟨8, _⟩ => ⟨S1024x1024, .f32⟩
  | .hbm, ⟨9, _⟩ => ⟨S1024x1024, .f32⟩
  | .hbm, ⟨10, _⟩ => ⟨S1024x16, .f32⟩
  | .hbm, ⟨11, _⟩ => ⟨S1024x512, .f32⟩
  | .hbm, ⟨12, _⟩ => ⟨S1024x512, .f32⟩
  | .hbm, ⟨13, _⟩ => ⟨S1024x512, .f32⟩
  | .hbm, ⟨14, _⟩ => ⟨S1024x8, .f32⟩
  | .hbm, ⟨15, _⟩ => ⟨S1024x1024, .f32⟩
  | .hbm, ⟨16, _⟩ => ⟨S1024x1024, .f32⟩
  | .hbm, ⟨17, _⟩ => ⟨S1024x6656, .f32⟩
  | .hbm, ⟨18, _⟩ => ⟨S_, .f32⟩
  | .hbm, ⟨19, _⟩ => ⟨S1024x104, .f32⟩
  | .hbm, ⟨20, _⟩ => ⟨S1024x128, .f32⟩
  | .hbm, ⟨21, _⟩ => ⟨S1024x1024, .f32⟩
  | .hbm, ⟨22, _⟩ => ⟨S1024x1024, .f32⟩
  | .hbm, ⟨23, _⟩ => ⟨S1024x1024, .bf16⟩
  | .hbm, ⟨24, _⟩ => ⟨S_, .f32⟩
  | .hbm, ⟨25, _⟩ => ⟨S128x512, .f32⟩
  | .hbm, ⟨26, _⟩ => ⟨S_, .i32⟩
  | .hbm, ⟨27, _⟩ => ⟨S1, .i32⟩
  | .hbm, ⟨28, _⟩ => ⟨S128x512, .f32⟩
  | .hbm, ⟨29, _⟩ => ⟨S1x512, .f32⟩
  | .hbm, ⟨30, _⟩ => ⟨S_, .f32⟩
  | .hbm, ⟨31, _⟩ => ⟨S1x128, .f32⟩
  | .hbm, ⟨32, _⟩ => ⟨S_, .i32⟩
  | .hbm, ⟨33, _⟩ => ⟨S1, .i32⟩
  | .hbm, ⟨34, _⟩ => ⟨S_, .i32⟩
  | .hbm, ⟨35, _⟩ => ⟨S1, .i32⟩
  | .hbm, ⟨36, _⟩ => ⟨S2, .i32⟩
  | .hbm, ⟨37, _⟩ => ⟨S1x128, .f32⟩
  | .hbm, ⟨38, _⟩ => ⟨S1x1024, .f32⟩
  | .hbm, ⟨39, _⟩ => ⟨S128x6656, .f32⟩
  | .hbm, ⟨40, _⟩ => ⟨S128x512, .f32⟩
  | .hbm, ⟨41, _⟩ => ⟨S128x128, .f32⟩
  | .local _ .vmem, ⟨0, _⟩ => ⟨S128x1024, .f32⟩
  | .local _ .vmem, ⟨1, _⟩ => ⟨S1x1024, .f32⟩
  | .local _ .vmem, ⟨2, _⟩ => ⟨S1024x1664, .f32⟩
  | .local _ .vmem, ⟨3, _⟩ => ⟨S1024x1664, .f32⟩
  | .local _ .vmem, ⟨4, _⟩ => ⟨S1024x128, .f32⟩
  | .local _ .vmem, ⟨5, _⟩ => ⟨S128x512, .f32⟩
  | .local _ .vmem, ⟨6, _⟩ => ⟨S1x512, .f32⟩
  | .local _ .vmem, ⟨7, _⟩ => ⟨S1x128, .f32⟩
  | .local _ .vmem, ⟨8, _⟩ => ⟨S128x1664, .f32⟩
  | .local _ .vmem, ⟨9, _⟩ => ⟨S128x1664, .f32⟩
  | .local _ .vmem, ⟨10, _⟩ => ⟨S128x512, .f32⟩
  | .local _ .vmem, ⟨11, _⟩ => ⟨S128x128, .f32⟩
  | .local _ .vmem, ⟨12, _⟩ => ⟨S2x128x1024, .bf16⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_c : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_c_2 : Ref sig .tc := ⟨.hbm, 32, rfl⟩
abbrev main_v22 : Ref sig .tc := ⟨.hbm, 33, rfl⟩
abbrev main_c_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27_0 : Ref sig .tc := ⟨.hbm, 39, rfl⟩
abbrev main_v27_1 : Ref sig .tc := ⟨.hbm, 40, rfl⟩
abbrev main_v27_2 : Ref sig .tc := ⟨.hbm, 41, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg9_0 : Ref sig .tc := ⟨.vmem, 11, rfl⟩
abbrev cc0_scratch0 : Ref sig .tc := ⟨.vmem, 12, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem9_0 : DmaSem sig := 11

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S128x1664 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S128x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]
-- ==== Reference8Ideal.lean ====
abbrev S128x1024 : Shape := ⟨2, ![128, 1024]⟩
abbrev S1024 : Shape := ⟨1, ![1024]⟩
abbrev S1024x6680 : Shape := ⟨2, ![1024, 6680]⟩
abbrev S16x512 : Shape := ⟨2, ![16, 512]⟩
abbrev S512 : Shape := ⟨1, ![512]⟩
abbrev S8 : Shape := ⟨1, ![8]⟩
abbrev S_ : Shape := ⟨0, ![]⟩
abbrev S128 : Shape := ⟨1, ![128]⟩
abbrev S128x1 : Shape := ⟨2, ![128, 1]⟩
abbrev S1x1024 : Shape := ⟨2, ![1, 1024]⟩
abbrev S128x6680 : Shape := ⟨2, ![128, 6680]⟩
abbrev S128x512 : Shape := ⟨2, ![128, 512]⟩
abbrev S128x16 : Shape := ⟨2, ![128, 16]⟩
abbrev S128x8 : Shape := ⟨2, ![128, 8]⟩
abbrev S1x512 : Shape := ⟨2, ![1, 512]⟩
abbrev S128x104 : Shape := ⟨2, ![128, 104]⟩
abbrev S1x8 : Shape := ⟨2, ![1, 8]⟩
abbrev S128x128 : Shape := ⟨2, ![128, 128]⟩
abbrev S128x6656 : Shape := ⟨2, ![128, 6656]⟩

abbrev nBuf : Space → Nat
  | .hbm => 80
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x6680, .f32⟩
  | .hbm, ⟨3, _⟩ => ⟨S16x512, .f32⟩
  | .hbm, ⟨4, _⟩ => ⟨S512, .f32⟩
  | .hbm, ⟨5, _⟩ => ⟨S8, .f32⟩
  | .hbm, ⟨6, _⟩ => ⟨S128x1024, .f32⟩
  | .hbm, ⟨7, _⟩ => ⟨S_, .f32⟩
  | .hbm, ⟨8, _⟩ => ⟨S128, .f32⟩
  | .hbm, ⟨9, _⟩ => ⟨S128x1, .f32⟩
  | .hbm, ⟨10, _⟩ => ⟨S_, .f32⟩
  | .hbm, ⟨11, _⟩ => ⟨S128x1, .f32⟩
  | .hbm, ⟨12, _⟩ => ⟨S128x1, .f32⟩
  | .hbm, ⟨13, _⟩ => ⟨S_, .f32⟩
  | .hbm, ⟨14, _⟩ => ⟨S128x1, .f32⟩
  | .hbm, ⟨15, _⟩ => ⟨S128x1, .f32⟩
  | .hbm, ⟨16, _⟩ => ⟨S128x1, .f32⟩
  | .hbm, ⟨17, _⟩ => ⟨S128x1024, .f32⟩
  | .hbm, ⟨18, _⟩ => ⟨S128x1024, .f32⟩
  | .hbm, ⟨19, _⟩ => ⟨S1x1024, .f32⟩
  | .hbm, ⟨20, _⟩ => ⟨S128x1024, .f32⟩
  | .hbm, ⟨21, _⟩ => ⟨S128x1024, .f32⟩
  | .hbm, ⟨22, _⟩ => ⟨S128x6680, .f32⟩
  | .hbm, ⟨23, _⟩ => ⟨S128x512, .f32⟩
  | .hbm, ⟨24, _⟩ => ⟨S128x512, .f32⟩
  | .hbm, ⟨25, _⟩ => ⟨S128x1024, .f32⟩
  | .hbm, ⟨26, _⟩ => ⟨S128x1024, .f32⟩
  | .hbm, ⟨27, _⟩ => ⟨S128x16, .f32⟩
  | .hbm, ⟨28, _⟩ => ⟨S128x512, .f32⟩
  | .hbm, ⟨29, _⟩ => ⟨S128x512, .f32⟩
  | .hbm, ⟨30, _⟩ => ⟨S128x512, .f32⟩
  | .hbm, ⟨31, _⟩ => ⟨S128x8, .f32⟩
  | .hbm, ⟨32, _⟩ => ⟨S128x1024, .f32⟩
  | .hbm, ⟨33, _⟩ => ⟨S128x1024, .f32⟩
  | .hbm, ⟨34, _⟩ => ⟨S128x512, .f32⟩
  | .hbm, ⟨35, _⟩ => ⟨S1x512, .f32⟩
  | .hbm, ⟨36, _⟩ => ⟨S128x512, .f32⟩
  | .hbm, ⟨37, _⟩ => ⟨S128x512, .f32⟩
  | .hbm, ⟨38, _⟩ => ⟨S128x512, .f32⟩
  | .hbm, ⟨39, _⟩ => ⟨S_, .f32⟩
  | .hbm, ⟨40, _⟩ => ⟨S128x512, .f32⟩
  | .hbm, ⟨41, _⟩ => ⟨S128x512, .f32⟩
  | .hbm, ⟨42, _⟩ => ⟨S128x512, .f32⟩
  | .hbm, ⟨43, _⟩ => ⟨S128x512, .f32⟩
  | .hbm, ⟨44, _⟩ => ⟨S128x512, .i1⟩
  | .hbm, ⟨45, _⟩ => ⟨S128x512, .f32⟩
  | .hbm, ⟨46, _⟩ => ⟨S128x512, .f32⟩
  | .hbm, ⟨47, _⟩ => ⟨S128x512, .f32⟩
  | .hbm, ⟨48, _⟩ => ⟨S128x512, .f32⟩
  | .hbm, ⟨49, _⟩ => ⟨S128x512, .f32⟩
  | .hbm, ⟨50, _⟩ => ⟨S128x512, .f32⟩
  | .hbm, ⟨51, _⟩ => ⟨S128x512, .f32⟩
  | .hbm, ⟨52, _⟩ => ⟨S128x512, .f32⟩
  | .hbm, ⟨53, _⟩ => ⟨S128x512, .f32⟩
  | .hbm, ⟨54, _⟩ => ⟨S_, .f32⟩
  | .hbm, ⟨55, _⟩ => ⟨S128x512, .f32⟩
  | .hbm, ⟨56, _⟩ => ⟨S128x512, .f32⟩
  | .hbm, ⟨57, _⟩ => ⟨S_, .f32⟩
  | .hbm, ⟨58, _⟩ => ⟨S128x104, .f32⟩
  | .hbm, ⟨59, _⟩ => ⟨S1x8, .f32⟩
  | .hbm, ⟨60, _⟩ => ⟨S128x8, .f32⟩
  | .hbm, ⟨61, _⟩ => ⟨S128x8, .f32⟩
  | .hbm, ⟨62, _⟩ => ⟨S128x128, .f32⟩
  | .hbm, ⟨63, _⟩ => ⟨S128x128, .f32⟩
  | .hbm, ⟨64, _⟩ => ⟨S_, .f32⟩
  | .hbm, ⟨65, _⟩ => ⟨S128x128, .f32⟩
  | .hbm, ⟨66, _⟩ => ⟨S128x128, .f32⟩
  | .hbm, ⟨67, _⟩ => ⟨S128x128, .f32⟩
  | .hbm, ⟨68, _⟩ => ⟨S128x128, .f32⟩
  | .hbm, ⟨69, _⟩ => ⟨S128x128, .i1⟩
  | .hbm, ⟨70, _⟩ => ⟨S128x128, .f32⟩
  | .hbm, ⟨71, _⟩ => ⟨S128x128, .f32⟩
  | .hbm, ⟨72, _⟩ => ⟨S128x128, .f32⟩
  | .hbm, ⟨73, _⟩ => ⟨S128x128, .f32⟩
  | .hbm, ⟨74, _⟩ => ⟨S128x128, .f32⟩
  | .hbm, ⟨75, _⟩ => ⟨S128x128, .f32⟩
  | .hbm, ⟨76, _⟩ => ⟨S128x128, .f32⟩
  | .hbm, ⟨77, _⟩ => ⟨S128x128, .f32⟩
  | .hbm, ⟨78, _⟩ => ⟨S128x128, .f32⟩
  | .hbm, ⟨79, _⟩ => ⟨S128x6656, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_call0_v0 : Ref sig .tc := ⟨.hbm, 38, rfl⟩
abbrev main_call0_call0_cst : Ref sig .tc := ⟨.hbm, 39, rfl⟩
abbrev main_call0_call0_v0 : Ref sig .tc := ⟨.hbm, 40, rfl⟩
abbrev main_call0_call0_v1 : Ref sig .tc := ⟨.hbm, 41, rfl⟩
abbrev main_call0_call0_v2 : Ref sig .tc := ⟨.hbm, 42, rfl⟩
abbrev main_call0_call0_v3 : Ref sig .tc := ⟨.hbm, 43, rfl⟩
abbrev main_call0_call0_v4 : Ref sig .tc := ⟨.hbm, 44, rfl⟩
abbrev main_call0_call0_v5 : Ref sig .tc := ⟨.hbm, 45, rfl⟩
abbrev main_call0_call0_v6 : Ref sig .tc := ⟨.hbm, 46, rfl⟩
abbrev main_call0_call0_v7 : Ref sig .tc := ⟨.hbm, 47, rfl⟩
abbrev main_call0_call0_v8 : Ref sig .tc := ⟨.hbm, 48, rfl⟩
abbrev main_call0_call0_v9 : Ref sig .tc := ⟨.hbm, 49, rfl⟩
abbrev main_call0_call0_v10 : Ref sig .tc := ⟨.hbm, 50, rfl⟩
abbrev main_call0_call0_v11 : Ref sig .tc := ⟨.hbm, 51, rfl⟩
abbrev main_call0_v1 : Ref sig .tc := ⟨.hbm, 52, rfl⟩
abbrev main_v29 : Ref sig .tc := ⟨.hbm, 53, rfl⟩
abbrev main_cst_2 : Ref sig .tc := ⟨.hbm, 54, rfl⟩
abbrev main_v30 : Ref sig .tc := ⟨.hbm, 55, rfl⟩
abbrev main_v31 : Ref sig .tc := ⟨.hbm, 56, rfl⟩
abbrev main_cst_3 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_call1_v0 : Ref sig .tc := ⟨.hbm, 63, rfl⟩
abbrev main_call1_call0_cst : Ref sig .tc := ⟨.hbm, 64, rfl⟩
abbrev main_call1_call0_v0 : Ref sig .tc := ⟨.hbm, 65, rfl⟩
abbrev main_call1_call0_v1 : Ref sig .tc := ⟨.hbm, 66, rfl⟩
abbrev main_call1_call0_v2 : Ref sig .tc := ⟨.hbm, 67, rfl⟩
abbrev main_call1_call0_v3 : Ref sig .tc := ⟨.hbm, 68, rfl⟩
abbrev main_call1_call0_v4 : Ref sig .tc := ⟨.hbm, 69, rfl⟩
abbrev main_call1_call0_v5 : Ref sig .tc := ⟨.hbm, 70, rfl⟩
abbrev main_call1_call0_v6 : Ref sig .tc := ⟨.hbm, 71, rfl⟩
abbrev main_call1_call0_v7 : Ref sig .tc := ⟨.hbm, 72, rfl⟩
abbrev main_call1_call0_v8 : Ref sig .tc := ⟨.hbm, 73, rfl⟩
abbrev main_call1_call0_v9 : Ref sig .tc := ⟨.hbm, 74, rfl⟩
abbrev main_call1_call0_v10 : Ref sig .tc := ⟨.hbm, 75, rfl⟩
abbrev main_call1_call0_v11 : Ref sig .tc := ⟨.hbm, 76, rfl⟩
abbrev main_call1_v1 : Ref sig .tc := ⟨.hbm, 77, rfl⟩
abbrev main_v37 : Ref sig .tc := ⟨.hbm, 78, rfl⟩
abbrev main_v38 : Ref sig .tc := ⟨.hbm, 79, rfl⟩

abbrev nD : Nat := 1
abbrev τ : Topo := Topo.v7x

variable {F : FTy → Type} [FloatOps F]
-- ==== Proof.MoeIdeal.Base.lean ====
/- What the proof of the expert call is stated over: the tables read off the launch memory, the windows' blocks, the points at
   which the body zeroes its output, and the memrefs the pipeline calls the body with. -/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.TableIdle
public import Idealize.ShloMosaic.Lib.Pipeline.Kit
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region and its tables -/

/-- A core's buffers when the region is entered: `@main` is the region alone. -/
abbrev V (c : Dev nD) (b : Ref sig .tc) : Buf (Elt F) ((c : Thread nD τ).loc b) := m ((c : Thread nD τ).loc b)

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The two tables' contents (the expert of each tile, and whether the tile holds any row). -/
def tbl : pre0.Contents (Elt F) := fun j => V m (0 : Dev nD) (pre0.ref j)

theorem V_pre (c : Dev nD) (j : Fin 2) : V m c (pre0.ref j) = tbl m j := by
  obtain rfl : c = 0 := Subsingleton.elim _ _; rfl

/-- Every block the tables name lies inside its weight array. -/
abbrev Ok : Prop := ok0 (F := F) (tbl m)

/-- The tables as contents the launch admits, and the pipeline at them. -/
abbrev adm (hO : Ok m) : (pcfg0 (F := F)).Adm := ⟨tbl m, hO⟩
abbrev cfgM (hO : Ok m) : Pipeline.Cfg sig Λ₀ := cfg0 (adm m hO)

abbrev tbM0 : Memref sig .tc .smem S40 .i32 := Memref.whole main_arg0
abbrev htbM0 : tbM0.IsWhole := Memref.isWhole_whole _
abbrev tbM1 : Memref sig .tc .smem S40 .i32 := Memref.whole main_arg1
abbrev htbM1 : tbM1.IsWhole := Memref.isWhole_whole _

/-- A table's buffer on a core, and that buffer held for reading. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

theorem tables_eq (c : Dev nD) : (Pipeline.ΦT pre0 (tbl m) c : sProp 𝕄) = iprop(tbPt c tbM0 (tbl m 0) ∗ tbPt c tbM1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-- An input window's staging buffer holds its block at every point, whether fetched there or kept. -/
theorem before_in (hO : Ok m) {c : Dev nD} (dat : Dat τ (Elt F) Unit ℕ (UR sig nD τ) ℕ (cfgM m hO) c)
    (hA : ∀ w, dat.A w = V m c (Pipeline.arrRef spec0 w)) (t : Fin (cfgM m hO).N) :
    ((∀ t, dat.after 0 t = iblk m hO c 0 t) → ∀ d, dat.before 0 t d = iblk m hO c 0 t)
    ∧ ((∀ t, dat.after 1 t = iblk m hO c 1 t) → ∀ d, dat.before 1 t d = iblk m hO c 1 t)
    ∧ ((∀ t, dat.after 2 t = iblk m hO c 2 t) → ∀ d, dat.before 2 t d = iblk m hO c 2 t)
    ∧ ((∀ t, dat.after 3 t = iblk m hO c 3 t) → ∀ d, dat.before 3 t d = iblk m hO c 3 t) := by
  refine ⟨fun h d => ?_, fun h d => ?_, fun h d => ?_, fun h d => ?_⟩
  · exact (dat.before_in_eq_fetched 0 rfl (fun _ => rfl) (fun _ _ _ => rfl) (fun t => by rw [h]; unfold Dat.blockOf iblk; rw [hA]; try rfl) t d).trans
      (by unfold Dat.fetched Dat.blockOf iblk; rw [hA]; try rfl)
  · exact (dat.before_in_eq_fetched 1 rfl (fun _ => rfl) (fun _ _ _ => rfl) (fun t => by rw [h]; unfold Dat.blockOf iblk; rw [hA]; try rfl) t d).trans
      (by unfold Dat.fetched Dat.blockOf iblk; rw [hA]; try rfl)
  · exact (dat.before_in_eq_fetched 2 rfl (fun _ => rfl) (fun _ _ _ => rfl) (fun t => by rw [h]; unfold Dat.blockOf iblk; rw [hA]; try rfl) t d).trans
      (by unfold Dat.fetched Dat.blockOf iblk; rw [hA]; try rfl)
  · exact (dat.before_in_eq_fetched 3 rfl (fun _ => rfl) (fun _ _ _ => rfl) (fun t => by rw [h]; unfold Dat.blockOf iblk; rw [hA]; try rfl) t d).trans
      (by unfold Dat.fetched Dat.blockOf iblk; rw [hA]; try rfl)

/-- The output block is written back at the last of the seven points of its tile. -/
theorem flush4 (a : (pcfg0 (F := F)).Adm) : ∀ t : Fin (cfg0 a).N, ((cfg0 a).win 4).flush t = true ↔ t.val % 7 = 6 :=
  (fun t => Pipeline.Window.flushOf_reads cc0_transform_4 reads0_4 hreads0_4 0 (by decide) (by decide) (Pipeline.Window.sep_of_coord cc0_transform_4 0 0 (fun _ => rfl) (by decide)) (P := 7) (m := 6) (by decide) rfl t : ∀ t : Fin grid0.N, Pipeline.Window.flushOf grid0 true cc0_transform_4 t = true ↔ t.val % 7 = 6)

/-! ## The body's two conditions -/

theorem coord0 (t : Fin grid0.N) : (grid0.coords t 0).val = t.val / 7 := by
  have ht : t.val < 280 := Nat.lt_of_lt_of_eq t.isLt N_0
  have e : (grid0.coords t 0).val = t.val / 7 % 40 := Pipeline.Grid.coords_val t 0 (by decide) rfl
  omega
theorem coord1 (t : Fin grid0.N) : (grid0.coords t 1).val = t.val % 7 := by
  have e : (grid0.coords t 1).val = t.val / 1 % 7 := Pipeline.Grid.coords_val t 1 (by decide) rfl
  omega

/-- The body zeroes its output (and keeps its rows) at the first point of every tile. -/
theorem first_iff : ∀ t : Fin grid0.N, k0_cond1 (grid0.coords t) = 1#1 ↔ t.val % 7 = 0 :=
  (fun t => by
    have ht : t.val < 280 := Nat.lt_of_lt_of_eq t.isLt N_0
    have e1 := coord1 t
    simp only [k0_cond1, e1]
    word_cmp
   : ∀ t : Fin grid0.N, k0_cond1 (grid0.coords t) = 1#1 ↔ t.val % 7 = 0)

/-- The word of the second table the body reads at point `i`. -/
abbrev word (c : Dev nD) (i : grid0.Coords) (x : TbBuf (F := F) c tbM1) : BitVec 32 :=
  View.readAt (Elt F) tbM1.view (Rect.unit (s := S40) (k0_off1 i) S1.size (k0_off1_inb i)).toLoadRect x (Shape.Idx.first (numel1_S1.symm ▸ Nat.one_pos))

/-- The tile of point `t` holds some row: the body multiplies. -/
def live (t : Fin grid0.N) : Prop := k0_cond2 (word (0 : Dev nD) (grid0.coords t) (tbl m 1)) = 1#1
instance (t : Fin grid0.N) : Decidable (live m t) := inferInstanceAs (Decidable (_ = _))

/-! ## The memrefs of a point -/

abbrev ms0 (hO : Ok m) (t : Fin (cfgM m hO).N) : Memref sig .tc .vmem S1024x1024 .f32 := spec0_0.stage ((cfgM m hO).slots t 0)
abbrev hs0 (hO : Ok m) (t : Fin (cfgM m hO).N) : (ms0 m hO t).IsWhole := hstage0_0 (((cfgM m hO).slots t 0).cast nbuf0_0)
abbrev ms1 (hO : Ok m) (t : Fin (cfgM m hO).N) : Memref sig .tc .vmem S1x1024x512 .f32 := spec0_1.stage ((cfgM m hO).slots t 1)
abbrev hs1 (hO : Ok m) (t : Fin (cfgM m hO).N) : (ms1 m hO t).IsWhole := hstage0_1 (((cfgM m hO).slots t 1).cast nbuf0_1)
abbrev ms2 (hO : Ok m) (t : Fin (cfgM m hO).N) : Memref sig .tc .vmem S1x1024x512 .f32 := spec0_2.stage ((cfgM m hO).slots t 2)
abbrev hs2 (hO : Ok m) (t : Fin (cfgM m hO).N) : (ms2 m hO t).IsWhole := hstage0_2 (((cfgM m hO).slots t 2).cast nbuf0_2)
abbrev ms3 (hO : Ok m) (t : Fin (cfgM m hO).N) : Memref sig .tc .vmem S1x512x1024 .f32 := spec0_3.stage ((cfgM m hO).slots t 3)
abbrev hs3 (hO : Ok m) (t : Fin (cfgM m hO).N) : (ms3 m hO t).IsWhole := hstage0_3 (((cfgM m hO).slots t 3).cast nbuf0_3)
abbrev ms4 (hO : Ok m) (t : Fin (cfgM m hO).N) : Memref sig .tc .vmem S1024x1024 .f32 := spec0_4.stage ((cfgM m hO).slots t 4)
abbrev hs4 (hO : Ok m) (t : Fin (cfgM m hO).N) : (ms4 m hO t).IsWhole := hstage0_4 (((cfgM m hO).slots t 4).cast nbuf0_4)
/-- The kept rows' buffer. -/
abbrev scM : Memref sig .tc .vmem S1024x1024 .bf16 := Memref.whole cc0_scratch0
abbrev hscM : scM.IsWhole := Memref.isWhole_whole _

/-- The body as the pipeline calls it at point `t`. -/
abbrev bodyAt (hO : Ok m) (t : Fin (cfgM m hO).N) : Prog (TpuEff nD τ sig (Elt F) Λ₀ .tc) PUnit :=
  cc0_moe_experts (grid0.coords t) tbM0 htbM0 tbM1 htbM1 (ms0 m hO t) (hs0 m hO t) (ms1 m hO t) (hs1 m hO t) (ms2 m hO t) (hs2 m hO t) (ms3 m hO t) (hs3 m hO t) (ms4 m hO t) (hs4 m hO t) scM hscM

theorem rest_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

end Cert.KernelIdeal.Moe

end
-- ==== Proof.MoeIdeal.Cases.lean ====
/- The body of the expert kernel at one grid point, in its four cases: the first point of a tile or a later one, of a tile that
   holds rows or of one that holds none. -/
module

public import proofs.«01_k».proof.Proof.MoeIdeal.Base

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

theorem pay3_congr {a a' : Vec F S1024x1024 .bf16} {b b' c c' : Vec F S1x1024x512 .f32} {d d' : Vec F S1024x1024 .f32} {e e' : Vec F S1x512x1024 .f32}
    (ha : a = a') (hb : b = b') (hc : c = c') (hd : d = d') (he : e = e') : k0_pay3 a b c d e = k0_pay3 a' b' c' d' e' := by
  subst ha; subst hb; subst hc; subst hd; subst he; rfl

set_option maxHeartbeats 2000000 in
/-- The first point of a tile that holds rows: the output starts at this block's product. -/
theorem run_first_live (c : Dev nD) (i : grid0.Coords) (arg4 : Memref sig .tc .vmem S1024x1024 .f32) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S1024x1024 .f32) (harg8 : arg8.IsWhole) (arg9 : Memref sig .tc .vmem S1024x1024 .bf16) (harg9 : arg9.IsWhole)
    (x0 : Vec F S1024x1024 .f32) (x1 : Vec F S1x1024x512 .f32) (x2 : Vec F S1x1024x512 .f32) (x3 : Vec F S1x512x1024 .f32) (xt0 : TbBuf (F := F) c tbM0) (xt1 : TbBuf (F := F) c tbM1)
    (h0 : k0_cond1 i = 1#1) (h1 : k0_cond2 (word c i xt1) = 1#1) (E : Set ℕ) (K : PUnit → sProp 𝕄) :
    iprop(owns (c : Thread nD τ) arg4 fullShare (x0) ∗ owns (c : Thread nD τ) arg5 fullShare (x1) ∗ owns (c : Thread nD τ) arg6 fullShare (x2) ∗ owns (c : Thread nD τ) arg7 fullShare (x3) ∗ (∃ d, owns (c : Thread nD τ) arg8 fullShare (d)) ∗ (∃ d, owns (c : Thread nD τ) arg9 fullShare (d)) ∗ tbPt c tbM0 xt0 ∗ tbPt c tbM1 xt1 ∗ (iprop(owns (c : Thread nD τ) arg4 fullShare (x0) ∗ owns (c : Thread nD τ) arg5 fullShare (x1) ∗ owns (c : Thread nD τ) arg6 fullShare (x2) ∗ owns (c : Thread nD τ) arg7 fullShare (x3) ∗ owns (c : Thread nD τ) arg8 fullShare (k0_pay3 (k0_pay2 x0) x1 x2 (k0_pay1) x3) ∗ owns (c : Thread nD τ) arg9 fullShare (k0_pay2 x0) ∗ tbPt c tbM0 xt0 ∗ tbPt c tbM1 xt1) -∗ K ⟨⟩))
      ⊢ wp frame (wpE (defs₀ (F := F)) Variants.none c none) E (cc0_moe_experts i tbM0 htbM0 tbM1 htbM1 arg4 harg4 arg5 harg5 arg6 harg6 arg7 harg7 arg8 harg8 arg9 harg9) K := by
  rw [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%d8, %f8, -, H8⟩, ⟨%d9, %f9, -, H9⟩, HT0, HT1, Hk⟩
  obtain rfl := harg4.eq_unread hf0; obtain rfl := harg5.eq_unread hf1; obtain rfl := harg6.eq_unread hf2; obtain rfl := harg7.eq_unread hf3
  sl_exec (disch := first | sl_exact h0 | sl_exact h1)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H8]
  · iexists _; isplitr; swap; · iexact H8
    ipureintro
    exact (View.read_writes_full _ _ _ _ _).trans (pay3_congr ((View.readCov_full _ _ _ _ _).trans (congrArg k0_pay2 ((View.readAt_full _ _ _).trans hf0))) ((View.readAt_full _ _ _).trans hf1) ((View.readAt_full _ _ _).trans hf2) (View.readCov_full _ _ _ _ _) ((View.readAt_full _ _ _).trans hf3))
  isplitl [H9]
  · iexists _; isplitr; swap; · iexact H9
    ipureintro
    exact (View.read_writes_full _ _ _ _ _).trans (congrArg k0_pay2 ((View.readAt_full _ _ _).trans hf0))
  isplitl [HT0]; · iexact HT0
  iexact HT1

set_option maxHeartbeats 2000000 in
/-- The first point of a tile that holds none: the output is zeroed. -/
theorem run_first_empty (c : Dev nD) (i : grid0.Coords) (arg4 : Memref sig .tc .vmem S1024x1024 .f32) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S1024x1024 .f32) (harg8 : arg8.IsWhole) (arg9 : Memref sig .tc .vmem S1024x1024 .bf16) (harg9 : arg9.IsWhole)
    (x0 : Vec F S1024x1024 .f32) (x1 : Vec F S1x1024x512 .f32) (x2 : Vec F S1x1024x512 .f32) (x3 : Vec F S1x512x1024 .f32) (xt0 : TbBuf (F := F) c tbM0) (xt1 : TbBuf (F := F) c tbM1)
    (h0 : k0_cond1 i = 1#1) (h1 : ¬k0_cond2 (word c i xt1) = 1#1) (E : Set ℕ) (K : PUnit → sProp 𝕄) :
    iprop(owns (c : Thread nD τ) arg4 fullShare (x0) ∗ owns (c : Thread nD τ) arg5 fullShare (x1) ∗ owns (c : Thread nD τ) arg6 fullShare (x2) ∗ owns (c : Thread nD τ) arg7 fullShare (x3) ∗ (∃ d, owns (c : Thread nD τ) arg8 fullShare (d)) ∗ (∃ d, owns (c : Thread nD τ) arg9 fullShare (d)) ∗ tbPt c tbM0 xt0 ∗ tbPt c tbM1 xt1 ∗ (iprop(owns (c : Thread nD τ) arg4 fullShare (x0) ∗ owns (c : Thread nD τ) arg5 fullShare (x1) ∗ owns (c : Thread nD τ) arg6 fullShare (x2) ∗ owns (c : Thread nD τ) arg7 fullShare (x3) ∗ owns (c : Thread nD τ) arg8 fullShare (k0_pay1) ∗ owns (c : Thread nD τ) arg9 fullShare (k0_pay2 x0) ∗ tbPt c tbM0 xt0 ∗ tbPt c tbM1 xt1) -∗ K ⟨⟩))
      ⊢ wp frame (wpE (defs₀ (F := F)) Variants.none c none) E (cc0_moe_experts i tbM0 htbM0 tbM1 htbM1 arg4 harg4 arg5 harg5 arg6 harg6 arg7 harg7 arg8 harg8 arg9 harg9) K := by
  rw [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%d8, %f8, -, H8⟩, ⟨%d9, %f9, -, H9⟩, HT0, HT1, Hk⟩
  obtain rfl := harg4.eq_unread hf0; obtain rfl := harg5.eq_unread hf1; obtain rfl := harg6.eq_unread hf2; obtain rfl := harg7.eq_unread hf3
  sl_exec (disch := first | sl_exact h0 | sl_exact h1)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H8]
  · iexists _; isplitr; swap; · iexact H8
    ipureintro
    exact View.read_writes_full _ _ _ _ _
  isplitl [H9]
  · iexists _; isplitr; swap; · iexact H9
    ipureintro
    exact (View.read_writes_full _ _ _ _ _).trans (congrArg k0_pay2 ((View.readAt_full _ _ _).trans hf0))
  isplitl [HT0]; · iexact HT0
  iexact HT1

set_option maxHeartbeats 2000000 in
/-- A later point of a tile that holds rows: this block's product is added to the output. -/
theorem run_later_live (c : Dev nD) (i : grid0.Coords) (arg4 : Memref sig .tc .vmem S1024x1024 .f32) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S1024x1024 .f32) (harg8 : arg8.IsWhole) (arg9 : Memref sig .tc .vmem S1024x1024 .bf16) (harg9 : arg9.IsWhole)
    (x0 : Vec F S1024x1024 .f32) (x1 : Vec F S1x1024x512 .f32) (x2 : Vec F S1x1024x512 .f32) (x3 : Vec F S1x512x1024 .f32) (xt0 : TbBuf (F := F) c tbM0) (xt1 : TbBuf (F := F) c tbM1) (x8 : Vec F S1024x1024 .f32) (x9 : Vec F S1024x1024 .bf16)
    (h0 : ¬k0_cond1 i = 1#1) (h1 : k0_cond2 (word c i xt1) = 1#1) (E : Set ℕ) (K : PUnit → sProp 𝕄) :
    iprop(owns (c : Thread nD τ) arg4 fullShare (x0) ∗ owns (c : Thread nD τ) arg5 fullShare (x1) ∗ owns (c : Thread nD τ) arg6 fullShare (x2) ∗ owns (c : Thread nD τ) arg7 fullShare (x3) ∗ owns (c : Thread nD τ) arg8 fullShare (x8) ∗ owns (c : Thread nD τ) arg9 fullShare (x9) ∗ tbPt c tbM0 xt0 ∗ tbPt c tbM1 xt1 ∗ (iprop(owns (c : Thread nD τ) arg4 fullShare (x0) ∗ owns (c : Thread nD τ) arg5 fullShare (x1) ∗ owns (c : Thread nD τ) arg6 fullShare (x2) ∗ owns (c : Thread nD τ) arg7 fullShare (x3) ∗ owns (c : Thread nD τ) arg8 fullShare (k0_pay3 (x9) x1 x2 (x8) x3) ∗ owns (c : Thread nD τ) arg9 fullShare (x9) ∗ tbPt c tbM0 xt0 ∗ tbPt c tbM1 xt1) -∗ K ⟨⟩))
      ⊢ wp frame (wpE (defs₀ (F := F)) Variants.none c none) E (cc0_moe_experts i tbM0 htbM0 tbM1 htbM1 arg4 harg4 arg5 harg5 arg6 harg6 arg7 harg7 arg8 harg8 arg9 harg9) K := by
  rw [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%f8, %hf8, H8⟩, ⟨%f9, %hf9, H9⟩, HT0, HT1, Hk⟩
  obtain rfl := harg4.eq_unread hf0; obtain rfl := harg5.eq_unread hf1; obtain rfl := harg6.eq_unread hf2; obtain rfl := harg7.eq_unread hf3; obtain rfl := harg8.eq_unread hf8; obtain rfl := harg9.eq_unread hf9
  sl_exec (disch := first | sl_exact h0 | sl_exact h1)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H8]
  · iexists _; isplitr; swap; · iexact H8
    ipureintro
    exact (View.read_writes_full _ _ _ _ _).trans (pay3_congr ((View.readAt_full _ _ _).trans hf9) ((View.readAt_full _ _ _).trans hf1) ((View.readAt_full _ _ _).trans hf2) ((View.readAt_full _ _ _).trans hf8) ((View.readAt_full _ _ _).trans hf3))
  isplitl [H9]
  · iexists _; isplitr; swap; · iexact H9
    ipureintro
    exact harg9.read_unread _
  isplitl [HT0]; · iexact HT0
  iexact HT1

set_option maxHeartbeats 2000000 in
/-- A later point of a tile that holds none: nothing is stored. -/
theorem run_later_empty (c : Dev nD) (i : grid0.Coords) (arg4 : Memref sig .tc .vmem S1024x1024 .f32) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S1024x1024 .f32) (harg8 : arg8.IsWhole) (arg9 : Memref sig .tc .vmem S1024x1024 .bf16) (harg9 : arg9.IsWhole)
    (x0 : Vec F S1024x1024 .f32) (x1 : Vec F S1x1024x512 .f32) (x2 : Vec F S1x1024x512 .f32) (x3 : Vec F S1x512x1024 .f32) (xt0 : TbBuf (F := F) c tbM0) (xt1 : TbBuf (F := F) c tbM1) (x8 : Vec F S1024x1024 .f32) (x9 : Vec F S1024x1024 .bf16)
    (h0 : ¬k0_cond1 i = 1#1) (h1 : ¬k0_cond2 (word c i xt1) = 1#1) (E : Set ℕ) (K : PUnit → sProp 𝕄) :
    iprop(owns (c : Thread nD τ) arg4 fullShare (x0) ∗ owns (c : Thread nD τ) arg5 fullShare (x1) ∗ owns (c : Thread nD τ) arg6 fullShare (x2) ∗ owns (c : Thread nD τ) arg7 fullShare (x3) ∗ owns (c : Thread nD τ) arg8 fullShare (x8) ∗ owns (c : Thread nD τ) arg9 fullShare (x9) ∗ tbPt c tbM0 xt0 ∗ tbPt c tbM1 xt1 ∗ (iprop(owns (c : Thread nD τ) arg4 fullShare (x0) ∗ owns (c : Thread nD τ) arg5 fullShare (x1) ∗ owns (c : Thread nD τ) arg6 fullShare (x2) ∗ owns (c : Thread nD τ) arg7 fullShare (x3) ∗ owns (c : Thread nD τ) arg8 fullShare (x8) ∗ owns (c : Thread nD τ) arg9 fullShare (x9) ∗ tbPt c tbM0 xt0 ∗ tbPt c tbM1 xt1) -∗ K ⟨⟩))
      ⊢ wp frame (wpE (defs₀ (F := F)) Variants.none c none) E (cc0_moe_experts i tbM0 htbM0 tbM1 htbM1 arg4 harg4 arg5 harg5 arg6 harg6 arg7 harg7 arg8 harg8 arg9 harg9) K := by
  rw [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%f8, %hf8, H8⟩, ⟨%f9, %hf9, H9⟩, HT0, HT1, Hk⟩
  obtain rfl := harg4.eq_unread hf0; obtain rfl := harg5.eq_unread hf1; obtain rfl := harg6.eq_unread hf2; obtain rfl := harg7.eq_unread hf3; obtain rfl := harg8.eq_unread hf8; obtain rfl := harg9.eq_unread hf9
  sl_exec (disch := first | sl_exact h0 | sl_exact h1)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H8]
  · iexists _; isplitr; swap; · iexact H8
    ipureintro
    exact harg8.read_unread _
  isplitl [H9]
  · iexists _; isplitr; swap; · iexact H9
    ipureintro
    exact harg9.read_unread _
  isplitl [HT0]; · iexact HT0
  iexact HT1

end Cert.KernelIdeal.Moe

end
-- ==== Proof.MoeIdeal.Frame.lean ====
/- The run of the expert call: what its output buffer and its kept rows hold after every grid point, the body's obligation at
   every point, and the launch. -/
module

public import proofs.«01_k».proof.Proof.MoeIdeal.Cases
public import Idealize.ShloMosaic.Lib.Claim

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold after each point -/

/-- One point's step of (kept rows, output): the first point of a tile keeps the tile's rows and starts the output at zero; a
    point of a tile that holds rows adds its block's product. -/
def step (hO : Ok m) (c : Dev nD) (t : Fin (cfgM m hO).N) (p : Vec F S1024x1024 .bf16 × Vec F S1024x1024 .f32) :
    Vec F S1024x1024 .bf16 × Vec F S1024x1024 .f32 :=
  let k : Vec F S1024x1024 .bf16 := if t.val % 7 = 0 then k0_pay2 (iblk m hO c 0 t) else p.1
  let o : Vec F S1024x1024 .f32 := if t.val % 7 = 0 then k0_pay1 else p.2
  (k, if live m t then k0_pay3 k (iblk m hO c 1 t) (iblk m hO c 2 t) o (iblk m hO c 3 t) else o)

/-- The pair after point `n`. -/
def stAt (hO : Ok m) (c : Dev nD) : (n : ℕ) → n < (cfgM m hO).N → Vec F S1024x1024 .bf16 × Vec F S1024x1024 .f32
  | 0, h => step m hO c ⟨0, h⟩ (k0_pay2 k0_pay1, k0_pay1)
  | n + 1, h => step m hO c ⟨n + 1, h⟩ (stAt hO c n (Nat.lt_of_succ_lt h))

theorem stAt_first (hO : Ok m) (c : Dev nD) (t : Fin (cfgM m hO).N) (h0 : t.val % 7 = 0) :
    stAt m hO c t.val t.isLt = (k0_pay2 (iblk m hO c 0 t), if live m t then k0_pay3 (k0_pay2 (iblk m hO c 0 t)) (iblk m hO c 1 t) (iblk m hO c 2 t) k0_pay1 (iblk m hO c 3 t) else k0_pay1) := by
  obtain ⟨n, hn⟩ := t
  cases n with
  | zero => unfold stAt step; simp only [Nat.zero_mod, if_true]
  | succ n => unfold stAt step; simp only at h0; simp only [h0, if_true]

theorem stAt_later (hO : Ok m) (c : Dev nD) (t : Fin (cfgM m hO).N) (h0 : ¬t.val % 7 = 0) :
    stAt m hO c t.val t.isLt = ((stAt m hO c (t.val - 1) (by omega)).1, if live m t then k0_pay3 (stAt m hO c (t.val - 1) (by omega)).1 (iblk m hO c 1 t) (iblk m hO c 2 t) (stAt m hO c (t.val - 1) (by omega)).2 (iblk m hO c 3 t) else (stAt m hO c (t.val - 1) (by omega)).2) := by
  obtain ⟨n, hn⟩ := t
  cases n with
  | zero => exact absurd (Nat.zero_mod 7) h0
  | succ n =>
    show step m hO c ⟨n + 1, hn⟩ (stAt m hO c n _) = _
    unfold step; simp only at h0; simp only [h0, if_false, Nat.add_sub_cancel]

/-! ## The proof data -/

/-- The invariant before position `n`: at first anything; afterwards the kept rows as the last point left them. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop((owns (c : Thread nD τ) scM fullShare (stAt m hO c n hn).1 ∗ (∃ r, prngReg c r)) ∗ Pipeline.ΦT pre0 (tbl m) c)

theorem PhiS_zero (hO : Ok m) (c : Dev nD) (n : ℕ) (h : n ≤ (cfgM m hO).N) (hz : n = 0) :
    PhiS m hO c n h = iprop(Pipeline.ΦA spec0 c ∗ Pipeline.ΦT pre0 (tbl m) c) := by
  subst hz; rfl

theorem PhiS_pos (hO : Ok m) (c : Dev nD) (n : ℕ) (h : n ≤ (cfgM m hO).N) (hz : n ≠ 0) :
    PhiS m hO c n h = iprop((owns (c : Thread nD τ) scM fullShare (stAt m hO c (n - 1) (by omega)).1 ∗ (∃ r, prngReg c r)) ∗ Pipeline.ΦT pre0 (tbl m) c) := by
  cases n with
  | zero => exact absurd rfl hz
  | succ n => rfl

/-- Before any point the kept rows' buffer holds something. -/
theorem PhiS_some (hO : Ok m) (c : Dev nD) (n : ℕ) (h : n ≤ (cfgM m hO).N) :
    PhiS m hO c n h ⊢ iprop(((∃ d, owns (c : Thread nD τ) scM fullShare d) ∗ (∃ r, prngReg c r)) ∗ Pipeline.ΦT pre0 (tbl m) c) := by
  by_cases hz : n = 0
  · rw [PhiS_zero m hO c n h hz, rest_eq]
  · rw [PhiS_pos m hO c n h hz]
    iintro ⟨⟨HS, Hg⟩, HT⟩
    isplitl [HS Hg]
    · isplitl [HS]
      · iexists _; iexact HS
      iexact Hg
    iexact HT

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => (stAt m hO c t.val t.isLt).2
  Φ t := PhiS m hO c t.val (Nat.le_of_lt_succ t.isLt)
  q _ := fullShare
  owed _ := 0

theorem A_eq (hO : Ok m) (c : Dev nD) (w : Fin (cfgM m hO).W) : (dats m hO 0 c).A w = V m c (Pipeline.arrRef spec0 w) := by
  dsimp only [dats]

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = iblk m hO c 3 t := by dsimp only [dats]; try rfl
theorem after_4 (hO : Ok m) (c : Dev nD) (t : Fin (cfgM m hO).N) : (dats m hO 0 c).after 4 t = (stAt m hO c t.val t.isLt).2 := by dsimp only [dats]; try rfl

theorem before_0 (hO : Ok m) (c : Dev nD) (t : Fin (cfgM m hO).N) (d) : (dats m hO 0 c).before 0 t d = iblk m hO c 0 t :=
  (before_in m hO (dats m hO 0 c) (A_eq m hO c) t).1 (after_0 m hO c) d
theorem before_1 (hO : Ok m) (c : Dev nD) (t : Fin (cfgM m hO).N) (d) : (dats m hO 0 c).before 1 t d = iblk m hO c 1 t :=
  (before_in m hO (dats m hO 0 c) (A_eq m hO c) t).2.1 (after_1 m hO c) d
theorem before_2 (hO : Ok m) (c : Dev nD) (t : Fin (cfgM m hO).N) (d) : (dats m hO 0 c).before 2 t d = iblk m hO c 2 t :=
  (before_in m hO (dats m hO 0 c) (A_eq m hO c) t).2.2.1 (after_2 m hO c) d
theorem before_3 (hO : Ok m) (c : Dev nD) (t : Fin (cfgM m hO).N) (d) : (dats m hO 0 c).before 3 t d = iblk m hO c 3 t :=
  (before_in m hO (dats m hO 0 c) (A_eq m hO c) t).2.2.2 (after_3 m hO c) d

/-! ## The output window: where it is idle, and what its buffer holds before a point -/

theorem atD_word (i : grid0.Coords) : (tbl m).atD 1 (k0_off1 i) = word (0 : Dev nD) i (tbl m 1) := by
  have hb : ∀ a : Fin 1, k0_off1 i a + 1 ≤ S40.size a := fun a => by
    obtain rfl : a = 0 := Subsingleton.elim _ _
    exact k0_off1_inb i 0
  refine (dif_pos (c := ∀ a : Fin 1, k0_off1 i a + 1 ≤ S40.size a) hb).trans ?_
  refine congrArg (tbl m 1) (funext fun a => Fin.ext ?_)
  rfl

theorem idle4 (hO : Ok m) (t : Fin (cfgM m hO).N) :
    (cfgM m hO).idle 4 ((cfgM m hO).grid.coords t) = (!decide (t.val % 7 = 0) && !decide (live m t)) := by
  show (!(k0_cond1 (grid0.coords t) == 1#1) && !(k0_cond2 ((tbl m).atD 1 (k0_off1 (grid0.coords t))) == 1#1)) = _
  rw [atD_word]
  have e1 : (k0_cond1 (grid0.coords t) == 1#1) = decide (t.val % 7 = 0) := by
    rw [Bool.eq_iff_iff, beq_iff_eq, decide_eq_true_iff]; exact first_iff t
  rw [e1]; rfl

theorem live_of (hO : Ok m) (t : Fin (cfgM m hO).N) (h : t.val % 7 = 0 ∨ live m t) :
    (cfgM m hO).idle 4 ((cfgM m hO).grid.coords t) = false := by
  rw [idle4]; rcases h with h | h <;> simp [h]

theorem idle_of (hO : Ok m) (t : Fin (cfgM m hO).N) (h0 : ¬t.val % 7 = 0) (h1 : ¬live m t) :
    (cfgM m hO).idle 4 ((cfgM m hO).grid.coords t) = true := by
  rw [idle4]; simp [h0, h1]

/-- The output buffer holds nothing the body stored exactly at the first point of every tile. -/
theorem fresh4 (hO : Ok m) (n : ℕ) (hn : n ≤ (cfgM m hO).N) : (cfgM m hO).fresh 4 n = decide (n % 7 = 0) := by
  refine (cfgM m hO).fresh_tab 4 (fun n => decide (n % 7 = 0)) (by decide) (fun t => ?_) n hn
  have hf := flush4 (adm m hO) t
  have hf' : ((cfgM m hO).win 4).flush t = decide (t.val % 7 = 6) := by
    rw [Bool.eq_iff_iff, decide_eq_true_iff]; exact hf
  rw [hf', idle4]
  by_cases h6 : t.val % 7 = 6
  · have : (t.val + 1) % 7 = 0 := by omega
    simp [h6, this]
  · have : ¬(t.val + 1) % 7 = 0 := by omega
    simp only [h6, this, decide_false, Bool.false_or]
    by_cases h0 : t.val % 7 = 0 <;> simp [h0]

theorem before_4 (hO : Ok m) (c : Dev nD) (t : Fin (cfgM m hO).N) (h0 : ¬t.val % 7 = 0) (d) :
    (dats m hO 0 c).before 4 t d = (stAt m hO c (t.val - 1) (by omega)).2 := by
  have h := (dats m hO 0 c).before_out_traj 4 rfl (fun _ _ => rfl) (fun t ht hi hf => by
    rw [after_4, after_4]
    have h0 : ¬t.val % 7 = 0 := by
      rw [fresh4 m hO t.val (Nat.le_of_lt t.isLt)] at hf; simpa using hf
    have h1 : ¬live m t := fun hl => by rw [live_of m hO t (.inr hl)] at hi; exact Bool.false_ne_true hi
    rw [stAt_later m hO c t h0]; simp only [h1, if_false]; try rfl) t.val t rfl d
  rw [h, fresh4 m hO t.val (Nat.le_of_lt t.isLt)]
  simp only [h0, decide_false, Bool.false_eq_true, if_false]
  rw [after_4]

/-! ## The body's obligation -/

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t)
    ∗ owns (c : Thread nD τ) (ms3 m hO t) fullShare ((dats m hO 0 c).after 3 t)
    ∗ (dats m hO 0 c).leavesExact 4 t)

theorem leaves_stored (hO : Ok m) (c : Dev nD) (t : Fin (cfgM m hO).N) (h : t.val % 7 = 0 ∨ live m t) :
    (dats m hO 0 c).leavesExact 4 t = owns (c : Thread nD τ) (ms4 m hO t) fullShare ((dats m hO 0 c).after 4 t) := by
  unfold Dat.leavesExact; rw [live_of m hO t h]; try rfl

/-- A point that stores nothing leaves the buffer as the point before left it. -/
theorem leaves_kept (hO : Ok m) (c : Dev nD) (t : Fin (cfgM m hO).N) (h0 : ¬t.val % 7 = 0) (h1 : ¬live m t) :
    owns (c : Thread nD τ) (ms4 m hO t) fullShare (stAt m hO c (t.val - 1) (by omega)).2 ⊢ ((dats m hO 0 c).leavesExact 4 t : sProp 𝕄) := by
  cases hf : ((cfgM m hO).win 4).flush t with
  | false =>
    rw [Dat.leavesExact_idle (dats m hO 0 c) 4 t (idle_of m hO t h0 h1) hf]
    iintro H
    iexists (fun _ => default)
    rw [before_4 m hO c t h0]
    iexact H
  | true =>
    have e : (dats m hO 0 c).leavesExact 4 t = owns (c : Thread nD τ) (ms4 m hO t) fullShare ((dats m hO 0 c).after 4 t) := by
      unfold Dat.leavesExact; rw [idle_of m hO t h0 h1, hf]; try rfl
    rw [e, after_4, stAt_later m hO c t h0]
    simp only [h1, if_false]
    exact .rfl

set_option maxHeartbeats 4000000 in
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  obtain rfl : c = 0 := Subsingleton.elim _ _
  unfold bodyPre bodyPost bodyAt
  simp only [before_0, before_1, before_2, before_3]
  rw [show (dats m hO 0 0).owesAt () t.succ = (dats m hO 0 0).owesAt () t.castSucc from rfl, after_0, after_1, after_2, after_3]
  rw [show (dats m hO 0 0).Φ t.succ = iprop((owns ((0 : Dev nD) : Thread nD τ) scM fullShare (stAt m hO 0 t.val t.isLt).1 ∗ (∃ r, prngReg 0 r)) ∗ Pipeline.ΦT pre0 (tbl m) 0) from rfl,
    show (dats m hO 0 0).Φ t.castSucc = PhiS m hO 0 t.val (Nat.le_of_lt t.isLt) from by dsimp only [dats]; exact Pipeline.Dat.Φ_castSucc (PhiS m hO 0) t]
  by_cases h0 : t.val % 7 = 0
  · by_cases h1 : live m t
    · rw [leaves_stored m hO 0 t (.inl h0), after_4]
      rw [stAt_first m hO 0 t h0]
      simp only [h1, if_true]
      refine (sep_mono (PhiS_some m hO 0 _ _) .rfl).trans ?_
      rw [tables_eq]
      iintro ⟨⟨⟨HS, Hg⟩, ⟨HT0, HT1⟩⟩, Ho, ⟨%d0, H0⟩, ⟨%d1, H1⟩, ⟨%d2, H2⟩, ⟨%d3, H3⟩, ⟨%d4, H4⟩⟩
      iapply (run_first_live 0 (grid0.coords t) _ _ _ _ _ _ _ _ _ _ _ _ (iblk m hO 0 0 t) (iblk m hO 0 1 t) (iblk m hO 0 2 t) (iblk m hO 0 3 t) (tbl m 0) (tbl m 1) ((first_iff t).mpr h0) h1 Set.univ _)
      isplitl [H0]; · iexact H0
      isplitl [H1]; · iexact H1
      isplitl [H2]; · iexact H2
      isplitl [H3]; · iexact H3
      isplitl [H4]; · iexists _; iexact H4
      isplitl [HS]; · iexact HS
      isplitl [HT0]; · iexact HT0
      isplitl [HT1]; · iexact HT1
      iintro ⟨H0, H1, H2, H3, H4, HS, HT0, HT1⟩
      isplitl [HS Hg HT0 HT1]
      · isplitl [HS Hg]
        · isplitl [HS]
          · iexact HS
          iexact Hg
        isplitl [HT0]; · iexact HT0
        iexact HT1
      isplitl [Ho]; · iexact Ho
      isplitl [H0]; · iexact H0
      isplitl [H1]; · iexact H1
      isplitl [H2]; · iexact H2
      isplitl [H3]; · iexact H3
      iexact H4
    · rw [leaves_stored m hO 0 t (.inl h0), after_4]
      rw [stAt_first m hO 0 t h0]
      simp only [h1, if_false]
      refine (sep_mono (PhiS_some m hO 0 _ _) .rfl).trans ?_
      rw [tables_eq]
      iintro ⟨⟨⟨HS, Hg⟩, ⟨HT0, HT1⟩⟩, Ho, ⟨%d0, H0⟩, ⟨%d1, H1⟩, ⟨%d2, H2⟩, ⟨%d3, H3⟩, ⟨%d4, H4⟩⟩
      iapply (run_first_empty 0 (grid0.coords t) _ _ _ _ _ _ _ _ _ _ _ _ (iblk m hO 0 0 t) (iblk m hO 0 1 t) (iblk m hO 0 2 t) (iblk m hO 0 3 t) (tbl m 0) (tbl m 1) ((first_iff t).mpr h0) h1 Set.univ _)
      isplitl [H0]; · iexact H0
      isplitl [H1]; · iexact H1
      isplitl [H2]; · iexact H2
      isplitl [H3]; · iexact H3
      isplitl [H4]; · iexists _; iexact H4
      isplitl [HS]; · iexact HS
      isplitl [HT0]; · iexact HT0
      isplitl [HT1]; · iexact HT1
      iintro ⟨H0, H1, H2, H3, H4, HS, HT0, HT1⟩
      isplitl [HS Hg HT0 HT1]
      · isplitl [HS Hg]
        · isplitl [HS]
          · iexact HS
          iexact Hg
        isplitl [HT0]; · iexact HT0
        iexact HT1
      isplitl [Ho]; · iexact Ho
      isplitl [H0]; · iexact H0
      isplitl [H1]; · iexact H1
      isplitl [H2]; · iexact H2
      isplitl [H3]; · iexact H3
      iexact H4
  · have hz : t.val ≠ 0 := fun h => h0 (by rw [h])
    by_cases h1 : live m t
    · rw [leaves_stored m hO 0 t (.inr h1), after_4]
      rw [stAt_later m hO 0 t h0]
      simp only [h1, if_true]
      rw [PhiS_pos m hO 0 _ _ hz, tables_eq]
      simp only [before_4 m hO 0 t h0]
      iintro ⟨⟨⟨HS, Hg⟩, ⟨HT0, HT1⟩⟩, Ho, ⟨%d0, H0⟩, ⟨%d1, H1⟩, ⟨%d2, H2⟩, ⟨%d3, H3⟩, ⟨%d4, H4⟩⟩
      iapply (run_later_live 0 (grid0.coords t) _ _ _ _ _ _ _ _ _ _ _ _ (iblk m hO 0 0 t) (iblk m hO 0 1 t) (iblk m hO 0 2 t) (iblk m hO 0 3 t) (tbl m 0) (tbl m 1) (stAt m hO 0 (t.val - 1) (by omega)).2 (stAt m hO 0 (t.val - 1) (by omega)).1 (fun h => h0 ((first_iff t).mp h)) h1 Set.univ _)
      isplitl [H0]; · iexact H0
      isplitl [H1]; · iexact H1
      isplitl [H2]; · iexact H2
      isplitl [H3]; · iexact H3
      isplitl [H4]; · iexact H4
      isplitl [HS]; · iexact HS
      isplitl [HT0]; · iexact HT0
      isplitl [HT1]; · iexact HT1
      iintro ⟨H0, H1, H2, H3, H4, HS, HT0, HT1⟩
      isplitl [HS Hg HT0 HT1]
      · isplitl [HS Hg]
        · isplitl [HS]
          · iexact HS
          iexact Hg
        isplitl [HT0]; · iexact HT0
        iexact HT1
      isplitl [Ho]; · iexact Ho
      isplitl [H0]; · iexact H0
      isplitl [H1]; · iexact H1
      isplitl [H2]; · iexact H2
      isplitl [H3]; · iexact H3
      iexact H4
    · rw [stAt_later m hO 0 t h0]
      simp only [h1, if_false]
      rw [PhiS_pos m hO 0 _ _ hz, tables_eq]
      simp only [before_4 m hO 0 t h0]
      iintro ⟨⟨⟨HS, Hg⟩, ⟨HT0, HT1⟩⟩, Ho, ⟨%d0, H0⟩, ⟨%d1, H1⟩, ⟨%d2, H2⟩, ⟨%d3, H3⟩, ⟨%d4, H4⟩⟩
      iapply (run_later_empty 0 (grid0.coords t) _ _ _ _ _ _ _ _ _ _ _ _ (iblk m hO 0 0 t) (iblk m hO 0 1 t) (iblk m hO 0 2 t) (iblk m hO 0 3 t) (tbl m 0) (tbl m 1) (stAt m hO 0 (t.val - 1) (by omega)).2 (stAt m hO 0 (t.val - 1) (by omega)).1 (fun h => h0 ((first_iff t).mp h)) h1 Set.univ _)
      isplitl [H0]; · iexact H0
      isplitl [H1]; · iexact H1
      isplitl [H2]; · iexact H2
      isplitl [H3]; · iexact H3
      isplitl [H4]; · iexact H4
      isplitl [HS]; · iexact HS
      isplitl [HT0]; · iexact HT0
      isplitl [HT1]; · iexact HT1
      iintro ⟨H0, H1, H2, H3, H4, HS, HT0, HT1⟩
      isplitl [HS Hg HT0 HT1]
      · isplitl [HS Hg]
        · isplitl [HS]
          · iexact HS
          iexact Hg
        isplitl [HT0]; · iexact HT0
        iexact HT1
      isplitl [Ho]; · iexact Ho
      isplitl [H0]; · iexact H0
      isplitl [H1]; · iexact H1
      isplitl [H2]; · iexact H2
      isplitl [H3]; · iexact H3
      iapply (leaves_kept m hO 0 t h0 h1)
      iexact H4

theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-! ## The launch -/

theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
theorem hout (hO : Ok m) (c : Dev nD) : (dats m hO 0 c).Φ (Fin.last (cfgM m hO).N) ⊢ Pipeline.ΦA spec0 c := by
  rw [show (dats m hO 0 c).Φ (Fin.last (cfgM m hO).N) = PhiS m hO c (cfgM m hO).N (Nat.le_refl _) from rfl]
  refine (PhiS_some m hO c _ _).trans ?_
  rw [rest_eq]
  iintro ⟨H, -⟩; iexact H

set_option backward.isDefEq.respectTransparency.types false in
/-- Every run terminates with each array of the call at what its points leave, the tables unchanged, and no counter raised. -/
theorem run_quiescent (hO : Ok m) : θ_run defs (onTc (τ := τ) (main (F := F))) (s₀ m ρ)
    (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hin := hin m hO) (hout := hout m hO)

/-- What the run leaves: the arguments as they were, the result at what the tiles' last points write back, no counter raised. -/
theorem run (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ (∀ c : Dev nD, r.2.mem ((c.tc : Thread nD τ).loc main_v0) = (dats m hO 0 c).arrAt 4 (cfgM m hO).N)
      ∧ r.2.sem = fun _ => 0) := by
  refine (θ_run defs _ _).mono (fun r h => ⟨fun c => ⟨?_, ?_, ?_, ?_, ?_, ?_⟩, fun c => ?_, h.2⟩) (run_quiescent m ρ hO)
  · exact (h.1 c).2 main_arg0 (by decide : main_arg0 ∈ Pipeline.restRefs sig spec0)
  · exact (h.1 c).2 main_arg1 (by decide : main_arg1 ∈ Pipeline.restRefs sig spec0)
  · exact ((h.1 c).1 0).trans (((dats m hO 0 c).arrAt_in 0 rfl _).trans (A_eq m hO c 0))
  · exact ((h.1 c).1 1).trans (((dats m hO 0 c).arrAt_in 1 rfl _).trans (A_eq m hO c 1))
  · exact ((h.1 c).1 2).trans (((dats m hO 0 c).arrAt_in 2 rfl _).trans (A_eq m hO c 2))
  · exact ((h.1 c).1 3).trans (((dats m hO 0 c).arrAt_in 3 rfl _).trans (A_eq m hO c 3))
  · exact (h.1 c).1 4

/-- The arguments end unchanged and no counter is raised. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨h.1, h.2.2⟩) (run m ρ hO)

end Cert.KernelIdeal.Moe

end
-- ==== Proof.MoeIdeal.Ok.lean ====
/- The launch's side condition on the tables: when every tile's expert is one of the eight, every weight block the tables name lies
   inside its array. And the precondition says just that. -/
module

public import proofs.«01_k».proof.Proof.MoeIdeal.Frame
public import proofs.«01_k».proof.Proof.Gen.Pre_experts_in_range
public import Idealize.ShloMosaic.Lib.ReduceAll
public import Idealize.ShloMosaic.Lib.StableHlo.Predicate

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The expert table's word the index maps read at point `i`. -/
abbrev teAt (i : grid0.Coords) : BitVec 32 :=
  (tbl m).at 0 (Rect.unit (s := S40) ![(Scalar.indexCast (BitVec.ofNat 32 (i 0).val) : Index).toNat] S1.size (k0_off1_inb i)) numel1_S1
/-- The block of the hidden axis the index maps name at point `i`: the second coordinate, or (for a tile without rows) the last. -/
abbrev fjAt (i : grid0.Coords) : BitVec 32 :=
  Scalar.select (Scalar.cmpi .sgt ((tbl m).at 1 (Rect.unit (s := S40) ![(Scalar.indexCast (BitVec.ofNat 32 (i 0).val) : Index).toNat] S1.size (k0_off1_inb i)) numel1_S1) 0#32) (BitVec.ofNat 32 (i 1).val) 6#32

theorem ix1_eq (i : grid0.Coords) : cc0_transform_1 k0_off1_inb numel1_S1 (tbl m) i = ![(teAt m i).toNat, 0, (fjAt m i).toNat] := rfl
theorem ix2_eq (i : grid0.Coords) : cc0_transform_2 k0_off1_inb numel1_S1 (tbl m) i = ![(teAt m i).toNat, 0, (fjAt m i).toNat] := rfl
theorem ix3_eq (i : grid0.Coords) : cc0_transform_3 k0_off1_inb numel1_S1 (tbl m) i = ![(teAt m i).toNat, (fjAt m i).toNat, 0] := rfl

/-- Tile `q`'s place in a table. -/
def tile (q : Fin 40) : S40.Idx := fun a => match a with | ⟨0, _⟩ => q

theorem tile_emb (i : grid0.Coords) (h : ∀ a, ![(Scalar.indexCast (BitVec.ofNat 32 (i 0).val) : Index).toNat] a + S1.size a ≤ S40.size a) :
    (Rect.unit (s := S40) ![(Scalar.indexCast (BitVec.ofNat 32 (i 0).val) : Index).toNat] S1.size h).emb (Shape.Idx.first (numel1_S1.symm ▸ Nat.one_pos)) = tile (i 0) := by
  have hi : (i 0).val < 40 := (i 0).isLt
  funext a
  match a with
  | ⟨0, _⟩ =>
    refine Fin.ext ?_
    show (BitVec.ofNat 32 (i 0).val).toNat + 1 * 0 = (i 0).val
    rw [BitVec.toNat_ofNat]; omega

theorem teAt_eq (i : grid0.Coords) : teAt m i = tbl m 0 (tile (i 0)) := congrArg (tbl m 0) (tile_emb i _)
theorem tvAt_eq (i : grid0.Coords) : ((tbl m).at 1 (Rect.unit (s := S40) ![(Scalar.indexCast (BitVec.ofNat 32 (i 0).val) : Index).toNat] S1.size (k0_off1_inb i)) numel1_S1 : BitVec 32) = tbl m 1 (tile (i 0)) := congrArg (tbl m 1) (tile_emb i _)
theorem word_eq (i : grid0.Coords) : word (0 : Dev nD) i (tbl m 1) = tbl m 1 (tile (i 0)) := congrArg (tbl m 1) (tile_emb i _)

theorem fjAt_eq (i : grid0.Coords) (h : IntOp.cmpi .sgt (tbl m 1 (tile (i 0)) : BitVec 32) 0#32 = 1#1) : (fjAt m i).toNat = (i 1).val := by
  have : (i 1).val < 7 := (i 1).isLt
  unfold fjAt
  rw [tvAt_eq, show Scalar.cmpi .sgt (tbl m 1 (tile (i 0)) : BitVec 32) 0#32 = 1#1 from h]
  show (BitVec.ofNat 32 (i 1).val).toNat = _
  rw [BitVec.toNat_ofNat]; omega

theorem live_iff (t : Fin grid0.N) : live m t ↔ IntOp.cmpi .sgt (tbl m 1 (tile (grid0.coords t 0)) : BitVec 32) 0#32 = 1#1 := by
  unfold live
  rw [word_eq]
  refine Iff.trans (b := Scalar.cmpi .ne (Scalar.extui (Scalar.cmpi .sgt (tbl m 1 (tile (grid0.coords t 0)) : BitVec 32) 0#32)) 0#32 = 1#1) Iff.rfl ?_
  unfold Scalar.extui Scalar.cmpi
  generalize IntOp.cmpi .sgt (tbl m 1 (tile (grid0.coords t 0)) : BitVec 32) 0#32 = b
  revert b; decide

theorem fjAt_le (i : grid0.Coords) : (fjAt m i).toNat ≤ 6 := by
  have : (i 1).val < 7 := (i 1).isLt
  unfold fjAt Scalar.select
  split
  · rw [BitVec.toNat_ofNat]; omega
  · decide

/-- Every word of the expert table is one of the eight experts. -/
abbrev InRange : Prop := ∀ k : S40.Idx, (tbl m 0 k : BitVec 32).toNat < 8

theorem ok_of_range (h : InRange m) : Ok m := by
  have te (i : grid0.Coords) : (teAt m i).toNat < 8 := by
    rw [teAt_eq]; exact h _
  refine ⟨fun i => ⟨fun a => ?_, .inl rfl⟩, fun i => ⟨fun a => ?_, .inl rfl⟩, fun i => ⟨fun a => ?_, .inl rfl⟩⟩
  · have h1 := te i; have h2 := fjAt_le m i
    rw [ix1_eq]
    match a with
    | ⟨0, _⟩ => show ((teAt m i).toNat + 1) * 1 ≤ 8; omega
    | ⟨1, _⟩ => show (0 + 1) * 1024 ≤ 1024; omega
    | ⟨2, _⟩ => show ((fjAt m i).toNat + 1) * 512 ≤ 3584; omega
  · have h1 := te i; have h2 := fjAt_le m i
    rw [ix2_eq]
    match a with
    | ⟨0, _⟩ => show ((teAt m i).toNat + 1) * 1 ≤ 8; omega
    | ⟨1, _⟩ => show (0 + 1) * 1024 ≤ 1024; omega
    | ⟨2, _⟩ => show ((fjAt m i).toNat + 1) * 512 ≤ 3584; omega
  · have h1 := te i; have h2 := fjAt_le m i
    rw [ix3_eq]
    match a with
    | ⟨0, _⟩ => show ((teAt m i).toNat + 1) * 1 ≤ 8; omega
    | ⟨1, _⟩ => show ((fjAt m i).toNat + 1) * 512 ≤ 3584; omega
    | ⟨2, _⟩ => show (0 + 1) * 1024 ≤ 1024; omega

/-- A word between 0 and 8, read signed, is below 8 read unsigned. -/
theorem lt8_of_signed (x : BitVec 32) (h0 : IntOp.cmpi .sge x 0#32 = 1#1) (h1 : IntOp.cmpi .slt x 8#32 = 1#1) : x.toNat < 8 := by
  simp only [IntOp.cmpi, StableHlo.Predicate.ofBool_eq_one_iff, BitVec.sle, BitVec.slt, decide_eq_true_eq] at h0 h1
  have e8 : (8#32 : BitVec 32).toInt = 8 := by decide
  have e0 : (0#32 : BitVec 32).toInt = 0 := by decide
  rw [e8] at h1; rw [e0] at h0
  rw [BitVec.toInt_eq_toNat_cond] at h0 h1
  have := x.isLt
  split at h0 <;> split at h1 <;> omega

theorem lt8_of_pre (a0 a1 : IVec S40 32) (a2 : FVec F Cert.Pre_experts_in_range.S40960x1024 .f32) (a3 a4 : FVec F Cert.Pre_experts_in_range.S8x1024x3584 .f32) (a5 : FVec F Cert.Pre_experts_in_range.S8x3584x1024 .f32)
    (h : Cert.Pre_experts_in_range.fn (F := F) a0 a1 a2 a3 a4 a5 = fun _ => 1#1) (k : S40.Idx) : (a0 k).toNat < 8 := by
  have e := congrFun h (fun a => a.elim0)
  haveI : Subsingleton (Cert.Pre_experts_in_range.S_ : Shape).Idx := ⟨fun x y => funext fun a => a.elim0⟩
  have e2 := Host.reduce_andi_all _ _ _ _ _ e k
  have e3 := IntOp.andi_eq_one.mp e2
  exact lt8_of_signed _ e3.1 e3.2

end Cert.KernelIdeal.Moe

end
-- ==== Proof.MoeIdeal.Spec.lean ====
/- The expert layer's mathematics over plain arrays: one row's SwiGLU through expert `e`, and the sum over the hidden axis cut into
   seven blocks of 512. -/
module

public import Idealize.ShloMosaic.Lib.Pointwise

@[expose] public section

set_option maxRecDepth 16384

noncomputable section

namespace Cert.Moe

open Idealize.ShloMosaic

abbrev SH : Shape := ⟨2, ![40960, 1024]⟩
abbrev SU : Shape := ⟨3, ![8, 1024, 3584]⟩
abbrev SD : Shape := ⟨3, ![8, 3584, 1024]⟩

/-- `silu a * b`. -/
def act (a b : EReal) : EReal := a * Ideal.logistic a * b

/-- The hidden value `f` of row `r` through expert `e`. -/
def hid (x : SH.Idx → EReal) (u v : SU.Idx → EReal) (e : Fin 8) (r : Fin 40960) (f : Fin 3584) : EReal :=
  act (∑ k : Fin 1024, x (ix2 r k) * u (ix3 e k f)) (∑ k : Fin 1024, x (ix2 r k) * v (ix3 e k f))

/-- Row `r`, column `d` of the SwiGLU through expert `e`. -/
def glu (x : SH.Idx → EReal) (u v : SU.Idx → EReal) (w : SD.Idx → EReal) (e : Fin 8) (r : Fin 40960) (d : Fin 1024) : EReal :=
  ∑ f : Fin 3584, hid x u v e r f * w (ix3 e f d)

/-- The share of hidden block `j` in that sum. -/
def part (x : SH.Idx → EReal) (u v : SU.Idx → EReal) (w : SD.Idx → EReal) (e : Fin 8) (r : Fin 40960) (d : Fin 1024) (j : ℕ) : EReal :=
  ∑ f : Fin 512, if h : j * 512 + f.val < 3584 then hid x u v e r ⟨j * 512 + f.val, h⟩ * w (ix3 e ⟨j * 512 + f.val, h⟩ d) else 0

theorem parts_eq_glu (x : SH.Idx → EReal) (u v : SU.Idx → EReal) (w : SD.Idx → EReal) (e : Fin 8) (r : Fin 40960) (d : Fin 1024) :
    ∑ j ∈ Finset.range 7, part x u v w e r d j = glu x u v w e r d := by
  unfold glu
  rw [Finset.sum_range, Fin.sum_univ_tiles 7 512 rfl]
  refine Finset.sum_congr rfl fun j _ => Finset.sum_congr rfl fun f _ => ?_
  have hj := j.isLt; have hf := f.isLt
  rw [dif_pos (by omega)]

end Cert.Moe

end
-- ==== Proof.MoeIdeal.Pure.lean ====
/- What one point of the expert call adds to its output, read at an entry. -/
module

public import proofs.«01_k».proof.Proof.MoeIdeal.Spec
public import proofs.«01_k».proof.Proof.Gen.KernelIdeal.Skeleton

@[expose] public section

set_option maxRecDepth 16384

noncomputable section

namespace Cert.KernelIdeal.Moe

open Idealize.ShloMosaic Idealize.ShloMosaic.TcCoe Idealize.SL.Sem
open Cert.KernelIdeal Cert.KernelIdeal.Gen Cert.Moe

theorem pay1_at (r d : Fin 1024) : k0_pay1 (F := Ideal) (ix2 r d) = 0 := by
  pointwise [k0_pay1]

theorem pay2_at (x : FVec Ideal S1024x1024 .f32) (r k : Fin 1024) : k0_pay2 (F := Ideal) x (ix2 r k) = x (ix2 r k) := by
  pointwise [k0_pay2]

theorem pay3_at (x : FVec Ideal S1024x1024 .bf16) (u v : FVec Ideal S1x1024x512 .f32) (o : FVec Ideal S1024x1024 .f32) (w : FVec Ideal S1x512x1024 .f32) (r d : Fin 1024) :
    k0_pay3 (F := Ideal) x u v o w (ix2 r d)
      = o (ix2 r d) + ∑ f : Fin 512, act (∑ k : Fin 1024, x (ix2 r k) * u (ix3 0 k f)) (∑ k : Fin 1024, x (ix2 r k) * v (ix3 0 k f)) * w (ix3 0 f d) := by
  pointwise! [k0_pay3, act]

end Cert.KernelIdeal.Moe

end
-- ==== Proof.MoeIdeal.Value.lean ====
/- The array the expert call leaves, as the expert layer's mathematics of its arguments: every row of a tile that holds rows is the
   SwiGLU through the tile's expert, and every row of a tile that holds none is zero. -/
module

public import proofs.«01_k».proof.Proof.MoeIdeal.Ok
public import proofs.«01_k».proof.Proof.MoeIdeal.Pure
public import Idealize.ShloMosaic.Lib.Pipeline.Value
public import Idealize.ShloMosaic.Lib.Pipeline.ValueKit

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

open Cert.Moe

local notation "𝕄" => MT nD τ sig Unit (Elt Ideal) ℕ (UR sig nD τ) ℕ

variable (m : (ℓ : Loc nD τ sig) → Buf (Elt Ideal) ℓ) (ρ : Dev nD → PrngReg)

/-! ## The arguments, as plain arrays -/

abbrev hsA (c : Dev nD) : FVec Ideal S40960x1024 .f32 := V m c main_arg2
abbrev w1A (c : Dev nD) : FVec Ideal S8x1024x3584 .f32 := V m c main_arg3
abbrev w3A (c : Dev nD) : FVec Ideal S8x1024x3584 .f32 := V m c main_arg4
abbrev w2A (c : Dev nD) : FVec Ideal S8x3584x1024 .f32 := V m c main_arg5

/-- Tile `q`'s expert. -/
abbrev expert (hR : InRange m) (q : Fin 40) : Fin 8 := ⟨(tbl m 0 (tile q) : BitVec 32).toNat, hR (tile q)⟩
/-- Tile `q` holds rows. -/
abbrev holds (q : Fin 40) : Prop := IntOp.cmpi .sgt (tbl m 1 (tile q) : BitVec 32) 0#32 = 1#1

/-! ## The blocks, read at an entry -/

theorem tN (t : Fin grid0.N) : t.val < 280 := Nat.lt_of_lt_of_eq t.isLt N_0
abbrev qOf (t : Fin grid0.N) : Fin 40 := ⟨t.val / 7, by have := tN t; omega⟩
theorem coord0_eq (t : Fin grid0.N) : (grid0.coords t 0 : Fin 40) = qOf t := Fin.ext (coord0 t)

/-- The row of the array that row `r` of tile `q` is. -/
abbrev rowOf (q : Fin 40) (r : Fin 1024) : Fin 40960 := ⟨q.val * 1024 + r.val, by omega⟩

theorem iblk0_at (hO : Ok m) (c : Dev nD) (t : Fin grid0.N) (r k : Fin 1024) :
    iblk m hO c 0 t (ix2 r k) = hsA m c (ix2 (rowOf (qOf t) r) k) := by
  refine congrArg (V m c main_arg2) (funext fun a => Fin.ext ?_)
  have ht := tN t
  have e0 := coord0 t
  match a with
  | ⟨0, _⟩ =>
    show (BitVec.ofNat 32 (grid0.coords t 0).val).toNat * 1024 + 1 * r.val = t.val / 7 * 1024 + r.val
    rw [BitVec.toNat_ofNat, e0]; omega
  | ⟨1, _⟩ =>
    show 0 * 1024 + 1 * k.val = k.val
    omega

theorem iblk1_at (hO : Ok m) (hR : InRange m) (c : Dev nD) (t : Fin grid0.N) (hl : live m t) (k : Fin 1024) (f : Fin 512) (hb : t.val % 7 * 512 + f.val < 3584) :
    iblk m hO c 1 t (ix3 0 k f) = w1A m c (ix3 (expert m hR (qOf t)) k ⟨t.val % 7 * 512 + f.val, hb⟩) := by
  refine congrArg (V m c main_arg3) (funext fun a => Fin.ext ?_)
  have e1 := coord1 t
  match a with
  | ⟨0, _⟩ =>
    show (teAt m (grid0.coords t)).toNat * 1 + 1 * 0 = (tbl m 0 (tile (qOf t)) : BitVec 32).toNat
    rw [teAt_eq, coord0_eq]; omega
  | ⟨1, _⟩ =>
    show 0 * 1024 + 1 * k.val = k.val
    omega
  | ⟨2, _⟩ =>
    show (fjAt m (grid0.coords t)).toNat * 512 + 1 * f.val = t.val % 7 * 512 + f.val
    rw [fjAt_eq m _ ((live_iff m t).mp hl), e1]; omega

theorem iblk2_at (hO : Ok m) (hR : InRange m) (c : Dev nD) (t : Fin grid0.N) (hl : live m t) (k : Fin 1024) (f : Fin 512) (hb : t.val % 7 * 512 + f.val < 3584) :
    iblk m hO c 2 t (ix3 0 k f) = w3A m c (ix3 (expert m hR (qOf t)) k ⟨t.val % 7 * 512 + f.val, hb⟩) := by
  refine congrArg (V m c main_arg4) (funext fun a => Fin.ext ?_)
  have e1 := coord1 t
  match a with
  | ⟨0, _⟩ =>
    show (teAt m (grid0.coords t)).toNat * 1 + 1 * 0 = (tbl m 0 (tile (qOf t)) : BitVec 32).toNat
    rw [teAt_eq, coord0_eq]; omega
  | ⟨1, _⟩ =>
    show 0 * 1024 + 1 * k.val = k.val
    omega
  | ⟨2, _⟩ =>
    show (fjAt m (grid0.coords t)).toNat * 512 + 1 * f.val = t.val % 7 * 512 + f.val
    rw [fjAt_eq m _ ((live_iff m t).mp hl), e1]; omega

theorem iblk3_at (hO : Ok m) (hR : InRange m) (c : Dev nD) (t : Fin grid0.N) (hl : live m t) (f : Fin 512) (d : Fin 1024) (hb : t.val % 7 * 512 + f.val < 3584) :
    iblk m hO c 3 t (ix3 0 f d) = w2A m c (ix3 (expert m hR (qOf t)) ⟨t.val % 7 * 512 + f.val, hb⟩ d) := by
  refine congrArg (V m c main_arg5) (funext fun a => Fin.ext ?_)
  have e1 := coord1 t
  match a with
  | ⟨0, _⟩ =>
    show (teAt m (grid0.coords t)).toNat * 1 + 1 * 0 = (tbl m 0 (tile (qOf t)) : BitVec 32).toNat
    rw [teAt_eq, coord0_eq]; omega
  | ⟨1, _⟩ =>
    show (fjAt m (grid0.coords t)).toNat * 512 + 1 * f.val = t.val % 7 * 512 + f.val
    rw [fjAt_eq m _ ((live_iff m t).mp hl), e1]; omega
  | ⟨2, _⟩ =>
    show 0 * 1024 + 1 * d.val = d.val
    omega

/-! ## One point's addition -/

/-- At a point of a tile that holds rows, with the tile's rows kept, the body adds the hidden block's share. -/
theorem add_at (hO : Ok m) (hR : InRange m) (c : Dev nD) (t : Fin grid0.N) (hl : live m t) (x : FVec Ideal S1024x1024 .bf16)
    (hx : ∀ r k : Fin 1024, x (ix2 r k) = hsA m c (ix2 (rowOf (qOf t) r) k)) (o : FVec Ideal S1024x1024 .f32) (r d : Fin 1024) :
    k0_pay3 (F := Ideal) x (iblk m hO c 1 t) (iblk m hO c 2 t) o (iblk m hO c 3 t) (ix2 r d)
      = o (ix2 r d) + part (hsA m c) (w1A m c) (w3A m c) (w2A m c) (expert m hR (qOf t)) (rowOf (qOf t) r) d (t.val % 7) := by
  refine (pay3_at x (iblk m hO c 1 t) (iblk m hO c 2 t) o (iblk m hO c 3 t) r d).trans ?_
  refine congrArg (o (ix2 r d) + ·) ?_
  unfold part
  refine Finset.sum_congr rfl fun f _ => ?_
  have hb : t.val % 7 * 512 + f.val < 3584 := by have := f.isLt; omega
  rw [dif_pos hb]
  unfold hid
  refine Ideal.mul_congr (congrArg₂ act (Finset.sum_congr rfl fun k _ => Ideal.mul_congr (hx r k) (iblk1_at m hO hR c t hl k f hb))
    (Finset.sum_congr rfl fun k _ => Ideal.mul_congr (hx r k) (iblk2_at m hO hR c t hl k f hb))) (iblk3_at m hO hR c t hl f d hb)

/-! ## The seven points of a tile -/

theorem live_tile (t : Fin grid0.N) : live m t ↔ holds m (qOf t) := by rw [live_iff, coord0_eq]

/-- After point `t`: the tile's rows are kept, and the output holds the shares of the hidden blocks so far (or zero). -/
theorem stAt_eq (hO : Ok m) (hR : InRange m) (c : Dev nD) : ∀ (n : ℕ) (hn : n < grid0.N) (r d : Fin 1024),
    (stAt m hO c n hn).1 (ix2 r d) = hsA m c (ix2 (rowOf (qOf ⟨n, hn⟩) r) d)
    ∧ (stAt m hO c n hn).2 (ix2 r d) = if holds m (qOf ⟨n, hn⟩) then
        ∑ j ∈ Finset.range (n % 7 + 1), part (hsA m c) (w1A m c) (w3A m c) (w2A m c) (expert m hR (qOf ⟨n, hn⟩)) (rowOf (qOf ⟨n, hn⟩) r) d j else 0 := by
  intro n
  induction n using Nat.strong_induction_on with
  | _ n ih =>
    intro hn r d
    by_cases h0 : n % 7 = 0
    · have hk : ∀ r k : Fin 1024, (k0_pay2 (F := Ideal) (iblk m hO c 0 ⟨n, hn⟩)) (ix2 r k) = hsA m c (ix2 (rowOf (qOf ⟨n, hn⟩) r) k) :=
        fun r k => (pay2_at (iblk m hO c 0 ⟨n, hn⟩) r k).trans (iblk0_at m hO c ⟨n, hn⟩ r k)
      have e := stAt_first m hO c ⟨n, hn⟩ h0
      refine ⟨(congrFun (congrArg Prod.fst e) (ix2 r d)).trans (hk r d), (congrFun (congrArg Prod.snd e) (ix2 r d)).trans ?_⟩
      by_cases hl : live m ⟨n, hn⟩
      · rw [if_pos ((live_tile m ⟨n, hn⟩).mp hl)]
        dsimp only
        rw [if_pos hl]
        refine (add_at m hO hR c ⟨n, hn⟩ hl _ hk _ r d).trans ?_
        rw [h0, Finset.sum_range_one]
        refine (congrArg (· + _) (pay1_at r d)).trans (zero_add _)
      · rw [if_neg (fun h => hl ((live_tile m ⟨n, hn⟩).mpr h))]
        dsimp only
        rw [if_neg hl]
        exact pay1_at r d
    · have hp : n - 1 < grid0.N := by omega
      have hq : qOf ⟨n, hn⟩ = qOf ⟨n - 1, hp⟩ := Fin.ext (show n / 7 = (n - 1) / 7 by omega)
      have e := stAt_later m hO c ⟨n, hn⟩ h0
      have i1 := fun r d => (ih (n - 1) (by omega) hp r d).1
      have i2 := fun r d => (ih (n - 1) (by omega) hp r d).2
      refine ⟨(congrFun (congrArg Prod.fst e) (ix2 r d)).trans ((i1 r d).trans (by rw [hq])), (congrFun (congrArg Prod.snd e) (ix2 r d)).trans ?_⟩
      by_cases hl : live m ⟨n, hn⟩
      · rw [if_pos ((live_tile m ⟨n, hn⟩).mp hl)]
        dsimp only
        rw [if_pos hl]
        refine (add_at m hO hR c ⟨n, hn⟩ hl _ (fun r k => (i1 r k).trans (by rw [hq])) _ r d).trans ?_
        rw [Finset.sum_range_succ]
        refine congrArg (· + _) ((i2 r d).trans ?_)
        rw [if_pos (hq ▸ (live_tile m ⟨n, hn⟩).mp hl), hq, show (n - 1) % 7 + 1 = n % 7 by omega]
      · rw [if_neg (fun h => hl ((live_tile m ⟨n, hn⟩).mpr h))]
        dsimp only
        rw [if_neg hl]
        refine (i2 r d).trans ?_
        rw [if_neg (fun h => hl ((live_tile m ⟨n, hn⟩).mpr (hq ▸ h)))]

/-! ## The array -/

/-- Row `i`'s tile. -/
abbrev tileOf (i : Fin 40960) : Fin 40 := ⟨i.val / 1024, by omega⟩

/-- What the call leaves. -/
def G (hR : InRange m) (c : Dev nD) : FVec Ideal S40960x1024 .f32 := fun i =>
  if holds m (tileOf (i 0)) then glu (hsA m c) (w1A m c) (w3A m c) (w2A m c) (expert m hR (tileOf (i 0))) (i 0) (i 1) else 0

theorem emb4 (hO : Ok m) (t : Fin grid0.N) (y : S1024x1024.Idx) :
    ((((cfgM m hO).win 4).blk t).view.emb y : S40960x1024.Idx) = ix2 (rowOf (qOf t) (y 0)) (y 1) := by
  have ht := tN t
  have e0 := coord0 t
  refine funext fun a => Fin.ext ?_
  match a with
  | ⟨0, _⟩ =>
    show (BitVec.ofNat 32 (grid0.coords t 0).val).toNat * 1024 + 1 * (y 0).val = t.val / 7 * 1024 + (y 0).val
    rw [BitVec.toNat_ofNat, e0]; omega
  | ⟨1, _⟩ =>
    show 0 * 1024 + 1 * (y 1).val = (y 1).val
    omega

theorem flushed4_eq (hO : Ok m) (hR : InRange m) (c : Dev nD) (t : Fin (cfgM m hO).N) (hf : ((cfgM m hO).win 4).flush t = true) :
    (dats m hO 0 c).flushed 4 t = (((cfgM m hO).win 4).blk t).view.read (Elt Ideal) (G m hR c) := by
  have hm : t.val % 7 = 6 := (flush4 (adm m hO) t).mp hf
  have ht := tN t
  show ((cfgM m hO).win 4).cut (grid0.coords t) ((dats m hO 0 c).after 4 t) = _
  rw [after_4]
  refine funext fun (y : S1024x1024.Idx) => ?_
  have he : ((((cfgM m hO).win 4).blk t).view.emb y : S40960x1024.Idx) = ix2 (rowOf (qOf t) (y 0)) (y 1) := emb4 m hO t y
  refine Eq.trans ?_ (congrArg (G m hR c) he.symm)
  show (stAt m hO c t.val t.isLt).2 y = _
  refine (congrArg (stAt m hO c t.val t.isLt).2 (eq_ix2 y)).trans ?_
  refine ((stAt_eq m hO hR c t.val t.isLt (y 0) (y 1)).2).trans ?_
  rw [show t.val % 7 + 1 = 7 by omega]
  have hq : tileOf (rowOf (qOf t) (y 0)) = qOf t := Fin.ext (show (t.val / 7 * 1024 + (y 0).val) / 1024 = t.val / 7 by have : (y 0).val < 1024 := (y 0).isLt; omega)
  show _ = if holds m (tileOf (rowOf (qOf t) (y 0))) then glu (hsA m c) (w1A m c) (w3A m c) (w2A m c) (expert m hR (tileOf (rowOf (qOf t) (y 0)))) (rowOf (qOf t) (y 0)) (y 1) else 0
  rw [hq]
  exact if_congr Iff.rfl (parts_eq_glu _ _ _ _ _ _ _) rfl

theorem covered (hO : Ok m) (i : S40960x1024.Idx) :
    ∃ t : Fin (cfgM m hO).N, ((cfgM m hO).win 4).flush t = true ∧ i ∈ (((cfgM m hO).win 4).blk t).view.set := by
  have hi0 : (i 0).val < 40960 := (i 0).isLt
  have hi1 : (i 1).val < 1024 := (i 1).isLt
  have hN : (i 0).val / 1024 * 7 + 6 < grid0.N := by rw [N_0]; omega
  refine ⟨⟨(i 0).val / 1024 * 7 + 6, hN⟩, (flush4 (adm m hO) _).mpr (show ((i 0).val / 1024 * 7 + 6) % 7 = 6 by omega), ?_⟩
  have e0 : (grid0.coords ⟨(i 0).val / 1024 * 7 + 6, hN⟩ 0).val = ((i 0).val / 1024 * 7 + 6) / 7 := coord0 _
  refine Eq.mpr (congrArg (i ∈ ·) (View.set_slice_whole main_v0 (((cfgM m hO).win 4).rect ⟨(i 0).val / 1024 * 7 + 6, hN⟩))) ?_
  refine (Rect.mem_set_unit ..).mpr ?_
  intro a
  match a with
  | ⟨0, _⟩ =>
    show (BitVec.ofNat 32 (grid0.coords ⟨(i 0).val / 1024 * 7 + 6, hN⟩ 0).val).toNat * 1024 ≤ (i 0).val ∧ (i 0).val < (BitVec.ofNat 32 (grid0.coords ⟨(i 0).val / 1024 * 7 + 6, hN⟩ 0).val).toNat * 1024 + 1024
    rw [BitVec.toNat_ofNat, e0]; omega
  | ⟨1, _⟩ =>
    show 0 * 1024 ≤ (i 1).val ∧ (i 1).val < 0 * 1024 + 1024
    omega

theorem final (hO : Ok m) (hR : InRange m) (c : Dev nD) : (dats m hO 0 c).arrAt 4 (cfgM m hO).N = G m hR c :=
  (dats m hO 0 c).arrAt_eq_of_cover 4 _ (fun t hf => flushed4_eq m hO hR c t hf) (covered m hO)

end Cert.KernelIdeal.Moe

end
-- ==== Proof.MoeRef.Value.lean ====
/- The reference's result, read at an entry: eight gated SwiGLUs, of which the gate keeps the tile's own. -/
module

public import proofs.«01_k».proof.Proof.MoeIdeal.Spec
public import proofs.«01_k».proof.Proof.Gen.ReferenceIdeal.Run
public import Idealize.ShloMosaic.Lib.StableHlo.Predicate

@[expose] public section

set_option maxRecDepth 16384

noncomputable section

namespace Cert.ReferenceIdeal.Moe

open Idealize.ShloMosaic Idealize.ShloMosaic.TcCoe Idealize.SL.Sem
open Cert.ReferenceIdeal Cert.ReferenceIdeal.Gen Cert.ReferenceIdeal.Value Cert.Moe

/-! ## Arguments -/

variable (V0 : Valuation τ sig (Elt Ideal))

abbrev teV : IVec S40 32 := V0 (Proc.devRef .tc main_arg0)
abbrev tvV : IVec S40 32 := V0 (Proc.devRef .tc main_arg1)
abbrev hsV : FVec Ideal S40960x1024 .f32 := V0 (Proc.devRef .tc main_arg2)
abbrev w1V : FVec Ideal S8x1024x3584 .f32 := V0 (Proc.devRef .tc main_arg3)
abbrev w3V : FVec Ideal S8x1024x3584 .f32 := V0 (Proc.devRef .tc main_arg4)
abbrev w2V : FVec Ideal S8x3584x1024 .f32 := V0 (Proc.devRef .tc main_arg5)
/-- The result's composed term. -/
abbrev outV : FVec Ideal S40960x1024 .f32 := val3 V0 (Proc.devRef .tc main_v133)

/-- The gate of row `r` at expert `e`. -/
def gate (r : Fin 40960) (e : Fin 8) : EReal :=
  (FloatOps.uitofp (F := Ideal) .f32 (IntOp.cmpi .eq (teV V0 (ix1 ⟨r.val / 1024, by omega⟩)) (BitVec.ofNat 32 e.val)) : EReal)
    * FloatOps.uitofp (F := Ideal) .f32 (IntOp.cmpi .sgt (tvV V0 (ix1 ⟨r.val / 1024, by omega⟩)) 0#32)

theorem gate_at (r : Fin 40960) (e : Fin 8) : (res_main_v12 V0 : FVec Ideal S40960x8 .f32) (ix2 r e) = gate V0 r e := by
  unfold gate
  pointwise [res_main_v12]

theorem glu_open (x : SH.Idx → EReal) (u v : SU.Idx → EReal) (w : SD.Idx → EReal) (e : Fin 8) (r : Fin 40960) (d : Fin 1024) :
    glu x u v w e r d = ∑ f : Fin 3584, ((∑ k : Fin 1024, x (ix2 r k) * u (ix3 e k f)) * Ideal.div 1 (1 + Ideal.exp (-(∑ k : Fin 1024, x (ix2 r k) * u (ix3 e k f))))
      * ∑ k : Fin 1024, x (ix2 r k) * v (ix3 e k f)) * w (ix3 e f d) := rfl

/-- The first five experts. -/
theorem five_at (r : Fin 40960) (d : Fin 1024) : (res_main_v88 V0 : FVec Ideal S40960x1024 .f32) (ix2 r d)
    = (gate V0 r 0 * glu (hsV V0) (w1V V0) (w3V V0) (w2V V0) 0 r d + gate V0 r 1 * glu (hsV V0) (w1V V0) (w3V V0) (w2V V0) 1 r d
      + gate V0 r 2 * glu (hsV V0) (w1V V0) (w3V V0) (w2V V0) 2 r d + gate V0 r 3 * glu (hsV V0) (w1V V0) (w3V V0) (w2V V0) 3 r d
      + gate V0 r 4 * glu (hsV V0) (w1V V0) (w3V V0) (w2V V0) 4 r d : EReal) := by
  simp only [← gate_at]
  pointwise [res_main_v88, glu_open, res_main_v21, res_main_v36, res_main_v51, res_main_v66, res_main_v81]

/-- All eight. -/
theorem out_at (r : Fin 40960) (d : Fin 1024) : outV V0 (ix2 r d) = ∑ e : Fin 8, gate V0 r e * glu (hsV V0) (w1V V0) (w3V V0) (w2V V0) e r d := by
  refine (congrFun (val3_main_v133 V0) (ix2 r d)).trans ?_
  rw [Fin.sum_univ_eight]
  simp only [← gate_at, ← five_at]
  pointwise [glu_open, res_main_v96, res_main_v111, res_main_v126, five_at, gate_at]

/-! ## The gate keeps one expert -/

theorem uitofp_one : (FloatOps.uitofp (F := Ideal) .f32 (1#1 : BitVec 1) : EReal) = 1 := by
  show (((1#1 : BitVec 1).toNat : ℝ) : EReal) = 1
  norm_num
theorem uitofp_zero : (FloatOps.uitofp (F := Ideal) .f32 (0#1 : BitVec 1) : EReal) = 0 := by
  show (((0#1 : BitVec 1).toNat : ℝ) : EReal) = 0
  norm_num

/-- A row's result: the SwiGLU through its tile's expert, or zero when the tile holds no row. -/
theorem out_eq (hR : ∀ k, (teV V0 k).toNat < 8) (r : Fin 40960) (d : Fin 1024) :
    outV V0 (ix2 r d) = if IntOp.cmpi .sgt (tvV V0 (ix1 ⟨r.val / 1024, by omega⟩)) 0#32 = 1#1 then
      glu (hsV V0) (w1V V0) (w3V V0) (w2V V0) ⟨(teV V0 (ix1 ⟨r.val / 1024, by omega⟩)).toNat, hR _⟩ r d else 0 := by
  rw [out_at]
  by_cases hv : IntOp.cmpi .sgt (tvV V0 (ix1 ⟨r.val / 1024, by omega⟩)) 0#32 = 1#1
  · rw [if_pos hv, Finset.sum_eq_single (⟨(teV V0 (ix1 ⟨r.val / 1024, by omega⟩)).toNat, hR _⟩ : Fin 8)]
    · unfold gate
      have e1 : IntOp.cmpi .eq (teV V0 (ix1 ⟨r.val / 1024, by omega⟩)) (BitVec.ofNat 32 (teV V0 (ix1 ⟨r.val / 1024, by omega⟩)).toNat) = 1#1 :=
        StableHlo.Predicate.cmpi_eq_iff.mpr (BitVec.eq_of_toNat_eq (by rw [BitVec.toNat_ofNat]; exact (Nat.mod_eq_of_lt (BitVec.isLt _)).symm))
      rw [hv]
      refine (congrArg₂ (· * ·) ((congrArg (· * _) ((congrArg _ e1).trans uitofp_one)).trans ((one_mul _).trans uitofp_one)) rfl).trans (one_mul _)
    · intro e _ hne
      unfold gate
      have e0 : IntOp.cmpi .eq (teV V0 (ix1 ⟨r.val / 1024, by omega⟩)) (BitVec.ofNat 32 e.val) = 0#1 := by
        refine (BitVec.eq_zero_or_eq_one _).resolve_right fun h => hne (Fin.ext ?_)
        have h' := StableHlo.Predicate.cmpi_eq_iff.mp h
        have he := e.isLt
        show e.val = (teV V0 (ix1 ⟨r.val / 1024, by omega⟩)).toNat
        rw [h', BitVec.toNat_ofNat]; omega
      rw [e0]
      refine (congrArg₂ (· * ·) ((congrArg (· * _) uitofp_zero).trans (zero_mul _)) rfl).trans (zero_mul _)
    · exact fun h => absurd (Finset.mem_univ _) h
  · rw [if_neg hv]
    refine Finset.sum_eq_zero fun e _ => ?_
    unfold gate
    rw [(BitVec.eq_zero_or_eq_one _).resolve_right hv]
    refine (congrArg₂ (· * ·) ((congrArg (_ * ·) uitofp_zero).trans (mul_zero _)) rfl).trans (zero_mul _)

end Cert.ReferenceIdeal.Moe

end
-- ==== Proof.Merge.Spec.lean ====
/- The mathematics of the merge of the two branches on one row: the linear attention's output normed head by head and gated, the two
   projections under their gates, the output projection with the residual, and the norm that follows. -/
module

public import Idealize.ShloMosaic.Lib.Pointwise

@[expose] public section

set_option maxRecDepth 16384

noncomputable section

namespace Cert.Merge

open Idealize.ShloMosaic

abbrev SX : Shape := ⟨2, ![16640, 1024]⟩
abbrev SZ : Shape := ⟨2, ![16640, 5632]⟩
abbrev SB : Shape := ⟨2, ![16640, 512]⟩
abbrev SW : Shape := ⟨2, ![1024, 1024]⟩
abbrev SV : Shape := ⟨2, ![512, 1024]⟩
abbrev SG : Shape := ⟨1, ![256]⟩
abbrev SN : Shape := ⟨1, ![1024]⟩

/-- The norms' small constant. -/
def eps : EReal := Ideal.ofBits .f32 0x358637BD#32

/-- Column `k` of the head that column `j` lies in. -/
def headCol (j : Fin 1024) (k : Fin 256) : Fin 1024 := ⟨j.val / 256 * 256 + k.val, by have := j.isLt; have := k.isLt; omega⟩

/-- The place of column `j` in its head. -/
def inHead (j : Fin 1024) : Fin 256 := ⟨j.val % 256, by omega⟩

/-- One entry of a row of 256 normed: `v` scaled by the root of the mean of the squares, whose sum is `s`. -/
def norm256 (s v g : EReal) : EReal := v * Ideal.rsqrt (Ideal.div s (Ideal.ofBits .f32 0x43800000#32) + eps) * g

/-- The gated, normed entry `j` of the linear attention's row `o`. -/
def branchA (o z : Fin 1024 → EReal) (g : Fin 256 → EReal) (j : Fin 1024) : EReal :=
  norm256 (∑ k : Fin 256, o (headCol j k) * o (headCol j k)) (o j) (g (inHead j)) * (z j * Ideal.logistic (z j))

/-- Entry `k` of the merged row. -/
def merged (o z ga gb : Fin 1024 → EReal) (b : Fin 512 → EReal) (g : Fin 256 → EReal) (wa : SW.Idx → EReal) (wb : SV.Idx → EReal) (k : Fin 1024) : EReal :=
  Ideal.logistic (ga k) * (∑ j : Fin 1024, branchA o z g j * wa (ix2 j k)) + Ideal.logistic (gb k) * ∑ j : Fin 512, b j * wb (ix2 j k)

/-- Entry `d` of the row the merge leaves. -/
def row (x o z ga gb : Fin 1024 → EReal) (b : Fin 512 → EReal) (g : Fin 256 → EReal) (wa : SW.Idx → EReal) (wb : SV.Idx → EReal) (wo : SW.Idx → EReal) (d : Fin 1024) : EReal :=
  x d + ∑ k : Fin 1024, merged o z ga gb b g wa wb k * wo (ix2 k d)

/-- Entry `d` of a row of 1024 normed. -/
def norm1024 (x n : Fin 1024 → EReal) (d : Fin 1024) : EReal :=
  x d * Ideal.rsqrt (Ideal.div (∑ k : Fin 1024, x k * x k) (Ideal.ofBits .f32 0x44800000#32) + eps) * n d

/-- Column `d` of the `q`-th block of 1024 columns of the projected row. -/
def zcol (q : ℕ) (hq : q < 5) (d : Fin 1024) : Fin 5632 := ⟨q * 1024 + d.val, by have := d.isLt; omega⟩

/-- The rows the merge leaves. -/
def out (x : SX.Idx → EReal) (z : SZ.Idx → EReal) (o : SX.Idx → EReal) (b : SB.Idx → EReal) (g : SG.Idx → EReal) (wa : SW.Idx → EReal) (wb : SV.Idx → EReal)
    (wo : SW.Idx → EReal) : SX.Idx → EReal := fun i =>
  row (fun d => x (ix2 (i 0) d)) (fun d => o (ix2 (i 0) d)) (fun d => z (ix2 (i 0) (zcol 1 (by decide) d))) (fun d => z (ix2 (i 0) (zcol 2 (by decide) d)))
    (fun d => z (ix2 (i 0) (zcol 3 (by decide) d))) (fun j => b (ix2 (i 0) j)) (fun k => g (ix1 k)) wa wb wo (i 1)

/-- Those rows normed. -/
def outN (x : SX.Idx → EReal) (n : SN.Idx → EReal) : SX.Idx → EReal := fun i =>
  norm1024 (fun d => x (ix2 (i 0) d)) (fun d => n (ix1 d)) (i 1)

end Cert.Merge

end
-- ==== Proof.InprojIdeal.Spec.lean ====
/- The mathematics of the layer's input projections on one row: the row normed and projected, the two logarithms of a sigmoid, and the order
   in which the call lays its columns. -/
module

public import proofs.«01_k».proof.Proof.Merge.Spec

@[expose] public section

set_option maxRecDepth 16384

noncomputable section

namespace Cert.Inproj

open Idealize.ShloMosaic
open Cert.Merge (norm1024)

abbrev SX : Shape := ⟨2, ![16640, 1024]⟩
abbrev SN : Shape := ⟨1, ![1024]⟩
abbrev SW : Shape := ⟨2, ![1024, 6680]⟩
abbrev SA : Shape := ⟨2, ![16, 512]⟩
abbrev SB : Shape := ⟨1, ![512]⟩
abbrev SF : Shape := ⟨1, ![8]⟩
abbrev SZ : Shape := ⟨2, ![16640, 5632]⟩
abbrev SL : Shape := ⟨2, ![16640, 512]⟩
abbrev SK : Shape := ⟨4, ![2, 8, 64, 8320]⟩
abbrev SG : Shape := ⟨3, ![2, 8, 8320]⟩

/-! ## The logarithm of the sigmoid -/

/-- The logarithm of the sigmoid of `v`. -/
def logsig (v : EReal) : EReal := min v 0 - Ideal.log1p (Ideal.exp (0 - max v (-v)))

/-- The tail's logarithm is a real number. -/
theorem tail_real (v : EReal) : ∃ r : ℝ, Ideal.log1p (Ideal.exp (0 - max v (-v))) = (r : EReal) := by
  have one : ∃ r : ℝ, Ideal.log1p (Ideal.exp (⊥ : EReal)) = (r : EReal) := by
    refine ⟨0, ?_⟩
    show Ideal.log (1 + 0) = _
    rw [add_zero]
    show (if (1 : ℝ) ≤ 0 then (⊥ : EReal) else (Real.log 1 : EReal)) = _
    rw [if_neg (by norm_num), Real.log_one]
  rcases eq_or_ne v ⊥ with rfl | hb
  · simpa using one
  rcases eq_or_ne v ⊤ with rfl | ht
  · simpa using one
  lift v to ℝ using ⟨ht, hb⟩
  have e : (0 : EReal) - max (v : EReal) (-(v : EReal)) = ((0 - max v (-v) : ℝ) : EReal) := by
    rw [← EReal.coe_neg, ← EReal.coe_strictMono.monotone.map_max, ← EReal.coe_zero, ← EReal.coe_sub]
  rw [e]
  refine ⟨Real.log (1 + Real.exp (0 - max v (-v))), ?_⟩
  show Ideal.log (1 + ((Real.exp (0 - max v (-v)) : ℝ) : EReal)) = _
  rw [← EReal.coe_one, ← EReal.coe_add]
  have hp := Real.exp_pos (0 - max v (-v))
  show (if 1 + Real.exp (0 - max v (-v)) ≤ 0 then (⊥ : EReal) else (Real.log (1 + Real.exp (0 - max v (-v))) : EReal)) = _
  rw [if_neg (by linarith)]

/-- The other way of writing it: minus the softplus of minus `v`. -/
theorem logsig_softplus (v : EReal) : -(max (-v) 0 + Ideal.log1p (Ideal.exp (-(max (-v) (-(-v)))))) = logsig v := by
  unfold logsig
  have e : Ideal.log1p (Ideal.exp (-(max (-v) (-(-v))))) = Ideal.log1p (Ideal.exp (0 - max v (-v))) := by
    rw [neg_neg, max_comm (-v) v, zero_sub]
  obtain ⟨r, hr⟩ := tail_real v
  rw [e, hr, EReal.neg_add (.inr (EReal.coe_ne_top r)) (.inr (EReal.coe_ne_bot r)), sub_eq_add_neg, sub_eq_add_neg]
  congr 1
  rcases le_total v 0 with h | h
  · rw [min_eq_left h, max_eq_left (by rw [← neg_zero]; exact EReal.neg_le_neg_iff.2 h), neg_neg]
  · rw [min_eq_right h, max_eq_right (by rw [← neg_zero]; exact EReal.neg_le_neg_iff.2 h), neg_zero]

/-- One sixteenth, and sixteen. -/
theorem sixteenth : Ideal.ofBits .f32 0x3D800000#32 = (((1 : ℝ) / 16 : ℝ) : EReal) := by
  simp [Ideal.ofBits, Ideal.ieee, -EReal.coe_mul]; norm_num
theorem sixteen : Ideal.ofBits .f32 0x41800000#32 = ((16 : ℝ) : EReal) := by
  simp [Ideal.ofBits, Ideal.ieee, -EReal.coe_mul]; norm_num

theorem div_sixteen (v : EReal) : Ideal.div v (Ideal.ofBits .f32 0x41800000#32) = v * Ideal.ofBits .f32 0x3D800000#32 := by
  rw [sixteenth, sixteen]
  unfold Ideal.div
  rw [if_neg (by rw [← EReal.coe_zero]; exact fun h => by have := EReal.coe_eq_coe_iff.1 h; norm_num at this)]
  congr 1
  rw [← EReal.coe_inv]
  norm_num

/-! ## The projected rows -/

/-- Entry `j` of the projection of the normed row `x`. -/
def proj (x n : Fin 1024 → EReal) (w : SW.Idx → EReal) (j : Fin 6680) : EReal := ∑ k : Fin 1024, norm1024 x n k * w (ix2 k j)

/-- The column of the projection that column `j` of the wide output holds. -/
def src (j : Fin 5632) : Fin 6680 :=
  ⟨if j.val < 2048 then 1024 + j.val else if j.val < 4096 then 4632 + (j.val - 2048) else if j.val < 5120 then j.val - 4096 else 3088 + (j.val - 5120), by
    have := j.isLt
    split
    · omega
    split
    · omega
    split <;> omega⟩

/-- The rows the wide output holds. -/
def outZ (x : SX.Idx → EReal) (n : SN.Idx → EReal) (w : SW.Idx → EReal) : SZ.Idx → EReal := fun i =>
  proj (fun d => x (ix2 (i 0) d)) (fun d => n (ix1 d)) w (src (i 1))

/-- Entry `j` of a row's logarithm of the decay. -/
def decay (x n : Fin 1024 → EReal) (w : SW.Idx → EReal) (wa : SA.Idx → EReal) (ba : SB.Idx → EReal) (j : Fin 512) : EReal :=
  logsig ((∑ p : Fin 16, proj x n w ⟨3072 + p.val, by omega⟩ * wa (ix2 p j)) + ba (ix1 j)) * Ideal.ofBits .f32 0x3D800000#32

/-- The logarithms of the decay. -/
def outL (x : SX.Idx → EReal) (n : SN.Idx → EReal) (w : SW.Idx → EReal) (wa : SA.Idx → EReal) (ba : SB.Idx → EReal) : SL.Idx → EReal := fun i =>
  decay (fun d => x (ix2 (i 0) d)) (fun d => n (ix1 d)) w wa ba (i 1)

/-- Position `s` of batch entry `b` is this row. -/
def rowAt (b : Fin 2) (s : Fin 8320) : Fin 16640 := ⟨b.val * 8320 + s.val, by omega⟩

/-- The keys (`o = 3600`) and the values (`o = 4112`), head-major, positions last. -/
def outKV (o : ℕ) (ho : o ≤ 6168) (x : SX.Idx → EReal) (n : SN.Idx → EReal) (w : SW.Idx → EReal) : SK.Idx → EReal := fun i =>
  proj (fun d => x (ix2 (rowAt (i 0) (i 3)) d)) (fun d => n (ix1 d)) w
    ⟨o + ((i 1).val * 64 + (i 2).val), by have h1 : (i 1).val < 8 := (i 1).isLt; have h2 : (i 2).val < 64 := (i 2).isLt; omega⟩

/-- The logarithms of the forget gates, positions last. -/
def outF (x : SX.Idx → EReal) (n : SN.Idx → EReal) (w : SW.Idx → EReal) (bf : SF.Idx → EReal) : SG.Idx → EReal := fun i =>
  logsig (proj (fun d => x (ix2 (rowAt (i 0) (i 2)) d)) (fun d => n (ix1 d)) w ⟨4624 + (i 1).val, by have h1 : (i 1).val < 8 := (i 1).isLt; omega⟩
    + bf (ix1 (i 1)))

end Cert.Inproj

end
-- ==== Proof.InprojIdeal.Pay.lean ====
/- The projections' payloads at one row. -/
module

public import proofs.«01_k».proof.Proof.InprojIdeal.Spec
public import proofs.«01_k».proof.Proof.Gen.Kernel2Ideal.Skeleton
public import Idealize.ShloMosaic.Lib.Pipeline.ValueKit

@[expose] public section

set_option maxRecDepth 16384

noncomputable section

namespace Cert.Kernel2Ideal.Inproj

open Idealize.ShloMosaic Idealize.ShloMosaic.TcCoe Idealize.SL.Sem
open Cert.Kernel2Ideal Cert.Kernel2Ideal.Gen Cert.Inproj
open Cert.Merge (norm1024 eps)

/-- One row of the normed block. -/
abbrev nrow (x : FVec Ideal S640x1024 .f32) (n : FVec Ideal S1x1024 .f32) (r : Fin 640) (k : Fin 1024) : EReal :=
  norm1024 (fun d => x (ix2 r d)) (fun d => n (ix2 0 d)) k

theorem pay3_at (x : FVec Ideal S640x1024 .f32) (n : FVec Ideal S1x1024 .f32) (r : Fin 640) (d : Fin 1024) :
    k0_pay3 (F := Ideal) x n (ix2 r d) = nrow x n r d := by
  pointwise! [k0_pay3, nrow, norm1024, eps]

theorem pay4_at (x : FVec Ideal S640x1024 .f32) (n : FVec Ideal S1x1024 .f32) (r : Fin 640) (d : Fin 1024) :
    k0_pay4 (F := Ideal) x n (ix2 r d) = nrow x n r d := pay3_at x n r d

theorem pay2_at (x : FVec Ideal S640x1024 .f32) (n : FVec Ideal S1x1024 .f32) (w : FVec Ideal S1024x1408 .bf16) (r : Fin 640) (j : Fin 1408) :
    k0_pay2 (F := Ideal) (k0_pay5 (F := Ideal) x n) w (ix2 r j) = ∑ k : Fin 1024, nrow x n r k * w (ix2 k j) := by
  simp only [← pay4_at]
  unfold k0_pay5
  generalize k0_pay4 (F := Ideal) x n = h
  pointwise! [k0_pay2]

theorem pay7_at (x : FVec Ideal S640x1024 .f32) (n : FVec Ideal S1x1024 .f32) (ws : FVec Ideal S1024x128 .bf16) (wa : FVec Ideal S128x512 .bf16)
    (ba : FVec Ideal S1x512 .f32) (r : Fin 640) (j : Fin 512) :
    k0_pay7 (F := Ideal) x n ws wa ba (ix2 r j)
      = (∑ p : Fin 128, (∑ k : Fin 1024, nrow x n r k * ws (ix2 k p)) * wa (ix2 p j)) + ba (ix2 0 j) := by
  simp only [← pay3_at]
  unfold k0_pay7
  generalize k0_pay3 (F := Ideal) x n = h
  pointwise!

theorem pay8_at (a : FVec Ideal S640x512 .f32) (r : Fin 640) (j : Fin 512) :
    k0_pay8 (F := Ideal) a (ix2 r j) = logsig (a (ix2 r j)) * Ideal.ofBits .f32 0x3D800000#32 := by
  pointwise! [k0_pay8, logsig]

theorem pay9_at (h : FVec Ideal S640x1024 .bf16) (w : FVec Ideal S1024x1024 .bf16) (q : Fin 1024) (r : Fin 640) :
    k0_pay9 (F := Ideal) h w (ix2 q r) = ∑ k : Fin 1024, w (ix2 q k) * h (ix2 r k) := by
  pointwise! [k0_pay9]

theorem pay10_at (h : FVec Ideal S640x1024 .bf16) (w : FVec Ideal S1024x1024 .bf16) (a : Fin 8) (e : Fin 64) (r : Fin 640) :
    k0_pay10 (F := Ideal) h w (ix4 0 a e r) = ∑ k : Fin 1024, w (ix2 ⟨a.val * 64 + e.val, by omega⟩ k) * h (ix2 r k) := by
  simp only [← pay9_at]
  unfold k0_pay10
  generalize k0_pay9 (F := Ideal) h w = p
  pointwise!

theorem pay11_at (h : FVec Ideal S640x1024 .bf16) (w : FVec Ideal S1024x1024 .bf16) (a : Fin 8) (e : Fin 64) (r : Fin 640) :
    k0_pay11 (F := Ideal) h w (ix4 0 a e r) = ∑ k : Fin 1024, w (ix2 ⟨512 + (a.val * 64 + e.val), by omega⟩ k) * h (ix2 r k) := by
  simp only [← pay9_at]
  unfold k0_pay11
  generalize k0_pay9 (F := Ideal) h w = p
  pointwise!

theorem pay12_at (h : FVec Ideal S640x1024 .bf16) (w : FVec Ideal S128x1024 .bf16) (b : FVec Ideal S8x1 .f32) (a : Fin 8) (r : Fin 640) :
    k0_pay12 (F := Ideal) h w b (ix2 a r) = (∑ k : Fin 1024, w (ix2 ⟨a.val, by omega⟩ k) * h (ix2 r k)) + b (ix2 a 0) := by
  pointwise! [k0_pay12]

theorem pay1_at (h : FVec Ideal S640x1024 .bf16) (w : FVec Ideal S128x1024 .bf16) (b : FVec Ideal S8x1 .f32) (a : Fin 8) (r : Fin 640) :
    k0_pay1 (F := Ideal) (k0_pay13 h w b) (k0_pay14 h w b) (ix3 0 a r)
      = logsig ((∑ k : Fin 1024, w (ix2 ⟨a.val, by omega⟩ k) * h (ix2 r k)) + b (ix2 a 0)) := by
  rw [← pay12_at]
  unfold k0_pay13 k0_pay14
  generalize k0_pay12 (F := Ideal) h w b = p
  pointwise! [k0_pay1, logsig]

end Cert.Kernel2Ideal.Inproj

end
-- ==== Proof.InprojIdeal.Host.lean ====
/- The arrays the host lays out before the projections' call: the wide weight, the small weight and its transpose, the padded second weight
   of the decay, and the transposed weight of the keys and values. -/
module

public import proofs.«01_k».proof.Proof.InprojIdeal.Pay
public import proofs.«01_k».proof.Proof.Gen.Kernel2Ideal.Frame
public import Idealize.ShloMosaic.Lib.Routing.OpsSet

@[expose] public section

set_option maxRecDepth 16384

noncomputable section

namespace Cert.Kernel2Ideal.Inproj

open Idealize.ShloMosaic Idealize.ShloMosaic.TcCoe Idealize.SL.Sem
open Cert.Kernel2Ideal Cert.Kernel2Ideal.Gen Cert.Inproj

/-! ## The layouts -/

/-- The wide weight. -/
def wide (w : FVec Ideal S1024x6680 .f32) : FVec Ideal S1024x5632 .bf16 :=
  truncf .bf16 (extractStridedSlice S1024x5632 ![0, 0]
    (concatenate S1024x6656 1 [⟨S1024x1024, (extractStridedSlice S1024x1024 ![0, 1024] w slices_S1024x6680_S1024x1024_0_1024 : FVec Ideal S1024x1024 .f32)⟩,
      ⟨S1024x1024, (extractStridedSlice S1024x1024 ![0, 2048] w slices_S1024x6680_S1024x1024_0_2048 : FVec Ideal S1024x1024 .f32)⟩,
      ⟨S1024x1024, (extractStridedSlice S1024x1024 ![0, 4632] w slices_S1024x6680_S1024x1024_0_4632 : FVec Ideal S1024x1024 .f32)⟩,
      ⟨S1024x1024, (extractStridedSlice S1024x1024 ![0, 5656] w slices_S1024x6680_S1024x1024_0_5656 : FVec Ideal S1024x1024 .f32)⟩,
      ⟨S1024x512, (extractStridedSlice S1024x512 ![0, 0] w slices_S1024x6680_S1024x512_0_0 : FVec Ideal S1024x512 .f32)⟩,
      ⟨S1024x512, (extractStridedSlice S1024x512 ![0, 512] w slices_S1024x6680_S1024x512_0_512 : FVec Ideal S1024x512 .f32)⟩,
      ⟨S1024x512, (extractStridedSlice S1024x512 ![0, 3088] w slices_S1024x6680_S1024x512_0_3088 : FVec Ideal S1024x512 .f32)⟩,
      ⟨S1024x512, (extractStridedSlice S1024x512 ![0, 3600] w slices_S1024x6680_S1024x512_0_3600 : FVec Ideal S1024x512 .f32)⟩,
      ⟨S1024x512, (extractStridedSlice S1024x512 ![0, 4112] w slices_S1024x6680_S1024x512_0_4112 : FVec Ideal S1024x512 .f32)⟩]
      concatenates_S1024x1024_S1024x1024_S1024x1024_S1024x1024_S1024x512_S1024x512_S1024x512_S1024x512_S1024x512_S1024x6656_d1) slices_S1024x6656_S1024x5632_0_0) bitsLt_bf16_f32

/-- The small weight: the forget gates' columns, the decay's, and zeros. -/
def small (w : FVec Ideal S1024x6680 .f32) : FVec Ideal S1024x128 .bf16 :=
  truncf .bf16 (concatenate S1024x128 1 [⟨S1024x8, (extractStridedSlice S1024x8 ![0, 4624] w slices_S1024x6680_S1024x8_0_4624 : FVec Ideal S1024x8 .f32)⟩,
    ⟨S1024x16, (extractStridedSlice S1024x16 ![0, 3072] w slices_S1024x6680_S1024x16_0_3072 : FVec Ideal S1024x16 .f32)⟩,
    ⟨S1024x104, (broadcastInDim S1024x104 ![] bcast_S_S1024x104 (constant S_ .f32 0x00000000#32 : FVec Ideal S_ .f32) : FVec Ideal S1024x104 .f32)⟩]
    concatenates_S1024x8_S1024x16_S1024x104_S1024x128_d1) bitsLt_bf16_f32

/-- The keys' and values' weight, transposed. -/
def pairT (w : FVec Ideal S1024x6680 .f32) : FVec Ideal S1024x1024 .bf16 :=
  truncf .bf16 (transpose S1024x1024 [1, 0] (concatenate S1024x1024 1
    [⟨S1024x512, (extractStridedSlice S1024x512 ![0, 3600] w slices_S1024x6680_S1024x512_0_3600 : FVec Ideal S1024x512 .f32)⟩,
      ⟨S1024x512, (extractStridedSlice S1024x512 ![0, 4112] w slices_S1024x6680_S1024x512_0_4112 : FVec Ideal S1024x512 .f32)⟩]
    concatenates_S1024x512_S1024x512_S1024x1024_d1) transposes_S1024x1024_S1024x1024_1_0) bitsLt_bf16_f32

/-- The decay's second weight, set into rows 8 to 23 of zeros. -/
def padded (a : FVec Ideal S16x512 .f32) : FVec Ideal S128x512 .f32 :=
  Host.scatter scatter_S128x512_S1_S16x512_01_n_0_0 (fun _ b => b)
    (broadcastInDim S128x512 ![] bcast_S_S128x512 (constant S_ .f32 0x00000000#32 : FVec Ideal S_ .f32) : FVec Ideal S128x512 .f32)
    (broadcastInDim S1 ![] bcast_S_S1 (constantI S_ 32 8#32)) a

/-- An entry of the projection's weight, its column named in another way. -/
theorem col_congr (w : FVec Ideal S1024x6680 .f32) (k : Fin 1024) (p q : Fin 6680) (h : p.val = q.val) : w (ix2 k p) = w (ix2 k q) := by rw [Fin.ext h]

theorem src_val (j : Fin 5632) : (src j).val
    = if j.val < 2048 then 1024 + j.val else if j.val < 4096 then 4632 + (j.val - 2048) else if j.val < 5120 then j.val - 4096 else 3088 + (j.val - 5120) := rfl

set_option maxRecDepth 200000 in
theorem wide_at (w : FVec Ideal S1024x6680 .f32) (k : Fin 1024) (j : Fin 5632) : wide w (ix2 k j) = w (ix2 k (src j)) := by
  pointwise! [wide]
  have hj := j.isLt
  by_cases h0 : j.val < 1024
  · refine (dif_pos h0).trans (col_congr w k _ _ (by simp only [src_val]; split_ifs <;> omega))
  refine (dif_neg h0).trans ?_
  by_cases h1 : j.val - 1024 < 1024
  · refine (dif_pos h1).trans (col_congr w k _ _ (by simp only [src_val]; split_ifs <;> omega))
  refine (dif_neg h1).trans ?_
  by_cases h2 : j.val - 1024 - 1024 < 1024
  · refine (dif_pos h2).trans (col_congr w k _ _ (by simp only [src_val]; split_ifs <;> omega))
  refine (dif_neg h2).trans ?_
  by_cases h3 : j.val - 1024 - 1024 - 1024 < 1024
  · refine (dif_pos h3).trans (col_congr w k _ _ (by simp only [src_val]; split_ifs <;> omega))
  refine (dif_neg h3).trans ?_
  by_cases h4 : j.val - 1024 - 1024 - 1024 - 1024 < 512
  · refine (dif_pos h4).trans (col_congr w k _ _ (by simp only [src_val]; split_ifs <;> omega))
  refine (dif_neg h4).trans ?_
  by_cases h5 : j.val - 1024 - 1024 - 1024 - 1024 - 512 < 512
  · refine (dif_pos h5).trans (col_congr w k _ _ (by simp only [src_val]; split_ifs <;> omega))
  refine (dif_neg h5).trans ?_
  by_cases h6 : j.val - 1024 - 1024 - 1024 - 1024 - 512 - 512 < 512
  · refine (dif_pos h6).trans (col_congr w k _ _ (by simp only [src_val]; split_ifs <;> omega))
  refine (dif_neg h6).trans ?_
  omega

theorem small_at (w : FVec Ideal S1024x6680 .f32) (k : Fin 1024) (p : Fin 128) : small w (ix2 k p)
    = if h : p.val < 8 then w (ix2 k ⟨4624 + p.val, by omega⟩) else if h : p.val - 8 < 16 then w (ix2 k ⟨3072 + (p.val - 8), by omega⟩) else 0 := by
  pointwise! [small]

theorem pairT_at (w : FVec Ideal S1024x6680 .f32) (q : Fin 1024) (k : Fin 1024) : pairT w (ix2 q k) = w (ix2 k ⟨3600 + q.val, by omega⟩) := by
  pointwise! [pairT]
  by_cases h : q.val < 512
  · exact dif_pos h
  · exact (dif_neg h).trans (col_congr w k _ _ (by show 4112 + (q.val - 512) = 3600 + q.val; omega))

/-! ## The scatter -/

section
variable (idx : IVec S1 32) (hi : ∀ i, idx i = 8#32) (p : Fin 16) (j : Fin 512)
include hi

theorem start0 : ScatterDims.start scatter_S128x512_S1_S16x512_01_n_0_0 (ix2 p j) idx 0 = 8 := by
  unfold ScatterDims.start
  refine (dif_pos (by decide +kernel : (0 : Fin 2) ∈ ([0] : List (Fin 2)))).trans ?_
  rw [hi]
  rfl

omit hi in
theorem start1 : ScatterDims.start scatter_S128x512_S1_S16x512_01_n_0_0 (ix2 p j) idx 1 = 0 := by
  unfold ScatterDims.start
  exact dif_neg (by decide +kernel : ¬(1 : Fin 2) ∈ ([0] : List (Fin 2)))

omit hi in
theorem window0 : ScatterDims.window scatter_S128x512_S1_S16x512_01_n_0_0 (ix2 p j) 0 = p.val := rfl

omit hi in
theorem window1 : ScatterDims.window scatter_S128x512_S1_S16x512_01_n_0_0 (ix2 p j) 1 = j.val := rfl

theorem lands (q : Fin 128) (i : Fin 512) :
    ScatterDims.resultIdx? scatter_S128x512_S1_S16x512_01_n_0_0 (ix2 p j) idx = some (ix2 q i) ↔ 8 + p.val = q.val ∧ j.val = i.val := by
  refine (Routing.resultIdx?_ix2 scatter_S128x512_S1_S16x512_01_n_0_0 (ix2 p j) idx q i).trans ?_
  rw [start0 idx hi, start1 idx, window0, window1]
  omega

end

section
variable (z : FVec Ideal S128x512 .f32) (idx : IVec S1 32) (hi : ∀ i, idx i = 8#32) (a : FVec Ideal S16x512 .f32) (j : Fin 512)
include hi

theorem set_hit (p : Fin 16) (q : Fin 128) (hq : q.val = 8 + p.val) :
    Host.scatter scatter_S128x512_S1_S16x512_01_n_0_0 (fun _ b => b) z idx a (ix2 q j) = a (ix2 p j) := by
  refine Routing.scatter_set_hit scatter_S128x512_S1_S16x512_01_n_0_0 z idx a (ix2 q j) (a (ix2 p j)) (fun k hk => ?_) (ix2 p j) ((lands idx hi p j q j).2 ⟨hq.symm, rfl⟩)
  obtain ⟨p', j', rfl⟩ : ∃ (p' : Fin 16) (j' : Fin 512), k = ix2 p' j' := ⟨k 0, k 1, eq_ix2 k⟩
  have h := (lands idx hi p' j' q j).1 hk
  obtain rfl : p' = p := Fin.ext (by omega)
  obtain rfl : j' = j := Fin.ext h.2
  rfl

theorem set_miss (q : Fin 128) (hq : q.val < 8 ∨ 24 ≤ q.val) :
    Host.scatter scatter_S128x512_S1_S16x512_01_n_0_0 (fun _ b => b) z idx a (ix2 q j) = z (ix2 q j) := by
  refine Routing.scatter_set_miss scatter_S128x512_S1_S16x512_01_n_0_0 z idx a (ix2 q j) (fun k hk => ?_)
  obtain ⟨p', j', rfl⟩ : ∃ (p' : Fin 16) (j' : Fin 512), k = ix2 p' j' := ⟨k 0, k 1, eq_ix2 k⟩
  have h := (lands idx hi p' j' q j).1 hk
  omega

end

/-- The decay's second weight in its rows of the padded array, and zero in the others. -/
theorem padded_hit (a : FVec Ideal S16x512 .f32) (p : Fin 16) (q : Fin 128) (hq : q.val = 8 + p.val) (j : Fin 512) : padded a (ix2 q j) = a (ix2 p j) := by
  unfold padded
  exact set_hit _ _ (fun _ => rfl) a j p q hq

theorem padded_miss (a : FVec Ideal S16x512 .f32) (q : Fin 128) (j : Fin 512) (hq : q.val < 8 ∨ 24 ≤ q.val) : padded a (ix2 q j) = 0 := by
  unfold padded
  refine (set_miss _ _ (fun _ => rfl) a j q hq).trans ?_
  pointwise

/-- A sum of 128 products whose second factor is the padded array's is the sum over its rows. -/
theorem padded_sum (a : FVec Ideal S16x512 .f32) (f : Fin 128 → EReal) (j : Fin 512) :
    ∑ q : Fin 128, f q * padded a (ix2 q j) = ∑ p : Fin 16, f ⟨8 + p.val, by omega⟩ * a (ix2 p j) := by
  refine (Fin.sum_univ_add (a := 8) (b := 120) fun q : Fin 128 => f q * padded a (ix2 q j)).trans ?_
  rw [Finset.sum_eq_zero fun i _ => ?_, zero_add]
  · refine (Fin.sum_univ_add (a := 16) (b := 104) fun q : Fin 120 => f (Fin.natAdd 8 q) * padded a (ix2 (Fin.natAdd 8 q) j)).trans ?_
    rw [Finset.sum_eq_zero (f := fun i : Fin 104 => f (Fin.natAdd 8 (Fin.natAdd 16 i)) * padded a (ix2 (Fin.natAdd 8 (Fin.natAdd 16 i)) j)) fun i _ => ?_, add_zero]
    · refine Finset.sum_congr rfl fun p _ => ?_
      rw [padded_hit a p (Fin.natAdd 8 (Fin.castAdd 104 p)) rfl j]
      rfl
    · show f _ * padded a (ix2 (Fin.natAdd 8 (Fin.natAdd 16 i)) j) = 0
      rw [padded_miss a _ j (.inr (by show 24 ≤ 8 + (16 + i.val); omega)), mul_zero]
  · show f _ * padded a (ix2 (Fin.castAdd 120 i) j) = 0
    rw [padded_miss a _ j (.inl (by show i.val < 8; exact i.isLt)), mul_zero]

end Cert.Kernel2Ideal.Inproj

end
-- ==== Proof.InprojIdeal.Cases.lean ====
/- The body of the in-projection at one grid point, in its two cases: the first column block of a row block, which normalises the
   rows and stores every output, and a later one, which multiplies the kept rows by its own columns of the weight. -/
module

public import proofs.«01_k».proof.Proof.Gen.Kernel2Ideal.Frame
public import proofs.«01_k».proof.Proof.Gen.Kernel2Ideal.Points
public import proofs.«01_k».proof.Proof.Gen.Kernel2Ideal.Skeleton
public import Idealize.ShloMosaic.Lib.Pipeline.FrameBody
public import Idealize.ShloMosaic.Lib.Pipeline.TableIdle
public import Idealize.ShloMosaic.Lib.Pipeline.Kit
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.Kernel2Ideal.Inproj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

/-- The first of the two planes of the kept rows. -/
def plane0 (s : Vec F S2x640x1024 .bf16) : Vec F S1x640x1024 .bf16 :=
  fun y => s ((Rect.unit (s := S2x640x1024) ![0, 0, 0] S1x640x1024.size inb_S2x640x1024_S1x640x1024_0_0_0).toLoadRect.idx y)

/-- The second plane's store leaves the first plane as it was stored before. -/
theorem plane0_writes {sig' : RefSig} {κ : Kind} {sp : Space} (v : View sig' κ sp S2x640x1024 .bf16) (f : v.ty.Contents (Elt F))
    (a b : Vec F S1x640x1024 .bf16) :
    plane0 (v.read (Elt F) (v.writes (Elt F) f [⟨Rect.unit (s := S2x640x1024) ![1, 0, 0] S1x640x1024.size inb_S2x640x1024_S1x640x1024_1_0_0, b⟩, ⟨Rect.unit (s := S2x640x1024) ![0, 0, 0] S1x640x1024.size inb_S2x640x1024_S1x640x1024_0_0_0, a⟩])) = a := by
  funext y
  refine (View.read_writes_cons_unit_of_not_mem v f _ b _ _ rfl 0 ?_).trans (View.read_writes_cons_unit_of_mem v f _ a [] _ y rfl fun x => ?_)
  · left
    have h : (y 0).val < 1 := (y 0).isLt
    show 0 + 1 * (y 0).val < 1
    omega
  · show _ + 1 * (y x).val = _
    rw [Nat.one_mul]; rfl

/-- A load of the first plane after both stores reads the first plane's store. -/
theorem readCov_plane0 {sig' : RefSig} {κ : Kind} {sp : Space} (v : View sig' κ sp S2x640x1024 .bf16) (a b : Vec F S1x640x1024 .bf16) :
    v.readCov [⟨Rect.unit (s := S2x640x1024) ![1, 0, 0] S1x640x1024.size inb_S2x640x1024_S1x640x1024_1_0_0, b⟩, ⟨Rect.unit (s := S2x640x1024) ![0, 0, 0] S1x640x1024.size inb_S2x640x1024_S1x640x1024_0_0_0, a⟩]
      (Rect.unit (s := S2x640x1024) ![0, 0, 0] S1x640x1024.size inb_S2x640x1024_S1x640x1024_0_0_0).toLoadRect = a :=
  plane0_writes v v.junk a b

theorem congr2 {α β γ : Type} (f : α → β → γ) {a a' : α} {b b' : β} (ha : a = a') (hb : b = b') : f a b = f a' b' := by
  subst ha; subst hb; rfl
theorem congr3 {α β γ δ : Type} (f : α → β → γ → δ) {a a' : α} {b b' : β} {c c' : γ} (ha : a = a') (hb : b = b') (hc : c = c') : f a b c = f a' b' c' := by
  subst ha; subst hb; subst hc; rfl
theorem congr5 {α β γ δ ε ζ : Type} (f : α → β → γ → δ → ε → ζ) {a a' : α} {b b' : β} {c c' : γ} {d d' : δ} {e e' : ε}
    (ha : a = a') (hb : b = b') (hc : c = c') (hd : d = d') (he : e = e') : f a b c d e = f a' b' c' d' e' := by
  subst ha; subst hb; subst hc; subst hd; subst he; rfl

set_option maxHeartbeats 8000000 in
/-- The first column block of a row block. -/
theorem run_first (c : Dev nD) (i : grid0.Coords) (arg2 : Memref sig .tc .vmem S640x1024 .f32) (harg2 : arg2.IsWhole) (arg3 : Memref sig .tc .vmem S1x1024 .f32) (harg3 : arg3.IsWhole) (arg4 : Memref sig .tc .vmem S1024x1408 .bf16) (harg4 : arg4.IsWhole) (arg5 : Memref sig .tc .vmem S1024x128 .bf16) (harg5 : arg5.IsWhole) (arg6 : Memref sig .tc .vmem S128x512 .bf16) (harg6 : arg6.IsWhole) (arg7 : Memref sig .tc .vmem S1x512 .f32) (harg7 : arg7.IsWhole) (arg8 : Memref sig .tc .vmem S1x128 .f32) (harg8 : arg8.IsWhole) (arg9 : Memref sig .tc .vmem S1024x1024 .bf16) (harg9 : arg9.IsWhole) (arg10 : Memref sig .tc .vmem S128x1024 .bf16) (harg10 : arg10.IsWhole) (arg11 : Memref sig .tc .vmem S8x1 .f32) (harg11 : arg11.IsWhole) (arg12 : Memref sig .tc .vmem S640x1408 .f32) (harg12 : arg12.IsWhole) (arg13 : Memref sig .tc .vmem S640x512 .f32) (harg13 : arg13.IsWhole) (arg14 : Memref sig .tc .vmem S1x8x64x640 .f32) (harg14 : arg14.IsWhole) (arg15 : Memref sig .tc .vmem S1x8x64x640 .f32) (harg15 : arg15.IsWhole) (arg16 : Memref sig .tc .vmem S1x8x640 .f32) (harg16 : arg16.IsWhole) (arg17 : Memref sig .tc .vmem S2x640x1024 .bf16) (harg17 : arg17.IsWhole)
    (x0 : Vec F S640x1024 .f32) (x1 : Vec F S1x1024 .f32) (x2 : Vec F S1024x1408 .bf16) (x3 : Vec F S1024x128 .bf16) (x4 : Vec F S128x512 .bf16) (x5 : Vec F S1x512 .f32) (x6 : Vec F S1x128 .f32) (x7 : Vec F S1024x1024 .bf16) (x8 : Vec F S128x1024 .bf16) (x9 : Vec F S8x1 .f32)
    (h0 : k0_cond1 i = 1#1) (E : Set ℕ) (K : PUnit → sProp 𝕄) :
    iprop(owns (c : Thread nD τ) arg2 fullShare (x0) ∗ owns (c : Thread nD τ) arg3 fullShare (x1) ∗ owns (c : Thread nD τ) arg4 fullShare (x2) ∗ owns (c : Thread nD τ) arg5 fullShare (x3) ∗ owns (c : Thread nD τ) arg6 fullShare (x4) ∗ owns (c : Thread nD τ) arg7 fullShare (x5) ∗ owns (c : Thread nD τ) arg8 fullShare (x6) ∗ owns (c : Thread nD τ) arg9 fullShare (x7) ∗ owns (c : Thread nD τ) arg10 fullShare (x8) ∗ owns (c : Thread nD τ) arg11 fullShare (x9) ∗ (∃ d, owns (c : Thread nD τ) arg12 fullShare (d)) ∗ (∃ d, owns (c : Thread nD τ) arg13 fullShare (d)) ∗ (∃ d, owns (c : Thread nD τ) arg14 fullShare (d)) ∗ (∃ d, owns (c : Thread nD τ) arg15 fullShare (d)) ∗ (∃ d, owns (c : Thread nD τ) arg16 fullShare (d)) ∗ (∃ d, owns (c : Thread nD τ) arg17 fullShare (d)) ∗ (iprop(owns (c : Thread nD τ) arg2 fullShare (x0) ∗ owns (c : Thread nD τ) arg3 fullShare (x1) ∗ owns (c : Thread nD τ) arg4 fullShare (x2) ∗ owns (c : Thread nD τ) arg5 fullShare (x3) ∗ owns (c : Thread nD τ) arg6 fullShare (x4) ∗ owns (c : Thread nD τ) arg7 fullShare (x5) ∗ owns (c : Thread nD τ) arg8 fullShare (x6) ∗ owns (c : Thread nD τ) arg9 fullShare (x7) ∗ owns (c : Thread nD τ) arg10 fullShare (x8) ∗ owns (c : Thread nD τ) arg11 fullShare (x9) ∗ owns (c : Thread nD τ) arg12 fullShare (k0_pay2 (k0_pay5 x0 x1) x2) ∗ owns (c : Thread nD τ) arg13 fullShare (k0_pay8 (k0_pay7 x0 x1 x3 x4 x5)) ∗ owns (c : Thread nD τ) arg14 fullShare (k0_pay10 (k0_pay4 x0 x1) x7) ∗ owns (c : Thread nD τ) arg15 fullShare (k0_pay11 (k0_pay4 x0 x1) x7) ∗ owns (c : Thread nD τ) arg16 fullShare (k0_pay1 (k0_pay13 (k0_pay4 x0 x1) x8 x9) (k0_pay14 (k0_pay4 x0 x1) x8 x9)) ∗ (∃ s : Vec F S2x640x1024 .bf16, ⌜plane0 s = k0_pay5 x0 x1⌝ ∗ owns (c : Thread nD τ) arg17 fullShare (s))) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  rw [cc0_inproj_eq_skeleton]; unfold cc0_inproj_skel
  simp only [k0_part1_eq_skeleton, k0_part2_eq_skeleton]; unfold k0_part1_skel k0_part2_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11
  sl_exec (disch := first | sl_exact h0)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; swap; · iexact H12
    ipureintro
    exact (View.read_writes_full _ _ _ _ _).trans (congr2 k0_pay2 (((readCov_plane0 _ _ _)).trans (congr2 k0_pay5 ((View.readAt_full _ _ _).trans hf2) ((View.readAt_full _ _ _).trans hf3))) ((View.readAt_full _ _ _).trans hf4))
  isplitl [H13]
  · iexists _; isplitr; swap; · iexact H13
    ipureintro
    exact (View.read_writes_full _ _ _ _ _).trans (congrArg k0_pay8 (congr5 k0_pay7 ((View.readAt_full _ _ _).trans hf2) ((View.readAt_full _ _ _).trans hf3) ((View.readAt_full _ _ _).trans hf5) ((View.readAt_full _ _ _).trans hf6) ((View.readAt_full _ _ _).trans hf7)))
  isplitl [H14]
  · iexists _; isplitr; swap; · iexact H14
    ipureintro
    exact (View.read_writes_full _ _ _ _ _).trans (congr2 k0_pay10 (congr2 k0_pay4 ((View.readAt_full _ _ _).trans hf2) ((View.readAt_full _ _ _).trans hf3)) ((View.readAt_full _ _ _).trans hf9))
  isplitl [H15]
  · iexists _; isplitr; swap; · iexact H15
    ipureintro
    exact (View.read_writes_full _ _ _ _ _).trans (congr2 k0_pay11 (congr2 k0_pay4 ((View.readAt_full _ _ _).trans hf2) ((View.readAt_full _ _ _).trans hf3)) ((View.readAt_full _ _ _).trans hf9))
  isplitl [H16]
  · iexists _; isplitr; swap; · iexact H16
    ipureintro
    exact (View.read_writes_full _ _ _ _ _).trans (congr2 k0_pay1 (congr3 k0_pay13 (congr2 k0_pay4 ((View.readAt_full _ _ _).trans hf2) ((View.readAt_full _ _ _).trans hf3)) ((View.readAt_full _ _ _).trans hf10) ((View.readAt_full _ _ _).trans hf11)) (congr3 k0_pay14 (congr2 k0_pay4 ((View.readAt_full _ _ _).trans hf2) ((View.readAt_full _ _ _).trans hf3)) ((View.readAt_full _ _ _).trans hf10) ((View.readAt_full _ _ _).trans hf11)))
  iexists _; isplitr; swap
  · iexists _; isplitr; swap; · iexact H17
    ipureintro; rfl
  ipureintro
  exact (plane0_writes _ _ _ _).trans (congr2 k0_pay5 ((View.readAt_full _ _ _).trans hf2) ((View.readAt_full _ _ _).trans hf3))

set_option maxHeartbeats 2000000 in
/-- A later column block of a row block: the kept rows times its own columns, everything else as it was. -/
theorem run_later (c : Dev nD) (i : grid0.Coords) (arg2 : Memref sig .tc .vmem S640x1024 .f32) (harg2 : arg2.IsWhole) (arg3 : Memref sig .tc .vmem S1x1024 .f32) (harg3 : arg3.IsWhole) (arg4 : Memref sig .tc .vmem S1024x1408 .bf16) (harg4 : arg4.IsWhole) (arg5 : Memref sig .tc .vmem S1024x128 .bf16) (harg5 : arg5.IsWhole) (arg6 : Memref sig .tc .vmem S128x512 .bf16) (harg6 : arg6.IsWhole) (arg7 : Memref sig .tc .vmem S1x512 .f32) (harg7 : arg7.IsWhole) (arg8 : Memref sig .tc .vmem S1x128 .f32) (harg8 : arg8.IsWhole) (arg9 : Memref sig .tc .vmem S1024x1024 .bf16) (harg9 : arg9.IsWhole) (arg10 : Memref sig .tc .vmem S128x1024 .bf16) (harg10 : arg10.IsWhole) (arg11 : Memref sig .tc .vmem S8x1 .f32) (harg11 : arg11.IsWhole) (arg12 : Memref sig .tc .vmem S640x1408 .f32) (harg12 : arg12.IsWhole) (arg13 : Memref sig .tc .vmem S640x512 .f32) (harg13 : arg13.IsWhole) (arg14 : Memref sig .tc .vmem S1x8x64x640 .f32) (harg14 : arg14.IsWhole) (arg15 : Memref sig .tc .vmem S1x8x64x640 .f32) (harg15 : arg15.IsWhole) (arg16 : Memref sig .tc .vmem S1x8x640 .f32) (harg16 : arg16.IsWhole) (arg17 : Memref sig .tc .vmem S2x640x1024 .bf16) (harg17 : arg17.IsWhole)
    (x2 : Vec F S1024x1408 .bf16) (k : Vec F S2x640x1024 .bf16)
    (h0 : ¬k0_cond1 i = 1#1) (E : Set ℕ) (K : PUnit → sProp 𝕄) :
    iprop(owns (c : Thread nD τ) arg4 fullShare (x2) ∗ (∃ d, owns (c : Thread nD τ) arg12 fullShare (d)) ∗ owns (c : Thread nD τ) arg17 fullShare (k) ∗ (iprop(owns (c : Thread nD τ) arg4 fullShare (x2) ∗ owns (c : Thread nD τ) arg12 fullShare (k0_pay2 (plane0 k) x2) ∗ owns (c : Thread nD τ) arg17 fullShare (k)) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  rw [cc0_inproj_eq_skeleton]; unfold cc0_inproj_skel
  unfold owns
  iintro ⟨⟨%f4, %hf4, H4⟩, ⟨%d12, %f12, -, H12⟩, ⟨%f17, %hf17, H17⟩, Hk⟩
  obtain rfl := harg4.eq_unread hf4; obtain rfl := harg17.eq_unread hf17
  sl_exec (disch := first | sl_exact h0)
  sl_step
  iapply Hk
  isplitl [H4]
  · iexists _; isplitr; · ipureintro; exact harg4.read_unread _
    iexact H4
  isplitl [H12]
  · iexists _; isplitr; swap; · iexact H12
    ipureintro
    exact (View.read_writes_full _ _ _ _ _).trans (congr2 k0_pay2 (congrArg plane0 hf17) ((View.readAt_full _ _ _).trans hf4))
  iexists _; isplitr; swap; · iexact H17
  ipureintro
  exact harg17.read_unread _

end Cert.Kernel2Ideal.Inproj

end
-- ==== Proof.InprojIdeal.Frame.lean ====
/- The proof data of the in-projection, its body at every point, and what a run leaves: the arguments as they were, every output
   at what the write-backs make of it, no counter raised. -/
module

public import proofs.«01_k».proof.Proof.InprojIdeal.Cases
public import Idealize.ShloMosaic.Lib.Claim

@[expose] public section

set_option maxRecDepth 16384

noncomputable section

namespace Cert.Kernel2Ideal.Inproj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

theorem lt_N (t : Fin cfg0.N) : t.val < 104 := lt_of_lt_of_eq t.isLt (show cfg0.N = 104 from N_0)

/-- The body's condition holds at the first column block of every row block. -/
theorem first_iff : ∀ t : Fin grid0.N, k0_cond1 (grid0.coords t) = 1#1 ↔ t.val % 4 = 0 := by decide +kernel

/-- The first point of `t`'s row block. -/
def head (t : Fin cfg0.N) : Fin cfg0.N := ⟨t.val - t.val % 4, lt_of_le_of_lt (Nat.sub_le _ _) t.isLt⟩

theorem head_first (t : Fin cfg0.N) (h : t.val % 4 = 0) : head t = t := Fin.ext (by show t.val - t.val % 4 = t.val; omega)

theorem head_later (t : Fin cfg0.N) (h : ¬t.val % 4 = 0) (hp : t.val - 1 < cfg0.N) : head ⟨t.val - 1, hp⟩ = head t :=
  Fin.ext (by show (t.val - 1) - (t.val - 1) % 4 = t.val - t.val % 4; omega)

/-! ## What the buffers hold after each point -/

/-- The first plane of the kept rows of `t`'s row block. -/
def keep (c : Dev nD) (t : Fin cfg0.N) : Vec F S1x640x1024 .bf16 := k0_pay5 (iblk m c 0 (head t)) (iblk m c 1 (head t))

def zA (c : Dev nD) (t : Fin cfg0.N) : Vec F S640x1408 .f32 := k0_pay2 (keep m c t) (iblk m c 2 t)

def laA (c : Dev nD) (t : Fin cfg0.N) : Vec F S640x512 .f32 :=
  k0_pay8 (k0_pay7 (iblk m c 0 (head t)) (iblk m c 1 (head t)) (iblk m c 3 (head t)) (iblk m c 4 (head t)) (iblk m c 5 (head t)))

/-- The normalised rows of `t`'s row block. -/
def rows (c : Dev nD) (t : Fin cfg0.N) : FVec F S640x1024 .bf16 := k0_pay4 (iblk m c 0 (head t)) (iblk m c 1 (head t))

def kA (c : Dev nD) (t : Fin cfg0.N) : Vec F S1x8x64x640 .f32 := k0_pay10 (rows m c t) (iblk m c 7 (head t))
def vA (c : Dev nD) (t : Fin cfg0.N) : Vec F S1x8x64x640 .f32 := k0_pay11 (rows m c t) (iblk m c 7 (head t))
def fA (c : Dev nD) (t : Fin cfg0.N) : Vec F S1x8x640 .f32 :=
  k0_pay1 (k0_pay13 (rows m c t) (iblk m c 8 (head t)) (iblk m c 9 (head t))) (k0_pay14 (rows m c t) (iblk m c 8 (head t)) (iblk m c 9 (head t)))

/-! ## The proof data -/

/-- The kept rows' buffer. -/
abbrev scM : Memref sig .tc .vmem S2x640x1024 .bf16 := Memref.whole cc0_scratch0

theorem rest_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

/-- The invariant before position `n`: at first anything; afterwards the first plane of the kept rows as the last point's row
    block has it. -/
def PhiS (c : Dev nD) : (n : ℕ) → n ≤ cfg0.N → sProp 𝕄
  | 0, _ => Pipeline.ΦA spec0 c
  | n + 1, hn => iprop((∃ s : Vec F S2x640x1024 .bf16, ⌜plane0 s = keep m c ⟨n, hn⟩⌝ ∗ owns (c : Thread nD τ) scM fullShare s) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = iprop((∃ s : Vec F S2x640x1024 .bf16, ⌜plane0 s = keep m c ⟨n - 1, by omega⟩⌝ ∗ owns (c : Thread nD τ) scM fullShare s) ∗ (∃ r, prngReg c r)) := by
  cases n with
  | zero => exact absurd rfl hz
  | succ n => rfl

/-- Before any point the kept rows' buffer holds something. -/
theorem PhiS_some (c : Dev nD) (n : ℕ) (h : n ≤ cfg0.N) :
    PhiS m c n h ⊢ iprop((∃ d, owns (c : Thread nD τ) scM fullShare d) ∗ (∃ r, prngReg c r)) := by
  by_cases hz : n = 0
  · rw [PhiS_zero m c n h hz, rest_eq]
  · rw [PhiS_pos m c n h hz]
    iintro ⟨⟨%s, -, HS⟩, Hg⟩
    isplitl [HS]
    · iexists _; iexact HS
    iexact Hg

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => zA m c t
    | ⟨11, _⟩ => laA m c t
    | ⟨12, _⟩ => kA m c t
    | ⟨13, _⟩ => vA m c t
    | ⟨14, _⟩ => fA m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = zA m c t := by dsimp only [dats]
theorem after0_11 (c : Dev nD) (t : Fin cfg0.N) : (dats m 0 c).after 11 t = laA m c t := by dsimp only [dats]
theorem after0_12 (c : Dev nD) (t : Fin cfg0.N) : (dats m 0 c).after 12 t = kA m c t := by dsimp only [dats]
theorem after0_13 (c : Dev nD) (t : Fin cfg0.N) : (dats m 0 c).after 13 t = vA m c t := by dsimp only [dats]
theorem after0_14 (c : Dev nD) (t : Fin cfg0.N) : (dats m 0 c).after 14 t = fA m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The outputs the body stores only at a row block's first point -/

theorem idle11 (t : Fin cfg0.N) : cfg0.idle 11 (cfg0.grid.coords t) = !decide (t.val % 4 = 0) := by
  show (!(k0_cond1 (grid0.coords t) == 1#1)) = _
  have e1 : (k0_cond1 (grid0.coords t) == 1#1) = decide (t.val % 4 = 0) := by
    rw [Bool.eq_iff_iff, beq_iff_eq, decide_eq_true_iff]; exact first_iff t
  rw [e1]

theorem fresh11 (n : ℕ) (hn : n ≤ cfg0.N) : cfg0.fresh 11 n = decide (n % 4 = 0) := by
  refine cfg0.fresh_tab 11 (fun n => decide (n % 4 = 0)) (by decide) (fun t => ?_) n hn
  have hf' : (cfg0.win 11).flush t = decide (t.val % 4 = 3) := by
    rw [Bool.eq_iff_iff, decide_eq_true_iff]; exact flush0_11 t
  rw [hf', idle11]
  by_cases h6 : t.val % 4 = 3
  · have : (t.val + 1) % 4 = 0 := by omega
    simp [h6, this]
  · have : ¬(t.val + 1) % 4 = 0 := by omega
    simp only [h6, this, decide_false, Bool.false_or]
    by_cases h0 : t.val % 4 = 0 <;> simp [h0]

theorem laA_later (c : Dev nD) (t : Fin cfg0.N) (h : ¬t.val % 4 = 0) (hp : t.val - 1 < cfg0.N) : laA m c ⟨t.val - 1, hp⟩ = laA m c t := by
  unfold laA; rw [head_later t h hp]

theorem before11 (c : Dev nD) (t : Fin cfg0.N) (h0 : ¬t.val % 4 = 0) (d) : (dats m 0 c).before 11 t d = laA m c t := by
  have h := (dats m 0 c).before_out_traj 11 rfl (fun _ _ => rfl) (fun t ht hi hf => by
    rw [after0_11, after0_11]
    have h0 : ¬t.val % 4 = 0 := by
      rw [fresh11 t.val (Nat.le_of_lt t.isLt)] at hf; simpa using hf
    exact (laA_later m c t h0 _).symm) t.val t rfl d
  rw [h, fresh11 t.val (Nat.le_of_lt t.isLt)]
  simp only [h0, decide_false, Bool.false_eq_true, if_false]
  rw [after0_11]
  exact laA_later m c t h0 _

theorem stored11 (c : Dev nD) (t : Fin cfg0.N) (h : t.val % 4 = 0) :
    (dats m 0 c).leavesExact 11 t = owns (c : Thread nD τ) (st0_11 t) fullShare (laA m c t) := by
  rw [← after0_11]
  unfold Dat.leavesExact; rw [idle11 t, decide_eq_true h]; try rfl

theorem kept11 (c : Dev nD) (t : Fin cfg0.N) (h0 : ¬t.val % 4 = 0) :
    owns (c : Thread nD τ) (st0_11 t) fullShare (laA m c t) ⊢ ((dats m 0 c).leavesExact 11 t : sProp 𝕄) := by
  have hi : cfg0.idle 11 (cfg0.grid.coords t) = true := by rw [idle11 t, decide_eq_false h0]; rfl
  cases hf : (cfg0.win 11).flush t with
  | false =>
    rw [Dat.leavesExact_idle (dats m 0 c) 11 t hi hf]
    iintro H
    iexists (fun _ => default)
    rw [before11 m c t h0]
    iexact H
  | true =>
    have e : (dats m 0 c).leavesExact 11 t = owns (c : Thread nD τ) (st0_11 t) fullShare ((dats m 0 c).after 11 t) := by
      unfold Dat.leavesExact; rw [hi, hf]; try rfl
    rw [e, after0_11]

theorem idle12 (t : Fin cfg0.N) : cfg0.idle 12 (cfg0.grid.coords t) = !decide (t.val % 4 = 0) := by
  show (!(k0_cond1 (grid0.coords t) == 1#1)) = _
  have e1 : (k0_cond1 (grid0.coords t) == 1#1) = decide (t.val % 4 = 0) := by
    rw [Bool.eq_iff_iff, beq_iff_eq, decide_eq_true_iff]; exact first_iff t
  rw [e1]

theorem fresh12 (n : ℕ) (hn : n ≤ cfg0.N) : cfg0.fresh 12 n = decide (n % 4 = 0) := by
  refine cfg0.fresh_tab 12 (fun n => decide (n % 4 = 0)) (by decide) (fun t => ?_) n hn
  have hf' : (cfg0.win 12).flush t = decide (t.val % 4 = 3) := by
    rw [Bool.eq_iff_iff, decide_eq_true_iff]; exact flush0_12 t
  rw [hf', idle12]
  by_cases h6 : t.val % 4 = 3
  · have : (t.val + 1) % 4 = 0 := by omega
    simp [h6, this]
  · have : ¬(t.val + 1) % 4 = 0 := by omega
    simp only [h6, this, decide_false, Bool.false_or]
    by_cases h0 : t.val % 4 = 0 <;> simp [h0]

theorem kA_later (c : Dev nD) (t : Fin cfg0.N) (h : ¬t.val % 4 = 0) (hp : t.val - 1 < cfg0.N) : kA m c ⟨t.val - 1, hp⟩ = kA m c t := by
  unfold kA rows; rw [head_later t h hp]

theorem before12 (c : Dev nD) (t : Fin cfg0.N) (h0 : ¬t.val % 4 = 0) (d) : (dats m 0 c).before 12 t d = kA m c t := by
  have h := (dats m 0 c).before_out_traj 12 rfl (fun _ _ => rfl) (fun t ht hi hf => by
    rw [after0_12, after0_12]
    have h0 : ¬t.val % 4 = 0 := by
      rw [fresh12 t.val (Nat.le_of_lt t.isLt)] at hf; simpa using hf
    exact (kA_later m c t h0 _).symm) t.val t rfl d
  rw [h, fresh12 t.val (Nat.le_of_lt t.isLt)]
  simp only [h0, decide_false, Bool.false_eq_true, if_false]
  rw [after0_12]
  exact kA_later m c t h0 _

theorem stored12 (c : Dev nD) (t : Fin cfg0.N) (h : t.val % 4 = 0) :
    (dats m 0 c).leavesExact 12 t = owns (c : Thread nD τ) (st0_12 t) fullShare (kA m c t) := by
  rw [← after0_12]
  unfold Dat.leavesExact; rw [idle12 t, decide_eq_true h]; try rfl

theorem kept12 (c : Dev nD) (t : Fin cfg0.N) (h0 : ¬t.val % 4 = 0) :
    owns (c : Thread nD τ) (st0_12 t) fullShare (kA m c t) ⊢ ((dats m 0 c).leavesExact 12 t : sProp 𝕄) := by
  have hi : cfg0.idle 12 (cfg0.grid.coords t) = true := by rw [idle12 t, decide_eq_false h0]; rfl
  cases hf : (cfg0.win 12).flush t with
  | false =>
    rw [Dat.leavesExact_idle (dats m 0 c) 12 t hi hf]
    iintro H
    iexists (fun _ => default)
    rw [before12 m c t h0]
    iexact H
  | true =>
    have e : (dats m 0 c).leavesExact 12 t = owns (c : Thread nD τ) (st0_12 t) fullShare ((dats m 0 c).after 12 t) := by
      unfold Dat.leavesExact; rw [hi, hf]; try rfl
    rw [e, after0_12]

theorem idle13 (t : Fin cfg0.N) : cfg0.idle 13 (cfg0.grid.coords t) = !decide (t.val % 4 = 0) := by
  show (!(k0_cond1 (grid0.coords t) == 1#1)) = _
  have e1 : (k0_cond1 (grid0.coords t) == 1#1) = decide (t.val % 4 = 0) := by
    rw [Bool.eq_iff_iff, beq_iff_eq, decide_eq_true_iff]; exact first_iff t
  rw [e1]

theorem fresh13 (n : ℕ) (hn : n ≤ cfg0.N) : cfg0.fresh 13 n = decide (n % 4 = 0) := by
  refine cfg0.fresh_tab 13 (fun n => decide (n % 4 = 0)) (by decide) (fun t => ?_) n hn
  have hf' : (cfg0.win 13).flush t = decide (t.val % 4 = 3) := by
    rw [Bool.eq_iff_iff, decide_eq_true_iff]; exact flush0_13 t
  rw [hf', idle13]
  by_cases h6 : t.val % 4 = 3
  · have : (t.val + 1) % 4 = 0 := by omega
    simp [h6, this]
  · have : ¬(t.val + 1) % 4 = 0 := by omega
    simp only [h6, this, decide_false, Bool.false_or]
    by_cases h0 : t.val % 4 = 0 <;> simp [h0]

theorem vA_later (c : Dev nD) (t : Fin cfg0.N) (h : ¬t.val % 4 = 0) (hp : t.val - 1 < cfg0.N) : vA m c ⟨t.val - 1, hp⟩ = vA m c t := by
  unfold vA rows; rw [head_later t h hp]

theorem before13 (c : Dev nD) (t : Fin cfg0.N) (h0 : ¬t.val % 4 = 0) (d) : (dats m 0 c).before 13 t d = vA m c t := by
  have h := (dats m 0 c).before_out_traj 13 rfl (fun _ _ => rfl) (fun t ht hi hf => by
    rw [after0_13, after0_13]
    have h0 : ¬t.val % 4 = 0 := by
      rw [fresh13 t.val (Nat.le_of_lt t.isLt)] at hf; simpa using hf
    exact (vA_later m c t h0 _).symm) t.val t rfl d
  rw [h, fresh13 t.val (Nat.le_of_lt t.isLt)]
  simp only [h0, decide_false, Bool.false_eq_true, if_false]
  rw [after0_13]
  exact vA_later m c t h0 _

theorem stored13 (c : Dev nD) (t : Fin cfg0.N) (h : t.val % 4 = 0) :
    (dats m 0 c).leavesExact 13 t = owns (c : Thread nD τ) (st0_13 t) fullShare (vA m c t) := by
  rw [← after0_13]
  unfold Dat.leavesExact; rw [idle13 t, decide_eq_true h]; try rfl

theorem kept13 (c : Dev nD) (t : Fin cfg0.N) (h0 : ¬t.val % 4 = 0) :
    owns (c : Thread nD τ) (st0_13 t) fullShare (vA m c t) ⊢ ((dats m 0 c).leavesExact 13 t : sProp 𝕄) := by
  have hi : cfg0.idle 13 (cfg0.grid.coords t) = true := by rw [idle13 t, decide_eq_false h0]; rfl
  cases hf : (cfg0.win 13).flush t with
  | false =>
    rw [Dat.leavesExact_idle (dats m 0 c) 13 t hi hf]
    iintro H
    iexists (fun _ => default)
    rw [before13 m c t h0]
    iexact H
  | true =>
    have e : (dats m 0 c).leavesExact 13 t = owns (c : Thread nD τ) (st0_13 t) fullShare ((dats m 0 c).after 13 t) := by
      unfold Dat.leavesExact; rw [hi, hf]; try rfl
    rw [e, after0_13]

theorem idle14 (t : Fin cfg0.N) : cfg0.idle 14 (cfg0.grid.coords t) = !decide (t.val % 4 = 0) := by
  show (!(k0_cond1 (grid0.coords t) == 1#1)) = _
  have e1 : (k0_cond1 (grid0.coords t) == 1#1) = decide (t.val % 4 = 0) := by
    rw [Bool.eq_iff_iff, beq_iff_eq, decide_eq_true_iff]; exact first_iff t
  rw [e1]

theorem fresh14 (n : ℕ) (hn : n ≤ cfg0.N) : cfg0.fresh 14 n = decide (n % 4 = 0) := by
  refine cfg0.fresh_tab 14 (fun n => decide (n % 4 = 0)) (by decide) (fun t => ?_) n hn
  have hf' : (cfg0.win 14).flush t = decide (t.val % 4 = 3) := by
    rw [Bool.eq_iff_iff, decide_eq_true_iff]; exact flush0_14 t
  rw [hf', idle14]
  by_cases h6 : t.val % 4 = 3
  · have : (t.val + 1) % 4 = 0 := by omega
    simp [h6, this]
  · have : ¬(t.val + 1) % 4 = 0 := by omega
    simp only [h6, this, decide_false, Bool.false_or]
    by_cases h0 : t.val % 4 = 0 <;> simp [h0]

theorem fA_later (c : Dev nD) (t : Fin cfg0.N) (h : ¬t.val % 4 = 0) (hp : t.val - 1 < cfg0.N) : fA m c ⟨t.val - 1, hp⟩ = fA m c t := by
  unfold fA rows; rw [head_later t h hp]

theorem before14 (c : Dev nD) (t : Fin cfg0.N) (h0 : ¬t.val % 4 = 0) (d) : (dats m 0 c).before 14 t d = fA m c t := by
  have h := (dats m 0 c).before_out_traj 14 rfl (fun _ _ => rfl) (fun t ht hi hf => by
    rw [after0_14, after0_14]
    have h0 : ¬t.val % 4 = 0 := by
      rw [fresh14 t.val (Nat.le_of_lt t.isLt)] at hf; simpa using hf
    exact (fA_later m c t h0 _).symm) t.val t rfl d
  rw [h, fresh14 t.val (Nat.le_of_lt t.isLt)]
  simp only [h0, decide_false, Bool.false_eq_true, if_false]
  rw [after0_14]
  exact fA_later m c t h0 _

theorem stored14 (c : Dev nD) (t : Fin cfg0.N) (h : t.val % 4 = 0) :
    (dats m 0 c).leavesExact 14 t = owns (c : Thread nD τ) (st0_14 t) fullShare (fA m c t) := by
  rw [← after0_14]
  unfold Dat.leavesExact; rw [idle14 t, decide_eq_true h]; try rfl

theorem kept14 (c : Dev nD) (t : Fin cfg0.N) (h0 : ¬t.val % 4 = 0) :
    owns (c : Thread nD τ) (st0_14 t) fullShare (fA m c t) ⊢ ((dats m 0 c).leavesExact 14 t : sProp 𝕄) := by
  have hi : cfg0.idle 14 (cfg0.grid.coords t) = true := by rw [idle14 t, decide_eq_false h0]; rfl
  cases hf : (cfg0.win 14).flush t with
  | false =>
    rw [Dat.leavesExact_idle (dats m 0 c) 14 t hi hf]
    iintro H
    iexists (fun _ => default)
    rw [before14 m c t h0]
    iexact H
  | true =>
    have e : (dats m 0 c).leavesExact 14 t = owns (c : Thread nD τ) (st0_14 t) fullShare ((dats m 0 c).after 14 t) := by
      unfold Dat.leavesExact; rw [hi, hf]; try rfl
    rw [e, after0_14]

/-! ## The body's obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ (dats m 0 c).leavesExact 11 t
    ∗ (dats m 0 c).leavesExact 12 t
    ∗ (dats m 0 c).leavesExact 13 t
    ∗ (dats m 0 c).leavesExact 14 t)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl, after0_0, after0_1, after0_2, after0_3, after0_4, after0_5, after0_6, after0_7, after0_8, after0_9, after0_10]
  rw [show (dats m 0 c).Φ t.succ = iprop((∃ s : Vec F S2x640x1024 .bf16, ⌜plane0 s = keep m c t⌝ ∗ owns (c : Thread nD τ) scM fullShare s) ∗ (∃ r, prngReg c r)) from rfl,
    show (dats m 0 c).Φ t.castSucc = PhiS m c t.val (Nat.le_of_lt t.isLt) from by dsimp only [dats]; exact Pipeline.Dat.Φ_castSucc (PhiS m c) t]
  by_cases h0 : t.val % 4 = 0
  · rw [stored11 m c t h0, stored12 m c t h0, stored13 m c t h0, stored14 m c t h0]
    unfold zA laA kA vA fA rows keep
    rw [head_first t h0]
    refine (sep_mono (PhiS_some m c _ _) .rfl).trans ?_
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply (run_first c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) ((first_iff t).mpr h0) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    isplitl [H14]; · iexists _; iexact H14
    isplitl [HS]; · iexact HS
    iintro ⟨H0, H1, H2, H3, H4, H5, H6, H7, H8, H9, H10, H11, H12, H13, H14, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  · have hz : t.val ≠ 0 := fun h => h0 (by rw [h])
    rw [PhiS_pos m c _ _ hz]
    simp only [before11 m c t h0, before12 m c t h0, before13 m c t h0, before14 m c t h0]
    iintro ⟨⟨⟨%s, %hs, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    have hs' : plane0 s = keep m c t := hs.trans (by unfold keep; rw [head_later t h0])
    have ez : zA m c t = k0_pay2 (plane0 s) (iblk m c 2 t) := by unfold zA; rw [hs']
    rw [ez]
    iapply (run_later c (grid0.coords t) _ _ _ _ _ _ _ _ _ _ _ _ _ _ _ _ _ _ _ _ _ _ _ _ _ _ _ _ _ _ _ _ (iblk m c 2 t) s (fun h => h0 ((first_iff t).mp h)) Set.univ _)
    isplitl [H2]; · iexact H2
    isplitl [H10]; · iexists _; iexact H10
    isplitl [HS]; · iexact HS
    iintro ⟨H2, H10, HS⟩
    isplitl [HS Hg]
    · isplitl [HS]
      · iexists s; isplitr; · ipureintro; exact hs'
        iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iapply (kept11 m c t h0); iexact H11
    isplitl [H12]; · iapply (kept12 m c t h0); iexact H12
    isplitl [H13]; · iapply (kept13 m c t h0); iexact H13
    iapply (kept14 m c t h0); iexact H14

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

theorem hin (c : Dev nD) : Pipeline.ΦA spec0 c ⊢ (dats m 0 c).Φ 0 := by
  rw [show (dats m 0 c).Φ 0 = PhiS m c 0 (Nat.zero_le _) from rfl, PhiS_zero m c 0 _ rfl]
theorem hout (c : Dev nD) : (dats m 0 c).Φ (Fin.last cfg0.N) ⊢ Pipeline.ΦA spec0 c := by
  rw [show (dats m 0 c).Φ (Fin.last cfg0.N) = PhiS m c cfg0.N (Nat.le_refl _) from rfl, rest_eq]
  exact PhiS_some m c _ _

set_option backward.isDefEq.respectTransparency.types false in
/-- Every run terminates with each array of the call at what its points leave, and no counter raised. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The arguments end unchanged and no counter is raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

/-- What a run leaves in the five outputs. -/
theorem run_outputs : θ_run defs (onTc (τ := τ) (main (F := F))) ⟨m, fun _ => 0, ρ⟩ (fun r => ∀ c : Dev nD,
      r.2.mem ((c.tc : Thread nD τ).loc (Pipeline.arrRef spec0 10)) = (dats m 0 c).arrAt 10 cfg0.N
      ∧ r.2.mem ((c.tc : Thread nD τ).loc (Pipeline.arrRef spec0 11)) = (dats m 0 c).arrAt 11 cfg0.N
      ∧ r.2.mem ((c.tc : Thread nD τ).loc (Pipeline.arrRef spec0 12)) = (dats m 0 c).arrAt 12 cfg0.N
      ∧ r.2.mem ((c.tc : Thread nD τ).loc (Pipeline.arrRef spec0 13)) = (dats m 0 c).arrAt 13 cfg0.N
      ∧ r.2.mem ((c.tc : Thread nD τ).loc (Pipeline.arrRef spec0 14)) = (dats m 0 c).arrAt 14 cfg0.N) :=
  (θ_run defs _ _).mono (fun _ h c => ⟨(h.1 c).1 10, (h.1 c).1 11, (h.1 c).1 12, (h.1 c).1 13, (h.1 c).1 14⟩) (run_quiescent m ρ)

end Cert.Kernel2Ideal.Inproj

end
-- ==== Proof.InprojIdeal.Value.lean ====
/- The arrays the projections' call leaves. -/
module

public import proofs.«01_k».proof.Proof.InprojIdeal.Host
public import proofs.«01_k».proof.Proof.InprojIdeal.Frame

@[expose] public section

set_option maxRecDepth 16384

noncomputable section

namespace Cert.Kernel2Ideal.Inproj

open Idealize.ShloMosaic Idealize.ShloMosaic.TcCoe Idealize.SL.Sem
open Idealize.ShloMosaic.Pipeline (Dat)
open Cert.Kernel2Ideal Cert.Kernel2Ideal.Gen Cert.Inproj
open Cert.Merge (norm1024)

variable (m : (ℓ : Loc nD τ sig) → Buf (Elt Ideal) ℓ)

abbrev xA (c : Dev nD) : FVec Ideal S16640x1024 .f32 := V m c main_arg0
abbrev nA (c : Dev nD) : FVec Ideal S1024 .f32 := m ((c : Thread nD τ).loc main_arg1)
abbrev wA (c : Dev nD) : FVec Ideal S1024x6680 .f32 := m ((c : Thread nD τ).loc main_arg2)
abbrev aA (c : Dev nD) : FVec Ideal S16x512 .f32 := m ((c : Thread nD τ).loc main_arg3)
abbrev bA (c : Dev nD) : FVec Ideal S512 .f32 := m ((c : Thread nD τ).loc main_arg4)
abbrev gA (c : Dev nD) : FVec Ideal S8 .f32 := m ((c : Thread nD τ).loc main_arg5)

/-! ## What the host operations before the call leave -/

theorem V_v32 (c : Dev nD) : V m c main_v32 = shapeCast S1x1024 (nA m c) shapeCasts_S1024_S1x1024 := by unfold V; after_results; try rfl
theorem V_v18 (c : Dev nD) : V m c main_v18 = wide (wA m c) := by unfold V; after_results; try rfl
theorem V_v19 (c : Dev nD) : V m c main_v19 = small (wA m c) := by unfold V; after_results; try rfl
theorem V_v20 (c : Dev nD) : V m c main_v20 = transpose S128x1024 [1, 0] (small (wA m c)) transposes_S1024x128_S128x1024_1_0 := by unfold V; after_results; try rfl
theorem V_v16 (c : Dev nD) : V m c main_v16 = pairT (wA m c) := by unfold V; after_results; try rfl
theorem V_v24 (c : Dev nD) : V m c main_v24 = (truncf .bf16 (padded (aA m c)) bitsLt_bf16_f32 : FVec Ideal S128x512 .bf16) := by unfold V; after_results; try rfl
theorem V_v25 (c : Dev nD) : V m c main_v25 = shapeCast S1x512 (bA m c) shapeCasts_S512_S1x512 := by unfold V; after_results; try rfl
theorem V_v31 (c : Dev nD) : V m c main_v31 = shapeCast S8x1 (gA m c) shapeCasts_S8_S8x1 := by unfold V; after_results; try rfl

/-! ## The blocks -/

theorem tN (t : Fin cfg0.N) : t.val < 104 := Nat.lt_of_lt_of_eq t.isLt N_0

/-- Row `r` of point `t`'s row block. -/
def rowOf (t : Fin cfg0.N) (r : Fin 640) : Fin 16640 := ⟨t.val / 4 * 640 + r.val, by have := tN t; have := r.isLt; omega⟩

/-- Column `j` of point `t`'s column block. -/
def colOf (t : Fin cfg0.N) (j : Fin 1408) : Fin 5632 := ⟨t.val % 4 * 1408 + j.val, by have := j.isLt; omega⟩

theorem rowOf_head (t : Fin cfg0.N) (r : Fin 640) : rowOf (head t) r = rowOf t r := Fin.ext (by
  show (t.val - t.val % 4) / 4 * 640 + r.val = t.val / 4 * 640 + r.val
  omega)

theorem coord0 : ∀ t : Fin grid0.N, (grid0.coords t 0).val = t.val / 4 := by decide +kernel
theorem coord1 : ∀ t : Fin grid0.N, (grid0.coords t 1).val = t.val % 4 := by decide +kernel

theorem iblk0_at (c : Dev nD) (t : Fin cfg0.N) (r : Fin 640) (d : Fin 1024) :
    iblk m c 0 t (ix2 r d) = xA m c (ix2 (rowOf t r) d) := by
  refine congrArg (V m c main_arg0) (funext fun a => Fin.ext ?_)
  have ht := tN t
  have e0 := coord0 t
  match a with
  | ⟨0, _⟩ =>
    show (BitVec.ofNat 32 (grid0.coords t 0).val).toNat * 640 + 1 * r.val = t.val / 4 * 640 + r.val
    rw [BitVec.toNat_ofNat, e0]; omega
  | ⟨1, _⟩ =>
    show 0 * 1024 + 1 * d.val = d.val
    omega

theorem iblk2_at (c : Dev nD) (t : Fin cfg0.N) (k : Fin 1024) (j : Fin 1408) :
    iblk m c 2 t (ix2 k j) = wA m c (ix2 k (src (colOf t j))) := by
  have e : iblk m c 2 t (ix2 k j) = V m c main_v18 (ix2 k (colOf t j)) := by
    refine congrArg (V m c main_v18) (funext fun a => Fin.ext ?_)
    have ht := tN t
    have e1 := coord1 t
    match a with
    | ⟨0, _⟩ =>
      show 0 * 1024 + 1 * k.val = k.val
      omega
    | ⟨1, _⟩ =>
      show (BitVec.ofNat 32 (grid0.coords t 1).val).toNat * 1408 + 1 * j.val = t.val % 4 * 1408 + j.val
      rw [BitVec.toNat_ofNat, e1]; omega
  rw [e, V_v18 m c]
  exact wide_at _ _ _

theorem iblk1_at (c : Dev nD) (t : Fin cfg0.N) (k : Fin 1) (d : Fin 1024) : iblk m c 1 t (ix2 k d) = nA m c (ix1 d) := by
  have e : iblk m c 1 t (ix2 k d) = V m c main_v32 (ix2 k d) := by
    refine congrArg (V m c main_v32) (funext fun a => Fin.ext ?_)
    match a with
    | ⟨0, _⟩ => show 0 * 1 + 1 * k.val = k.val; omega
    | ⟨1, _⟩ => show 0 * 1024 + 1 * d.val = d.val; omega
  rw [e, V_v32 m c]
  pointwise

theorem iblk3_at (c : Dev nD) (t : Fin cfg0.N) (k : Fin 1024) (d : Fin 128) : iblk m c 3 t (ix2 k d) = small (wA m c) (ix2 k d) := by
  have e : iblk m c 3 t (ix2 k d) = V m c main_v19 (ix2 k d) := by
    refine congrArg (V m c main_v19) (funext fun a => Fin.ext ?_)
    match a with
    | ⟨0, _⟩ => show 0 * 1024 + 1 * k.val = k.val; omega
    | ⟨1, _⟩ => show 0 * 128 + 1 * d.val = d.val; omega
  rw [e, V_v19 m c]

theorem iblk4_at (c : Dev nD) (t : Fin cfg0.N) (k : Fin 128) (d : Fin 512) : iblk m c 4 t (ix2 k d) = padded (aA m c) (ix2 k d) := by
  have e : iblk m c 4 t (ix2 k d) = V m c main_v24 (ix2 k d) := by
    refine congrArg (V m c main_v24) (funext fun a => Fin.ext ?_)
    match a with
    | ⟨0, _⟩ => show 0 * 128 + 1 * k.val = k.val; omega
    | ⟨1, _⟩ => show 0 * 512 + 1 * d.val = d.val; omega
  rw [e, V_v24 m c]
  generalize padded (aA m c) = P
  rfl

theorem iblk5_at (c : Dev nD) (t : Fin cfg0.N) (k : Fin 1) (d : Fin 512) : iblk m c 5 t (ix2 k d) = bA m c (ix1 d) := by
  have e : iblk m c 5 t (ix2 k d) = V m c main_v25 (ix2 k d) := by
    refine congrArg (V m c main_v25) (funext fun a => Fin.ext ?_)
    match a with
    | ⟨0, _⟩ => show 0 * 1 + 1 * k.val = k.val; omega
    | ⟨1, _⟩ => show 0 * 512 + 1 * d.val = d.val; omega
  rw [e, V_v25 m c]
  pointwise

theorem iblk7_at (c : Dev nD) (t : Fin cfg0.N) (k : Fin 1024) (d : Fin 1024) : iblk m c 7 t (ix2 k d) = wA m c (ix2 d ⟨3600 + k.val, by omega⟩) := by
  have e : iblk m c 7 t (ix2 k d) = V m c main_v16 (ix2 k d) := by
    refine congrArg (V m c main_v16) (funext fun a => Fin.ext ?_)
    match a with
    | ⟨0, _⟩ => show 0 * 1024 + 1 * k.val = k.val; omega
    | ⟨1, _⟩ => show 0 * 1024 + 1 * d.val = d.val; omega
  rw [e, V_v16 m c]
  exact pairT_at _ _ _

theorem iblk8_at (c : Dev nD) (t : Fin cfg0.N) (k : Fin 128) (d : Fin 1024) : iblk m c 8 t (ix2 k d) = small (wA m c) (ix2 d k) := by
  have e : iblk m c 8 t (ix2 k d) = V m c main_v20 (ix2 k d) := by
    refine congrArg (V m c main_v20) (funext fun a => Fin.ext ?_)
    match a with
    | ⟨0, _⟩ => show 0 * 128 + 1 * k.val = k.val; omega
    | ⟨1, _⟩ => show 0 * 1024 + 1 * d.val = d.val; omega
  rw [e, V_v20 m c]
  pointwise

theorem iblk9_at (c : Dev nD) (t : Fin cfg0.N) (k : Fin 8) (d : Fin 1) : iblk m c 9 t (ix2 k d) = gA m c (ix1 k) := by
  have e : iblk m c 9 t (ix2 k d) = V m c main_v31 (ix2 k d) := by
    refine congrArg (V m c main_v31) (funext fun a => Fin.ext ?_)
    match a with
    | ⟨0, _⟩ => show 0 * 8 + 1 * k.val = k.val; omega
    | ⟨1, _⟩ => show 0 * 1 + 1 * d.val = d.val; omega
  rw [e, V_v31 m c]
  pointwise

/-! ## What one point computes -/

/-- Row `r` of point `t`'s row block, and the norm's scale. -/
abbrev xrow (c : Dev nD) (t : Fin cfg0.N) (r : Fin 640) : Fin 1024 → EReal := fun d => xA m c (ix2 (rowOf t r) d)
abbrev nvec (c : Dev nD) : Fin 1024 → EReal := fun d => nA m c (ix1 d)

theorem nrow_at (c : Dev nD) (t : Fin cfg0.N) (r : Fin 640) (k : Fin 1024) :
    nrow (iblk m c 0 (head t)) (iblk m c 1 (head t)) r k = norm1024 (xrow m c t r) (nvec m c) k := by
  show norm1024 _ _ _ = norm1024 _ _ _
  rw [funext fun d => iblk0_at m c (head t) r d, funext fun d => iblk1_at m c (head t) 0 d, rowOf_head]

theorem zA_at (c : Dev nD) (t : Fin cfg0.N) (r : Fin 640) (j : Fin 1408) :
    zA m c t (ix2 r j) = proj (xrow m c t r) (nvec m c) (wA m c) (src (colOf t j)) := by
  refine (pay2_at (iblk m c 0 (head t)) (iblk m c 1 (head t)) (iblk m c 2 t) r j).trans ?_
  exact Finset.sum_congr rfl fun k _ => by rw [nrow_at, iblk2_at]

theorem laA_at (c : Dev nD) (t : Fin cfg0.N) (r : Fin 640) (j : Fin 512) :
    laA m c t (ix2 r j) = decay (xrow m c t r) (nvec m c) (wA m c) (aA m c) (bA m c) j := by
  unfold laA decay
  refine (pay8_at _ r j).trans (congrArg (fun q => logsig q * Ideal.ofBits .f32 0x3D800000#32) ?_)
  refine (pay7_at (iblk m c 0 (head t)) (iblk m c 1 (head t)) (iblk m c 3 (head t)) (iblk m c 4 (head t)) (iblk m c 5 (head t)) r j).trans ?_
  rw [iblk5_at]
  refine congrArg (· + bA m c (ix1 j)) ?_
  have e : ∀ p : Fin 128, (∑ k : Fin 1024, nrow (iblk m c 0 (head t)) (iblk m c 1 (head t)) r k * iblk m c 3 (head t) (ix2 k p)) * iblk m c 4 (head t) (ix2 p j)
      = (∑ k : Fin 1024, norm1024 (xrow m c t r) (nvec m c) k * small (wA m c) (ix2 k p)) * padded (aA m c) (ix2 p j) := fun p => by
    rw [iblk4_at]
    refine congrArg (· * padded (aA m c) (ix2 p j)) (Finset.sum_congr rfl fun k _ => ?_)
    rw [nrow_at, iblk3_at]
  refine (Finset.sum_congr rfl fun p _ => e p).trans ((padded_sum (aA m c) _ j).trans (Finset.sum_congr rfl fun p _ => ?_))
  refine congrArg (· * aA m c (ix2 p j)) (Finset.sum_congr rfl fun k _ => ?_)
  rw [small_at, dif_neg (by show ¬8 + p.val < 8; omega), dif_pos (by show 8 + p.val - 8 < 16; omega)]
  exact congrArg (norm1024 (xrow m c t r) (nvec m c) k * ·) (col_congr _ _ _ _ (by show 3072 + (8 + p.val - 8) = 3072 + p.val; omega))

theorem rows_at (c : Dev nD) (t : Fin cfg0.N) (r : Fin 640) (k : Fin 1024) : rows m c t (ix2 r k) = norm1024 (xrow m c t r) (nvec m c) k :=
  (pay4_at _ _ r k).trans (nrow_at m c t r k)

theorem kA_at (c : Dev nD) (t : Fin cfg0.N) (a : Fin 8) (e : Fin 64) (r : Fin 640) :
    kA m c t (ix4 0 a e r) = proj (xrow m c t r) (nvec m c) (wA m c) ⟨3600 + (a.val * 64 + e.val), by omega⟩ := by
  refine (pay10_at (rows m c t) (iblk m c 7 (head t)) a e r).trans (Finset.sum_congr rfl fun k _ => ?_)
  rw [rows_at, iblk7_at, mul_comm]

theorem vA_at (c : Dev nD) (t : Fin cfg0.N) (a : Fin 8) (e : Fin 64) (r : Fin 640) :
    vA m c t (ix4 0 a e r) = proj (xrow m c t r) (nvec m c) (wA m c) ⟨4112 + (a.val * 64 + e.val), by omega⟩ := by
  refine (pay11_at (rows m c t) (iblk m c 7 (head t)) a e r).trans (Finset.sum_congr rfl fun k _ => ?_)
  rw [rows_at, iblk7_at, mul_comm]
  exact congrArg (norm1024 (xrow m c t r) (nvec m c) k * ·) (col_congr _ _ _ _ (by show 3600 + (512 + (a.val * 64 + e.val)) = 4112 + (a.val * 64 + e.val); omega))

theorem fA_at (c : Dev nD) (t : Fin cfg0.N) (a : Fin 8) (r : Fin 640) :
    fA m c t (ix3 0 a r) = logsig (proj (xrow m c t r) (nvec m c) (wA m c) ⟨4624 + a.val, by omega⟩ + gA m c (ix1 a)) := by
  refine (pay1_at (rows m c t) (iblk m c 8 (head t)) (iblk m c 9 (head t)) a r).trans (congrArg logsig ?_)
  rw [iblk9_at]
  refine congrArg (· + gA m c (ix1 a)) (Finset.sum_congr rfl fun k _ => ?_)
  rw [rows_at, iblk8_at, mul_comm, small_at, dif_pos (by show a.val < 8; exact a.isLt)]

/-! ## The arrays -/

/-- The batch entry and the position at which row `r` of point `t`'s block lies. -/
def entOf (t : Fin cfg0.N) : Fin 2 := ⟨t.val / 4 / 13, by have := tN t; omega⟩
def posOf (t : Fin cfg0.N) (r : Fin 640) : Fin 8320 := ⟨t.val / 4 % 13 * 640 + r.val, by have := r.isLt; omega⟩

theorem rowAt_pos (t : Fin cfg0.N) (r : Fin 640) : rowAt (entOf t) (posOf t r) = rowOf t r := Fin.ext (by
  show t.val / 4 / 13 * 8320 + (t.val / 4 % 13 * 640 + r.val) = t.val / 4 * 640 + r.val
  omega)

theorem emb10 (t : Fin cfg0.N) (y : S640x1408.Idx) :
    (((cfg0.win 10).blk t).view.emb y : S16640x5632.Idx) = ix2 (rowOf t (y 0)) (colOf t (y 1)) := by
  have ht := tN t
  have e0 := coord0 t
  have e1 := coord1 t
  refine funext fun a => Fin.ext ?_
  match a with
  | ⟨0, _⟩ =>
    show (BitVec.ofNat 32 (grid0.coords t 0).val).toNat * 640 + 1 * (y 0).val = t.val / 4 * 640 + (y 0).val
    rw [BitVec.toNat_ofNat, e0]; omega
  | ⟨1, _⟩ =>
    show (BitVec.ofNat 32 (grid0.coords t 1).val).toNat * 1408 + 1 * (y 1).val = t.val % 4 * 1408 + (y 1).val
    rw [BitVec.toNat_ofNat, e1]; omega

theorem emb11 (t : Fin cfg0.N) (y : S640x512.Idx) :
    (((cfg0.win 11).blk t).view.emb y : S16640x512.Idx) = ix2 (rowOf t (y 0)) (y 1) := by
  have ht := tN t
  have e0 := coord0 t
  refine funext fun a => Fin.ext ?_
  match a with
  | ⟨0, _⟩ =>
    show (BitVec.ofNat 32 (grid0.coords t 0).val).toNat * 640 + 1 * (y 0).val = t.val / 4 * 640 + (y 0).val
    rw [BitVec.toNat_ofNat, e0]; omega
  | ⟨1, _⟩ =>
    show 0 * 512 + 1 * (y 1).val = (y 1).val
    omega

theorem ent12 : ∀ t : Fin grid0.N, cc0_transform_12 (grid0.coords t) 0 = t.val / 4 / 13 := by decide +kernel
theorem pos12 : ∀ t : Fin grid0.N, cc0_transform_12 (grid0.coords t) 3 = t.val / 4 % 13 := by decide +kernel

theorem emb12 (t : Fin cfg0.N) (y : S1x8x64x640.Idx) :
    (((cfg0.win 12).blk t).view.emb y : S2x8x64x8320.Idx) = ix4 (entOf t) (y 1) (y 2) (posOf t (y 3)) := by
  have e0 := ent12 t
  have e3 := pos12 t
  have h0 : (y 0).val < 1 := (y 0).isLt
  refine funext fun a => Fin.ext ?_
  match a with
  | ⟨0, _⟩ =>
    show cc0_transform_12 (grid0.coords t) 0 * 1 + 1 * (y 0).val = t.val / 4 / 13
    rw [e0]; omega
  | ⟨1, _⟩ =>
    show 0 * 8 + 1 * (y 1).val = (y 1).val
    omega
  | ⟨2, _⟩ =>
    show 0 * 64 + 1 * (y 2).val = (y 2).val
    omega
  | ⟨3, _⟩ =>
    show cc0_transform_12 (grid0.coords t) 3 * 640 + 1 * (y 3).val = t.val / 4 % 13 * 640 + (y 3).val
    rw [e3]; omega

theorem ent13 : ∀ t : Fin grid0.N, cc0_transform_13 (grid0.coords t) 0 = t.val / 4 / 13 := by decide +kernel
theorem pos13 : ∀ t : Fin grid0.N, cc0_transform_13 (grid0.coords t) 3 = t.val / 4 % 13 := by decide +kernel

theorem emb13 (t : Fin cfg0.N) (y : S1x8x64x640.Idx) :
    (((cfg0.win 13).blk t).view.emb y : S2x8x64x8320.Idx) = ix4 (entOf t) (y 1) (y 2) (posOf t (y 3)) := by
  have e0 := ent13 t
  have e3 := pos13 t
  have h0 : (y 0).val < 1 := (y 0).isLt
  refine funext fun a => Fin.ext ?_
  match a with
  | ⟨0, _⟩ =>
    show cc0_transform_13 (grid0.coords t) 0 * 1 + 1 * (y 0).val = t.val / 4 / 13
    rw [e0]; omega
  | ⟨1, _⟩ =>
    show 0 * 8 + 1 * (y 1).val = (y 1).val
    omega
  | ⟨2, _⟩ =>
    show 0 * 64 + 1 * (y 2).val = (y 2).val
    omega
  | ⟨3, _⟩ =>
    show cc0_transform_13 (grid0.coords t) 3 * 640 + 1 * (y 3).val = t.val / 4 % 13 * 640 + (y 3).val
    rw [e3]; omega

theorem ent14 : ∀ t : Fin grid0.N, cc0_transform_14 (grid0.coords t) 0 = t.val / 4 / 13 := by decide +kernel
theorem pos14 : ∀ t : Fin grid0.N, cc0_transform_14 (grid0.coords t) 2 = t.val / 4 % 13 := by decide +kernel

theorem emb14 (t : Fin cfg0.N) (y : S1x8x640.Idx) :
    (((cfg0.win 14).blk t).view.emb y : S2x8x8320.Idx) = ix3 (entOf t) (y 1) (posOf t (y 2)) := by
  have e0 := ent14 t
  have e3 := pos14 t
  have h0 : (y 0).val < 1 := (y 0).isLt
  refine funext fun a => Fin.ext ?_
  match a with
  | ⟨0, _⟩ =>
    show cc0_transform_14 (grid0.coords t) 0 * 1 + 1 * (y 0).val = t.val / 4 / 13
    rw [e0]; omega
  | ⟨1, _⟩ =>
    show 0 * 8 + 1 * (y 1).val = (y 1).val
    omega
  | ⟨2, _⟩ =>
    show cc0_transform_14 (grid0.coords t) 2 * 640 + 1 * (y 2).val = t.val / 4 % 13 * 640 + (y 2).val
    rw [e3]; omega

abbrev outZA (c : Dev nD) : FVec Ideal S16640x5632 .f32 := outZ (xA m c) (nA m c) (wA m c)
abbrev outLA (c : Dev nD) : FVec Ideal S16640x512 .f32 := outL (xA m c) (nA m c) (wA m c) (aA m c) (bA m c)
abbrev outKA (c : Dev nD) : FVec Ideal S2x8x64x8320 .f32 := outKV 3600 (by decide) (xA m c) (nA m c) (wA m c)
abbrev outVA (c : Dev nD) : FVec Ideal S2x8x64x8320 .f32 := outKV 4112 (by decide) (xA m c) (nA m c) (wA m c)
abbrev outFA (c : Dev nD) : FVec Ideal S2x8x8320 .f32 := outF (xA m c) (nA m c) (wA m c) (gA m c)

theorem final10 (c : Dev nD) : (dats m 0 c).arrAt 10 cfg0.N = outZA m c := by
  refine (dats m 0 c).arrAt_eq_of_covers 10 _ (by decide +kernel) fun t hf (y : S640x1408.Idx) => ?_
  refine Eq.trans ?_ (congrArg (outZA m c) (emb10 t y).symm)
  show (dats m 0 c).after 10 t y = _
  rw [after0_10, eq_ix2 y]
  exact zA_at m c t (y 0) (y 1)

theorem final11 (c : Dev nD) : (dats m 0 c).arrAt 11 cfg0.N = outLA m c := by
  refine (dats m 0 c).arrAt_eq_of_covers 11 _ (by decide +kernel) fun t hf (y : S640x512.Idx) => ?_
  refine Eq.trans ?_ (congrArg (outLA m c) (emb11 t y).symm)
  show (dats m 0 c).after 11 t y = _
  rw [after0_11, eq_ix2 y]
  exact laA_at m c t (y 0) (y 1)

theorem final12 (c : Dev nD) : (dats m 0 c).arrAt 12 cfg0.N = outKA m c := by
  refine (dats m 0 c).arrAt_eq_of_covers 12 _ (by decide +kernel) fun t hf (y : S1x8x64x640.Idx) => ?_
  refine Eq.trans ?_ (congrArg (outKA m c) (emb12 t y).symm)
  show (dats m 0 c).after 12 t y = _
  rw [after0_12]
  obtain ⟨p, a, e, r, rfl⟩ : ∃ (p : Fin 1) (a : Fin 8) (e : Fin 64) (r : Fin 640), y = ix4 p a e r := ⟨y 0, y 1, y 2, y 3, eq_ix4 y⟩
  obtain rfl : p = 0 := Fin.ext (by omega)
  refine (kA_at m c t a e r).trans ?_
  show proj (fun d => xA m c (ix2 (rowOf t r) d)) _ _ _ = proj (fun d => xA m c (ix2 (rowAt (entOf t) (posOf t r)) d)) _ _ _
  rw [rowAt_pos]
  rfl

theorem final13 (c : Dev nD) : (dats m 0 c).arrAt 13 cfg0.N = outVA m c := by
  refine (dats m 0 c).arrAt_eq_of_covers 13 _ (by decide +kernel) fun t hf (y : S1x8x64x640.Idx) => ?_
  refine Eq.trans ?_ (congrArg (outVA m c) (emb13 t y).symm)
  show (dats m 0 c).after 13 t y = _
  rw [after0_13]
  obtain ⟨p, a, e, r, rfl⟩ : ∃ (p : Fin 1) (a : Fin 8) (e : Fin 64) (r : Fin 640), y = ix4 p a e r := ⟨y 0, y 1, y 2, y 3, eq_ix4 y⟩
  obtain rfl : p = 0 := Fin.ext (by omega)
  refine (vA_at m c t a e r).trans ?_
  show proj (fun d => xA m c (ix2 (rowOf t r) d)) _ _ _ = proj (fun d => xA m c (ix2 (rowAt (entOf t) (posOf t r)) d)) _ _ _
  rw [rowAt_pos]
  rfl

theorem final14 (c : Dev nD) : (dats m 0 c).arrAt 14 cfg0.N = outFA m c := by
  refine (dats m 0 c).arrAt_eq_of_covers 14 _ (by decide +kernel) fun t hf (y : S1x8x640.Idx) => ?_
  refine Eq.trans ?_ (congrArg (outFA m c) (emb14 t y).symm)
  show (dats m 0 c).after 14 t y = _
  rw [after0_14]
  obtain ⟨p, a, r, rfl⟩ : ∃ (p : Fin 1) (a : Fin 8) (r : Fin 640), y = ix3 p a r := ⟨y 0, y 1, y 2, eq_ix3 y⟩
  obtain rfl : p = 0 := Fin.ext (by omega)
  refine (fA_at m c t a r).trans ?_
  show logsig (proj (fun d => xA m c (ix2 (rowOf t r) d)) _ _ _ + _) = logsig (proj (fun d => xA m c (ix2 (rowAt (entOf t) (posOf t r)) d)) _ _ _ + _)
  rw [rowAt_pos]
  rfl

end Cert.Kernel2Ideal.Inproj

end
-- ==== Proof.InprojIdeal.Ref.lean ====
/- The reference's results of the input projections are the projected rows, the logarithms of the decay, the keys, the values and the
   logarithms of the forget gates. -/
module

public import proofs.«01_k».proof.Proof.InprojIdeal.Spec
public import proofs.«01_k».proof.Proof.Gen.Reference2Ideal.Run

@[expose] public section

set_option maxRecDepth 16384

noncomputable section

namespace Cert.Reference2Ideal.Inproj

open Idealize.ShloMosaic Idealize.ShloMosaic.TcCoe Idealize.SL.Sem
open Cert.Reference2Ideal Cert.Reference2Ideal.Gen Cert.Inproj

variable (m : (ℓ : Loc nD τ sig) → Buf (Elt Ideal) ℓ)

abbrev xV (c : Dev nD) : FVec Ideal S16640x1024 .f32 := m ((c.tc : Thread nD τ).loc main_arg0)
abbrev nV (c : Dev nD) : FVec Ideal S1024 .f32 := m ((c.tc : Thread nD τ).loc main_arg1)
abbrev wV (c : Dev nD) : FVec Ideal S1024x6680 .f32 := m ((c.tc : Thread nD τ).loc main_arg2)
abbrev aV (c : Dev nD) : FVec Ideal S16x512 .f32 := m ((c.tc : Thread nD τ).loc main_arg3)
abbrev bV (c : Dev nD) : FVec Ideal S512 .f32 := m ((c.tc : Thread nD τ).loc main_arg4)
abbrev gV (c : Dev nD) : FVec Ideal S8 .f32 := m ((c.tc : Thread nD τ).loc main_arg5)

/-- An entry of the projection written out, its column named in another way. -/
theorem proj_congr (x : FVec Ideal S16640x1024 .f32) (n : FVec Ideal S1024 .f32) (w : FVec Ideal S1024x6680 .f32) (r r' : Fin 16640) (p q : Fin 6680)
    (hr : r.val = r'.val) (h : p.val = q.val) :
    (∑ k : Fin 1024, x (ix2 r k) * Ideal.rsqrt (Ideal.div (∑ k : Fin 1024, x (ix2 r k) * x (ix2 r k)) (Ideal.ofBits .f32 0x44800000#32) + Ideal.ofBits .f32 0x358637BD#32)
      * n (ix1 k) * w (ix2 k p)) = proj (fun d => x (ix2 r' d)) (fun d => n (ix1 d)) w q := by
  obtain rfl := Fin.ext h
  obtain rfl := Fin.ext hr
  rfl

/-- The logarithm of the sigmoid as the host computes it, guarded against values that are not numbers. -/
theorem softplus_eq (s t : EReal) (h : s = t) [Decidable (-s ≠ -s)] :
    -(if -s ≠ -s then -s else max (-s) 0 + Ideal.log1p (Ideal.exp (-FloatOps.absf (F := Ideal) (φ := .f32) (-s)))) = logsig t := by
  subst h
  rw [if_neg fun q => q rfl]
  exact logsig_softplus s

set_option maxRecDepth 200000 in
theorem outZ_eq (c : Dev nD) : Value.res_main_v36 m c = outZ (xV m c) (nV m c) (wV m c) := by
  unfold Value.res_main_v36
  refine funext fun (i : S16640x5632.Idx) => ?_
  obtain ⟨r, j, rfl⟩ : ∃ (r : Fin 16640) (j : Fin 5632), i = ix2 r j := ⟨i 0, i 1, eq_ix2 i⟩
  show _ = proj (fun d => xV m c (ix2 r d)) (fun d => nV m c (ix1 d)) (wV m c) (src j)
  generalize hq : proj (fun d => xV m c (ix2 r d)) (fun d => nV m c (ix1 d)) (wV m c) (src j) = q
  pointwise!
  subst hq
  have hj := j.isLt
  by_cases h0 : j.val < 1024
  · refine (dif_pos h0).trans (proj_congr (xV m c) (nV m c) (wV m c) r r _ (src j) rfl ?_)
    show 1024 + (j.val) = if j.val < 2048 then 1024 + j.val else if j.val < 4096 then 4632 + (j.val - 2048) else if j.val < 5120 then j.val - 4096 else 3088 + (j.val - 5120)
    split_ifs <;> omega
  refine (dif_neg h0).trans ?_
  by_cases h1 : j.val - 1024 < 1024
  · refine (dif_pos h1).trans (proj_congr (xV m c) (nV m c) (wV m c) r r _ (src j) rfl ?_)
    show 2048 + (j.val - 1024) = if j.val < 2048 then 1024 + j.val else if j.val < 4096 then 4632 + (j.val - 2048) else if j.val < 5120 then j.val - 4096 else 3088 + (j.val - 5120)
    split_ifs <;> omega
  refine (dif_neg h1).trans ?_
  by_cases h2 : j.val - 1024 - 1024 < 1024
  · refine (dif_pos h2).trans (proj_congr (xV m c) (nV m c) (wV m c) r r _ (src j) rfl ?_)
    show 4632 + (j.val - 1024 - 1024) = if j.val < 2048 then 1024 + j.val else if j.val < 4096 then 4632 + (j.val - 2048) else if j.val < 5120 then j.val - 4096 else 3088 + (j.val - 5120)
    split_ifs <;> omega
  refine (dif_neg h2).trans ?_
  by_cases h3 : j.val - 1024 - 1024 - 1024 < 1024
  · refine (dif_pos h3).trans (proj_congr (xV m c) (nV m c) (wV m c) r r _ (src j) rfl ?_)
    show 5656 + (j.val - 1024 - 1024 - 1024) = if j.val < 2048 then 1024 + j.val else if j.val < 4096 then 4632 + (j.val - 2048) else if j.val < 5120 then j.val - 4096 else 3088 + (j.val - 5120)
    split_ifs <;> omega
  refine (dif_neg h3).trans ?_
  by_cases h4 : j.val - 1024 - 1024 - 1024 - 1024 < 512
  · refine (dif_pos h4).trans (proj_congr (xV m c) (nV m c) (wV m c) r r _ (src j) rfl ?_)
    show j.val - 1024 - 1024 - 1024 - 1024 = if j.val < 2048 then 1024 + j.val else if j.val < 4096 then 4632 + (j.val - 2048) else if j.val < 5120 then j.val - 4096 else 3088 + (j.val - 5120)
    split_ifs <;> omega
  refine (dif_neg h4).trans ?_
  by_cases h5 : j.val - 1024 - 1024 - 1024 - 1024 - 512 < 512
  · refine (dif_pos h5).trans (proj_congr (xV m c) (nV m c) (wV m c) r r _ (src j) rfl ?_)
    show 512 + (j.val - 1024 - 1024 - 1024 - 1024 - 512) = if j.val < 2048 then 1024 + j.val else if j.val < 4096 then 4632 + (j.val - 2048) else if j.val < 5120 then j.val - 4096 else 3088 + (j.val - 5120)
    split_ifs <;> omega
  refine (dif_neg h5).trans ?_
  refine proj_congr (xV m c) (nV m c) (wV m c) r r _ (src j) rfl ?_
  show 3088 + (j.val - 1024 - 1024 - 1024 - 1024 - 512 - 512) = if j.val < 2048 then 1024 + j.val else if j.val < 4096 then 4632 + (j.val - 2048) else if j.val < 5120 then j.val - 4096 else 3088 + (j.val - 5120)
  split_ifs <;> omega

theorem outL_eq (c : Dev nD) : Value.res_main_v31 m c = outL (xV m c) (nV m c) (wV m c) (aV m c) (bV m c) := by
  unfold Value.res_main_v31
  refine funext fun (i : S16640x512.Idx) => ?_
  obtain ⟨r, j, rfl⟩ : ∃ (r : Fin 16640) (j : Fin 512), i = ix2 r j := ⟨i 0, i 1, eq_ix2 i⟩
  show _ = decay (fun d => xV m c (ix2 r d)) (fun d => nV m c (ix1 d)) (wV m c) (aV m c) (bV m c) j
  unfold decay
  rw [← div_sixteen]
  generalize hq : logsig _ = q
  pointwise!
  subst hq
  refine congrArg (fun q => Ideal.div q (Ideal.ofBits .f32 0x41800000#32)) (softplus_eq _ _ ?_)
  rfl

theorem outF_eq (c : Dev nD) : Value.res_main_v42 m c = outF (xV m c) (nV m c) (wV m c) (gV m c) := by
  unfold Value.res_main_v42
  refine funext fun (i : S2x8x8320.Idx) => ?_
  obtain ⟨b, a, s, rfl⟩ : ∃ (b : Fin 2) (a : Fin 8) (s : Fin 8320), i = ix3 b a s := ⟨i 0, i 1, i 2, eq_ix3 i⟩
  show _ = logsig (proj (fun d => xV m c (ix2 (rowAt b s) d)) (fun d => nV m c (ix1 d)) (wV m c) ⟨4624 + a.val, by omega⟩ + gV m c (ix1 a))
  generalize hq : logsig _ = q
  pointwise!
  subst hq
  refine softplus_eq _ _ (congrArg (· + gV m c (ix1 a)) (proj_congr (xV m c) (nV m c) (wV m c) _ (rowAt b s) _ _ ?_ ?_))
  · rfl
  · rfl

theorem run (ρ : Dev nD → PrngReg) : θ_run defs (onTc (τ := τ) (main (F := Ideal))) ⟨m, fun _ => 0, ρ⟩ fun r => ∀ c : Dev nD,
      r.2.mem ((c.tc : Thread nD τ).loc main_v36) = outZ (xV m c) (nV m c) (wV m c)
      ∧ r.2.mem ((c.tc : Thread nD τ).loc main_v31) = outL (xV m c) (nV m c) (wV m c) (aV m c) (bV m c)
      ∧ r.2.mem ((c.tc : Thread nD τ).loc main_v38) = outKV 3600 (by decide) (xV m c) (nV m c) (wV m c)
      ∧ r.2.mem ((c.tc : Thread nD τ).loc main_v40) = outKV 4112 (by decide) (xV m c) (nV m c) (wV m c)
      ∧ r.2.mem ((c.tc : Thread nD τ).loc main_v42) = outF (xV m c) (nV m c) (wV m c) (gV m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ?_) (Value.run m ρ)
  obtain ⟨h0, h1, h2, h3, h4, hr⟩ := h c
  refine ⟨h0.trans (outZ_eq m c), h1.trans (outL_eq m c), h2.trans ?_, h3.trans ?_, h4.trans (outF_eq m c), hr⟩
  · refine funext fun (i : S2x8x64x8320.Idx) => ?_
    obtain ⟨b, a, e, s, rfl⟩ : ∃ (b : Fin 2) (a : Fin 8) (e : Fin 64) (s : Fin 8320), i = ix4 b a e s := ⟨i 0, i 1, i 2, i 3, eq_ix4 i⟩
    show _ = proj (fun d => xV m c (ix2 (rowAt b s) d)) (fun d => nV m c (ix1 d)) (wV m c) ⟨3600 + (a.val * 64 + e.val), by omega⟩
    generalize hq : proj _ _ _ _ = q
    pointwise!
    subst hq
    refine proj_congr (xV m c) (nV m c) (wV m c) _ (rowAt b s) _ _ ?_ ?_
    · rfl
    · rfl
  · refine funext fun (i : S2x8x64x8320.Idx) => ?_
    obtain ⟨b, a, e, s, rfl⟩ : ∃ (b : Fin 2) (a : Fin 8) (e : Fin 64) (s : Fin 8320), i = ix4 b a e s := ⟨i 0, i 1, i 2, i 3, eq_ix4 i⟩
    show _ = proj (fun d => xV m c (ix2 (rowAt b s) d)) (fun d => nV m c (ix1 d)) (wV m c) ⟨4112 + (a.val * 64 + e.val), by omega⟩
    generalize hq : proj _ _ _ _ = q
    pointwise!
    subst hq
    refine proj_congr (xV m c) (nV m c) (wV m c) _ (rowAt b s) _ _ ?_ ?_
    · rfl
    · rfl

end Cert.Reference2Ideal.Inproj

end
-- ==== Proof.Ffn.Spec.lean ====
/- The dense feed-forward's mathematics over plain arrays: one row's SwiGLU with the residual, and the sum over the hidden axis cut
   into eleven blocks of 256. -/
module

public import Idealize.ShloMosaic.Lib.Pointwise

@[expose] public section

set_option maxRecDepth 16384

noncomputable section

namespace Cert.Ffn

open Idealize.ShloMosaic

abbrev SX : Shape := ⟨2, ![16640, 1024]⟩
abbrev SU : Shape := ⟨2, ![1024, 2816]⟩
abbrev SD : Shape := ⟨2, ![2816, 1024]⟩

/-- `silu a * b`. -/
def act (a b : EReal) : EReal := a * Ideal.logistic a * b

/-- The hidden value `f` of row `r`. -/
def hid (h : SX.Idx → EReal) (u v : SU.Idx → EReal) (r : Fin 16640) (f : Fin 2816) : EReal :=
  act (∑ k : Fin 1024, h (ix2 r k) * u (ix2 k f)) (∑ k : Fin 1024, h (ix2 r k) * v (ix2 k f))

/-- Row `r`, column `d` of the SwiGLU. -/
def glu (h : SX.Idx → EReal) (u v : SU.Idx → EReal) (w : SD.Idx → EReal) (r : Fin 16640) (d : Fin 1024) : EReal :=
  ∑ f : Fin 2816, hid h u v r f * w (ix2 f d)

/-- The share of hidden block `j` in that sum. -/
def part (h : SX.Idx → EReal) (u v : SU.Idx → EReal) (w : SD.Idx → EReal) (r : Fin 16640) (d : Fin 1024) (j : ℕ) : EReal :=
  ∑ f : Fin 256, if hf : j * 256 + f.val < 2816 then hid h u v r ⟨j * 256 + f.val, hf⟩ * w (ix2 ⟨j * 256 + f.val, hf⟩ d) else 0

theorem parts_eq_glu (h : SX.Idx → EReal) (u v : SU.Idx → EReal) (w : SD.Idx → EReal) (r : Fin 16640) (d : Fin 1024) :
    ∑ j ∈ Finset.range 11, part h u v w r d j = glu h u v w r d := by
  unfold glu
  rw [Finset.sum_range, Fin.sum_univ_tiles 11 256 rfl]
  refine Finset.sum_congr rfl fun j _ => Finset.sum_congr rfl fun f _ => ?_
  have hj := j.isLt; have hf := f.isLt
  rw [dif_pos (by omega)]

/-- What the layer's feed-forward leaves: the residual and the SwiGLU. -/
def out (h x : SX.Idx → EReal) (u v : SU.Idx → EReal) (w : SD.Idx → EReal) : SX.Idx → EReal :=
  fun i => x i + glu h u v w (i 0) (i 1)

end Cert.Ffn

end
-- ==== Proof.Ffn.Value.lean ====
/- The array the dense feed-forward's call leaves: the residual and the SwiGLU of every row. -/
module

public import proofs.«01_k».proof.Proof.Ffn.Spec
public import proofs.«01_k».proof.Proof.Gen.Kernel3Ideal.Value
public import Idealize.ShloMosaic.Lib.Pipeline.ValueKit

@[expose] public section

set_option maxRecDepth 16384

noncomputable section

namespace Cert.Kernel3Ideal.Ffn

open Idealize.ShloMosaic Idealize.ShloMosaic.TcCoe Idealize.SL.Sem
open Idealize.ShloMosaic.Pipeline (Dat)
open Cert.Kernel3Ideal Cert.Kernel3Ideal.Gen Cert.Kernel3Ideal.Value Cert.Ffn

variable (m : (ℓ : Loc nD τ sig) → Buf (Elt Ideal) ℓ)

abbrev hA (c : Dev nD) : FVec Ideal S16640x1024 .bf16 := V m c main_arg0
abbrev xA (c : Dev nD) : FVec Ideal S16640x1024 .f32 := V m c main_arg1
abbrev w1A (c : Dev nD) : FVec Ideal S1024x2816 .f32 := V m c main_arg2
abbrev w3A (c : Dev nD) : FVec Ideal S1024x2816 .f32 := V m c main_arg3
abbrev w2A (c : Dev nD) : FVec Ideal S2816x1024 .f32 := V m c main_arg4

/-! ## What one point adds -/

theorem pay1_at (r : Fin 1280) (d : Fin 1024) : k0_pay1 (F := Ideal) (ix2 r d) = 0 := by
  pointwise [k0_pay1]

theorem pay2_at (x : FVec Ideal S1280x1024 .bf16) (u v : FVec Ideal S1024x256 .f32) (o : FVec Ideal S1280x1024 .f32) (w : FVec Ideal S256x1024 .f32) (r : Fin 1280) (d : Fin 1024) :
    k0_pay2 (F := Ideal) x u v o w (ix2 r d)
      = o (ix2 r d) + ∑ f : Fin 256, act (∑ k : Fin 1024, x (ix2 r k) * u (ix2 k f)) (∑ k : Fin 1024, x (ix2 r k) * v (ix2 k f)) * w (ix2 f d) := by
  pointwise! [k0_pay2, act]

theorem pay3_at (x o : FVec Ideal S1280x1024 .f32) (r : Fin 1280) (d : Fin 1024) : k0_pay3 (F := Ideal) x o (ix2 r d) = x (ix2 r d) + o (ix2 r d) := by
  pointwise [k0_pay3]

/-! ## The blocks -/

theorem tN (t : Fin grid0.N) : t.val < 143 := Nat.lt_of_lt_of_eq t.isLt N_0
abbrev qOf (t : Fin grid0.N) : Fin 13 := ⟨t.val / 11, by have := tN t; omega⟩
abbrev rowOf (q : Fin 13) (r : Fin 1280) : Fin 16640 := ⟨q.val * 1280 + r.val, by omega⟩

theorem coord0 : ∀ t : Fin grid0.N, (grid0.coords t 0).val = t.val / 11 := by decide +kernel
theorem coord1 : ∀ t : Fin grid0.N, (grid0.coords t 1).val = t.val % 11 := by decide +kernel

theorem iblk0_at (c : Dev nD) (t : Fin grid0.N) (r : Fin 1280) (k : Fin 1024) :
    iblk m c 0 t (ix2 r k) = hA m c (ix2 (rowOf (qOf t) r) k) := by
  refine congrArg (V m c main_arg0) (funext fun a => Fin.ext ?_)
  have ht := tN t
  have e0 := coord0 t
  match a with
  | ⟨0, _⟩ =>
    show (BitVec.ofNat 32 (grid0.coords t 0).val).toNat * 1280 + 1 * r.val = t.val / 11 * 1280 + r.val
    rw [BitVec.toNat_ofNat, e0]; omega
  | ⟨1, _⟩ =>
    show 0 * 1024 + 1 * k.val = k.val
    omega

theorem iblk1_at (c : Dev nD) (t : Fin grid0.N) (r : Fin 1280) (k : Fin 1024) :
    iblk m c 1 t (ix2 r k) = xA m c (ix2 (rowOf (qOf t) r) k) := by
  refine congrArg (V m c main_arg1) (funext fun a => Fin.ext ?_)
  have ht := tN t
  have e0 := coord0 t
  match a with
  | ⟨0, _⟩ =>
    show (BitVec.ofNat 32 (grid0.coords t 0).val).toNat * 1280 + 1 * r.val = t.val / 11 * 1280 + r.val
    rw [BitVec.toNat_ofNat, e0]; omega
  | ⟨1, _⟩ =>
    show 0 * 1024 + 1 * k.val = k.val
    omega

theorem iblk2_at (c : Dev nD) (t : Fin grid0.N) (k : Fin 1024) (f : Fin 256) (hb : t.val % 11 * 256 + f.val < 2816) :
    iblk m c 2 t (ix2 k f) = w1A m c (ix2 k ⟨t.val % 11 * 256 + f.val, hb⟩) := by
  refine congrArg (V m c main_arg2) (funext fun a => Fin.ext ?_)
  have e1 := coord1 t
  match a with
  | ⟨0, _⟩ =>
    show 0 * 1024 + 1 * k.val = k.val
    omega
  | ⟨1, _⟩ =>
    show (BitVec.ofNat 32 (grid0.coords t 1).val).toNat * 256 + 1 * f.val = t.val % 11 * 256 + f.val
    rw [BitVec.toNat_ofNat, e1]; omega

theorem iblk3_at (c : Dev nD) (t : Fin grid0.N) (k : Fin 1024) (f : Fin 256) (hb : t.val % 11 * 256 + f.val < 2816) :
    iblk m c 3 t (ix2 k f) = w3A m c (ix2 k ⟨t.val % 11 * 256 + f.val, hb⟩) := by
  refine congrArg (V m c main_arg3) (funext fun a => Fin.ext ?_)
  have e1 := coord1 t
  match a with
  | ⟨0, _⟩ =>
    show 0 * 1024 + 1 * k.val = k.val
    omega
  | ⟨1, _⟩ =>
    show (BitVec.ofNat 32 (grid0.coords t 1).val).toNat * 256 + 1 * f.val = t.val % 11 * 256 + f.val
    rw [BitVec.toNat_ofNat, e1]; omega

theorem iblk4_at (c : Dev nD) (t : Fin grid0.N) (f : Fin 256) (d : Fin 1024) (hb : t.val % 11 * 256 + f.val < 2816) :
    iblk m c 4 t (ix2 f d) = w2A m c (ix2 ⟨t.val % 11 * 256 + f.val, hb⟩ d) := by
  refine congrArg (V m c main_arg4) (funext fun a => Fin.ext ?_)
  have e1 := coord1 t
  match a with
  | ⟨0, _⟩ =>
    show (BitVec.ofNat 32 (grid0.coords t 1).val).toNat * 256 + 1 * f.val = t.val % 11 * 256 + f.val
    rw [BitVec.toNat_ofNat, e1]; omega
  | ⟨1, _⟩ =>
    show 0 * 1024 + 1 * d.val = d.val
    omega

/-! ## One point's addition, and the eleven points of a block of rows -/

/-- What a point adds: the share of its hidden block. -/
theorem add_at (c : Dev nD) (t : Fin grid0.N) (o : FVec Ideal S1280x1024 .f32) (r : Fin 1280) (d : Fin 1024) :
    k0_pay2 (F := Ideal) (iblk m c 0 t) (iblk m c 2 t) (iblk m c 3 t) o (iblk m c 4 t) (ix2 r d)
      = o (ix2 r d) + part (hA m c) (w1A m c) (w3A m c) (w2A m c) (rowOf (qOf t) r) d (t.val % 11) := by
  refine (pay2_at (iblk m c 0 t) (iblk m c 2 t) (iblk m c 3 t) o (iblk m c 4 t) r d).trans ?_
  refine congrArg (o (ix2 r d) + ·) ?_
  unfold part
  refine Finset.sum_congr rfl fun f _ => ?_
  have hb : t.val % 11 * 256 + f.val < 2816 := by have := f.isLt; omega
  rw [dif_pos hb]
  unfold hid
  refine Ideal.mul_congr (congrArg₂ act (Finset.sum_congr rfl fun k _ => Ideal.mul_congr (iblk0_at m c t r k) (iblk2_at m c t k f hb))
    (Finset.sum_congr rfl fun k _ => Ideal.mul_congr (iblk0_at m c t r k) (iblk3_at m c t k f hb))) (iblk4_at m c t f d hb)

/-- The accumulator after a first point. -/
theorem acc_first (c : Dev nD) (t : Fin grid0.N) (h0 : t.val % 11 = 0) (h1 : ¬t.val % 11 = 10) (r : Fin 1280) (d : Fin 1024) :
    (outsAt0 m c t.val t.isLt).2 (ix2 r d) = k0_pay2 (F := Ideal) (iblk m c 0 t) (iblk m c 2 t) (iblk m c 3 t) (k0_pay1 (F := Ideal)) (iblk m c 4 t) (ix2 r d) := by
  rw [outsAt0_A m c t h0 h1]
  frame_out

/-- The accumulator after a point between. -/
theorem acc_mid (c : Dev nD) (t : Fin grid0.N) (h0 : ¬t.val % 11 = 0) (h1 : ¬t.val % 11 = 10) (r : Fin 1280) (d : Fin 1024) :
    (outsAt0 m c t.val t.isLt).2 (ix2 r d) = k0_pay2 (F := Ideal) (iblk m c 0 t) (iblk m c 2 t) (iblk m c 3 t)
      (outsAt0 m c (t.val - 1) (Nat.lt_of_le_of_lt (Nat.sub_le _ _) t.isLt)).2 (iblk m c 4 t) (ix2 r d) := by
  rw [outsAt0_B m c t h0 h1]
  frame_out
  exact congrArg (fun o => k0_pay2 (F := Ideal) (iblk m c 0 t) (iblk m c 2 t) (iblk m c 3 t) o (iblk m c 4 t) (ix2 r d)) (Memref.IsWhole.read_unread (Memref.isWhole_whole cc0_scratch0) _)

/-- The accumulator after a last point. -/
theorem acc_last (c : Dev nD) (t : Fin grid0.N) (h0 : ¬t.val % 11 = 0) (h1 : t.val % 11 = 10) (r : Fin 1280) (d : Fin 1024) :
    (outsAt0 m c t.val t.isLt).2 (ix2 r d) = k0_pay2 (F := Ideal) (iblk m c 0 t) (iblk m c 2 t) (iblk m c 3 t)
      (outsAt0 m c (t.val - 1) (Nat.lt_of_le_of_lt (Nat.sub_le _ _) t.isLt)).2 (iblk m c 4 t) (ix2 r d) := by
  rw [outsAt0_C m c t h0 h1]
  frame_out
  exact congrArg (fun o => k0_pay2 (F := Ideal) (iblk m c 0 t) (iblk m c 2 t) (iblk m c 3 t) o (iblk m c 4 t) (ix2 r d)) (Memref.IsWhole.read_unread (Memref.isWhole_whole cc0_scratch0) _)

/-- The output after a last point. -/
theorem out_last (c : Dev nD) (t : Fin grid0.N) (h0 : ¬t.val % 11 = 0) (h1 : t.val % 11 = 10) (r : Fin 1280) (d : Fin 1024) :
    (outsAt0 m c t.val t.isLt).1 (ix2 r d) = k0_pay3 (F := Ideal) (iblk m c 1 t) (k0_pay2 (F := Ideal) (iblk m c 0 t) (iblk m c 2 t) (iblk m c 3 t)
      (outsAt0 m c (t.val - 1) (Nat.lt_of_le_of_lt (Nat.sub_le _ _) t.isLt)).2 (iblk m c 4 t)) (ix2 r d) := by
  rw [outsAt0_C m c t h0 h1]
  frame_out
  exact congrArg (fun o => k0_pay3 (F := Ideal) (iblk m c 1 t) (k0_pay2 (F := Ideal) (iblk m c 0 t) (iblk m c 2 t) (iblk m c 3 t) o (iblk m c 4 t)) (ix2 r d)) (Memref.IsWhole.read_unread (Memref.isWhole_whole cc0_scratch0) _)

/-- After point `n` the accumulator holds the shares of the hidden blocks so far. -/
theorem acc_eq (c : Dev nD) : ∀ (n : ℕ) (hn : n < grid0.N) (r : Fin 1280) (d : Fin 1024),
    (outsAt0 m c n hn).2 (ix2 r d)
      = ∑ j ∈ Finset.range (n % 11 + 1), part (hA m c) (w1A m c) (w3A m c) (w2A m c) (rowOf (qOf ⟨n, hn⟩) r) d j := by
  intro n
  induction n with
  | zero =>
    intro hn r d
    refine (acc_first m c ⟨0, hn⟩ rfl (show ¬0 % 11 = 10 by decide) r d).trans ((add_at m c ⟨0, hn⟩ _ r d).trans ?_)
    rw [show 0 % 11 + 1 = 1 from rfl, Finset.sum_range_one]
    exact (congrArg (· + _) (pay1_at r d)).trans (zero_add _)
  | succ n ih =>
    intro hn r d
    by_cases h0 : (n + 1) % 11 = 0
    · refine (acc_first m c ⟨n + 1, hn⟩ h0 (by show ¬(n + 1) % 11 = 10; omega) r d).trans ((add_at m c ⟨n + 1, hn⟩ _ r d).trans ?_)
      rw [h0, Finset.sum_range_one]
      exact (congrArg (· + _) (pay1_at r d)).trans (zero_add _)
    · have hq : qOf ⟨n + 1, hn⟩ = qOf ⟨n, Nat.lt_of_succ_lt hn⟩ := Fin.ext (show (n + 1) / 11 = n / 11 by omega)
      have step : (outsAt0 m c (n + 1) hn).2 (ix2 r d) = k0_pay2 (F := Ideal) (iblk m c 0 ⟨n + 1, hn⟩) (iblk m c 2 ⟨n + 1, hn⟩) (iblk m c 3 ⟨n + 1, hn⟩)
          (outsAt0 m c n (Nat.lt_of_succ_lt hn)).2 (iblk m c 4 ⟨n + 1, hn⟩) (ix2 r d) := by
        by_cases h1 : (n + 1) % 11 = 10
        · exact acc_last m c ⟨n + 1, hn⟩ h0 h1 r d
        · exact acc_mid m c ⟨n + 1, hn⟩ h0 h1 r d
      refine step.trans ((add_at m c ⟨n + 1, hn⟩ _ r d).trans ?_)
      rw [Finset.sum_range_succ]
      refine congrArg (· + _) ((ih (Nat.lt_of_succ_lt hn) r d).trans ?_)
      rw [hq, show n % 11 + 1 = (n + 1) % 11 by omega]

/-! ## The array -/

/-- What the call leaves. -/
abbrev G (c : Dev nD) : FVec Ideal S16640x1024 .f32 := out (hA m c) (xA m c) (w1A m c) (w3A m c) (w2A m c)

theorem emb5 (t : Fin grid0.N) (y : S1280x1024.Idx) :
    (((cfg0.win 5).blk t).view.emb y : S16640x1024.Idx) = ix2 (rowOf (qOf t) (y 0)) (y 1) := by
  have ht := tN t
  have e0 := coord0 t
  refine funext fun a => Fin.ext ?_
  match a with
  | ⟨0, _⟩ =>
    show (BitVec.ofNat 32 (grid0.coords t 0).val).toNat * 1280 + 1 * (y 0).val = t.val / 11 * 1280 + (y 0).val
    rw [BitVec.toNat_ofNat, e0]; omega
  | ⟨1, _⟩ =>
    show 0 * 1024 + 1 * (y 1).val = (y 1).val
    omega

theorem written (c : Dev nD) (t : Fin cfg0.N) (hf : (cfg0.win 5).flush t = true) :
    (dats m 0 c).flushed 5 t = ((cfg0.win 5).blk t).view.read (Elt Ideal) (G m c) := by
  have hm : t.val % 11 = 10 := (flush0_5 t).mp hf
  have ht := tN t
  rw [flushed5]
  refine funext fun (y : S1280x1024.Idx) => ?_
  refine Eq.trans ?_ (congrArg (G m c) (emb5 t y).symm)
  show (outsAt0 m c t.val t.isLt).1 y = _
  refine (congrArg (outsAt0 m c t.val t.isLt).1 (eq_ix2 y)).trans ?_
  have hm0 : ¬t.val % 11 = 0 := by omega
  refine (out_last m c t hm0 hm (y 0) (y 1)).trans ((pay3_at _ _ (y 0) (y 1)).trans ?_)
  show _ = xA m c (ix2 (rowOf (qOf t) (y 0)) (y 1)) + glu (hA m c) (w1A m c) (w3A m c) (w2A m c) (rowOf (qOf t) (y 0)) (y 1)
  refine congrArg₂ (· + ·) (iblk1_at m c t (y 0) (y 1)) ?_
  refine (acc_last m c t hm0 hm (y 0) (y 1)).symm.trans ((acc_eq m c t.val t.isLt (y 0) (y 1)).trans ?_)
  rw [show t.val % 11 + 1 = 11 by omega]
  exact parts_eq_glu _ _ _ _ _ _

theorem final (c : Dev nD) : (dats m 0 c).arrAt 5 cfg0.N = G m c :=
  (dats m 0 c).arrAt_eq_of_cover 5 _ (fun t hf => written m c t hf) (fun i => (covered_iff5 i).2 (by
    have h0 : (i 0).val < 16640 := (i 0).isLt; have h1 : (i 1).val < 1024 := (i 1).isLt; omega))

end Cert.Kernel3Ideal.Ffn

end
-- ==== Proof.Ffn.Ref.lean ====
/- The reference's result of the dense feed-forward is the residual and the SwiGLU of every row. -/
module

public import proofs.«01_k».proof.Proof.Ffn.Spec
public import proofs.«01_k».proof.Proof.Gen.Reference3Ideal.Run

@[expose] public section

set_option maxRecDepth 16384

noncomputable section

namespace Cert.Reference3Ideal.Ffn

open Idealize.ShloMosaic Idealize.ShloMosaic.TcCoe Idealize.SL.Sem
open Cert.Reference3Ideal Cert.Reference3Ideal.Gen Cert.Ffn

variable (m : (ℓ : Loc nD τ sig) → Buf (Elt Ideal) ℓ)

abbrev hV (c : Dev nD) : FVec Ideal S16640x1024 .bf16 := m ((c.tc : Thread nD τ).loc main_arg0)
abbrev xV (c : Dev nD) : FVec Ideal S16640x1024 .f32 := m ((c.tc : Thread nD τ).loc main_arg1)
abbrev w1V (c : Dev nD) : FVec Ideal S1024x2816 .f32 := m ((c.tc : Thread nD τ).loc main_arg2)
abbrev w3V (c : Dev nD) : FVec Ideal S1024x2816 .f32 := m ((c.tc : Thread nD τ).loc main_arg3)
abbrev w2V (c : Dev nD) : FVec Ideal S2816x1024 .f32 := m ((c.tc : Thread nD τ).loc main_arg4)

theorem out_open (h x : SX.Idx → EReal) (u v : SU.Idx → EReal) (w : SD.Idx → EReal) (r : Fin 16640) (d : Fin 1024) :
    out h x u v w (ix2 r d) = x (ix2 r d) + ∑ f : Fin 2816, ((∑ k : Fin 1024, h (ix2 r k) * u (ix2 k f)) * Ideal.div 1 (1 + Ideal.exp (-(∑ k : Fin 1024, h (ix2 r k) * u (ix2 k f))))
      * ∑ k : Fin 1024, h (ix2 r k) * v (ix2 k f)) * w (ix2 f d) := rfl

theorem run (ρ : Dev nD → PrngReg) : θ_run defs (onTc (τ := τ) (main (F := Ideal))) ⟨m, fun _ => 0, ρ⟩ fun r => ∀ c : Dev nD,
      r.2.mem ((c.tc : Thread nD τ).loc main_v6) = out (hV m c) (xV m c) (w1V m c) (w3V m c) (w2V m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨(h c).1.trans ?_, (h c).2⟩) (Value.run m ρ)
  refine funext fun (i : S16640x1024.Idx) => ?_
  obtain ⟨a, b, rfl⟩ : ∃ (a : Fin 16640) (b : Fin 1024), i = ix2 a b := ⟨i 0, i 1, eq_ix2 i⟩
  pointwise [out_open]

end Cert.Reference3Ideal.Ffn

end
-- ==== Proof.Merge.Pay.lean ====
/- The merge's payloads at one row: each is the row's mathematics. -/
module

public import proofs.«01_k».proof.Proof.Merge.Spec
public import proofs.«01_k».proof.Proof.Gen.Kernel4Ideal.Value
public import Idealize.ShloMosaic.Lib.Pipeline.ValueKit

@[expose] public section

set_option maxRecDepth 16384

noncomputable section

namespace Cert.Kernel4Ideal.Merge

open Idealize.ShloMosaic Idealize.ShloMosaic.TcCoe Idealize.SL.Sem
open Cert.Kernel4Ideal Cert.Kernel4Ideal.Gen Cert.Merge

theorem pay1_at (x : FVec Ideal S320x1024 .f32) (n : FVec Ideal S1x1024 .f32) (r : Fin 320) (d : Fin 1024) :
    k0_pay1 (F := Ideal) x n (ix2 r d) = norm1024 (fun d => x (ix2 r d)) (fun d => n (ix2 0 d)) d := by
  pointwise! [k0_pay1, norm1024, eps]

/-- A normed entry, its columns named in another way. -/
theorem norm_congr (o : FVec Ideal S320x1024 .f32) (g : FVec Ideal S1x256 .f32) (r : Fin 320) (j j' : Fin 1024) (p : Fin 256) (c : Fin 256 → Fin 1024)
    (hj : j'.val = j.val) (hp : p.val = (inHead j).val) (hc : ∀ k, (c k).val = (headCol j k).val) :
    o (ix2 r j') * Ideal.rsqrt (Ideal.div (∑ k, o (ix2 r (c k)) * o (ix2 r (c k))) (Ideal.ofBits .f32 0x43800000#32) + Ideal.ofBits .f32 0x358637BD#32) * g (ix2 0 p)
      = norm256 (∑ k : Fin 256, o (ix2 r (headCol j k)) * o (ix2 r (headCol j k))) (o (ix2 r j)) (g (ix2 0 (inHead j))) := by
  obtain rfl : j' = j := Fin.ext hj
  obtain rfl : p = inHead j' := Fin.ext hp
  obtain rfl : c = headCol j' := funext fun k => Fin.ext (hc k)
  rfl

/-- The normed heads laid side by side. -/
theorem heads_at (o : FVec Ideal S320x1024 .f32) (g : FVec Ideal S1x256 .f32) (v54 : FVec Ideal S320x256 .f32) (r : Fin 320)
    (h54 : ∀ d : Fin 256, v54 (ix2 r d) = norm256 (∑ k : Fin 256, o (ix2 r (headCol ⟨768 + d.val, by omega⟩ k)) * o (ix2 r (headCol ⟨768 + d.val, by omega⟩ k))) (o (ix2 r ⟨768 + d.val, by omega⟩)) (g (ix2 0 d)))
    (j : Fin 1024) :
    concatenate S320x1024 1 [⟨S320x256, k0_pay3 (F := Ideal) o g⟩, ⟨S320x256, k0_pay4 (F := Ideal) o g⟩, ⟨S320x256, k0_pay5 (F := Ideal) o g⟩, ⟨S320x256, v54⟩]
        concatenates_S320x256_S320x256_S320x256_S320x256_S320x1024_d1 (ix2 r j)
      = norm256 (∑ k : Fin 256, o (ix2 r (headCol j k)) * o (ix2 r (headCol j k))) (o (ix2 r j)) (g (ix2 0 (inHead j))) := by
  pointwise! [k0_pay3, k0_pay4, k0_pay5, k0_pay2]
  have hj := j.isLt
  by_cases h0 : j.val < 256
  · refine (dif_pos h0).trans (norm_congr o g r j _ _ _ rfl ?_ fun k => ?_)
    · show j.val = j.val % 256; omega
    · show k.val = j.val / 256 * 256 + k.val; omega
  refine (dif_neg h0).trans ?_
  by_cases h1 : j.val - 256 < 256
  · refine (dif_pos h1).trans (norm_congr o g r j _ _ _ ?_ ?_ fun k => ?_)
    · show 256 + (j.val - 256) = j.val; omega
    · show j.val - 256 = j.val % 256; omega
    · show 256 + k.val = j.val / 256 * 256 + k.val; omega
  refine (dif_neg h1).trans ?_
  by_cases h2 : j.val - 256 - 256 < 256
  · refine (dif_pos h2).trans (norm_congr o g r j _ _ _ ?_ ?_ fun k => ?_)
    · show 512 + (j.val - 256 - 256) = j.val; omega
    · show j.val - 256 - 256 = j.val % 256; omega
    · show 512 + k.val = j.val / 256 * 256 + k.val; omega
  refine (dif_neg h2).trans ((h54 _).trans (norm_congr o g r j _ _ _ ?_ ?_ fun k => ?_))
  · show 768 + (j.val - 256 - 256 - 256) = j.val; omega
  · show j.val - 256 - 256 - 256 = j.val % 256; omega
  · show (768 + (j.val - 256 - 256 - 256)) / 256 * 256 + k.val = j.val / 256 * 256 + k.val; omega

theorem pay8_at (x o z ga gb : FVec Ideal S320x1024 .f32) (b : FVec Ideal S320x512 .f32) (g : FVec Ideal S1x256 .f32)
    (wa wo : FVec Ideal S1024x1024 .bf16) (wb : FVec Ideal S512x1024 .bf16) (r : Fin 320) (d : Fin 1024) :
    k0_pay8 (F := Ideal) (k0_pay2 g) (k0_pay3 o g) (k0_pay4 o g) (k0_pay5 o g) (k0_pay6 o) (k0_pay7 o) z wa b wb ga gb x wo (ix2 r d)
      = row (fun d => x (ix2 r d)) (fun d => o (ix2 r d)) (fun d => z (ix2 r d)) (fun d => ga (ix2 r d)) (fun d => gb (ix2 r d)) (fun j => b (ix2 r j))
          (fun k => g (ix2 0 k)) wa wb wo d := by
  unfold k0_pay8
  generalize hc : concatenate S320x1024 1 _ _ = C
  have hC := fun j => (congrFun hc (ix2 r j)).symm.trans (heads_at o g _ r (fun d => by pointwise! [k0_pay7, k0_pay6, k0_pay2]; exact (norm_congr o g r ⟨768 + d.val, by omega⟩ _ d (fun k => ⟨768 + k.val, by omega⟩) rfl (by show d.val = (768 + d.val) % 256; omega) (fun k => by show 768 + k.val = (768 + d.val) / 256 * 256 + k.val; omega)).trans (congrArg (fun q => norm256 _ _ (g (ix2 0 q))) (Fin.ext (show (768 + d.val) % 256 = d.val by have := d.isLt; omega)))) j)
  pointwise!
  unfold row merged branchA
  simp only [hC]

end Cert.Kernel4Ideal.Merge

end
-- ==== Proof.Merge.Value.lean ====
/- The arrays the merge's call leaves: the merged rows and those rows normed. -/
module

public import proofs.«01_k».proof.Proof.Merge.Pay

@[expose] public section

set_option maxRecDepth 16384

noncomputable section

namespace Cert.Kernel4Ideal.Merge

open Idealize.ShloMosaic Idealize.ShloMosaic.TcCoe Idealize.SL.Sem
open Idealize.ShloMosaic.Pipeline (Dat)
open Cert.Kernel4Ideal Cert.Kernel4Ideal.Gen Cert.Kernel4Ideal.Value Cert.Merge

variable (m : (ℓ : Loc nD τ sig) → Buf (Elt Ideal) ℓ)

abbrev xA (c : Dev nD) : FVec Ideal S16640x1024 .f32 := V m c main_arg0
abbrev zA (c : Dev nD) : FVec Ideal S16640x5632 .f32 := V m c main_arg1
abbrev oA (c : Dev nD) : FVec Ideal S16640x1024 .f32 := V m c main_arg2
abbrev bA (c : Dev nD) : FVec Ideal S16640x512 .f32 := V m c main_arg3
abbrev gA (c : Dev nD) : FVec Ideal S256 .f32 := m ((c : Thread nD τ).loc main_arg4)
abbrev waA (c : Dev nD) : FVec Ideal S1024x1024 .f32 := m ((c : Thread nD τ).loc main_arg5)
abbrev wbA (c : Dev nD) : FVec Ideal S512x1024 .f32 := m ((c : Thread nD τ).loc main_arg6)
abbrev woA (c : Dev nD) : FVec Ideal S1024x1024 .f32 := m ((c : Thread nD τ).loc main_arg7)
abbrev nA (c : Dev nD) : FVec Ideal S1024 .f32 := m ((c : Thread nD τ).loc main_arg8)

/-! ## What the host operations before the call leave -/

theorem V_v0 (c : Dev nD) : V m c main_v0 = shapeCast S1x256 (gA m c) shapeCasts_S256_S1x256 := by unfold V; after_results; try rfl
theorem V_v1 (c : Dev nD) : V m c main_v1 = (truncf .bf16 (waA m c) bitsLt_bf16_f32 : FVec Ideal S1024x1024 .bf16) := by unfold V; after_results; try rfl
theorem V_v2 (c : Dev nD) : V m c main_v2 = (truncf .bf16 (wbA m c) bitsLt_bf16_f32 : FVec Ideal S512x1024 .bf16) := by unfold V; after_results; try rfl
theorem V_v3 (c : Dev nD) : V m c main_v3 = (truncf .bf16 (woA m c) bitsLt_bf16_f32 : FVec Ideal S1024x1024 .bf16) := by unfold V; after_results; try rfl
theorem V_v4 (c : Dev nD) : V m c main_v4 = shapeCast S1x1024 (nA m c) shapeCasts_S1024_S1x1024 := by unfold V; after_results; try rfl

/-! ## The blocks -/

theorem tN (t : Fin grid0.N) : t.val < 52 := Nat.lt_of_lt_of_eq t.isLt N_0

/-- Row `r` of point `t`'s block. -/
def rowOf (t : Fin grid0.N) (r : Fin 320) : Fin 16640 := ⟨t.val * 320 + r.val, by have := tN t; have := r.isLt; omega⟩

theorem coord0 : ∀ t : Fin grid0.N, (grid0.coords t 0).val = t.val := by decide +kernel

theorem iblk0_at (c : Dev nD) (t : Fin grid0.N) (r : Fin 320) (d : Fin 1024) :
    iblk m c 0 t (ix2 r d) = xA m c (ix2 (rowOf t r) d) := by
  refine congrArg (V m c main_arg0) (funext fun a => Fin.ext ?_)
  have ht := tN t
  have e0 := coord0 t
  match a with
  | ⟨0, _⟩ =>
    show (BitVec.ofNat 32 (grid0.coords t 0).val).toNat * 320 + 1 * r.val = t.val * 320 + r.val
    rw [BitVec.toNat_ofNat, e0]; omega
  | ⟨1, _⟩ =>
    show 0 * 1024 + 1 * d.val = d.val
    omega

theorem iblk1_at (c : Dev nD) (t : Fin grid0.N) (r : Fin 320) (d : Fin 1024) :
    iblk m c 1 t (ix2 r d) = oA m c (ix2 (rowOf t r) d) := by
  refine congrArg (V m c main_arg2) (funext fun a => Fin.ext ?_)
  have ht := tN t
  have e0 := coord0 t
  match a with
  | ⟨0, _⟩ =>
    show (BitVec.ofNat 32 (grid0.coords t 0).val).toNat * 320 + 1 * r.val = t.val * 320 + r.val
    rw [BitVec.toNat_ofNat, e0]; omega
  | ⟨1, _⟩ =>
    show 0 * 1024 + 1 * d.val = d.val
    omega

theorem iblk3_at (c : Dev nD) (t : Fin grid0.N) (r : Fin 320) (d : Fin 512) :
    iblk m c 3 t (ix2 r d) = bA m c (ix2 (rowOf t r) d) := by
  refine congrArg (V m c main_arg3) (funext fun a => Fin.ext ?_)
  have ht := tN t
  have e0 := coord0 t
  match a with
  | ⟨0, _⟩ =>
    show (BitVec.ofNat 32 (grid0.coords t 0).val).toNat * 320 + 1 * r.val = t.val * 320 + r.val
    rw [BitVec.toNat_ofNat, e0]; omega
  | ⟨1, _⟩ =>
    show 0 * 512 + 1 * d.val = d.val
    omega

theorem x2_at (c : Dev nD) (t : Fin grid0.N) (r : Fin 320) (d : Fin 1024) :
    X0_2 m c t (ix2 r d) = zA m c (ix2 (rowOf t r) (zcol 1 (by decide) d)) := by
  unfold X0_2 Pipeline.Window.fill
  refine (dif_pos (moved0_2 t (ix2 r d))).trans ?_
  refine congrArg (V m c main_arg1) (funext fun a => Fin.ext ?_)
  have ht := tN t
  have e0 := coord0 t
  match a with
  | ⟨0, _⟩ =>
    show (BitVec.ofNat 32 (grid0.coords t 0).val).toNat * 320 + 1 * r.val = t.val * 320 + r.val
    rw [BitVec.toNat_ofNat, e0]; omega
  | ⟨1, _⟩ =>
    show 1 * 1024 + 1 * d.val = 1 * 1024 + d.val
    omega

theorem x4_at (c : Dev nD) (t : Fin grid0.N) (r : Fin 320) (d : Fin 1024) :
    X0_4 m c t (ix2 r d) = zA m c (ix2 (rowOf t r) (zcol 2 (by decide) d)) := by
  unfold X0_4 Pipeline.Window.fill
  refine (dif_pos (moved0_4 t (ix2 r d))).trans ?_
  refine congrArg (V m c main_arg1) (funext fun a => Fin.ext ?_)
  have ht := tN t
  have e0 := coord0 t
  match a with
  | ⟨0, _⟩ =>
    show (BitVec.ofNat 32 (grid0.coords t 0).val).toNat * 320 + 1 * r.val = t.val * 320 + r.val
    rw [BitVec.toNat_ofNat, e0]; omega
  | ⟨1, _⟩ =>
    show 2 * 1024 + 1 * d.val = 2 * 1024 + d.val
    omega

theorem x5_at (c : Dev nD) (t : Fin grid0.N) (r : Fin 320) (d : Fin 1024) :
    X0_5 m c t (ix2 r d) = zA m c (ix2 (rowOf t r) (zcol 3 (by decide) d)) := by
  unfold X0_5 Pipeline.Window.fill
  refine (dif_pos (moved0_5 t (ix2 r d))).trans ?_
  refine congrArg (V m c main_arg1) (funext fun a => Fin.ext ?_)
  have ht := tN t
  have e0 := coord0 t
  match a with
  | ⟨0, _⟩ =>
    show (BitVec.ofNat 32 (grid0.coords t 0).val).toNat * 320 + 1 * r.val = t.val * 320 + r.val
    rw [BitVec.toNat_ofNat, e0]; omega
  | ⟨1, _⟩ =>
    show 3 * 1024 + 1 * d.val = 3 * 1024 + d.val
    omega

theorem iblk6_at (c : Dev nD) (t : Fin grid0.N) (k : Fin 1) (d : Fin 256) : iblk m c 6 t (ix2 k d) = gA m c (ix1 d) := by
  have e : iblk m c 6 t (ix2 k d) = V m c main_v0 (ix2 k d) := by
    refine congrArg (V m c main_v0) (funext fun a => Fin.ext ?_)
    match a with
    | ⟨0, _⟩ => show 0 * 1 + 1 * k.val = k.val; omega
    | ⟨1, _⟩ => show 0 * 256 + 1 * d.val = d.val; omega
  rw [e, V_v0 m c]
  pointwise

theorem iblk7_at (c : Dev nD) (t : Fin grid0.N) (k : Fin 1024) (d : Fin 1024) : iblk m c 7 t (ix2 k d) = waA m c (ix2 k d) := by
  have e : iblk m c 7 t (ix2 k d) = V m c main_v1 (ix2 k d) := by
    refine congrArg (V m c main_v1) (funext fun a => Fin.ext ?_)
    match a with
    | ⟨0, _⟩ => show 0 * 1024 + 1 * k.val = k.val; omega
    | ⟨1, _⟩ => show 0 * 1024 + 1 * d.val = d.val; omega
  rw [e, V_v1 m c]
  rfl

theorem iblk8_at (c : Dev nD) (t : Fin grid0.N) (k : Fin 512) (d : Fin 1024) : iblk m c 8 t (ix2 k d) = wbA m c (ix2 k d) := by
  have e : iblk m c 8 t (ix2 k d) = V m c main_v2 (ix2 k d) := by
    refine congrArg (V m c main_v2) (funext fun a => Fin.ext ?_)
    match a with
    | ⟨0, _⟩ => show 0 * 512 + 1 * k.val = k.val; omega
    | ⟨1, _⟩ => show 0 * 1024 + 1 * d.val = d.val; omega
  rw [e, V_v2 m c]
  rfl

theorem iblk9_at (c : Dev nD) (t : Fin grid0.N) (k : Fin 1024) (d : Fin 1024) : iblk m c 9 t (ix2 k d) = woA m c (ix2 k d) := by
  have e : iblk m c 9 t (ix2 k d) = V m c main_v3 (ix2 k d) := by
    refine congrArg (V m c main_v3) (funext fun a => Fin.ext ?_)
    match a with
    | ⟨0, _⟩ => show 0 * 1024 + 1 * k.val = k.val; omega
    | ⟨1, _⟩ => show 0 * 1024 + 1 * d.val = d.val; omega
  rw [e, V_v3 m c]
  rfl

theorem iblk10_at (c : Dev nD) (t : Fin grid0.N) (k : Fin 1) (d : Fin 1024) : iblk m c 10 t (ix2 k d) = nA m c (ix1 d) := by
  have e : iblk m c 10 t (ix2 k d) = V m c main_v4 (ix2 k d) := by
    refine congrArg (V m c main_v4) (funext fun a => Fin.ext ?_)
    match a with
    | ⟨0, _⟩ => show 0 * 1 + 1 * k.val = k.val; omega
    | ⟨1, _⟩ => show 0 * 1024 + 1 * d.val = d.val; omega
  rw [e, V_v4 m c]
  pointwise

/-! ## The rows -/

/-- What the call leaves: the merged rows. -/
abbrev G (c : Dev nD) : FVec Ideal S16640x1024 .f32 := out (xA m c) (zA m c) (oA m c) (bA m c) (gA m c) (waA m c) (wbA m c) (woA m c)

/-- What one point computes. -/
abbrev tile (c : Dev nD) (t : Fin grid0.N) : FVec Ideal S320x1024 .f32 :=
  k0_pay8 (F := Ideal) (k0_pay2 (iblk m c 6 t)) (k0_pay3 (iblk m c 1 t) (iblk m c 6 t)) (k0_pay4 (iblk m c 1 t) (iblk m c 6 t)) (k0_pay5 (iblk m c 1 t) (iblk m c 6 t))
    (k0_pay6 (iblk m c 1 t)) (k0_pay7 (iblk m c 1 t)) (X0_2 m c t) (iblk m c 7 t) (iblk m c 3 t) (iblk m c 8 t) (X0_4 m c t) (X0_5 m c t) (iblk m c 0 t) (iblk m c 9 t)

theorem tile_at (c : Dev nD) (t : Fin grid0.N) (r : Fin 320) (d : Fin 1024) : tile m c t (ix2 r d) = G m c (ix2 (rowOf t r) d) := by
  refine (pay8_at (iblk m c 0 t) (iblk m c 1 t) (X0_2 m c t) (X0_4 m c t) (X0_5 m c t) (iblk m c 3 t) (iblk m c 6 t) (iblk m c 7 t) (iblk m c 9 t) (iblk m c 8 t) r d).trans ?_
  have e7 : (iblk m c 7 t : FVec Ideal S1024x1024 .bf16) = waA m c := funext fun (i : S1024x1024.Idx) => by rw [eq_ix2 i]; exact iblk7_at m c t _ _
  have e8 : (iblk m c 8 t : FVec Ideal S512x1024 .bf16) = wbA m c := funext fun (i : S512x1024.Idx) => by rw [eq_ix2 i]; exact iblk8_at m c t _ _
  have e9 : (iblk m c 9 t : FVec Ideal S1024x1024 .bf16) = woA m c := funext fun (i : S1024x1024.Idx) => by rw [eq_ix2 i]; exact iblk9_at m c t _ _
  rw [e7, e8, e9]
  show row _ _ _ _ _ _ _ _ _ _ _ = row _ _ _ _ _ _ _ _ _ _ _
  rw [funext fun d => iblk0_at m c t r d, funext fun d => iblk1_at m c t r d, funext fun d => x2_at m c t r d, funext fun d => x4_at m c t r d,
    funext fun d => x5_at m c t r d, funext fun j => iblk3_at m c t r j, funext fun k => iblk6_at m c t 0 k]
  rfl

theorem first_at (c : Dev nD) (t : Fin cfg0.N) (r : Fin 320) (d : Fin 1024) : (outsAt0 m c t).1 (ix2 r d) = tile m c t (ix2 r d) := by
  unfold outsAt0
  frame_out

theorem second_at (c : Dev nD) (t : Fin cfg0.N) (r : Fin 320) (d : Fin 1024) : (outsAt0 m c t).2 (ix2 r d) = k0_pay1 (F := Ideal) (tile m c t) (iblk m c 10 t) (ix2 r d) := by
  unfold outsAt0
  frame_out

/-! ## The arrays -/

theorem emb11 (t : Fin grid0.N) (y : S320x1024.Idx) :
    (((cfg0.win 11).blk t).view.emb y : S16640x1024.Idx) = ix2 (rowOf t (y 0)) (y 1) := by
  have ht := tN t
  have e0 := coord0 t
  refine funext fun a => Fin.ext ?_
  match a with
  | ⟨0, _⟩ =>
    show (BitVec.ofNat 32 (grid0.coords t 0).val).toNat * 320 + 1 * (y 0).val = t.val * 320 + (y 0).val
    rw [BitVec.toNat_ofNat, e0]; omega
  | ⟨1, _⟩ =>
    show 0 * 1024 + 1 * (y 1).val = (y 1).val
    omega

theorem emb12 (t : Fin grid0.N) (y : S320x1024.Idx) :
    (((cfg0.win 12).blk t).view.emb y : S16640x1024.Idx) = ix2 (rowOf t (y 0)) (y 1) := by
  have ht := tN t
  have e0 := coord0 t
  refine funext fun a => Fin.ext ?_
  match a with
  | ⟨0, _⟩ =>
    show (BitVec.ofNat 32 (grid0.coords t 0).val).toNat * 320 + 1 * (y 0).val = t.val * 320 + (y 0).val
    rw [BitVec.toNat_ofNat, e0]; omega
  | ⟨1, _⟩ =>
    show 0 * 1024 + 1 * (y 1).val = (y 1).val
    omega

theorem final (c : Dev nD) : (dats m 0 c).arrAt 11 cfg0.N = G m c := by
  refine (dats m 0 c).arrAt_eq_of_covers 11 _ (by decide +kernel) fun t hf (y : S320x1024.Idx) => ?_
  refine Eq.trans ?_ (congrArg (G m c) (emb11 t y).symm)
  show (dats m 0 c).after 11 t y = _
  rw [after0_11, eq_ix2 y]
  exact (first_at m c t (y 0) (y 1)).trans (tile_at m c t (y 0) (y 1))

theorem finalN (c : Dev nD) : (dats m 0 c).arrAt 12 cfg0.N = outN (G m c) (nA m c) := by
  refine (dats m 0 c).arrAt_eq_of_covers 12 _ (by decide +kernel) fun t hf (y : S320x1024.Idx) => ?_
  refine Eq.trans ?_ (congrArg (outN (G m c) (nA m c)) (emb12 t y).symm)
  show (dats m 0 c).after 12 t y = _
  rw [after0_12, eq_ix2 y]
  refine (second_at m c t (y 0) (y 1)).trans ((pay1_at _ _ (y 0) (y 1)).trans ?_)
  show norm1024 _ _ _ = norm1024 _ _ _
  rw [funext fun d => tile_at m c t (y 0) d, funext fun d => iblk10_at m c t 0 d]
  rfl

end Cert.Kernel4Ideal.Merge

end
-- ==== Proof.Merge.Ref.lean ====
/- The reference's results of the merge are the merged rows and those rows normed. -/
module

public import proofs.«01_k».proof.Proof.Merge.Spec
public import proofs.«01_k».proof.Proof.Gen.Reference4Ideal.Run

@[expose] public section

set_option maxRecDepth 16384

noncomputable section

namespace Cert.Reference4Ideal.Merge

open Idealize.ShloMosaic Idealize.ShloMosaic.TcCoe Idealize.SL.Sem
open Cert.Reference4Ideal Cert.Reference4Ideal.Gen Cert.Merge

variable (m : (ℓ : Loc nD τ sig) → Buf (Elt Ideal) ℓ)

abbrev xV (c : Dev nD) : FVec Ideal S16640x1024 .f32 := m ((c.tc : Thread nD τ).loc main_arg0)
abbrev zV (c : Dev nD) : FVec Ideal S16640x5632 .f32 := m ((c.tc : Thread nD τ).loc main_arg1)
abbrev oV (c : Dev nD) : FVec Ideal S16640x1024 .f32 := m ((c.tc : Thread nD τ).loc main_arg2)
abbrev bV (c : Dev nD) : FVec Ideal S16640x512 .f32 := m ((c.tc : Thread nD τ).loc main_arg3)
abbrev gV (c : Dev nD) : FVec Ideal S256 .f32 := m ((c.tc : Thread nD τ).loc main_arg4)
abbrev waV (c : Dev nD) : FVec Ideal S1024x1024 .f32 := m ((c.tc : Thread nD τ).loc main_arg5)
abbrev wbV (c : Dev nD) : FVec Ideal S512x1024 .f32 := m ((c.tc : Thread nD τ).loc main_arg6)
abbrev woV (c : Dev nD) : FVec Ideal S1024x1024 .f32 := m ((c.tc : Thread nD τ).loc main_arg7)
abbrev nV (c : Dev nD) : FVec Ideal S1024 .f32 := m ((c.tc : Thread nD τ).loc main_arg8)
abbrev G (c : Dev nD) : FVec Ideal S16640x1024 .f32 := out (xV m c) (zV m c) (oV m c) (bV m c) (gV m c) (waV m c) (wbV m c) (woV m c)

theorem out_open (x : SX.Idx → EReal) (z : SZ.Idx → EReal) (o : SX.Idx → EReal) (b : SB.Idx → EReal) (g : SG.Idx → EReal) (wa : SW.Idx → EReal) (wb : SV.Idx → EReal)
    (wo : SW.Idx → EReal) (r : Fin 16640) (d : Fin 1024) :
    out x z o b g wa wb wo (ix2 r d) = x (ix2 r d) + ∑ k : Fin 1024, (Ideal.div 1 (1 + Ideal.exp (-z (ix2 r (zcol 2 (by decide) k))))
        * (∑ j : Fin 1024, o (ix2 r j) * Ideal.rsqrt (Ideal.div (∑ k : Fin 256, o (ix2 r (headCol j k)) * o (ix2 r (headCol j k))) (Ideal.ofBits .f32 0x43800000#32) + Ideal.ofBits .f32 0x358637BD#32)
          * g (ix1 (inHead j)) * (z (ix2 r (zcol 1 (by decide) j)) * Ideal.div 1 (1 + Ideal.exp (-z (ix2 r (zcol 1 (by decide) j))))) * wa (ix2 j k))
        + Ideal.div 1 (1 + Ideal.exp (-z (ix2 r (zcol 3 (by decide) k)))) * ∑ j : Fin 512, b (ix2 r j) * wb (ix2 j k)) * wo (ix2 k d) := rfl

theorem run (ρ : Dev nD → PrngReg) : θ_run defs (onTc (τ := τ) (main (F := Ideal))) ⟨m, fun _ => 0, ρ⟩ fun r => ∀ c : Dev nD,
      r.2.mem ((c.tc : Thread nD τ).loc main_v40) = G m c
      ∧ r.2.mem ((c.tc : Thread nD τ).loc main_v54) = outN (G m c) (nV m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run defs _ _).mono (fun r h c => ?_) (Value.run m ρ)
  obtain ⟨h0, h1, hr⟩ := h c
  have e0 : r.2.mem ((c.tc : Thread nD τ).loc main_v40) = G m c := by
    refine h0.trans ?_
    refine funext fun (i : S16640x1024.Idx) => ?_
    obtain ⟨a, b, rfl⟩ : ∃ (a : Fin 16640) (b : Fin 1024), i = ix2 a b := ⟨i 0, i 1, eq_ix2 i⟩
    pointwise [out_open]
    rfl
  refine ⟨e0, h1.trans ?_, hr⟩
  rw [← e0, h0]
  unfold Value.res_main_v54
  refine funext fun (i : S16640x1024.Idx) => ?_
  obtain ⟨a, b, rfl⟩ : ∃ (a : Fin 16640) (b : Fin 1024), i = ix2 a b := ⟨i 0, i 1, eq_ix2 i⟩
  generalize addf (xV m c) _ = X
  pointwise! [outN, norm1024, eps]

end Cert.Reference4Ideal.Merge

end
-- ==== Proof.Fox.Spec.lean ====
/- Forgetting attention over the reals: a query's weighted mean of the values at its own and the earlier positions, and the running
   maximum and sums that reach it tile by tile. -/
module

public import Idealize.ShloMosaic.Lib.Pointwise

@[expose] public section

set_option maxRecDepth 20000

noncomputable section

namespace Cert.Fox

open Idealize.ShloMosaic

/-! ## The mean over the reals -/

/-- The mean of `v` over the positions up to `t`, weighed by the exponentials of `x`. -/
def att (x v : ℕ → ℝ) (t : ℕ) : ℝ :=
  (∑ s ∈ Finset.range (t + 1), Real.exp (x s) * v s) / ∑ s ∈ Finset.range (t + 1), Real.exp (x s)

/-- The sum of the first `n` values, weighed by the exponentials shifted by `μ`. -/
def acc (x v : ℕ → ℝ) (n : ℕ) (μ : ℝ) : ℝ := ∑ s ∈ Finset.range n, Real.exp (x s - μ) * v s

theorem acc_shift (x v : ℕ → ℝ) (n : ℕ) (μ μ' : ℝ) : acc x v n μ' = Real.exp (μ - μ') * acc x v n μ := by
  unfold acc
  rw [Finset.mul_sum]
  refine Finset.sum_congr rfl fun s _ => ?_
  rw [← mul_assoc, ← Real.exp_add]
  congr 2
  ring

theorem acc_ones_pos (x : ℕ → ℝ) (t : ℕ) (μ : ℝ) : 0 < acc x (fun _ => 1) (t + 1) μ :=
  Finset.sum_pos (fun s _ => by have := Real.exp_pos (x s - μ); linarith) ⟨0, by simp⟩

theorem acc_div (x v : ℕ → ℝ) (t : ℕ) (μ : ℝ) : acc x v (t + 1) μ / acc x (fun _ => 1) (t + 1) μ = att x v t := by
  have h0 := acc_ones_pos x t 0
  rw [acc_shift x v (t + 1) 0 μ, acc_shift x _ (t + 1) 0 μ, mul_div_mul_left _ _ (Real.exp_pos _).ne']
  simp [acc, att]

/-- The first `n + k` values: the first `n`, and `k` more. -/
theorem acc_add (x v : ℕ → ℝ) (n k : ℕ) (μ : ℝ) :
    acc x v (n + k) μ = acc x v n μ + ∑ y ∈ Finset.range k, Real.exp (x (n + y) - μ) * v (n + y) :=
  Finset.sum_range_add _ _ _

/-- A sum whose terms past `r` are nought. -/
theorem sum_le (N r : ℕ) (hr : r < N) (g : ℕ → ℝ) : ∑ y : Fin N, (if y.val ≤ r then g y.val else 0) = ∑ y ∈ Finset.range (r + 1), g y := by
  rw [← Finset.sum_range (fun y => if y ≤ r then g y else 0), ← Finset.sum_filter]
  refine Finset.sum_congr ?_ fun _ _ => rfl
  ext y
  simp only [Finset.mem_filter, Finset.mem_range]
  omega

/-! ## The same among the extended reals -/

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

theorem div_coe (a b : ℝ) (h : b ≠ 0) : Ideal.div (a : EReal) (b : EReal) = ((a / b : ℝ) : EReal) := by
  rw [Ideal.div_coe h, ← EReal.coe_mul, mul_one_div]

/-- The exponential of a logit, one past `r` counting nothing. -/
theorem exp_masked (p : Prop) [Decidable p] (a μ : ℝ) :
    Ideal.exp ((if p then (a : EReal) else ⊥) - (μ : EReal)) = (((if p then Real.exp (a - μ) else 0) : ℝ) : EReal) := by
  by_cases h : p
  · rw [if_pos h, if_pos h, ← EReal.coe_sub, Ideal.exp_coe]
  · rw [if_neg h, if_neg h, EReal.bot_sub, Ideal.exp_bot, EReal.coe_zero]

/-- The greatest logit of a row is real. -/
theorem fold_real {N : ℕ} (z : Fin N → EReal) (s₀ : Fin N) (x : Fin N → ℝ) (p : Fin N → Prop) [DecidablePred p]
    (hz : ∀ y, z y = if p y then (x y : EReal) else ⊥) (h₀ : p s₀) (M : EReal) (hM : M < ⊤) :
    ∃ μ : ℝ, max M (Finset.fold max ⊥ z Finset.univ) = (μ : EReal) := by
  have h1 : max M (Finset.fold max ⊥ z Finset.univ) ≠ ⊤ := by
    refine (max_lt hM ((Finset.fold_max_lt _).mpr ⟨bot_lt_top, fun y _ => ?_⟩)).ne
    rw [hz y]
    split
    · exact EReal.coe_lt_top _
    · exact bot_lt_top
  have h2 : max M (Finset.fold max ⊥ z Finset.univ) ≠ ⊥ := by
    refine (lt_of_lt_of_le (EReal.bot_lt_coe (x s₀)) (le_max_of_le_right ((Finset.le_fold_max _).mpr (Or.inr ⟨s₀, Finset.mem_univ _, ?_⟩)))).ne'
    rw [hz s₀, if_pos h₀]
  exact ⟨_, (EReal.coe_toReal h1 h2).symm⟩

/-- The running maximum and sums after the first `n` positions: nothing yet, or the sums shifted by the maximum. -/
def Inv (n : ℕ) (x : ℕ → ℝ) (v : Fin 128 → ℕ → ℝ) (M : EReal) (A : Fin 128 → EReal) : Prop :=
  (n = 0 ∧ M = ⊥ ∧ ∀ l, A l = 0) ∨ ∃ μ : ℝ, M = (μ : EReal) ∧ ∀ l, A l = ((acc x (v l) n μ : ℝ) : EReal)

theorem Inv.lt_top {n : ℕ} {x : ℕ → ℝ} {v : Fin 128 → ℕ → ℝ} {M : EReal} {A : Fin 128 → EReal} (h : Inv n x v M A) : M < ⊤ := by
  rcases h with ⟨_, h, _⟩ | ⟨μ, h, _⟩
  · rw [h]; exact bot_lt_top
  · rw [h]; exact EReal.coe_lt_top _

/-- One tile: the positions `n … n + r` join. -/
theorem Inv.step {n r : ℕ} (hr : r < 640) {x : ℕ → ℝ} {v : Fin 128 → ℕ → ℝ} {M M' : EReal} {A A' : Fin 128 → EReal} (h : Inv n x v M A)
    (z : Fin 640 → EReal) (hz : ∀ y : Fin 640, z y = if y.val ≤ r then ((x (n + y.val) : ℝ) : EReal) else ⊥)
    (hM : M' = max M (Finset.fold max ⊥ z Finset.univ))
    (hA : ∀ l, A' l = Ideal.exp (M - M') * A l + ∑ y : Fin 640, Ideal.exp (z y - M') * ((v l (n + y.val) : ℝ) : EReal)) :
    Inv (n + (r + 1)) x v M' A' := by
  obtain ⟨μ', e⟩ := fold_real z ⟨0, by omega⟩ (fun y => x (n + y.val)) (fun y => y.val ≤ r) hz (Nat.zero_le r) M h.lt_top
  rw [e] at hM
  subst hM
  refine Or.inr ⟨μ', rfl, fun l => ?_⟩
  have h2 : ∑ y : Fin 640, Ideal.exp (z y - (μ' : EReal)) * ((v l (n + y.val) : ℝ) : EReal)
      = ((∑ y ∈ Finset.range (r + 1), Real.exp (x (n + y) - μ') * v l (n + y) : ℝ) : EReal) := by
    rw [← sum_le 640 r hr (fun y => Real.exp (x (n + y) - μ') * v l (n + y)), ← coe_sum]
    refine Finset.sum_congr rfl fun y _ => ?_
    rw [hz y, exp_masked, ← EReal.coe_mul]
    by_cases hy : y.val ≤ r
    · rw [if_pos hy, if_pos hy]
    · rw [if_neg hy, if_neg hy, zero_mul]
  rw [hA l, h2, acc_add, EReal.coe_add]
  congr 1
  rcases h with ⟨hn, hM, h0⟩ | ⟨μ, hM, h0⟩
  · subst hn
    rw [h0 l, mul_zero]
    simp [acc]
  · rw [hM, h0 l, ← EReal.coe_sub, Ideal.exp_coe, ← EReal.coe_mul, acc_shift x (v l) n μ μ']

/-- The quotient of a lane by the lane of ones is the mean. -/
theorem Inv.div {t : ℕ} {x : ℕ → ℝ} {v : Fin 128 → ℕ → ℝ} {M : EReal} {A : Fin 128 → EReal} (h : Inv (t + 1) x v M A) (l o : Fin 128)
    (ho : v o = fun _ => 1) : Ideal.div (A l) (A o) = ((att x (v l) t : ℝ) : EReal) := by
  rcases h with ⟨h, _⟩ | ⟨μ, _, h⟩
  · omega
  · rw [h l, h o, ho, div_coe _ _ (acc_ones_pos x t μ).ne', acc_div]

/-- The softmax with its row's greatest logit taken off, and a constant `C` added to every logit, gives the same mean. -/
theorem softmax_mean (x v : ℕ → ℝ) (C : ℝ) (t : ℕ) (ht : t < 8320) (z w : Fin 8320 → EReal)
    (hz : ∀ s : Fin 8320, z s = if s.val ≤ t then ((x s.val + C : ℝ) : EReal) else ⊥) (hw : ∀ s : Fin 8320, w s = ((v s.val : ℝ) : EReal)) :
    ∑ s, w s * Ideal.div (Ideal.exp (z s - max ⊥ (Finset.fold max ⊥ z Finset.univ))) (∑ s', Ideal.exp (z s' - max ⊥ (Finset.fold max ⊥ z Finset.univ)))
      = ((att x v t : ℝ) : EReal) := by
  obtain ⟨μ, e⟩ := fold_real z ⟨0, by omega⟩ (fun y => x y.val + C) (fun y => y.val ≤ t) hz (Nat.zero_le t) ⊥ bot_lt_top
  rw [e]
  have he : ∀ s : Fin 8320, Ideal.exp (z s - (μ : EReal)) = (((if s.val ≤ t then Real.exp (x s.val - (μ - C)) else 0) : ℝ) : EReal) := fun s => by
    rw [hz s, exp_masked]
    congr 3
    ring
  have hd : ∑ s, Ideal.exp (z s - (μ : EReal)) = ((acc x (fun _ => 1) (t + 1) (μ - C) : ℝ) : EReal) := by
    unfold acc
    rw [← sum_le 8320 t ht (fun s => Real.exp (x s - (μ - C)) * 1), ← coe_sum]
    refine Finset.sum_congr rfl fun s _ => ?_
    rw [he s]
    simp only [mul_one]
  rw [hd, ← acc_div x v t (μ - C)]
  have hp := (acc_ones_pos x t (μ - C)).ne'
  generalize acc x (fun _ => 1) (t + 1) (μ - C) = D at hp ⊢
  unfold acc
  rw [Finset.sum_div, ← sum_le 8320 t ht (fun s => Real.exp (x s - (μ - C)) * v s / D), ← coe_sum]
  refine Finset.sum_congr rfl fun s _ => ?_
  rw [he s, hw s, div_coe _ _ hp, ← EReal.coe_mul]
  congr 1
  by_cases hs : s.val ≤ t
  · rw [if_pos hs, if_pos hs]; ring
  · rw [if_neg hs, if_neg hs]; ring

/-- A query's 64 lanes and its three ones, times a key's 64 lanes and its forget log. -/
theorem dot128 (Q K : Fin 128 → EReal) (q k : ℕ → ℝ) (c : ℝ)
    (hQ : ∀ l : Fin 128, Q l = (((if l.val < 64 then q l.val else if l.val < 67 then 1 else 0) : ℝ) : EReal))
    (hK : ∀ l : Fin 128, K l = (((if l.val < 64 then k l.val else if l.val = 64 then -c else 0) : ℝ) : EReal)) :
    ∑ l, Q l * K l = (((∑ d ∈ Finset.range 64, q d * k d) - c : ℝ) : EReal) := by
  have e : ∑ l, Q l * K l = ((∑ l ∈ Finset.range 128, (if l < 64 then q l else if l < 67 then 1 else 0) * (if l < 64 then k l else if l = 64 then -c else 0) : ℝ) : EReal) := by
    rw [Finset.sum_range (fun l : ℕ => ((if l < 64 then q l else if l < 67 then 1 else 0) * (if l < 64 then k l else if l = 64 then -c else 0) : ℝ)), ← coe_sum]
    refine Finset.sum_congr rfl fun l _ => ?_
    rw [hQ l, hK l, EReal.coe_mul]
  rw [e]
  refine congrArg Real.toEReal ?_
  rw [show (128 : ℕ) = 64 + 64 from rfl, Finset.sum_range_add, sub_eq_add_neg]
  refine congrArg₂ (· + ·) ?_ ?_
  · refine Finset.sum_congr rfl fun d hd => ?_
    have := Finset.mem_range.mp hd
    rw [if_pos this, if_pos this]
  · rw [Finset.sum_eq_single 0]
    · norm_num
    · intro d _ hd
      rw [if_neg (by omega), if_neg (show ¬64 + d < 64 by omega), if_neg (show ¬64 + d = 64 by omega), mul_zero]
    · intro h
      exact absurd (Finset.mem_range.mpr (by decide)) h

/-! ## Constants and choices -/

theorem ofBits_eighth : Ideal.ofBits .f32 0x3E000000#32 = ((1 / 8 : ℝ) : EReal) := by
  simp [Ideal.ofBits, Ideal.ieee, -EReal.coe_mul]; norm_num

theorem ofBits_bot : Ideal.ofBits .f32 0xFF800000#32 = ⊥ := rfl

theorem cmp_sle (s t : ℕ) (hs : s < 2 ^ 31) (ht : t < 2 ^ 31) :
    IntOp.cmpi CmpIPredicate.sle (BitVec.ofNat 32 s) (BitVec.ofNat 32 t) = BitVec.ofBool (decide (s ≤ t)) := by
  unfold IntOp.cmpi
  congr 1
  have e : ∀ n, n < 2 ^ 31 → (BitVec.ofNat 32 n).toInt = (n : Int) := fun n hn => by
    rw [BitVec.toInt_eq_toNat_of_lt (by rw [BitVec.toNat_ofNat]; omega), BitVec.toNat_ofNat, Nat.mod_eq_of_lt (by omega)]
  simp only [BitVec.sle, e s hs, e t ht, Int.ofNat_le]

theorem select_bool (p : Prop) [Decidable p] (a b : EReal) : Scalar.select (BitVec.ofBool (decide p)) a b = if p then a else b := by
  by_cases h : p <;> simp [h, Scalar.select]

theorem cmp_lane64 : ∀ l : Fin 128, IntOp.cmpi CmpIPredicate.slt (BitVec.ofNat 32 l.val) 64#32 = BitVec.ofBool (decide (l.val < 64)) := by decide
theorem cmp_lane67 : ∀ l : Fin 128, IntOp.andi (IntOp.cmpi CmpIPredicate.sge (BitVec.ofNat 32 l.val) 64#32) (IntOp.cmpi CmpIPredicate.slt (BitVec.ofNat 32 l.val) 67#32)
    = BitVec.ofBool (decide (64 ≤ l.val ∧ l.val < 67)) := by decide
theorem cmp_row0 : ∀ l : Fin 128, IntOp.cmpi CmpIPredicate.eq (BitVec.ofNat 32 (l.val - 64)) 0#32 = BitVec.ofBool (decide (l.val ≤ 64)) := by decide
theorem cmp_row1 : ∀ l : Fin 128, IntOp.cmpi CmpIPredicate.eq (BitVec.ofNat 32 (l.val - 64)) 1#32 = BitVec.ofBool (decide (l.val = 65)) := by decide
theorem cmp_row2 : ∀ l : Fin 128, IntOp.cmpi CmpIPredicate.eq (BitVec.ofNat 32 (l.val - 64)) 2#32 = BitVec.ofBool (decide (l.val = 66)) := by decide

/-! ## The arrays -/

abbrev SZ : Shape := ⟨3, ![2, 8320, 5632]⟩
abbrev SK : Shape := ⟨4, ![2, 8, 64, 8320]⟩
abbrev SC : Shape := ⟨3, ![2, 8, 8320]⟩
abbrev SO : Shape := ⟨3, ![2, 8320, 512]⟩

/-- Entry `d` of position `t`'s query in head `h`. -/
def qR (z : SZ.Idx → EReal) (b : Fin 2) (h t d : ℕ) : ℝ :=
  (z (ix3 b ⟨t % 8320, Nat.mod_lt _ (by decide)⟩ ⟨(5120 + (h * 64 + d)) % 5632, Nat.mod_lt _ (by decide)⟩)).toReal

/-- Entry `d` of position `s`'s key, or value, in head `h`. -/
def kR (k : SK.Idx → EReal) (b : Fin 2) (h d s : ℕ) : ℝ :=
  (k (ix4 b ⟨h % 8, Nat.mod_lt _ (by decide)⟩ ⟨d % 64, Nat.mod_lt _ (by decide)⟩ ⟨s % 8320, Nat.mod_lt _ (by decide)⟩)).toReal

/-- The cumulated forget log at position `s` of head `h`. -/
def cR (c : SC.Idx → EReal) (b : Fin 2) (h s : ℕ) : ℝ :=
  (c (ix3 b ⟨h % 8, Nat.mod_lt _ (by decide)⟩ ⟨s % 8320, Nat.mod_lt _ (by decide)⟩)).toReal

/-- The logit of position `t` on position `s`, less what does not depend on `s`. -/
def xR (z : SZ.Idx → EReal) (k : SK.Idx → EReal) (c : SC.Idx → EReal) (b : Fin 2) (h t s : ℕ) : ℝ :=
  (∑ d ∈ Finset.range 64, qR z b h t d * (1 / 8) * kR k b h d s) - cR c b h s

/-- The attention's result. -/
def out (z : SZ.Idx → EReal) (k v : SK.Idx → EReal) (c : SC.Idx → EReal) : SO.Idx → EReal := fun i =>
  ((att (xR z k c ⟨(i 0).val, (i 0).isLt⟩ ((i 2).val / 64) (i 1).val) (kR v ⟨(i 0).val, (i 0).isLt⟩ ((i 2).val / 64) ((i 2).val % 64)) (i 1).val : ℝ) : EReal)

/-- Every entry the attention reads is real. -/
structure Fins (z : SZ.Idx → EReal) (k v : SK.Idx → EReal) (c : SC.Idx → EReal) : Prop where
  hz : ∀ (b : Fin 2) (t : Fin 8320) (j : Fin 5632), 5120 ≤ j.val → ∃ r : ℝ, z (ix3 b t j) = (r : EReal)
  hk : ∀ (b : Fin 2) (h : Fin 8) (d : Fin 64) (s : Fin 8320), ∃ r : ℝ, k (ix4 b h d s) = (r : EReal)
  hv : ∀ (b : Fin 2) (h : Fin 8) (d : Fin 64) (s : Fin 8320), ∃ r : ℝ, v (ix4 b h d s) = (r : EReal)
  hc : ∀ (b : Fin 2) (h : Fin 8) (s : Fin 8320), ∃ r : ℝ, c (ix3 b h s) = (r : EReal)

section
variable {z : SZ.Idx → EReal} {k v : SK.Idx → EReal} {c : SC.Idx → EReal}

theorem Fins.z_at (f : Fins z k v c) (b : Fin 2) (t : Fin 8320) (j : Fin 5632) (h d : ℕ) (hj : j.val = 5120 + (h * 64 + d)) :
    z (ix3 b t j) = ((qR z b h t.val d : ℝ) : EReal) := by
  have et : (⟨t.val % 8320, Nat.mod_lt _ (by decide)⟩ : Fin 8320) = t := Fin.ext (Nat.mod_eq_of_lt t.isLt)
  have ej : (⟨(5120 + (h * 64 + d)) % 5632, Nat.mod_lt _ (by decide)⟩ : Fin 5632) = j := Fin.ext (by show (5120 + (h * 64 + d)) % 5632 = j.val; have := j.isLt; omega)
  obtain ⟨r, e⟩ := f.hz b t j (by omega)
  unfold qR
  rw [et, ej, e, EReal.toReal_coe]

theorem kR_at (u : SK.Idx → EReal) (hu : ∀ (b : Fin 2) (h : Fin 8) (d : Fin 64) (s : Fin 8320), ∃ r : ℝ, u (ix4 b h d s) = (r : EReal))
    (b : Fin 2) (h : Fin 8) (d : Fin 64) (s : Fin 8320) : u (ix4 b h d s) = ((kR u b h.val d.val s.val : ℝ) : EReal) := by
  have eh : (⟨h.val % 8, Nat.mod_lt _ (by decide)⟩ : Fin 8) = h := Fin.ext (Nat.mod_eq_of_lt h.isLt)
  have ed : (⟨d.val % 64, Nat.mod_lt _ (by decide)⟩ : Fin 64) = d := Fin.ext (Nat.mod_eq_of_lt d.isLt)
  have es : (⟨s.val % 8320, Nat.mod_lt _ (by decide)⟩ : Fin 8320) = s := Fin.ext (Nat.mod_eq_of_lt s.isLt)
  obtain ⟨r, e⟩ := hu b h d s
  unfold kR
  rw [eh, ed, es, e, EReal.toReal_coe]

theorem Fins.c_at (f : Fins z k v c) (b : Fin 2) (h : Fin 8) (s : Fin 8320) : c (ix3 b h s) = ((cR c b h.val s.val : ℝ) : EReal) := by
  have eh : (⟨h.val % 8, Nat.mod_lt _ (by decide)⟩ : Fin 8) = h := Fin.ext (Nat.mod_eq_of_lt h.isLt)
  have es : (⟨s.val % 8320, Nat.mod_lt _ (by decide)⟩ : Fin 8320) = s := Fin.ext (Nat.mod_eq_of_lt s.isLt)
  obtain ⟨r, e⟩ := f.hc b h s
  unfold cR
  rw [eh, es, e, EReal.toReal_coe]

end

end Cert.Fox
-- ==== Proof.Fox.Fin.lean ====
/- What the precondition says: every entry the attention reads is real. -/
module

public import proofs.«01_k».proof.Proof.Fox.Spec
public import proofs.«01_k».proof.Proof.Gen.Pre_finite
public import Idealize.ShloMosaic.Lib.ReduceAll
public import Idealize.ShloMosaic.Lib.StableHlo.Predicate

@[expose] public section

set_option maxRecDepth 16384

noncomputable section

namespace Cert.Fox

open Idealize.ShloMosaic Idealize.ShloMosaic.TcCoe Idealize.ShloMosaic.Tactic

/-- An entry whose absolute value is below infinity is real. -/
theorem real_of_lt (x : EReal) (h : FloatOps.cmpf (F := Ideal) (φ := .f32) .olt (FloatOps.hostAbsf (F := Ideal) (φ := .f32) x) (Ideal.ofBits .f32 0x7F800000#32) = 1#1) : ∃ r : ℝ, x = (r : EReal) := by
  have e : Ideal.ofBits .f32 0x7F800000#32 = (⊤ : EReal) := rfl
  rw [e] at h
  have h' : max x (-x) < (⊤ : EReal) := by
    have h2 : BitVec.ofBool (decide (max x (-x) < (⊤ : EReal))) = 1#1 := h
    rw [StableHlo.Predicate.ofBool_eq_one_iff] at h2
    exact of_decide_eq_true h2
  obtain ⟨ha, hb⟩ := max_lt_iff.mp h'
  induction x with
  | bot => exact absurd hb (by simp)
  | top => exact absurd ha (by simp)
  | coe r => exact ⟨r, rfl⟩

theorem fins (z : FVec Ideal Cert.Pre_finite.S2x8320x5632 .f32) (k v : FVec Ideal Cert.Pre_finite.S2x8x64x8320 .f32) (c : FVec Ideal Cert.Pre_finite.S2x8x8320 .f32)
    (h : Cert.Pre_finite.fn (F := Ideal) z k v c = fun _ => 1#1) : Fins z k v c := by
  have e := congrFun h (fun a => a.elim0)
  haveI : Subsingleton (Cert.Pre_finite.S_ : Shape).Idx := ⟨fun x y => funext fun a => a.elim0⟩
  unfold Cert.Pre_finite.fn Cert.Pre_finite.fn_part1 at e
  obtain ⟨e1, ec⟩ := IntOp.andi_eq_one.mp e
  obtain ⟨e2, ev⟩ := IntOp.andi_eq_one.mp e1
  obtain ⟨ez, ek⟩ := IntOp.andi_eq_one.mp e2
  refine ⟨fun b t j hj => ?_, fun b h d s => ?_, fun b h d s => ?_, fun b h s => ?_⟩
  · have e3 := Host.reduce_andi_all _ _ _ _ _ ez (ix3 b t ⟨j.val - 5120, by have := j.isLt; omega⟩)
    have es : extractStridedSlice Cert.Pre_finite.S2x8320x512 ![0, 0, 5120] z Cert.Pre_finite.Facts.slices_S2x8320x5632_S2x8320x512_0_0_5120
        (ix3 b t ⟨j.val - 5120, by have := j.isLt; omega⟩) = z (ix3 b t j) := by
      refine congrArg z (funext fun a => Fin.ext ?_)
      match a with
      | ⟨0, _⟩ => show 0 + b.val = b.val; omega
      | ⟨1, _⟩ => show 0 + t.val = t.val; omega
      | ⟨2, _⟩ => show 5120 + (j.val - 5120) = j.val; omega
    rw [← es]
    exact real_of_lt _ e3
  · exact real_of_lt _ (Host.reduce_andi_all _ _ _ _ _ ek (ix4 b h d s))
  · exact real_of_lt _ (Host.reduce_andi_all _ _ _ _ _ ev (ix4 b h d s))
  · exact real_of_lt _ (Host.reduce_andi_all _ _ _ _ _ ec (ix3 b h s))

end Cert.Fox
-- ==== Proof.Fox.Loop.lean ====
/- The key-tile loop of the attention call: what one trip leaves of the running maximum and the running sums, and what the trips before
   the k-th leave, as an iteration over the key tiles. -/
module

public import proofs.«01_k».proof.Proof.Gen.Kernel5Ideal.Value
public import Idealize.ShloMosaic.Lib.Pipeline.ReadBack
public import Idealize.ShloMosaic.Lib.Pointwise

@[expose] public section

set_option maxRecDepth 16384
set_option maxHeartbeats 4000000

noncomputable section

namespace Cert.Kernel5Ideal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel5Ideal.Gen

/-! ## Reads of written pieces -/

section
variable {Val : EltTy → Type} {sig : RefSig} {κ : Kind} {sp : Space} {s : Shape} {e : EltTy}

/-- A load through the last piece's rectangle reads its payload. -/
theorem readAt_hit (v : View sig κ sp s e) (f : v.ty.Contents Val) (r : Rect s) (w : r.shape.Idx → Val e) (L : List (View.Piece Val s e)) :
    v.readAt Val r.toLoadRect (v.writes Val f (⟨r, w⟩ :: L)) = w :=
  funext fun x => View.read_writes_cons_emb v f r w L x

/-- A load away from the last piece's rectangle reads what the earlier pieces left. -/
theorem readAt_skip (v : View sig κ sp s e) (f : v.ty.Contents Val) (r : Rect s) (w : r.shape.Idx → Val e) (L : List (View.Piece Val s e))
    (B : LoadRect s) (h : LoadRect.disj r B = true) :
    v.readAt Val B (v.writes Val f (⟨r, w⟩ :: L)) = v.readAt Val B (v.writes Val f L) := by
  funext i
  show v.read Val (v.writes Val f (⟨r, w⟩ :: L)) (B.idx i) = _
  rw [View.writes_cons, View.read_slice_write_of_not_mem r _ _ _ (by rw [Rect.map_emb_univ]; exact LoadRect.idx_not_mem_of_disj h i)]
  rfl

end

/-! ## The iteration over the key tiles -/

/-- Key tile `j` of head `h`, 640 columns of the staged array. -/
def tile (R : S2x128x8320.Idx → Ideal .bf16) (h : Fin 2) (j : ℕ) : Vec Ideal S1x128x640 .bf16 :=
  fun y => R (ix3 h ⟨(y 1).val, (y 1).isLt⟩ ⟨(640 * j + (y 2).val) % 8320, Nat.mod_lt _ (by decide)⟩)

/-- The running maximum and sums of a query block after key tiles `0 … j-1`. -/
def st (q : FVec Ideal S640x128 .bf16) (K V : ℕ → Vec Ideal S1x128x640 .bf16) (m₀ : Vec Ideal S1x640x1 .f32) (a₀ : Vec Ideal S1x640x128 .f32) :
    ℕ → Vec Ideal S1x640x1 .f32 × Vec Ideal S1x640x128 .f32
  | 0 => (m₀, a₀)
  | j + 1 => (k0_pay23 (k0_pay5 q (K j)) (st q K V m₀ a₀ j).1, k0_pay22 (k0_pay5 q (K j)) (st q K V m₀ a₀ j).1 (st q K V m₀ a₀ j).2 (V j))

theorem readAt_tile {κ : Kind} {sp : Space} (v : View sig κ sp S2x128x8320 .bf16) (X : v.ty.Contents (Elt Ideal)) (h : Fin 2) (j : ℕ) (hj : j < 13)
    (off : Fin 3 → ℕ) (e : off = ![h.val, 0, 640 * j]) (inb : ∀ a, off a + S1x128x640.size a ≤ S2x128x8320.size a) :
    View.readAt (Elt Ideal) v (Rect.unit (s := S2x128x8320) off S1x128x640.size inb).toLoadRect X = tile (v.read (Elt Ideal) X) h j := by
  subst e
  funext y
  refine congrArg (v.read (Elt Ideal) X) (funext fun a => Fin.ext ?_)
  have h0 : (y 0).val < 1 := (y 0).isLt
  have h2 : (y 2).val < 640 := (y 2).isLt
  match a with
  | ⟨0, _⟩ => show h.val + 1 * (y 0).val = h.val; omega
  | ⟨1, _⟩ => show 0 + 1 * (y 1).val = (y 1).val; omega
  | ⟨2, _⟩ => show 640 * j + 1 * (y 2).val = (640 * j + (y 2).val) % 8320; omega

theorem off1_eq : ∀ (i : grid0.Coords) (k : Fin (k0_t1_loop i).trips), k0_off1 i k = ![0, 0, 640 * (2 * k.val)] := by decide +kernel
theorem off2_eq : ∀ (i : grid0.Coords) (k : Fin (k0_t1_loop i).trips), k0_off2 i k = ![1, 0, 640 * (2 * k.val)] := by decide +kernel
theorem off3_eq : ∀ (i : grid0.Coords) (k : Fin (k0_t1_loop i).trips), k0_off3 i k = ![0, 0, 640 * (2 * k.val + 1)] := by decide +kernel
theorem off4_eq : ∀ (i : grid0.Coords) (k : Fin (k0_t1_loop i).trips), k0_off4 i k = ![1, 0, 640 * (2 * k.val + 1)] := by decide +kernel
theorem off9_eq : ∀ i : grid0.Coords, (i 2).val % 2 = 1 → k0_off9 i = ![0, 0, 640 * ((i 2).val - 1)] := by decide +kernel
theorem off10_eq : ∀ i : grid0.Coords, (i 2).val % 2 = 1 → k0_off10 i = ![1, 0, 640 * ((i 2).val - 1)] := by decide +kernel
theorem trips1_eq : ∀ i : grid0.Coords, (k0_t1_loop i).trips = (i 2).val / 2 := by decide +kernel
theorem trips2_eq : ∀ i : grid0.Coords, (k0_t2_loop i).trips = 0 := by decide +kernel

/-- The head's row of the two-head buffers. -/
abbrev r10 (v : View sig .tc .vmem S2x640x1 .f32) (f : v.ty.Contents (Elt Ideal)) (h : Fin 2) : Vec Ideal S1x640x1 .f32 :=
  match h with
  | 0 => v.readAt (Elt Ideal) (Rect.unit (s := S2x640x1) ![0, 0, 0] S1x640x1.size (by decide)).toLoadRect f
  | 1 => v.readAt (Elt Ideal) (Rect.unit (s := S2x640x1) ![1, 0, 0] S1x640x1.size (by decide)).toLoadRect f

abbrev r11 (v : View sig .tc .vmem S2x640x128 .f32) (f : v.ty.Contents (Elt Ideal)) (h : Fin 2) : Vec Ideal S1x640x128 .f32 :=
  match h with
  | 0 => v.readAt (Elt Ideal) (Rect.unit (s := S2x640x128) ![0, 0, 0] S1x640x128.size (by decide)).toLoadRect f
  | 1 => v.readAt (Elt Ideal) (Rect.unit (s := S2x640x128) ![1, 0, 0] S1x640x128.size (by decide)).toLoadRect f

section
variable (𝒱 : Variants) (c : Dev nD) (bd : Option 𝒱.V) (i : grid0.Coords) (arg3 : Memref sig .tc .vmem S1x640x128 .f32) (harg3 : arg3.IsWhole) (arg4 : Memref sig .tc .vmem S1x2x64x8320 .f32) (harg4 : arg4.IsWhole) (arg5 : Memref sig .tc .vmem S1x2x64x8320 .f32) (harg5 : arg5.IsWhole) (arg6 : Memref sig .tc .vmem S1x1x2x8320 .f32) (harg6 : arg6.IsWhole) (arg7 : Memref sig .tc .vmem S1x640x128 .f32) (harg7 : arg7.IsWhole) (arg8 : Memref sig .tc .vmem S2x128x8320 .bf16) (harg8 : arg8.IsWhole) (arg9 : Memref sig .tc .vmem S2x128x8320 .bf16) (harg9 : arg9.IsWhole) (arg10 : Memref sig .tc .vmem S2x640x1 .f32) (harg10 : arg10.IsWhole) (arg11 : Memref sig .tc .vmem S2x640x128 .f32) (harg11 : arg11.IsWhole) (arg2 : BitVec 32) (v23 : FVec Ideal S640x128 .bf16) (v32 : FVec Ideal S640x128 .bf16) (cst_12 : Ideal .f32) (X8 : BufTy.Contents (Elt Ideal) arg8.view.ty) (X9 : BufTy.Contents (Elt Ideal) arg9.view.ty)

theorem trip_m0 (k : Fin (k0_t1_loop i).trips) (f10 : BufTy.Contents (Elt Ideal) arg10.view.ty) (f11 : BufTy.Contents (Elt Ideal) arg11.view.ty) :
    r10 arg10.view (arg10.view.writes (Elt Ideal) f10 (tripL_k0_t1 𝒱 c bd i arg3 harg3 arg4 harg4 arg5 harg5 arg6 harg6 arg7 harg7 arg8 harg8 arg9 harg9 arg10 harg10 arg11 harg11 arg2 v23 v32 cst_12 X8 X9 k f10 f11).1) 0
      = k0_pay23 (k0_pay5 v23 (View.readAt (Elt Ideal) arg8.view (Rect.unit (s := S2x128x8320) (k0_off3 i k) S1x128x640.size (Gen.k0_off3_inb i k)).toLoadRect X8)) (k0_pay23 (k0_pay5 v23 (View.readAt (Elt Ideal) arg8.view (Rect.unit (s := S2x128x8320) (k0_off1 i k) S1x128x640.size (Gen.k0_off1_inb i k)).toLoadRect X8)) (r10 arg10.view f10 0)) := by
  unfold tripL_k0_t1 trip_k0_t1
  dsimp only [r10]
  refine (readAt_skip _ _ _ _ _ _ (by decide)).trans ((readAt_hit _ _ _ _ _).trans ?_)
  have e : trip_k0_t1.sl.v169 i arg8 arg10 v23 v32 X8 k f10 = k0_pay23 (k0_pay5 v23 (View.readAt (Elt Ideal) arg8.view (Rect.unit (s := S2x128x8320) (k0_off1 i k) S1x128x640.size (Gen.k0_off1_inb i k)).toLoadRect X8)) (r10 arg10.view f10 0) := by
    refine (View.readCov_skip _ _ _ _ _ (by decide)).trans ((View.readCov_cons_toLoadRect _ _ _ _).trans ?_)
    rfl
  rw [← e]
  rfl

theorem trip_a0 (k : Fin (k0_t1_loop i).trips) (f10 : BufTy.Contents (Elt Ideal) arg10.view.ty) (f11 : BufTy.Contents (Elt Ideal) arg11.view.ty) :
    r11 arg11.view (arg11.view.writes (Elt Ideal) f11 (tripL_k0_t1 𝒱 c bd i arg3 harg3 arg4 harg4 arg5 harg5 arg6 harg6 arg7 harg7 arg8 harg8 arg9 harg9 arg10 harg10 arg11 harg11 arg2 v23 v32 cst_12 X8 X9 k f10 f11).2) 0
      = k0_pay22 (k0_pay5 v23 (View.readAt (Elt Ideal) arg8.view (Rect.unit (s := S2x128x8320) (k0_off3 i k) S1x128x640.size (Gen.k0_off3_inb i k)).toLoadRect X8)) (k0_pay23 (k0_pay5 v23 (View.readAt (Elt Ideal) arg8.view (Rect.unit (s := S2x128x8320) (k0_off1 i k) S1x128x640.size (Gen.k0_off1_inb i k)).toLoadRect X8)) (r10 arg10.view f10 0)) (k0_pay22 (k0_pay5 v23 (View.readAt (Elt Ideal) arg8.view (Rect.unit (s := S2x128x8320) (k0_off1 i k) S1x128x640.size (Gen.k0_off1_inb i k)).toLoadRect X8)) (r10 arg10.view f10 0) (r11 arg11.view f11 0) (View.readAt (Elt Ideal) arg9.view (Rect.unit (s := S2x128x8320) (k0_off1 i k) S1x128x640.size (Gen.k0_off1_inb i k)).toLoadRect X9)) (View.readAt (Elt Ideal) arg9.view (Rect.unit (s := S2x128x8320) (k0_off3 i k) S1x128x640.size (Gen.k0_off3_inb i k)).toLoadRect X9) := by
  unfold tripL_k0_t1 trip_k0_t1
  dsimp only [r11]
  refine (readAt_skip _ _ _ _ _ _ (by decide)).trans ((readAt_hit _ _ _ _ _).trans ?_)
  have e : trip_k0_t1.sl.v169 i arg8 arg10 v23 v32 X8 k f10 = k0_pay23 (k0_pay5 v23 (View.readAt (Elt Ideal) arg8.view (Rect.unit (s := S2x128x8320) (k0_off1 i k) S1x128x640.size (Gen.k0_off1_inb i k)).toLoadRect X8)) (r10 arg10.view f10 0) := by
    refine (View.readCov_skip _ _ _ _ _ (by decide)).trans ((View.readCov_cons_toLoadRect _ _ _ _).trans ?_)
    rfl
  have e' : trip_k0_t1.sl.v180 i arg8 arg9 arg10 arg11 v23 v32 X8 X9 k f10 f11 = k0_pay22 (k0_pay5 v23 (View.readAt (Elt Ideal) arg8.view (Rect.unit (s := S2x128x8320) (k0_off1 i k) S1x128x640.size (Gen.k0_off1_inb i k)).toLoadRect X8)) (r10 arg10.view f10 0) (r11 arg11.view f11 0) (View.readAt (Elt Ideal) arg9.view (Rect.unit (s := S2x128x8320) (k0_off1 i k) S1x128x640.size (Gen.k0_off1_inb i k)).toLoadRect X9) := by
    refine (View.readCov_skip _ _ _ _ _ (by decide)).trans ((View.readCov_cons_toLoadRect _ _ _ _).trans ?_)
    rfl
  rw [← e, ← e']
  rfl

theorem trip_m1 (k : Fin (k0_t1_loop i).trips) (f10 : BufTy.Contents (Elt Ideal) arg10.view.ty) (f11 : BufTy.Contents (Elt Ideal) arg11.view.ty) :
    r10 arg10.view (arg10.view.writes (Elt Ideal) f10 (tripL_k0_t1 𝒱 c bd i arg3 harg3 arg4 harg4 arg5 harg5 arg6 harg6 arg7 harg7 arg8 harg8 arg9 harg9 arg10 harg10 arg11 harg11 arg2 v23 v32 cst_12 X8 X9 k f10 f11).1) 1
      = k0_pay23 (k0_pay5 v32 (View.readAt (Elt Ideal) arg8.view (Rect.unit (s := S2x128x8320) (k0_off4 i k) S1x128x640.size (Gen.k0_off4_inb i k)).toLoadRect X8)) (k0_pay23 (k0_pay5 v32 (View.readAt (Elt Ideal) arg8.view (Rect.unit (s := S2x128x8320) (k0_off2 i k) S1x128x640.size (Gen.k0_off2_inb i k)).toLoadRect X8)) (r10 arg10.view f10 1)) := by
  unfold tripL_k0_t1 trip_k0_t1
  dsimp only [r10]
  refine (readAt_hit _ _ _ _ _).trans ?_
  have e : trip_k0_t1.sl.v195 i arg8 arg10 v23 v32 X8 k f10 = k0_pay23 (k0_pay5 v32 (View.readAt (Elt Ideal) arg8.view (Rect.unit (s := S2x128x8320) (k0_off2 i k) S1x128x640.size (Gen.k0_off2_inb i k)).toLoadRect X8)) (r10 arg10.view f10 1) := by
    refine (View.readCov_skip _ _ _ _ _ (by decide)).trans ((View.readCov_cons_toLoadRect _ _ _ _).trans ?_)
    rfl
  rw [← e]
  rfl

theorem trip_a1 (k : Fin (k0_t1_loop i).trips) (f10 : BufTy.Contents (Elt Ideal) arg10.view.ty) (f11 : BufTy.Contents (Elt Ideal) arg11.view.ty) :
    r11 arg11.view (arg11.view.writes (Elt Ideal) f11 (tripL_k0_t1 𝒱 c bd i arg3 harg3 arg4 harg4 arg5 harg5 arg6 harg6 arg7 harg7 arg8 harg8 arg9 harg9 arg10 harg10 arg11 harg11 arg2 v23 v32 cst_12 X8 X9 k f10 f11).2) 1
      = k0_pay22 (k0_pay5 v32 (View.readAt (Elt Ideal) arg8.view (Rect.unit (s := S2x128x8320) (k0_off4 i k) S1x128x640.size (Gen.k0_off4_inb i k)).toLoadRect X8)) (k0_pay23 (k0_pay5 v32 (View.readAt (Elt Ideal) arg8.view (Rect.unit (s := S2x128x8320) (k0_off2 i k) S1x128x640.size (Gen.k0_off2_inb i k)).toLoadRect X8)) (r10 arg10.view f10 1)) (k0_pay22 (k0_pay5 v32 (View.readAt (Elt Ideal) arg8.view (Rect.unit (s := S2x128x8320) (k0_off2 i k) S1x128x640.size (Gen.k0_off2_inb i k)).toLoadRect X8)) (r10 arg10.view f10 1) (r11 arg11.view f11 1) (View.readAt (Elt Ideal) arg9.view (Rect.unit (s := S2x128x8320) (k0_off2 i k) S1x128x640.size (Gen.k0_off2_inb i k)).toLoadRect X9)) (View.readAt (Elt Ideal) arg9.view (Rect.unit (s := S2x128x8320) (k0_off4 i k) S1x128x640.size (Gen.k0_off4_inb i k)).toLoadRect X9) := by
  unfold tripL_k0_t1 trip_k0_t1
  dsimp only [r11]
  refine (readAt_hit _ _ _ _ _).trans ?_
  have e : trip_k0_t1.sl.v195 i arg8 arg10 v23 v32 X8 k f10 = k0_pay23 (k0_pay5 v32 (View.readAt (Elt Ideal) arg8.view (Rect.unit (s := S2x128x8320) (k0_off2 i k) S1x128x640.size (Gen.k0_off2_inb i k)).toLoadRect X8)) (r10 arg10.view f10 1) := by
    refine (View.readCov_skip _ _ _ _ _ (by decide)).trans ((View.readCov_cons_toLoadRect _ _ _ _).trans ?_)
    rfl
  have e' : trip_k0_t1.sl.v206 i arg8 arg9 arg10 arg11 v23 v32 X8 X9 k f10 f11 = k0_pay22 (k0_pay5 v32 (View.readAt (Elt Ideal) arg8.view (Rect.unit (s := S2x128x8320) (k0_off2 i k) S1x128x640.size (Gen.k0_off2_inb i k)).toLoadRect X8)) (r10 arg10.view f10 1) (r11 arg11.view f11 1) (View.readAt (Elt Ideal) arg9.view (Rect.unit (s := S2x128x8320) (k0_off2 i k) S1x128x640.size (Gen.k0_off2_inb i k)).toLoadRect X9) := by
    refine (View.readCov_skip _ _ _ _ _ (by decide)).trans ((View.readCov_cons_toLoadRect _ _ _ _).trans ?_)
    rfl
  rw [← e, ← e']
  rfl

/-- After `k` trips head 0 has taken in the first `2k` key tiles. -/
theorem loop0 (G10 : BufTy.Contents (Elt Ideal) arg10.view.ty) (G11 : BufTy.Contents (Elt Ideal) arg11.view.ty) : ∀ k : ℕ, k ≤ (k0_t1_loop i).trips →
    r10 arg10.view (arg10.view.writes (Elt Ideal) G10 (pb_k0_t1 𝒱 c bd i arg3 harg3 arg4 harg4 arg5 harg5 arg6 harg6 arg7 harg7 arg8 harg8 arg9 harg9 arg10 harg10 arg11 harg11 arg2 v23 v32 cst_12 X8 X9 G10 G11 k).1) 0 = (st v23 (tile (arg8.view.read (Elt Ideal) X8) 0) (tile (arg9.view.read (Elt Ideal) X9) 0) (r10 arg10.view G10 0) (r11 arg11.view G11 0) (2 * k)).1
    ∧ r11 arg11.view (arg11.view.writes (Elt Ideal) G11 (pb_k0_t1 𝒱 c bd i arg3 harg3 arg4 harg4 arg5 harg5 arg6 harg6 arg7 harg7 arg8 harg8 arg9 harg9 arg10 harg10 arg11 harg11 arg2 v23 v32 cst_12 X8 X9 G10 G11 k).2) 0 = (st v23 (tile (arg8.view.read (Elt Ideal) X8) 0) (tile (arg9.view.read (Elt Ideal) X9) 0) (r10 arg10.view G10 0) (r11 arg11.view G11 0) (2 * k)).2
  | 0, _ => ⟨rfl, rfl⟩
  | k + 1, hk => by
    obtain ⟨im, ia⟩ := loop0 G10 G11 k (Nat.le_of_succ_le hk)
    have ht := (k0_t1_abs i).2.1
    have t80 := readAt_tile arg8.view X8 0 (2 * k) (by omega) _ (off1_eq i ⟨k, hk⟩) (Gen.k0_off1_inb i ⟨k, hk⟩)
    have t90 := readAt_tile arg9.view X9 0 (2 * k) (by omega) _ (off1_eq i ⟨k, hk⟩) (Gen.k0_off1_inb i ⟨k, hk⟩)
    have t81 := readAt_tile arg8.view X8 0 (2 * k+1) (by omega) _ (off3_eq i ⟨k, hk⟩) (Gen.k0_off3_inb i ⟨k, hk⟩)
    have t91 := readAt_tile arg9.view X9 0 (2 * k+1) (by omega) _ (off3_eq i ⟨k, hk⟩) (Gen.k0_off3_inb i ⟨k, hk⟩)
    rw [pb_k0_t1_succ 𝒱 c bd i arg3 harg3 arg4 harg4 arg5 harg5 arg6 harg6 arg7 harg7 arg8 harg8 arg9 harg9 arg10 harg10 arg11 harg11 arg2 v23 v32 cst_12 X8 X9 G10 G11 ⟨k, hk⟩]
    dsimp only [Prod.fst, Prod.snd]
    rw [View.writes_append, View.writes_append, trip_m0, trip_a0, t80, t81, t90, t91, im, ia]
    exact ⟨rfl, rfl⟩

/-- After `k` trips head 1 has taken in the first `2k` key tiles. -/
theorem loop1 (G10 : BufTy.Contents (Elt Ideal) arg10.view.ty) (G11 : BufTy.Contents (Elt Ideal) arg11.view.ty) : ∀ k : ℕ, k ≤ (k0_t1_loop i).trips →
    r10 arg10.view (arg10.view.writes (Elt Ideal) G10 (pb_k0_t1 𝒱 c bd i arg3 harg3 arg4 harg4 arg5 harg5 arg6 harg6 arg7 harg7 arg8 harg8 arg9 harg9 arg10 harg10 arg11 harg11 arg2 v23 v32 cst_12 X8 X9 G10 G11 k).1) 1 = (st v32 (tile (arg8.view.read (Elt Ideal) X8) 1) (tile (arg9.view.read (Elt Ideal) X9) 1) (r10 arg10.view G10 1) (r11 arg11.view G11 1) (2 * k)).1
    ∧ r11 arg11.view (arg11.view.writes (Elt Ideal) G11 (pb_k0_t1 𝒱 c bd i arg3 harg3 arg4 harg4 arg5 harg5 arg6 harg6 arg7 harg7 arg8 harg8 arg9 harg9 arg10 harg10 arg11 harg11 arg2 v23 v32 cst_12 X8 X9 G10 G11 k).2) 1 = (st v32 (tile (arg8.view.read (Elt Ideal) X8) 1) (tile (arg9.view.read (Elt Ideal) X9) 1) (r10 arg10.view G10 1) (r11 arg11.view G11 1) (2 * k)).2
  | 0, _ => ⟨rfl, rfl⟩
  | k + 1, hk => by
    obtain ⟨im, ia⟩ := loop1 G10 G11 k (Nat.le_of_succ_le hk)
    have ht := (k0_t1_abs i).2.1
    have t80 := readAt_tile arg8.view X8 1 (2 * k) (by omega) _ (off2_eq i ⟨k, hk⟩) (Gen.k0_off2_inb i ⟨k, hk⟩)
    have t90 := readAt_tile arg9.view X9 1 (2 * k) (by omega) _ (off2_eq i ⟨k, hk⟩) (Gen.k0_off2_inb i ⟨k, hk⟩)
    have t81 := readAt_tile arg8.view X8 1 (2 * k+1) (by omega) _ (off4_eq i ⟨k, hk⟩) (Gen.k0_off4_inb i ⟨k, hk⟩)
    have t91 := readAt_tile arg9.view X9 1 (2 * k+1) (by omega) _ (off4_eq i ⟨k, hk⟩) (Gen.k0_off4_inb i ⟨k, hk⟩)
    rw [pb_k0_t1_succ 𝒱 c bd i arg3 harg3 arg4 harg4 arg5 harg5 arg6 harg6 arg7 harg7 arg8 harg8 arg9 harg9 arg10 harg10 arg11 harg11 arg2 v23 v32 cst_12 X8 X9 G10 G11 ⟨k, hk⟩]
    dsimp only [Prod.fst, Prod.snd]
    rw [View.writes_append, View.writes_append, trip_m1, trip_a1, t80, t81, t90, t91, im, ia]
    exact ⟨rfl, rfl⟩

end

end Cert.Kernel5Ideal.Fox
-- ==== Proof.Fox.Run.lean ====
/- One grid point of the attention call: the block it stores, as the iteration over the key tiles before the query block's own, the masked
   step at its own, and the division. -/
module

public import proofs.«01_k».proof.Proof.Fox.Loop

@[expose] public section

set_option maxRecDepth 16384
set_option maxHeartbeats 4000000

noncomputable section

namespace Cert.Kernel5Ideal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel5Ideal.Gen

/-- The sums of a query block after every tile it may look at: the tiles before its own in full, its own under the triangular mask. -/
def fin (q : FVec Ideal S640x128 .bf16) (K V : ℕ → Vec Ideal S1x128x640 .bf16) (n : ℕ) : Vec Ideal S1x640x128 .f32 :=
  k0_pay22 (k0_pay58 (k0_pay5 q (K n))) (st q K V (fun _ => (⊥ : EReal)) (fun _ => (0 : EReal)) n).1 (st q K V (fun _ => (⊥ : EReal)) (fun _ => (0 : EReal)) n).2 (V n)

/-- The block of one point. -/
def blockOf (x0 : Vec Ideal S1x640x128 .f32) (R8 R9 : S2x128x8320.Idx → Ideal .bf16) (n : ℕ) : FVec Ideal S1x640x128 .f32 :=
  k0_pay1 (iota .tc S1x128 32 [1] iota_S1x128_d1_w32) (fin (k0_pay79 x0) (tile R8 0) (tile R9 0) n) (fin (k0_pay80 x0) (tile R8 1) (tile R9 1) n)

theorem step_congr {s s' : FVec Ideal S640x640 .f32} {m m' : Vec Ideal S1x640x1 .f32} {a a' : Vec Ideal S1x640x128 .f32} {v v' : Vec Ideal S1x128x640 .bf16}
    (hs : s = s') (hm : m = m') (ha : a = a') (hv : v = v') : k0_pay22 s m a v = k0_pay22 s' m' a' v' := by
  subst hs; subst hm; subst ha; subst hv; rfl

theorem max_congr {s s' : FVec Ideal S640x640 .f32} {m m' : Vec Ideal S1x640x1 .f32} (hs : s = s') (hm : m = m') : k0_pay23 s m = k0_pay23 s' m' := by
  subst hs; subst hm; rfl

/-- The query block read whole. -/
theorem readq (arg3 : Memref sig .tc .vmem S1x640x128 .f32) (harg3 : arg3.IsWhole) (x0 : Vec Ideal S1x640x128 .f32)
    (inb : ∀ a, (![0, 0, 0] : Fin 3 → ℕ) a + S1x640x128.size a ≤ S1x640x128.size a) :
    View.readAt (Elt Ideal) arg3.view (Rect.unit (s := S1x640x128) ![0, 0, 0] S1x640x128.size inb).toLoadRect (harg3.unread x0) = x0 := by
  funext y
  show arg3.view.read (Elt Ideal) (harg3.unread x0) _ = _
  rw [harg3.read_unread]
  refine congrArg x0 (funext fun a => Fin.ext ?_)
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

theorem pay81_eq : (k0_pay81 : FVec Ideal S2x640x1 .f32) = fun _ => (⊥ : EReal) := by funext y; rfl
theorem pay82_eq : (k0_pay82 (Scalar.ofBits .f32 0x00000000#32) : FVec Ideal S2x640x128 .f32) = fun _ => (0 : EReal) := by
  funext y
  show (Scalar.ofBits (F := Ideal) .f32 0x00000000#32) = (0 : EReal)
  exact Ideal.ofBits_zero _

section
variable (c : Dev nD) (i : grid0.Coords) (arg3 : Memref sig .tc .vmem S1x640x128 .f32) (harg3 : arg3.IsWhole) (arg4 : Memref sig .tc .vmem S1x2x64x8320 .f32) (harg4 : arg4.IsWhole) (arg5 : Memref sig .tc .vmem S1x2x64x8320 .f32) (harg5 : arg5.IsWhole) (arg6 : Memref sig .tc .vmem S1x1x2x8320 .f32) (harg6 : arg6.IsWhole) (arg7 : Memref sig .tc .vmem S1x640x128 .f32) (harg7 : arg7.IsWhole) (arg8 : Memref sig .tc .vmem S2x128x8320 .bf16) (harg8 : arg8.IsWhole) (arg9 : Memref sig .tc .vmem S2x128x8320 .bf16) (harg9 : arg9.IsWhole) (arg10 : Memref sig .tc .vmem S2x640x1 .f32) (harg10 : arg10.IsWhole) (arg11 : Memref sig .tc .vmem S2x640x128 .f32) (harg11 : arg11.IsWhole) (w2 : BitVec 32) (v23 : FVec Ideal S640x128 .bf16) (v32 : FVec Ideal S640x128 .bf16) (X8 : BufTy.Contents (Elt Ideal) arg8.view.ty) (X9 : BufTy.Contents (Elt Ideal) arg9.view.ty)

theorem init_m0 : r10 arg10.view (arg10.view.writes (Elt Ideal) arg10.view.junk [⟨Rect.unit (s := S2x640x1) ![0, 0, 0] S2x640x1.size inb_S2x640x1_S2x640x1_0_0_0, (k0_pay81 : FVec Ideal S2x640x1 .f32)⟩]) 0 = fun _ => (⊥ : EReal) := by
  refine (View.readCov_fill (Val := Elt Ideal) arg10.view inb_S2x640x1_S2x640x1_0_0_0 (k0_pay81 : FVec Ideal S2x640x1 .f32) [] _ (by decide)).trans ?_
  rw [pay81_eq]
  rfl

theorem init_a0 : r11 arg11.view (arg11.view.writes (Elt Ideal) arg11.view.junk [⟨Rect.unit (s := S2x640x128) ![0, 0, 0] S2x640x128.size inb_S2x640x128_S2x640x128_0_0_0, (k0_pay82 (FloatOps.ofBits (F := Ideal) FTy.f32 0#32) : FVec Ideal S2x640x128 .f32)⟩]) 0 = fun _ => (0 : EReal) := by
  refine (View.readCov_fill (Val := Elt Ideal) arg11.view inb_S2x640x128_S2x640x128_0_0_0 (k0_pay82 (FloatOps.ofBits (F := Ideal) FTy.f32 0#32)) [] _ (by decide)).trans ?_
  rw [show k0_pay82 (FloatOps.ofBits (F := Ideal) FTy.f32 0#32) = _ from pay82_eq]
  rfl

/-- What the two loops leave head 0. -/
theorem after_m0 : arg10.view.readCov ((pb_k0_t2 Variants.none c none i arg3 harg3 arg4 harg4 arg5 harg5 arg6 harg6 arg7 harg7 arg8 harg8 arg9 harg9 arg10 harg10 arg11 harg11 (BitVec.ofNat 32 (i 2).val) v23 v32 (FloatOps.ofBits (F := Ideal) FTy.f32 0#32) w2 X8 X9 (arg10.view.writes (Elt Ideal) arg10.view.junk ((pb_k0_t1 Variants.none c none i arg3 harg3 arg4 harg4 arg5 harg5 arg6 harg6 arg7 harg7 arg8 harg8 arg9 harg9 arg10 harg10 arg11 harg11 (BitVec.ofNat 32 (i 2).val) v23 v32 (FloatOps.ofBits (F := Ideal) FTy.f32 0#32) X8 X9 (arg10.view.writes (Elt Ideal) arg10.view.junk [⟨Rect.unit (s := S2x640x1) ![0, 0, 0] S2x640x1.size inb_S2x640x1_S2x640x1_0_0_0, (k0_pay81 : FVec Ideal S2x640x1 .f32)⟩]) (arg11.view.writes (Elt Ideal) arg11.view.junk [⟨Rect.unit (s := S2x640x128) ![0, 0, 0] S2x640x128.size inb_S2x640x128_S2x640x128_0_0_0, (k0_pay82 (FloatOps.ofBits (F := Ideal) FTy.f32 0#32) : FVec Ideal S2x640x128 .f32)⟩]) (Scf.trips (k0_t1_loop i).lb (k0_t1_loop i).ub (k0_t1_loop i).st)).1 ++ [⟨Rect.unit (s := S2x640x1) ![0, 0, 0] S2x640x1.size inb_S2x640x1_S2x640x1_0_0_0, (k0_pay81 : FVec Ideal S2x640x1 .f32)⟩])) (arg11.view.writes (Elt Ideal) arg11.view.junk ((pb_k0_t1 Variants.none c none i arg3 harg3 arg4 harg4 arg5 harg5 arg6 harg6 arg7 harg7 arg8 harg8 arg9 harg9 arg10 harg10 arg11 harg11 (BitVec.ofNat 32 (i 2).val) v23 v32 (FloatOps.ofBits (F := Ideal) FTy.f32 0#32) X8 X9 (arg10.view.writes (Elt Ideal) arg10.view.junk [⟨Rect.unit (s := S2x640x1) ![0, 0, 0] S2x640x1.size inb_S2x640x1_S2x640x1_0_0_0, (k0_pay81 : FVec Ideal S2x640x1 .f32)⟩]) (arg11.view.writes (Elt Ideal) arg11.view.junk [⟨Rect.unit (s := S2x640x128) ![0, 0, 0] S2x640x128.size inb_S2x640x128_S2x640x128_0_0_0, (k0_pay82 (FloatOps.ofBits (F := Ideal) FTy.f32 0#32) : FVec Ideal S2x640x128 .f32)⟩]) (Scf.trips (k0_t1_loop i).lb (k0_t1_loop i).ub (k0_t1_loop i).st)).2 ++ [⟨Rect.unit (s := S2x640x128) ![0, 0, 0] S2x640x128.size inb_S2x640x128_S2x640x128_0_0_0, (k0_pay82 (FloatOps.ofBits (F := Ideal) FTy.f32 0#32) : FVec Ideal S2x640x128 .f32)⟩])) (Scf.trips (k0_t2_loop i).lb (k0_t2_loop i).ub (k0_t2_loop i).st)).1 ++ ((pb_k0_t1 Variants.none c none i arg3 harg3 arg4 harg4 arg5 harg5 arg6 harg6 arg7 harg7 arg8 harg8 arg9 harg9 arg10 harg10 arg11 harg11 (BitVec.ofNat 32 (i 2).val) v23 v32 (FloatOps.ofBits (F := Ideal) FTy.f32 0#32) X8 X9 (arg10.view.writes (Elt Ideal) arg10.view.junk [⟨Rect.unit (s := S2x640x1) ![0, 0, 0] S2x640x1.size inb_S2x640x1_S2x640x1_0_0_0, (k0_pay81 : FVec Ideal S2x640x1 .f32)⟩]) (arg11.view.writes (Elt Ideal) arg11.view.junk [⟨Rect.unit (s := S2x640x128) ![0, 0, 0] S2x640x128.size inb_S2x640x128_S2x640x128_0_0_0, (k0_pay82 (FloatOps.ofBits (F := Ideal) FTy.f32 0#32) : FVec Ideal S2x640x128 .f32)⟩]) (Scf.trips (k0_t1_loop i).lb (k0_t1_loop i).ub (k0_t1_loop i).st)).1 ++ [⟨Rect.unit (s := S2x640x1) ![0, 0, 0] S2x640x1.size inb_S2x640x1_S2x640x1_0_0_0, (k0_pay81 : FVec Ideal S2x640x1 .f32)⟩])) (Rect.unit (s := S2x640x1) ![0, 0, 0] S1x640x1.size (by decide)).toLoadRect = (st v23 (tile (arg8.view.read (Elt Ideal) X8) 0) (tile (arg9.view.read (Elt Ideal) X9) 0) (fun _ => (⊥ : EReal)) (fun _ => (0 : EReal)) (2 * ((i 2).val / 2))).1 := by
  have e2 : (Scf.trips (k0_t2_loop i).lb (k0_t2_loop i).ub (k0_t2_loop i).st) = 0 := trips2_eq i
  have e1 : (Scf.trips (k0_t1_loop i).lb (k0_t1_loop i).ub (k0_t1_loop i).st) = (i 2).val / 2 := trips1_eq i
  rw [e2, e1]
  refine Eq.trans (congrArg (arg10.view.readAt (Elt Ideal) _) (View.writes_append (v := arg10.view) (f := arg10.view.junk) (L' := [⟨Rect.unit (s := S2x640x1) ![0, 0, 0] S2x640x1.size inb_S2x640x1_S2x640x1_0_0_0, (k0_pay81 : FVec Ideal S2x640x1 .f32)⟩]) (L := (pb_k0_t1 Variants.none c none i arg3 harg3 arg4 harg4 arg5 harg5 arg6 harg6 arg7 harg7 arg8 harg8 arg9 harg9 arg10 harg10 arg11 harg11 (BitVec.ofNat 32 (i 2).val) v23 v32 (FloatOps.ofBits (F := Ideal) FTy.f32 0#32) X8 X9 (arg10.view.writes (Elt Ideal) arg10.view.junk [⟨Rect.unit (s := S2x640x1) ![0, 0, 0] S2x640x1.size inb_S2x640x1_S2x640x1_0_0_0, (k0_pay81 : FVec Ideal S2x640x1 .f32)⟩]) (arg11.view.writes (Elt Ideal) arg11.view.junk [⟨Rect.unit (s := S2x640x128) ![0, 0, 0] S2x640x128.size inb_S2x640x128_S2x640x128_0_0_0, (k0_pay82 (FloatOps.ofBits (F := Ideal) FTy.f32 0#32) : FVec Ideal S2x640x128 .f32)⟩]) ((i 2).val / 2)).1))) ?_
  have l := (loop0 Variants.none c none i arg3 harg3 arg4 harg4 arg5 harg5 arg6 harg6 arg7 harg7 arg8 harg8 arg9 harg9 arg10 harg10 arg11 harg11 (BitVec.ofNat 32 (i 2).val) v23 v32 (FloatOps.ofBits (F := Ideal) FTy.f32 0#32) X8 X9 (arg10.view.writes (Elt Ideal) arg10.view.junk [⟨Rect.unit (s := S2x640x1) ![0, 0, 0] S2x640x1.size inb_S2x640x1_S2x640x1_0_0_0, (k0_pay81 : FVec Ideal S2x640x1 .f32)⟩]) (arg11.view.writes (Elt Ideal) arg11.view.junk [⟨Rect.unit (s := S2x640x128) ![0, 0, 0] S2x640x128.size inb_S2x640x128_S2x640x128_0_0_0, (k0_pay82 (FloatOps.ofBits (F := Ideal) FTy.f32 0#32) : FVec Ideal S2x640x128 .f32)⟩]) ((i 2).val / 2) (le_of_eq (trips1_eq i).symm)).1
  rw [init_m0, init_a0] at l
  exact l

theorem after_a0 : arg11.view.readCov ((pb_k0_t2 Variants.none c none i arg3 harg3 arg4 harg4 arg5 harg5 arg6 harg6 arg7 harg7 arg8 harg8 arg9 harg9 arg10 harg10 arg11 harg11 (BitVec.ofNat 32 (i 2).val) v23 v32 (FloatOps.ofBits (F := Ideal) FTy.f32 0#32) w2 X8 X9 (arg10.view.writes (Elt Ideal) arg10.view.junk ((pb_k0_t1 Variants.none c none i arg3 harg3 arg4 harg4 arg5 harg5 arg6 harg6 arg7 harg7 arg8 harg8 arg9 harg9 arg10 harg10 arg11 harg11 (BitVec.ofNat 32 (i 2).val) v23 v32 (FloatOps.ofBits (F := Ideal) FTy.f32 0#32) X8 X9 (arg10.view.writes (Elt Ideal) arg10.view.junk [⟨Rect.unit (s := S2x640x1) ![0, 0, 0] S2x640x1.size inb_S2x640x1_S2x640x1_0_0_0, (k0_pay81 : FVec Ideal S2x640x1 .f32)⟩]) (arg11.view.writes (Elt Ideal) arg11.view.junk [⟨Rect.unit (s := S2x640x128) ![0, 0, 0] S2x640x128.size inb_S2x640x128_S2x640x128_0_0_0, (k0_pay82 (FloatOps.ofBits (F := Ideal) FTy.f32 0#32) : FVec Ideal S2x640x128 .f32)⟩]) (Scf.trips (k0_t1_loop i).lb (k0_t1_loop i).ub (k0_t1_loop i).st)).1 ++ [⟨Rect.unit (s := S2x640x1) ![0, 0, 0] S2x640x1.size inb_S2x640x1_S2x640x1_0_0_0, (k0_pay81 : FVec Ideal S2x640x1 .f32)⟩])) (arg11.view.writes (Elt Ideal) arg11.view.junk ((pb_k0_t1 Variants.none c none i arg3 harg3 arg4 harg4 arg5 harg5 arg6 harg6 arg7 harg7 arg8 harg8 arg9 harg9 arg10 harg10 arg11 harg11 (BitVec.ofNat 32 (i 2).val) v23 v32 (FloatOps.ofBits (F := Ideal) FTy.f32 0#32) X8 X9 (arg10.view.writes (Elt Ideal) arg10.view.junk [⟨Rect.unit (s := S2x640x1) ![0, 0, 0] S2x640x1.size inb_S2x640x1_S2x640x1_0_0_0, (k0_pay81 : FVec Ideal S2x640x1 .f32)⟩]) (arg11.view.writes (Elt Ideal) arg11.view.junk [⟨Rect.unit (s := S2x640x128) ![0, 0, 0] S2x640x128.size inb_S2x640x128_S2x640x128_0_0_0, (k0_pay82 (FloatOps.ofBits (F := Ideal) FTy.f32 0#32) : FVec Ideal S2x640x128 .f32)⟩]) (Scf.trips (k0_t1_loop i).lb (k0_t1_loop i).ub (k0_t1_loop i).st)).2 ++ [⟨Rect.unit (s := S2x640x128) ![0, 0, 0] S2x640x128.size inb_S2x640x128_S2x640x128_0_0_0, (k0_pay82 (FloatOps.ofBits (F := Ideal) FTy.f32 0#32) : FVec Ideal S2x640x128 .f32)⟩])) (Scf.trips (k0_t2_loop i).lb (k0_t2_loop i).ub (k0_t2_loop i).st)).2 ++ ((pb_k0_t1 Variants.none c none i arg3 harg3 arg4 harg4 arg5 harg5 arg6 harg6 arg7 harg7 arg8 harg8 arg9 harg9 arg10 harg10 arg11 harg11 (BitVec.ofNat 32 (i 2).val) v23 v32 (FloatOps.ofBits (F := Ideal) FTy.f32 0#32) X8 X9 (arg10.view.writes (Elt Ideal) arg10.view.junk [⟨Rect.unit (s := S2x640x1) ![0, 0, 0] S2x640x1.size inb_S2x640x1_S2x640x1_0_0_0, (k0_pay81 : FVec Ideal S2x640x1 .f32)⟩]) (arg11.view.writes (Elt Ideal) arg11.view.junk [⟨Rect.unit (s := S2x640x128) ![0, 0, 0] S2x640x128.size inb_S2x640x128_S2x640x128_0_0_0, (k0_pay82 (FloatOps.ofBits (F := Ideal) FTy.f32 0#32) : FVec Ideal S2x640x128 .f32)⟩]) (Scf.trips (k0_t1_loop i).lb (k0_t1_loop i).ub (k0_t1_loop i).st)).2 ++ [⟨Rect.unit (s := S2x640x128) ![0, 0, 0] S2x640x128.size inb_S2x640x128_S2x640x128_0_0_0, (k0_pay82 (FloatOps.ofBits (F := Ideal) FTy.f32 0#32) : FVec Ideal S2x640x128 .f32)⟩])) (Rect.unit (s := S2x640x128) ![0, 0, 0] S1x640x128.size (by decide)).toLoadRect = (st v23 (tile (arg8.view.read (Elt Ideal) X8) 0) (tile (arg9.view.read (Elt Ideal) X9) 0) (fun _ => (⊥ : EReal)) (fun _ => (0 : EReal)) (2 * ((i 2).val / 2))).2 := by
  have e2 : (Scf.trips (k0_t2_loop i).lb (k0_t2_loop i).ub (k0_t2_loop i).st) = 0 := trips2_eq i
  have e1 : (Scf.trips (k0_t1_loop i).lb (k0_t1_loop i).ub (k0_t1_loop i).st) = (i 2).val / 2 := trips1_eq i
  rw [e2, e1]
  refine Eq.trans (congrArg (arg11.view.readAt (Elt Ideal) _) (View.writes_append (v := arg11.view) (f := arg11.view.junk) (L' := [⟨Rect.unit (s := S2x640x128) ![0, 0, 0] S2x640x128.size inb_S2x640x128_S2x640x128_0_0_0, (k0_pay82 (FloatOps.ofBits (F := Ideal) FTy.f32 0#32) : FVec Ideal S2x640x128 .f32)⟩]) (L := (pb_k0_t1 Variants.none c none i arg3 harg3 arg4 harg4 arg5 harg5 arg6 harg6 arg7 harg7 arg8 harg8 arg9 harg9 arg10 harg10 arg11 harg11 (BitVec.ofNat 32 (i 2).val) v23 v32 (FloatOps.ofBits (F := Ideal) FTy.f32 0#32) X8 X9 (arg10.view.writes (Elt Ideal) arg10.view.junk [⟨Rect.unit (s := S2x640x1) ![0, 0, 0] S2x640x1.size inb_S2x640x1_S2x640x1_0_0_0, (k0_pay81 : FVec Ideal S2x640x1 .f32)⟩]) (arg11.view.writes (Elt Ideal) arg11.view.junk [⟨Rect.unit (s := S2x640x128) ![0, 0, 0] S2x640x128.size inb_S2x640x128_S2x640x128_0_0_0, (k0_pay82 (FloatOps.ofBits (F := Ideal) FTy.f32 0#32) : FVec Ideal S2x640x128 .f32)⟩]) ((i 2).val / 2)).2))) ?_
  have l := (loop0 Variants.none c none i arg3 harg3 arg4 harg4 arg5 harg5 arg6 harg6 arg7 harg7 arg8 harg8 arg9 harg9 arg10 harg10 arg11 harg11 (BitVec.ofNat 32 (i 2).val) v23 v32 (FloatOps.ofBits (F := Ideal) FTy.f32 0#32) X8 X9 (arg10.view.writes (Elt Ideal) arg10.view.junk [⟨Rect.unit (s := S2x640x1) ![0, 0, 0] S2x640x1.size inb_S2x640x1_S2x640x1_0_0_0, (k0_pay81 : FVec Ideal S2x640x1 .f32)⟩]) (arg11.view.writes (Elt Ideal) arg11.view.junk [⟨Rect.unit (s := S2x640x128) ![0, 0, 0] S2x640x128.size inb_S2x640x128_S2x640x128_0_0_0, (k0_pay82 (FloatOps.ofBits (F := Ideal) FTy.f32 0#32) : FVec Ideal S2x640x128 .f32)⟩]) ((i 2).val / 2) (le_of_eq (trips1_eq i).symm)).2
  rw [init_m0, init_a0] at l
  exact l

theorem init_m1 : r10 arg10.view (arg10.view.writes (Elt Ideal) arg10.view.junk [⟨Rect.unit (s := S2x640x1) ![0, 0, 0] S2x640x1.size inb_S2x640x1_S2x640x1_0_0_0, (k0_pay81 : FVec Ideal S2x640x1 .f32)⟩]) 1 = fun _ => (⊥ : EReal) := by
  refine (View.readCov_fill (Val := Elt Ideal) arg10.view inb_S2x640x1_S2x640x1_0_0_0 (k0_pay81 : FVec Ideal S2x640x1 .f32) [] _ (by decide)).trans ?_
  rw [pay81_eq]
  rfl

theorem init_a1 : r11 arg11.view (arg11.view.writes (Elt Ideal) arg11.view.junk [⟨Rect.unit (s := S2x640x128) ![0, 0, 0] S2x640x128.size inb_S2x640x128_S2x640x128_0_0_0, (k0_pay82 (FloatOps.ofBits (F := Ideal) FTy.f32 0#32) : FVec Ideal S2x640x128 .f32)⟩]) 1 = fun _ => (0 : EReal) := by
  refine (View.readCov_fill (Val := Elt Ideal) arg11.view inb_S2x640x128_S2x640x128_0_0_0 (k0_pay82 (FloatOps.ofBits (F := Ideal) FTy.f32 0#32)) [] _ (by decide)).trans ?_
  rw [show k0_pay82 (FloatOps.ofBits (F := Ideal) FTy.f32 0#32) = _ from pay82_eq]
  rfl

/-- What the two loops leave head 1. -/
theorem after_m1 : arg10.view.readCov ((pb_k0_t2 Variants.none c none i arg3 harg3 arg4 harg4 arg5 harg5 arg6 harg6 arg7 harg7 arg8 harg8 arg9 harg9 arg10 harg10 arg11 harg11 (BitVec.ofNat 32 (i 2).val) v23 v32 (FloatOps.ofBits (F := Ideal) FTy.f32 0#32) w2 X8 X9 (arg10.view.writes (Elt Ideal) arg10.view.junk ((pb_k0_t1 Variants.none c none i arg3 harg3 arg4 harg4 arg5 harg5 arg6 harg6 arg7 harg7 arg8 harg8 arg9 harg9 arg10 harg10 arg11 harg11 (BitVec.ofNat 32 (i 2).val) v23 v32 (FloatOps.ofBits (F := Ideal) FTy.f32 0#32) X8 X9 (arg10.view.writes (Elt Ideal) arg10.view.junk [⟨Rect.unit (s := S2x640x1) ![0, 0, 0] S2x640x1.size inb_S2x640x1_S2x640x1_0_0_0, (k0_pay81 : FVec Ideal S2x640x1 .f32)⟩]) (arg11.view.writes (Elt Ideal) arg11.view.junk [⟨Rect.unit (s := S2x640x128) ![0, 0, 0] S2x640x128.size inb_S2x640x128_S2x640x128_0_0_0, (k0_pay82 (FloatOps.ofBits (F := Ideal) FTy.f32 0#32) : FVec Ideal S2x640x128 .f32)⟩]) (Scf.trips (k0_t1_loop i).lb (k0_t1_loop i).ub (k0_t1_loop i).st)).1 ++ [⟨Rect.unit (s := S2x640x1) ![0, 0, 0] S2x640x1.size inb_S2x640x1_S2x640x1_0_0_0, (k0_pay81 : FVec Ideal S2x640x1 .f32)⟩])) (arg11.view.writes (Elt Ideal) arg11.view.junk ((pb_k0_t1 Variants.none c none i arg3 harg3 arg4 harg4 arg5 harg5 arg6 harg6 arg7 harg7 arg8 harg8 arg9 harg9 arg10 harg10 arg11 harg11 (BitVec.ofNat 32 (i 2).val) v23 v32 (FloatOps.ofBits (F := Ideal) FTy.f32 0#32) X8 X9 (arg10.view.writes (Elt Ideal) arg10.view.junk [⟨Rect.unit (s := S2x640x1) ![0, 0, 0] S2x640x1.size inb_S2x640x1_S2x640x1_0_0_0, (k0_pay81 : FVec Ideal S2x640x1 .f32)⟩]) (arg11.view.writes (Elt Ideal) arg11.view.junk [⟨Rect.unit (s := S2x640x128) ![0, 0, 0] S2x640x128.size inb_S2x640x128_S2x640x128_0_0_0, (k0_pay82 (FloatOps.ofBits (F := Ideal) FTy.f32 0#32) : FVec Ideal S2x640x128 .f32)⟩]) (Scf.trips (k0_t1_loop i).lb (k0_t1_loop i).ub (k0_t1_loop i).st)).2 ++ [⟨Rect.unit (s := S2x640x128) ![0, 0, 0] S2x640x128.size inb_S2x640x128_S2x640x128_0_0_0, (k0_pay82 (FloatOps.ofBits (F := Ideal) FTy.f32 0#32) : FVec Ideal S2x640x128 .f32)⟩])) (Scf.trips (k0_t2_loop i).lb (k0_t2_loop i).ub (k0_t2_loop i).st)).1 ++ ((pb_k0_t1 Variants.none c none i arg3 harg3 arg4 harg4 arg5 harg5 arg6 harg6 arg7 harg7 arg8 harg8 arg9 harg9 arg10 harg10 arg11 harg11 (BitVec.ofNat 32 (i 2).val) v23 v32 (FloatOps.ofBits (F := Ideal) FTy.f32 0#32) X8 X9 (arg10.view.writes (Elt Ideal) arg10.view.junk [⟨Rect.unit (s := S2x640x1) ![0, 0, 0] S2x640x1.size inb_S2x640x1_S2x640x1_0_0_0, (k0_pay81 : FVec Ideal S2x640x1 .f32)⟩]) (arg11.view.writes (Elt Ideal) arg11.view.junk [⟨Rect.unit (s := S2x640x128) ![0, 0, 0] S2x640x128.size inb_S2x640x128_S2x640x128_0_0_0, (k0_pay82 (FloatOps.ofBits (F := Ideal) FTy.f32 0#32) : FVec Ideal S2x640x128 .f32)⟩]) (Scf.trips (k0_t1_loop i).lb (k0_t1_loop i).ub (k0_t1_loop i).st)).1 ++ [⟨Rect.unit (s := S2x640x1) ![0, 0, 0] S2x640x1.size inb_S2x640x1_S2x640x1_0_0_0, (k0_pay81 : FVec Ideal S2x640x1 .f32)⟩])) (Rect.unit (s := S2x640x1) ![1, 0, 0] S1x640x1.size (by decide)).toLoadRect = (st v32 (tile (arg8.view.read (Elt Ideal) X8) 1) (tile (arg9.view.read (Elt Ideal) X9) 1) (fun _ => (⊥ : EReal)) (fun _ => (0 : EReal)) (2 * ((i 2).val / 2))).1 := by
  have e2 : (Scf.trips (k0_t2_loop i).lb (k0_t2_loop i).ub (k0_t2_loop i).st) = 0 := trips2_eq i
  have e1 : (Scf.trips (k0_t1_loop i).lb (k0_t1_loop i).ub (k0_t1_loop i).st) = (i 2).val / 2 := trips1_eq i
  rw [e2, e1]
  refine Eq.trans (congrArg (arg10.view.readAt (Elt Ideal) _) (View.writes_append (v := arg10.view) (f := arg10.view.junk) (L' := [⟨Rect.unit (s := S2x640x1) ![0, 0, 0] S2x640x1.size inb_S2x640x1_S2x640x1_0_0_0, (k0_pay81 : FVec Ideal S2x640x1 .f32)⟩]) (L := (pb_k0_t1 Variants.none c none i arg3 harg3 arg4 harg4 arg5 harg5 arg6 harg6 arg7 harg7 arg8 harg8 arg9 harg9 arg10 harg10 arg11 harg11 (BitVec.ofNat 32 (i 2).val) v23 v32 (FloatOps.ofBits (F := Ideal) FTy.f32 0#32) X8 X9 (arg10.view.writes (Elt Ideal) arg10.view.junk [⟨Rect.unit (s := S2x640x1) ![0, 0, 0] S2x640x1.size inb_S2x640x1_S2x640x1_0_0_0, (k0_pay81 : FVec Ideal S2x640x1 .f32)⟩]) (arg11.view.writes (Elt Ideal) arg11.view.junk [⟨Rect.unit (s := S2x640x128) ![0, 0, 0] S2x640x128.size inb_S2x640x128_S2x640x128_0_0_0, (k0_pay82 (FloatOps.ofBits (F := Ideal) FTy.f32 0#32) : FVec Ideal S2x640x128 .f32)⟩]) ((i 2).val / 2)).1))) ?_
  have l := (loop1 Variants.none c none i arg3 harg3 arg4 harg4 arg5 harg5 arg6 harg6 arg7 harg7 arg8 harg8 arg9 harg9 arg10 harg10 arg11 harg11 (BitVec.ofNat 32 (i 2).val) v23 v32 (FloatOps.ofBits (F := Ideal) FTy.f32 0#32) X8 X9 (arg10.view.writes (Elt Ideal) arg10.view.junk [⟨Rect.unit (s := S2x640x1) ![0, 0, 0] S2x640x1.size inb_S2x640x1_S2x640x1_0_0_0, (k0_pay81 : FVec Ideal S2x640x1 .f32)⟩]) (arg11.view.writes (Elt Ideal) arg11.view.junk [⟨Rect.unit (s := S2x640x128) ![0, 0, 0] S2x640x128.size inb_S2x640x128_S2x640x128_0_0_0, (k0_pay82 (FloatOps.ofBits (F := Ideal) FTy.f32 0#32) : FVec Ideal S2x640x128 .f32)⟩]) ((i 2).val / 2) (le_of_eq (trips1_eq i).symm)).1
  rw [init_m1, init_a1] at l
  exact l

theorem after_a1 : arg11.view.readCov ((pb_k0_t2 Variants.none c none i arg3 harg3 arg4 harg4 arg5 harg5 arg6 harg6 arg7 harg7 arg8 harg8 arg9 harg9 arg10 harg10 arg11 harg11 (BitVec.ofNat 32 (i 2).val) v23 v32 (FloatOps.ofBits (F := Ideal) FTy.f32 0#32) w2 X8 X9 (arg10.view.writes (Elt Ideal) arg10.view.junk ((pb_k0_t1 Variants.none c none i arg3 harg3 arg4 harg4 arg5 harg5 arg6 harg6 arg7 harg7 arg8 harg8 arg9 harg9 arg10 harg10 arg11 harg11 (BitVec.ofNat 32 (i 2).val) v23 v32 (FloatOps.ofBits (F := Ideal) FTy.f32 0#32) X8 X9 (arg10.view.writes (Elt Ideal) arg10.view.junk [⟨Rect.unit (s := S2x640x1) ![0, 0, 0] S2x640x1.size inb_S2x640x1_S2x640x1_0_0_0, (k0_pay81 : FVec Ideal S2x640x1 .f32)⟩]) (arg11.view.writes (Elt Ideal) arg11.view.junk [⟨Rect.unit (s := S2x640x128) ![0, 0, 0] S2x640x128.size inb_S2x640x128_S2x640x128_0_0_0, (k0_pay82 (FloatOps.ofBits (F := Ideal) FTy.f32 0#32) : FVec Ideal S2x640x128 .f32)⟩]) (Scf.trips (k0_t1_loop i).lb (k0_t1_loop i).ub (k0_t1_loop i).st)).1 ++ [⟨Rect.unit (s := S2x640x1) ![0, 0, 0] S2x640x1.size inb_S2x640x1_S2x640x1_0_0_0, (k0_pay81 : FVec Ideal S2x640x1 .f32)⟩])) (arg11.view.writes (Elt Ideal) arg11.view.junk ((pb_k0_t1 Variants.none c none i arg3 harg3 arg4 harg4 arg5 harg5 arg6 harg6 arg7 harg7 arg8 harg8 arg9 harg9 arg10 harg10 arg11 harg11 (BitVec.ofNat 32 (i 2).val) v23 v32 (FloatOps.ofBits (F := Ideal) FTy.f32 0#32) X8 X9 (arg10.view.writes (Elt Ideal) arg10.view.junk [⟨Rect.unit (s := S2x640x1) ![0, 0, 0] S2x640x1.size inb_S2x640x1_S2x640x1_0_0_0, (k0_pay81 : FVec Ideal S2x640x1 .f32)⟩]) (arg11.view.writes (Elt Ideal) arg11.view.junk [⟨Rect.unit (s := S2x640x128) ![0, 0, 0] S2x640x128.size inb_S2x640x128_S2x640x128_0_0_0, (k0_pay82 (FloatOps.ofBits (F := Ideal) FTy.f32 0#32) : FVec Ideal S2x640x128 .f32)⟩]) (Scf.trips (k0_t1_loop i).lb (k0_t1_loop i).ub (k0_t1_loop i).st)).2 ++ [⟨Rect.unit (s := S2x640x128) ![0, 0, 0] S2x640x128.size inb_S2x640x128_S2x640x128_0_0_0, (k0_pay82 (FloatOps.ofBits (F := Ideal) FTy.f32 0#32) : FVec Ideal S2x640x128 .f32)⟩])) (Scf.trips (k0_t2_loop i).lb (k0_t2_loop i).ub (k0_t2_loop i).st)).2 ++ ((pb_k0_t1 Variants.none c none i arg3 harg3 arg4 harg4 arg5 harg5 arg6 harg6 arg7 harg7 arg8 harg8 arg9 harg9 arg10 harg10 arg11 harg11 (BitVec.ofNat 32 (i 2).val) v23 v32 (FloatOps.ofBits (F := Ideal) FTy.f32 0#32) X8 X9 (arg10.view.writes (Elt Ideal) arg10.view.junk [⟨Rect.unit (s := S2x640x1) ![0, 0, 0] S2x640x1.size inb_S2x640x1_S2x640x1_0_0_0, (k0_pay81 : FVec Ideal S2x640x1 .f32)⟩]) (arg11.view.writes (Elt Ideal) arg11.view.junk [⟨Rect.unit (s := S2x640x128) ![0, 0, 0] S2x640x128.size inb_S2x640x128_S2x640x128_0_0_0, (k0_pay82 (FloatOps.ofBits (F := Ideal) FTy.f32 0#32) : FVec Ideal S2x640x128 .f32)⟩]) (Scf.trips (k0_t1_loop i).lb (k0_t1_loop i).ub (k0_t1_loop i).st)).2 ++ [⟨Rect.unit (s := S2x640x128) ![0, 0, 0] S2x640x128.size inb_S2x640x128_S2x640x128_0_0_0, (k0_pay82 (FloatOps.ofBits (F := Ideal) FTy.f32 0#32) : FVec Ideal S2x640x128 .f32)⟩])) (Rect.unit (s := S2x640x128) ![1, 0, 0] S1x640x128.size (by decide)).toLoadRect = (st v32 (tile (arg8.view.read (Elt Ideal) X8) 1) (tile (arg9.view.read (Elt Ideal) X9) 1) (fun _ => (⊥ : EReal)) (fun _ => (0 : EReal)) (2 * ((i 2).val / 2))).2 := by
  have e2 : (Scf.trips (k0_t2_loop i).lb (k0_t2_loop i).ub (k0_t2_loop i).st) = 0 := trips2_eq i
  have e1 : (Scf.trips (k0_t1_loop i).lb (k0_t1_loop i).ub (k0_t1_loop i).st) = (i 2).val / 2 := trips1_eq i
  rw [e2, e1]
  refine Eq.trans (congrArg (arg11.view.readAt (Elt Ideal) _) (View.writes_append (v := arg11.view) (f := arg11.view.junk) (L' := [⟨Rect.unit (s := S2x640x128) ![0, 0, 0] S2x640x128.size inb_S2x640x128_S2x640x128_0_0_0, (k0_pay82 (FloatOps.ofBits (F := Ideal) FTy.f32 0#32) : FVec Ideal S2x640x128 .f32)⟩]) (L := (pb_k0_t1 Variants.none c none i arg3 harg3 arg4 harg4 arg5 harg5 arg6 harg6 arg7 harg7 arg8 harg8 arg9 harg9 arg10 harg10 arg11 harg11 (BitVec.ofNat 32 (i 2).val) v23 v32 (FloatOps.ofBits (F := Ideal) FTy.f32 0#32) X8 X9 (arg10.view.writes (Elt Ideal) arg10.view.junk [⟨Rect.unit (s := S2x640x1) ![0, 0, 0] S2x640x1.size inb_S2x640x1_S2x640x1_0_0_0, (k0_pay81 : FVec Ideal S2x640x1 .f32)⟩]) (arg11.view.writes (Elt Ideal) arg11.view.junk [⟨Rect.unit (s := S2x640x128) ![0, 0, 0] S2x640x128.size inb_S2x640x128_S2x640x128_0_0_0, (k0_pay82 (FloatOps.ofBits (F := Ideal) FTy.f32 0#32) : FVec Ideal S2x640x128 .f32)⟩]) ((i 2).val / 2)).2))) ?_
  have l := (loop1 Variants.none c none i arg3 harg3 arg4 harg4 arg5 harg5 arg6 harg6 arg7 harg7 arg8 harg8 arg9 harg9 arg10 harg10 arg11 harg11 (BitVec.ofNat 32 (i 2).val) v23 v32 (FloatOps.ofBits (F := Ideal) FTy.f32 0#32) X8 X9 (arg10.view.writes (Elt Ideal) arg10.view.junk [⟨Rect.unit (s := S2x640x1) ![0, 0, 0] S2x640x1.size inb_S2x640x1_S2x640x1_0_0_0, (k0_pay81 : FVec Ideal S2x640x1 .f32)⟩]) (arg11.view.writes (Elt Ideal) arg11.view.junk [⟨Rect.unit (s := S2x640x128) ![0, 0, 0] S2x640x128.size inb_S2x640x128_S2x640x128_0_0_0, (k0_pay82 (FloatOps.ofBits (F := Ideal) FTy.f32 0#32) : FVec Ideal S2x640x128 .f32)⟩]) ((i 2).val / 2) (le_of_eq (trips1_eq i).symm)).2
  rw [init_m1, init_a1] at l
  exact l

end

section
variable (c : Dev nD) (i : grid0.Coords) (arg3 : Memref sig .tc .vmem S1x640x128 .f32) (harg3 : arg3.IsWhole) (arg4 : Memref sig .tc .vmem S1x2x64x8320 .f32) (harg4 : arg4.IsWhole) (arg5 : Memref sig .tc .vmem S1x2x64x8320 .f32) (harg5 : arg5.IsWhole) (arg6 : Memref sig .tc .vmem S1x1x2x8320 .f32) (harg6 : arg6.IsWhole) (arg7 : Memref sig .tc .vmem S1x640x128 .f32) (harg7 : arg7.IsWhole) (arg8 : Memref sig .tc .vmem S2x128x8320 .bf16) (harg8 : arg8.IsWhole) (arg9 : Memref sig .tc .vmem S2x128x8320 .bf16) (harg9 : arg9.IsWhole) (arg10 : Memref sig .tc .vmem S2x640x1 .f32) (harg10 : arg10.IsWhole) (arg11 : Memref sig .tc .vmem S2x640x128 .f32) (harg11 : arg11.IsWhole)

theorem outC0 (hp : (i 2).val % 2 = 0) (hc0 : ¬cond0_0 i) (hc1 : ¬cond0_1 i) (hc2 : cond0_2 i)
    (x0 : Vec Ideal S1x640x128 .f32) (x1 : Vec Ideal S1x2x64x8320 .f32) (x2 : Vec Ideal S1x2x64x8320 .f32) (x3 : Vec Ideal S1x1x2x8320 .f32) (xs0 : Vec Ideal S2x128x8320 .bf16) (xs1 : Vec Ideal S2x128x8320 .bf16) :
    kernelRun0_C.sl.v71 (F := Ideal) c i arg3 harg3 arg4 harg4 arg5 harg5 arg6 harg6 arg7 harg7 arg8 harg8 arg9 harg9 arg10 harg10 arg11 harg11 hc2 x0 xs0 xs1 = fin (k0_pay79 x0) (tile (arg8.view.read (Elt Ideal) (harg8.unread xs0)) 0) (tile (arg9.view.read (Elt Ideal) (harg9.unread xs1)) 0) (i 2).val := by
  have hi : (i 2).val < 13 := (i 2).isLt
  have hn : 2 * ((i 2).val / 2) = (i 2).val := by omega
  have eq0 : kernelRun0_C.sl.r c arg3 harg3 x0 = k0_pay79 x0 := congrArg k0_pay79 (readq arg3 harg3 x0 inb_S1x640x128_S1x640x128_0_0_0)
  have eq1 : kernelRun0_C.sl.r_1 c arg3 harg3 x0 = k0_pay80 x0 := congrArg k0_pay80 (readq arg3 harg3 x0 inb_S1x640x128_S1x640x128_0_0_0)
  have em : _ = (st (k0_pay79 x0) (tile (arg8.view.read (Elt Ideal) (harg8.unread xs0)) 0) (tile (arg9.view.read (Elt Ideal) (harg9.unread xs1)) 0) (fun _ => (⊥ : EReal)) (fun _ => (0 : EReal)) (i 2).val).1 := (after_m0 c i arg3 harg3 arg4 harg4 arg5 harg5 arg6 harg6 arg7 harg7 arg8 harg8 arg9 harg9 arg10 harg10 arg11 harg11 (kernelRun0_C.sl.v62 i) (kernelRun0_C.sl.r c arg3 harg3 x0) (kernelRun0_C.sl.r_1 c arg3 harg3 x0) (harg8.unread xs0) (harg9.unread xs1)).trans (by rw [hn, eq0])
  have ea : _ = (st (k0_pay79 x0) (tile (arg8.view.read (Elt Ideal) (harg8.unread xs0)) 0) (tile (arg9.view.read (Elt Ideal) (harg9.unread xs1)) 0) (fun _ => (⊥ : EReal)) (fun _ => (0 : EReal)) (i 2).val).2 := (after_a0 c i arg3 harg3 arg4 harg4 arg5 harg5 arg6 harg6 arg7 harg7 arg8 harg8 arg9 harg9 arg10 harg10 arg11 harg11 (kernelRun0_C.sl.v62 i) (kernelRun0_C.sl.r c arg3 harg3 x0) (kernelRun0_C.sl.r_1 c arg3 harg3 x0) (harg8.unread xs0) (harg9.unread xs1)).trans (by rw [hn, eq0])
  refine (View.readCov_skip _ _ _ _ _ (by decide)).trans ((View.readCov_cons_toLoadRect _ _ _ _).trans ?_)
  refine step_congr (m := kernelRun0_C.sl.v107 (F := Ideal) c i arg3 harg3 arg4 harg4 arg5 harg5 arg6 harg6 arg7 harg7 arg8 harg8 arg9 harg9 arg10 harg10 arg11 harg11 x0 xs0 xs1) (a := kernelRun0_C.sl.v118 (F := Ideal) c i arg3 harg3 arg4 harg4 arg5 harg5 arg6 harg6 arg7 harg7 arg8 harg8 arg9 harg9 arg10 harg10 arg11 harg11 x0 xs0 xs1) (congrArg k0_pay58 (congrArg₂ k0_pay5 eq0 (readAt_tile arg8.view (harg8.unread xs0) 0 (i 2).val (by omega) _ (k0_off13_eq i) (Gen.k0_off13_inb i hc2)))) em ea (readAt_tile arg9.view (harg9.unread xs1) 0 (i 2).val (by omega) _ (k0_off13_eq i) (Gen.k0_off13_inb i hc2))

theorem outC1 (hp : (i 2).val % 2 = 0) (hc0 : ¬cond0_0 i) (hc1 : ¬cond0_1 i) (hc2 : cond0_2 i)
    (x0 : Vec Ideal S1x640x128 .f32) (x1 : Vec Ideal S1x2x64x8320 .f32) (x2 : Vec Ideal S1x2x64x8320 .f32) (x3 : Vec Ideal S1x1x2x8320 .f32) (xs0 : Vec Ideal S2x128x8320 .bf16) (xs1 : Vec Ideal S2x128x8320 .bf16) :
    kernelRun0_C.sl.v73 (F := Ideal) c i arg3 harg3 arg4 harg4 arg5 harg5 arg6 harg6 arg7 harg7 arg8 harg8 arg9 harg9 arg10 harg10 arg11 harg11 hc2 x0 xs0 xs1 = fin (k0_pay80 x0) (tile (arg8.view.read (Elt Ideal) (harg8.unread xs0)) 1) (tile (arg9.view.read (Elt Ideal) (harg9.unread xs1)) 1) (i 2).val := by
  have hi : (i 2).val < 13 := (i 2).isLt
  have hn : 2 * ((i 2).val / 2) = (i 2).val := by omega
  have eq0 : kernelRun0_C.sl.r c arg3 harg3 x0 = k0_pay79 x0 := congrArg k0_pay79 (readq arg3 harg3 x0 inb_S1x640x128_S1x640x128_0_0_0)
  have eq1 : kernelRun0_C.sl.r_1 c arg3 harg3 x0 = k0_pay80 x0 := congrArg k0_pay80 (readq arg3 harg3 x0 inb_S1x640x128_S1x640x128_0_0_0)
  have em : _ = (st (k0_pay80 x0) (tile (arg8.view.read (Elt Ideal) (harg8.unread xs0)) 1) (tile (arg9.view.read (Elt Ideal) (harg9.unread xs1)) 1) (fun _ => (⊥ : EReal)) (fun _ => (0 : EReal)) (i 2).val).1 := (after_m1 c i arg3 harg3 arg4 harg4 arg5 harg5 arg6 harg6 arg7 harg7 arg8 harg8 arg9 harg9 arg10 harg10 arg11 harg11 (kernelRun0_C.sl.v62 i) (kernelRun0_C.sl.r c arg3 harg3 x0) (kernelRun0_C.sl.r_1 c arg3 harg3 x0) (harg8.unread xs0) (harg9.unread xs1)).trans (by rw [hn, eq1])
  have ea : _ = (st (k0_pay80 x0) (tile (arg8.view.read (Elt Ideal) (harg8.unread xs0)) 1) (tile (arg9.view.read (Elt Ideal) (harg9.unread xs1)) 1) (fun _ => (⊥ : EReal)) (fun _ => (0 : EReal)) (i 2).val).2 := (after_a1 c i arg3 harg3 arg4 harg4 arg5 harg5 arg6 harg6 arg7 harg7 arg8 harg8 arg9 harg9 arg10 harg10 arg11 harg11 (kernelRun0_C.sl.v62 i) (kernelRun0_C.sl.r c arg3 harg3 x0) (kernelRun0_C.sl.r_1 c arg3 harg3 x0) (harg8.unread xs0) (harg9.unread xs1)).trans (by rw [hn, eq1])
  refine (View.readCov_cons_toLoadRect _ _ _ _).trans ?_
  refine step_congr (m := kernelRun0_C.sl.v138 (F := Ideal) c i arg3 harg3 arg4 harg4 arg5 harg5 arg6 harg6 arg7 harg7 arg8 harg8 arg9 harg9 arg10 harg10 arg11 harg11 hc2 x0 xs0 xs1) (a := kernelRun0_C.sl.v149 (F := Ideal) c i arg3 harg3 arg4 harg4 arg5 harg5 arg6 harg6 arg7 harg7 arg8 harg8 arg9 harg9 arg10 harg10 arg11 harg11 hc2 x0 xs0 xs1) (congrArg k0_pay58 (congrArg₂ k0_pay5 eq1 (readAt_tile arg8.view (harg8.unread xs0) 1 (i 2).val (by omega) _ (k0_off14_eq i) (Gen.k0_off14_inb i hc2)))) ((View.readCov_skip _ _ _ _ _ (by decide)).trans em) ((View.readCov_skip _ _ _ _ _ (by decide)).trans ea) (readAt_tile arg9.view (harg9.unread xs1) 1 (i 2).val (by omega) _ (k0_off14_eq i) (Gen.k0_off14_inb i hc2))

/-- The block of a point of case C. -/
theorem blockC (hp : (i 2).val % 2 = 0) (hc0 : ¬cond0_0 i) (hc1 : ¬cond0_1 i) (hc2 : cond0_2 i)
    (x0 : Vec Ideal S1x640x128 .f32) (x1 : Vec Ideal S1x2x64x8320 .f32) (x2 : Vec Ideal S1x2x64x8320 .f32) (x3 : Vec Ideal S1x1x2x8320 .f32) (xs0 : Vec Ideal S2x128x8320 .bf16) (xs1 : Vec Ideal S2x128x8320 .bf16) :
    out0_C_4 (F := Ideal) c i arg3 harg3 arg4 harg4 arg5 harg5 arg6 harg6 arg7 harg7 arg8 harg8 arg9 harg9 arg10 harg10 arg11 harg11 hc0 hc1 hc2 x0 x1 x2 x3 xs0 xs1 = blockOf x0 (arg8.view.read (Elt Ideal) (harg8.unread xs0)) (arg9.view.read (Elt Ideal) (harg9.unread xs1)) (i 2).val := by
  unfold out0_C_4
  refine (View.read_writes_junk_eq_canon _ _).trans ?_
  unfold kernelRun0_C
  dsimp only
  refine Eq.trans (View.canon_cons_unit_lit inb_S1x640x128_S1x640x128_0_0_0 _ [] (by decide)) ?_
  exact congrArg₂ (k0_pay1 (iota .tc S1x128 32 [1] iota_S1x128_d1_w32)) (outC0 c i arg3 harg3 arg4 harg4 arg5 harg5 arg6 harg6 arg7 harg7 arg8 harg8 arg9 harg9 arg10 harg10 arg11 harg11 hp hc0 hc1 hc2 x0 x1 x2 x3 xs0 xs1) (outC1 c i arg3 harg3 arg4 harg4 arg5 harg5 arg6 harg6 arg7 harg7 arg8 harg8 arg9 harg9 arg10 harg10 arg11 harg11 hp hc0 hc1 hc2 x0 x1 x2 x3 xs0 xs1)

theorem outB0 (hp : (i 2).val % 2 = 1) (hc0 : ¬cond0_0 i) (hc1 : cond0_1 i) (hc2 : ¬cond0_2 i)
    (x0 : Vec Ideal S1x640x128 .f32) (x1 : Vec Ideal S1x2x64x8320 .f32) (x2 : Vec Ideal S1x2x64x8320 .f32) (x3 : Vec Ideal S1x1x2x8320 .f32) (xs0 : Vec Ideal S2x128x8320 .bf16) (xs1 : Vec Ideal S2x128x8320 .bf16) :
    kernelRun0_B.sl.v71 (F := Ideal) c i arg3 harg3 arg4 harg4 arg5 harg5 arg6 harg6 arg7 harg7 arg8 harg8 arg9 harg9 arg10 harg10 arg11 harg11 hc1 x0 xs0 xs1 = fin (k0_pay79 x0) (tile (arg8.view.read (Elt Ideal) (harg8.unread xs0)) 0) (tile (arg9.view.read (Elt Ideal) (harg9.unread xs1)) 0) (i 2).val := by
  have hi : (i 2).val < 13 := (i 2).isLt
  have hn : 2 * ((i 2).val / 2) = (i 2).val - 1 := by omega
  have eq0 : kernelRun0_B.sl.r c arg3 harg3 x0 = k0_pay79 x0 := congrArg k0_pay79 (readq arg3 harg3 x0 inb_S1x640x128_S1x640x128_0_0_0)
  have eq1 : kernelRun0_B.sl.r_1 c arg3 harg3 x0 = k0_pay80 x0 := congrArg k0_pay80 (readq arg3 harg3 x0 inb_S1x640x128_S1x640x128_0_0_0)
  have em : _ = (st (k0_pay79 x0) (tile (arg8.view.read (Elt Ideal) (harg8.unread xs0)) 0) (tile (arg9.view.read (Elt Ideal) (harg9.unread xs1)) 0) (fun _ => (⊥ : EReal)) (fun _ => (0 : EReal)) ((i 2).val - 1)).1 := (after_m0 c i arg3 harg3 arg4 harg4 arg5 harg5 arg6 harg6 arg7 harg7 arg8 harg8 arg9 harg9 arg10 harg10 arg11 harg11 (kernelRun0_B.sl.v62 i) (kernelRun0_B.sl.r c arg3 harg3 x0) (kernelRun0_B.sl.r_1 c arg3 harg3 x0) (harg8.unread xs0) (harg9.unread xs1)).trans (by rw [hn, eq0])
  have ea : _ = (st (k0_pay79 x0) (tile (arg8.view.read (Elt Ideal) (harg8.unread xs0)) 0) (tile (arg9.view.read (Elt Ideal) (harg9.unread xs1)) 0) (fun _ => (⊥ : EReal)) (fun _ => (0 : EReal)) ((i 2).val - 1)).2 := (after_a0 c i arg3 harg3 arg4 harg4 arg5 harg5 arg6 harg6 arg7 harg7 arg8 harg8 arg9 harg9 arg10 harg10 arg11 harg11 (kernelRun0_B.sl.v62 i) (kernelRun0_B.sl.r c arg3 harg3 x0) (kernelRun0_B.sl.r_1 c arg3 harg3 x0) (harg8.unread xs0) (harg9.unread xs1)).trans (by rw [hn, eq0])
  have em1 : kernelRun0_B.sl.v113 (F := Ideal) c i arg3 harg3 arg4 harg4 arg5 harg5 arg6 harg6 arg7 harg7 arg8 harg8 arg9 harg9 arg10 harg10 arg11 harg11 x0 xs0 xs1 = (st (k0_pay79 x0) (tile (arg8.view.read (Elt Ideal) (harg8.unread xs0)) 0) (tile (arg9.view.read (Elt Ideal) (harg9.unread xs1)) 0) (fun _ => (⊥ : EReal)) (fun _ => (0 : EReal)) ((i 2).val - 1)).1 := em
  have ea1 : kernelRun0_B.sl.v124 (F := Ideal) c i arg3 harg3 arg4 harg4 arg5 harg5 arg6 harg6 arg7 harg7 arg8 harg8 arg9 harg9 arg10 harg10 arg11 harg11 x0 xs0 xs1 = (st (k0_pay79 x0) (tile (arg8.view.read (Elt Ideal) (harg8.unread xs0)) 0) (tile (arg9.view.read (Elt Ideal) (harg9.unread xs1)) 0) (fun _ => (⊥ : EReal)) (fun _ => (0 : EReal)) ((i 2).val - 1)).2 := ea
  have es := congrArg₂ k0_pay5 eq0 (readAt_tile arg8.view (harg8.unread xs0) 0 ((i 2).val - 1) (by omega) _ (off9_eq i hp) (Gen.k0_off9_inb i hc1))
  have hs : (i 2).val = ((i 2).val - 1) + 1 := by omega
  have em2 : kernelRun0_B.sl.v172 (F := Ideal) c i arg3 harg3 arg4 harg4 arg5 harg5 arg6 harg6 arg7 harg7 arg8 harg8 arg9 harg9 arg10 harg10 arg11 harg11 hc1 x0 xs0 xs1 = (st (k0_pay79 x0) (tile (arg8.view.read (Elt Ideal) (harg8.unread xs0)) 0) (tile (arg9.view.read (Elt Ideal) (harg9.unread xs1)) 0) (fun _ => (⊥ : EReal)) (fun _ => (0 : EReal)) (i 2).val).1 := by
    refine ((View.readCov_skip _ _ _ _ _ (by decide)).trans ((View.readCov_cons_toLoadRect _ _ _ _).trans ?_))
    rw [hs]
    exact max_congr (m := kernelRun0_B.sl.v113 (F := Ideal) c i arg3 harg3 arg4 harg4 arg5 harg5 arg6 harg6 arg7 harg7 arg8 harg8 arg9 harg9 arg10 harg10 arg11 harg11 x0 xs0 xs1) es em1
  have ea2 : kernelRun0_B.sl.v183 (F := Ideal) c i arg3 harg3 arg4 harg4 arg5 harg5 arg6 harg6 arg7 harg7 arg8 harg8 arg9 harg9 arg10 harg10 arg11 harg11 hc1 x0 xs0 xs1 = (st (k0_pay79 x0) (tile (arg8.view.read (Elt Ideal) (harg8.unread xs0)) 0) (tile (arg9.view.read (Elt Ideal) (harg9.unread xs1)) 0) (fun _ => (⊥ : EReal)) (fun _ => (0 : EReal)) (i 2).val).2 := by
    refine ((View.readCov_skip _ _ _ _ _ (by decide)).trans ((View.readCov_cons_toLoadRect _ _ _ _).trans ?_))
    rw [hs]
    exact step_congr (m := kernelRun0_B.sl.v113 (F := Ideal) c i arg3 harg3 arg4 harg4 arg5 harg5 arg6 harg6 arg7 harg7 arg8 harg8 arg9 harg9 arg10 harg10 arg11 harg11 x0 xs0 xs1) (a := kernelRun0_B.sl.v124 (F := Ideal) c i arg3 harg3 arg4 harg4 arg5 harg5 arg6 harg6 arg7 harg7 arg8 harg8 arg9 harg9 arg10 harg10 arg11 harg11 x0 xs0 xs1) es em1 ea1 (readAt_tile arg9.view (harg9.unread xs1) 0 ((i 2).val - 1) (by omega) _ (off9_eq i hp) (Gen.k0_off9_inb i hc1))
  refine (View.readCov_skip _ _ _ _ _ (by decide)).trans ((View.readCov_cons_toLoadRect _ _ _ _).trans ?_)
  exact step_congr (m := kernelRun0_B.sl.v172 (F := Ideal) c i arg3 harg3 arg4 harg4 arg5 harg5 arg6 harg6 arg7 harg7 arg8 harg8 arg9 harg9 arg10 harg10 arg11 harg11 hc1 x0 xs0 xs1) (a := kernelRun0_B.sl.v183 (F := Ideal) c i arg3 harg3 arg4 harg4 arg5 harg5 arg6 harg6 arg7 harg7 arg8 harg8 arg9 harg9 arg10 harg10 arg11 harg11 hc1 x0 xs0 xs1) (congrArg k0_pay58 (congrArg₂ k0_pay5 eq0 (readAt_tile arg8.view (harg8.unread xs0) 0 (i 2).val (by omega) _ (k0_off11_eq i) (Gen.k0_off11_inb i hc1)))) em2 ea2 (readAt_tile arg9.view (harg9.unread xs1) 0 (i 2).val (by omega) _ (k0_off11_eq i) (Gen.k0_off11_inb i hc1))

theorem outB1 (hp : (i 2).val % 2 = 1) (hc0 : ¬cond0_0 i) (hc1 : cond0_1 i) (hc2 : ¬cond0_2 i)
    (x0 : Vec Ideal S1x640x128 .f32) (x1 : Vec Ideal S1x2x64x8320 .f32) (x2 : Vec Ideal S1x2x64x8320 .f32) (x3 : Vec Ideal S1x1x2x8320 .f32) (xs0 : Vec Ideal S2x128x8320 .bf16) (xs1 : Vec Ideal S2x128x8320 .bf16) :
    kernelRun0_B.sl.v73 (F := Ideal) c i arg3 harg3 arg4 harg4 arg5 harg5 arg6 harg6 arg7 harg7 arg8 harg8 arg9 harg9 arg10 harg10 arg11 harg11 hc1 x0 xs0 xs1 = fin (k0_pay80 x0) (tile (arg8.view.read (Elt Ideal) (harg8.unread xs0)) 1) (tile (arg9.view.read (Elt Ideal) (harg9.unread xs1)) 1) (i 2).val := by
  have hi : (i 2).val < 13 := (i 2).isLt
  have hn : 2 * ((i 2).val / 2) = (i 2).val - 1 := by omega
  have eq0 : kernelRun0_B.sl.r c arg3 harg3 x0 = k0_pay79 x0 := congrArg k0_pay79 (readq arg3 harg3 x0 inb_S1x640x128_S1x640x128_0_0_0)
  have eq1 : kernelRun0_B.sl.r_1 c arg3 harg3 x0 = k0_pay80 x0 := congrArg k0_pay80 (readq arg3 harg3 x0 inb_S1x640x128_S1x640x128_0_0_0)
  have em : _ = (st (k0_pay80 x0) (tile (arg8.view.read (Elt Ideal) (harg8.unread xs0)) 1) (tile (arg9.view.read (Elt Ideal) (harg9.unread xs1)) 1) (fun _ => (⊥ : EReal)) (fun _ => (0 : EReal)) ((i 2).val - 1)).1 := (after_m1 c i arg3 harg3 arg4 harg4 arg5 harg5 arg6 harg6 arg7 harg7 arg8 harg8 arg9 harg9 arg10 harg10 arg11 harg11 (kernelRun0_B.sl.v62 i) (kernelRun0_B.sl.r c arg3 harg3 x0) (kernelRun0_B.sl.r_1 c arg3 harg3 x0) (harg8.unread xs0) (harg9.unread xs1)).trans (by rw [hn, eq1])
  have ea : _ = (st (k0_pay80 x0) (tile (arg8.view.read (Elt Ideal) (harg8.unread xs0)) 1) (tile (arg9.view.read (Elt Ideal) (harg9.unread xs1)) 1) (fun _ => (⊥ : EReal)) (fun _ => (0 : EReal)) ((i 2).val - 1)).2 := (after_a1 c i arg3 harg3 arg4 harg4 arg5 harg5 arg6 harg6 arg7 harg7 arg8 harg8 arg9 harg9 arg10 harg10 arg11 harg11 (kernelRun0_B.sl.v62 i) (kernelRun0_B.sl.r c arg3 harg3 x0) (kernelRun0_B.sl.r_1 c arg3 harg3 x0) (harg8.unread xs0) (harg9.unread xs1)).trans (by rw [hn, eq1])
  have em1 : kernelRun0_B.sl.v139 (F := Ideal) c i arg3 harg3 arg4 harg4 arg5 harg5 arg6 harg6 arg7 harg7 arg8 harg8 arg9 harg9 arg10 harg10 arg11 harg11 hc1 x0 xs0 xs1 = (st (k0_pay80 x0) (tile (arg8.view.read (Elt Ideal) (harg8.unread xs0)) 1) (tile (arg9.view.read (Elt Ideal) (harg9.unread xs1)) 1) (fun _ => (⊥ : EReal)) (fun _ => (0 : EReal)) ((i 2).val - 1)).1 := ((View.readCov_skip _ _ _ _ _ (by decide)).trans em)
  have ea1 : kernelRun0_B.sl.v150 (F := Ideal) c i arg3 harg3 arg4 harg4 arg5 harg5 arg6 harg6 arg7 harg7 arg8 harg8 arg9 harg9 arg10 harg10 arg11 harg11 hc1 x0 xs0 xs1 = (st (k0_pay80 x0) (tile (arg8.view.read (Elt Ideal) (harg8.unread xs0)) 1) (tile (arg9.view.read (Elt Ideal) (harg9.unread xs1)) 1) (fun _ => (⊥ : EReal)) (fun _ => (0 : EReal)) ((i 2).val - 1)).2 := ((View.readCov_skip _ _ _ _ _ (by decide)).trans ea)
  have es := congrArg₂ k0_pay5 eq1 (readAt_tile arg8.view (harg8.unread xs0) 1 ((i 2).val - 1) (by omega) _ (off10_eq i hp) (Gen.k0_off10_inb i hc1))
  have hs : (i 2).val = ((i 2).val - 1) + 1 := by omega
  have em2 : kernelRun0_B.sl.v203 (F := Ideal) c i arg3 harg3 arg4 harg4 arg5 harg5 arg6 harg6 arg7 harg7 arg8 harg8 arg9 harg9 arg10 harg10 arg11 harg11 hc1 x0 xs0 xs1 = (st (k0_pay80 x0) (tile (arg8.view.read (Elt Ideal) (harg8.unread xs0)) 1) (tile (arg9.view.read (Elt Ideal) (harg9.unread xs1)) 1) (fun _ => (⊥ : EReal)) (fun _ => (0 : EReal)) (i 2).val).1 := by
    refine ((View.readCov_skip _ _ _ _ _ (by decide)).trans ((View.readCov_cons_toLoadRect _ _ _ _).trans ?_))
    rw [hs]
    exact max_congr (m := kernelRun0_B.sl.v139 (F := Ideal) c i arg3 harg3 arg4 harg4 arg5 harg5 arg6 harg6 arg7 harg7 arg8 harg8 arg9 harg9 arg10 harg10 arg11 harg11 hc1 x0 xs0 xs1) es em1
  have ea2 : kernelRun0_B.sl.v214 (F := Ideal) c i arg3 harg3 arg4 harg4 arg5 harg5 arg6 harg6 arg7 harg7 arg8 harg8 arg9 harg9 arg10 harg10 arg11 harg11 hc1 x0 xs0 xs1 = (st (k0_pay80 x0) (tile (arg8.view.read (Elt Ideal) (harg8.unread xs0)) 1) (tile (arg9.view.read (Elt Ideal) (harg9.unread xs1)) 1) (fun _ => (⊥ : EReal)) (fun _ => (0 : EReal)) (i 2).val).2 := by
    refine ((View.readCov_skip _ _ _ _ _ (by decide)).trans ((View.readCov_cons_toLoadRect _ _ _ _).trans ?_))
    rw [hs]
    exact step_congr (m := kernelRun0_B.sl.v139 (F := Ideal) c i arg3 harg3 arg4 harg4 arg5 harg5 arg6 harg6 arg7 harg7 arg8 harg8 arg9 harg9 arg10 harg10 arg11 harg11 hc1 x0 xs0 xs1) (a := kernelRun0_B.sl.v150 (F := Ideal) c i arg3 harg3 arg4 harg4 arg5 harg5 arg6 harg6 arg7 harg7 arg8 harg8 arg9 harg9 arg10 harg10 arg11 harg11 hc1 x0 xs0 xs1) es em1 ea1 (readAt_tile arg9.view (harg9.unread xs1) 1 ((i 2).val - 1) (by omega) _ (off10_eq i hp) (Gen.k0_off10_inb i hc1))
  refine (View.readCov_cons_toLoadRect _ _ _ _).trans ?_
  exact step_congr (m := kernelRun0_B.sl.v203 (F := Ideal) c i arg3 harg3 arg4 harg4 arg5 harg5 arg6 harg6 arg7 harg7 arg8 harg8 arg9 harg9 arg10 harg10 arg11 harg11 hc1 x0 xs0 xs1) (a := kernelRun0_B.sl.v214 (F := Ideal) c i arg3 harg3 arg4 harg4 arg5 harg5 arg6 harg6 arg7 harg7 arg8 harg8 arg9 harg9 arg10 harg10 arg11 harg11 hc1 x0 xs0 xs1) (congrArg k0_pay58 (congrArg₂ k0_pay5 eq1 (readAt_tile arg8.view (harg8.unread xs0) 1 (i 2).val (by omega) _ (k0_off12_eq i) (Gen.k0_off12_inb i hc1)))) em2 ea2 (readAt_tile arg9.view (harg9.unread xs1) 1 (i 2).val (by omega) _ (k0_off12_eq i) (Gen.k0_off12_inb i hc1))

/-- The block of a point of case B. -/
theorem blockB (hp : (i 2).val % 2 = 1) (hc0 : ¬cond0_0 i) (hc1 : cond0_1 i) (hc2 : ¬cond0_2 i)
    (x0 : Vec Ideal S1x640x128 .f32) (x1 : Vec Ideal S1x2x64x8320 .f32) (x2 : Vec Ideal S1x2x64x8320 .f32) (x3 : Vec Ideal S1x1x2x8320 .f32) (xs0 : Vec Ideal S2x128x8320 .bf16) (xs1 : Vec Ideal S2x128x8320 .bf16) :
    out0_B_4 (F := Ideal) c i arg3 harg3 arg4 harg4 arg5 harg5 arg6 harg6 arg7 harg7 arg8 harg8 arg9 harg9 arg10 harg10 arg11 harg11 hc0 hc1 hc2 x0 x1 x2 x3 xs0 xs1 = blockOf x0 (arg8.view.read (Elt Ideal) (harg8.unread xs0)) (arg9.view.read (Elt Ideal) (harg9.unread xs1)) (i 2).val := by
  unfold out0_B_4
  refine (View.read_writes_junk_eq_canon _ _).trans ?_
  unfold kernelRun0_B
  dsimp only
  refine Eq.trans (View.canon_cons_unit_lit inb_S1x640x128_S1x640x128_0_0_0 _ [] (by decide)) ?_
  exact congrArg₂ (k0_pay1 (iota .tc S1x128 32 [1] iota_S1x128_d1_w32)) (outB0 c i arg3 harg3 arg4 harg4 arg5 harg5 arg6 harg6 arg7 harg7 arg8 harg8 arg9 harg9 arg10 harg10 arg11 harg11 hp hc0 hc1 hc2 x0 x1 x2 x3 xs0 xs1) (outB1 c i arg3 harg3 arg4 harg4 arg5 harg5 arg6 harg6 arg7 harg7 arg8 harg8 arg9 harg9 arg10 harg10 arg11 harg11 hp hc0 hc1 hc2 x0 x1 x2 x3 xs0 xs1)

theorem outA0 (hp : (i 2).val % 2 = 0) (hc0 : cond0_0 i) (hc1 : ¬cond0_1 i) (hc2 : cond0_2 i)
    (x0 : Vec Ideal S1x640x128 .f32) (x1 : Vec Ideal S1x2x64x8320 .f32) (x2 : Vec Ideal S1x2x64x8320 .f32) (x3 : Vec Ideal S1x1x2x8320 .f32)  :
    kernelRun0_A.sl.v71 (F := Ideal) c i arg3 harg3 arg4 harg4 arg5 harg5 arg6 harg6 arg7 harg7 arg8 harg8 arg9 harg9 arg10 harg10 arg11 harg11 hc2 x0 x1 x2 x3 = fin (k0_pay79 x0) (tile (arg8.view.read (Elt Ideal) (arg8.view.writes (Elt Ideal) arg8.view.junk (kernelRun0_A.sl.HS0_2 c arg4 harg4 arg6 harg6 x1 x3))) 0) (tile (arg9.view.read (Elt Ideal) (arg9.view.writes (Elt Ideal) arg9.view.junk (kernelRun0_A.sl.HS1_2 c arg5 harg5 x2))) 0) (i 2).val := by
  have hi : (i 2).val < 13 := (i 2).isLt
  have hn : 2 * ((i 2).val / 2) = (i 2).val := by omega
  have eq0 : kernelRun0_A.sl.r_1 c arg3 harg3 x0 = k0_pay79 x0 := congrArg k0_pay79 (readq arg3 harg3 x0 inb_S1x640x128_S1x640x128_0_0_0)
  have eq1 : kernelRun0_A.sl.r_2 c arg3 harg3 x0 = k0_pay80 x0 := congrArg k0_pay80 (readq arg3 harg3 x0 inb_S1x640x128_S1x640x128_0_0_0)
  have em : _ = (st (k0_pay79 x0) (tile (arg8.view.read (Elt Ideal) (arg8.view.writes (Elt Ideal) arg8.view.junk (kernelRun0_A.sl.HS0_2 c arg4 harg4 arg6 harg6 x1 x3))) 0) (tile (arg9.view.read (Elt Ideal) (arg9.view.writes (Elt Ideal) arg9.view.junk (kernelRun0_A.sl.HS1_2 c arg5 harg5 x2))) 0) (fun _ => (⊥ : EReal)) (fun _ => (0 : EReal)) (i 2).val).1 := (after_m0 c i arg3 harg3 arg4 harg4 arg5 harg5 arg6 harg6 arg7 harg7 arg8 harg8 arg9 harg9 arg10 harg10 arg11 harg11 (kernelRun0_A.sl.v62 i) (kernelRun0_A.sl.r_1 c arg3 harg3 x0) (kernelRun0_A.sl.r_2 c arg3 harg3 x0) (arg8.view.writes (Elt Ideal) arg8.view.junk (kernelRun0_A.sl.HS0_2 c arg4 harg4 arg6 harg6 x1 x3)) (arg9.view.writes (Elt Ideal) arg9.view.junk (kernelRun0_A.sl.HS1_2 c arg5 harg5 x2))).trans (by rw [hn, eq0])
  have ea : _ = (st (k0_pay79 x0) (tile (arg8.view.read (Elt Ideal) (arg8.view.writes (Elt Ideal) arg8.view.junk (kernelRun0_A.sl.HS0_2 c arg4 harg4 arg6 harg6 x1 x3))) 0) (tile (arg9.view.read (Elt Ideal) (arg9.view.writes (Elt Ideal) arg9.view.junk (kernelRun0_A.sl.HS1_2 c arg5 harg5 x2))) 0) (fun _ => (⊥ : EReal)) (fun _ => (0 : EReal)) (i 2).val).2 := (after_a0 c i arg3 harg3 arg4 harg4 arg5 harg5 arg6 harg6 arg7 harg7 arg8 harg8 arg9 harg9 arg10 harg10 arg11 harg11 (kernelRun0_A.sl.v62 i) (kernelRun0_A.sl.r_1 c arg3 harg3 x0) (kernelRun0_A.sl.r_2 c arg3 harg3 x0) (arg8.view.writes (Elt Ideal) arg8.view.junk (kernelRun0_A.sl.HS0_2 c arg4 harg4 arg6 harg6 x1 x3)) (arg9.view.writes (Elt Ideal) arg9.view.junk (kernelRun0_A.sl.HS1_2 c arg5 harg5 x2))).trans (by rw [hn, eq0])
  refine (View.readCov_skip _ _ _ _ _ (by decide)).trans ((View.readCov_cons_toLoadRect _ _ _ _).trans ?_)
  refine step_congr (m := kernelRun0_A.sl.v107 (F := Ideal) c i arg3 harg3 arg4 harg4 arg5 harg5 arg6 harg6 arg7 harg7 arg8 harg8 arg9 harg9 arg10 harg10 arg11 harg11 x0 x1 x2 x3) (a := kernelRun0_A.sl.v118_1 (F := Ideal) c i arg3 harg3 arg4 harg4 arg5 harg5 arg6 harg6 arg7 harg7 arg8 harg8 arg9 harg9 arg10 harg10 arg11 harg11 x0 x1 x2 x3) (congrArg k0_pay58 (congrArg₂ k0_pay5 eq0 (readAt_tile arg8.view (arg8.view.writes (Elt Ideal) arg8.view.junk (kernelRun0_A.sl.HS0_2 c arg4 harg4 arg6 harg6 x1 x3)) 0 (i 2).val (by omega) _ (k0_off13_eq i) (Gen.k0_off13_inb i hc2)))) em ea (readAt_tile arg9.view (arg9.view.writes (Elt Ideal) arg9.view.junk (kernelRun0_A.sl.HS1_2 c arg5 harg5 x2)) 0 (i 2).val (by omega) _ (k0_off13_eq i) (Gen.k0_off13_inb i hc2))

theorem outA1 (hp : (i 2).val % 2 = 0) (hc0 : cond0_0 i) (hc1 : ¬cond0_1 i) (hc2 : cond0_2 i)
    (x0 : Vec Ideal S1x640x128 .f32) (x1 : Vec Ideal S1x2x64x8320 .f32) (x2 : Vec Ideal S1x2x64x8320 .f32) (x3 : Vec Ideal S1x1x2x8320 .f32)  :
    kernelRun0_A.sl.v73 (F := Ideal) c i arg3 harg3 arg4 harg4 arg5 harg5 arg6 harg6 arg7 harg7 arg8 harg8 arg9 harg9 arg10 harg10 arg11 harg11 hc2 x0 x1 x2 x3 = fin (k0_pay80 x0) (tile (arg8.view.read (Elt Ideal) (arg8.view.writes (Elt Ideal) arg8.view.junk (kernelRun0_A.sl.HS0_2 c arg4 harg4 arg6 harg6 x1 x3))) 1) (tile (arg9.view.read (Elt Ideal) (arg9.view.writes (Elt Ideal) arg9.view.junk (kernelRun0_A.sl.HS1_2 c arg5 harg5 x2))) 1) (i 2).val := by
  have hi : (i 2).val < 13 := (i 2).isLt
  have hn : 2 * ((i 2).val / 2) = (i 2).val := by omega
  have eq0 : kernelRun0_A.sl.r_1 c arg3 harg3 x0 = k0_pay79 x0 := congrArg k0_pay79 (readq arg3 harg3 x0 inb_S1x640x128_S1x640x128_0_0_0)
  have eq1 : kernelRun0_A.sl.r_2 c arg3 harg3 x0 = k0_pay80 x0 := congrArg k0_pay80 (readq arg3 harg3 x0 inb_S1x640x128_S1x640x128_0_0_0)
  have em : _ = (st (k0_pay80 x0) (tile (arg8.view.read (Elt Ideal) (arg8.view.writes (Elt Ideal) arg8.view.junk (kernelRun0_A.sl.HS0_2 c arg4 harg4 arg6 harg6 x1 x3))) 1) (tile (arg9.view.read (Elt Ideal) (arg9.view.writes (Elt Ideal) arg9.view.junk (kernelRun0_A.sl.HS1_2 c arg5 harg5 x2))) 1) (fun _ => (⊥ : EReal)) (fun _ => (0 : EReal)) (i 2).val).1 := (after_m1 c i arg3 harg3 arg4 harg4 arg5 harg5 arg6 harg6 arg7 harg7 arg8 harg8 arg9 harg9 arg10 harg10 arg11 harg11 (kernelRun0_A.sl.v62 i) (kernelRun0_A.sl.r_1 c arg3 harg3 x0) (kernelRun0_A.sl.r_2 c arg3 harg3 x0) (arg8.view.writes (Elt Ideal) arg8.view.junk (kernelRun0_A.sl.HS0_2 c arg4 harg4 arg6 harg6 x1 x3)) (arg9.view.writes (Elt Ideal) arg9.view.junk (kernelRun0_A.sl.HS1_2 c arg5 harg5 x2))).trans (by rw [hn, eq1])
  have ea : _ = (st (k0_pay80 x0) (tile (arg8.view.read (Elt Ideal) (arg8.view.writes (Elt Ideal) arg8.view.junk (kernelRun0_A.sl.HS0_2 c arg4 harg4 arg6 harg6 x1 x3))) 1) (tile (arg9.view.read (Elt Ideal) (arg9.view.writes (Elt Ideal) arg9.view.junk (kernelRun0_A.sl.HS1_2 c arg5 harg5 x2))) 1) (fun _ => (⊥ : EReal)) (fun _ => (0 : EReal)) (i 2).val).2 := (after_a1 c i arg3 harg3 arg4 harg4 arg5 harg5 arg6 harg6 arg7 harg7 arg8 harg8 arg9 harg9 arg10 harg10 arg11 harg11 (kernelRun0_A.sl.v62 i) (kernelRun0_A.sl.r_1 c arg3 harg3 x0) (kernelRun0_A.sl.r_2 c arg3 harg3 x0) (arg8.view.writes (Elt Ideal) arg8.view.junk (kernelRun0_A.sl.HS0_2 c arg4 harg4 arg6 harg6 x1 x3)) (arg9.view.writes (Elt Ideal) arg9.view.junk (kernelRun0_A.sl.HS1_2 c arg5 harg5 x2))).trans (by rw [hn, eq1])
  refine (View.readCov_cons_toLoadRect _ _ _ _).trans ?_
  refine step_congr (m := kernelRun0_A.sl.v138_1 (F := Ideal) c i arg3 harg3 arg4 harg4 arg5 harg5 arg6 harg6 arg7 harg7 arg8 harg8 arg9 harg9 arg10 harg10 arg11 harg11 hc2 x0 x1 x2 x3) (a := kernelRun0_A.sl.v149_1 (F := Ideal) c i arg3 harg3 arg4 harg4 arg5 harg5 arg6 harg6 arg7 harg7 arg8 harg8 arg9 harg9 arg10 harg10 arg11 harg11 hc2 x0 x1 x2 x3) (congrArg k0_pay58 (congrArg₂ k0_pay5 eq1 (readAt_tile arg8.view (arg8.view.writes (Elt Ideal) arg8.view.junk (kernelRun0_A.sl.HS0_2 c arg4 harg4 arg6 harg6 x1 x3)) 1 (i 2).val (by omega) _ (k0_off14_eq i) (Gen.k0_off14_inb i hc2)))) ((View.readCov_skip _ _ _ _ _ (by decide)).trans em) ((View.readCov_skip _ _ _ _ _ (by decide)).trans ea) (readAt_tile arg9.view (arg9.view.writes (Elt Ideal) arg9.view.junk (kernelRun0_A.sl.HS1_2 c arg5 harg5 x2)) 1 (i 2).val (by omega) _ (k0_off14_eq i) (Gen.k0_off14_inb i hc2))

/-- The block of a point of case A. -/
theorem blockA (hp : (i 2).val % 2 = 0) (hc0 : cond0_0 i) (hc1 : ¬cond0_1 i) (hc2 : cond0_2 i)
    (x0 : Vec Ideal S1x640x128 .f32) (x1 : Vec Ideal S1x2x64x8320 .f32) (x2 : Vec Ideal S1x2x64x8320 .f32) (x3 : Vec Ideal S1x1x2x8320 .f32)  :
    out0_A_4 (F := Ideal) c i arg3 harg3 arg4 harg4 arg5 harg5 arg6 harg6 arg7 harg7 arg8 harg8 arg9 harg9 arg10 harg10 arg11 harg11 hc0 hc1 hc2 x0 x1 x2 x3 = blockOf x0 (arg8.view.read (Elt Ideal) (arg8.view.writes (Elt Ideal) arg8.view.junk (kernelRun0_A.sl.HS0_2 c arg4 harg4 arg6 harg6 x1 x3))) (arg9.view.read (Elt Ideal) (arg9.view.writes (Elt Ideal) arg9.view.junk (kernelRun0_A.sl.HS1_2 c arg5 harg5 x2))) (i 2).val := by
  unfold out0_A_4
  refine (View.read_writes_junk_eq_canon _ _).trans ?_
  unfold kernelRun0_A
  dsimp only
  refine Eq.trans (View.canon_cons_unit_lit inb_S1x640x128_S1x640x128_0_0_0 _ [] (by decide)) ?_
  exact congrArg₂ (k0_pay1 (iota .tc S1x128 32 [1] iota_S1x128_d1_w32)) (outA0 c i arg3 harg3 arg4 harg4 arg5 harg5 arg6 harg6 arg7 harg7 arg8 harg8 arg9 harg9 arg10 harg10 arg11 harg11 hp hc0 hc1 hc2 x0 x1 x2 x3) (outA1 c i arg3 harg3 arg4 harg4 arg5 harg5 arg6 harg6 arg7 harg7 arg8 harg8 arg9 harg9 arg10 harg10 arg11 harg11 hp hc0 hc1 hc2 x0 x1 x2 x3)

end

end Cert.Kernel5Ideal.Fox
-- ==== Proof.Fox.Pay.lean ====
/- The entries of one point's block: a row's logits on a key tile, the running maximum and sums over the tiles, and the quotient that is
   the mean over the reals. -/
module

public import proofs.«01_k».proof.Proof.Fox.Spec
public import proofs.«01_k».proof.Proof.Fox.Run

@[expose] public section

set_option maxRecDepth 200000

noncomputable section

namespace Cert.Kernel5Ideal.Fox

open Idealize.ShloMosaic Idealize.ShloMosaic.TcCoe Idealize.ShloMosaic.Tactic
open Cert.Kernel5Ideal Cert.Kernel5Ideal.Gen Cert.Fox

theorem pay5_at (q : FVec Ideal S640x128 .bf16) (K : Vec Ideal S1x128x640 .bf16) (r y : Fin 640) :
    k0_pay5 q K (ix2 r y) = ∑ l : Fin 128, q (ix2 r l) * K (ix3 0 l y) := by
  pointwise [k0_pay5]

theorem pay23_at (s : FVec Ideal S640x640 .f32) (M : Vec Ideal S1x640x1 .f32) (r : Fin 640) :
    k0_pay23 s M (ix3 0 r 0) = max (M (ix3 0 r 0)) (Finset.fold max (⊥ : EReal) (fun y : Fin 640 => s (ix2 r y)) Finset.univ) := by
  rw [← ofBits_bot]
  pointwise [k0_pay23, k0_pay21, k0_pay20]

theorem pay22_at (s : FVec Ideal S640x640 .f32) (M : Vec Ideal S1x640x1 .f32) (A : Vec Ideal S1x640x128 .f32) (V : Vec Ideal S1x128x640 .bf16)
    (r : Fin 640) (l : Fin 128) :
    k0_pay22 s M A V (ix3 0 r l) = Ideal.exp (M (ix3 0 r 0) - k0_pay23 s M (ix3 0 r 0)) * A (ix3 0 r l)
      + ∑ y : Fin 640, Ideal.exp (s (ix2 r y) - k0_pay23 s M (ix3 0 r 0)) * V (ix3 0 l y) := by
  have e : k0_pay23 s M (ix3 0 r 0) = k0_pay21 s M (ix2 r 0) := by pointwise [k0_pay23]
  have e' : k0_pay20 M (ix2 r 0) = M (ix3 0 r 0) := by pointwise [k0_pay20]
  rw [e, ← e']
  pointwise [k0_pay22]

theorem mask_bot : (Named.named (F := Ideal) κ "mask" 0xF149F2CA#32 : Ideal .f32) = (⊥ : EReal) := rfl

theorem pay58_at (s : FVec Ideal S640x640 .f32) (r y : Fin 640) :
    k0_pay58 s (ix2 r y) = if y.val ≤ r.val then s (ix2 r y) else (⊥ : EReal) := by
  rw [← select_bool, ← cmp_sle _ _ (by omega) (by omega), ← mask_bot]
  pointwise [k0_pay58]

theorem pay1_at (a0 a1 : Vec Ideal S1x640x128 .f32) (r : Fin 640) (l : Fin 128) :
    k0_pay1 (iota .tc S1x128 32 [1] iota_S1x128_d1_w32) a0 a1 (ix3 0 r l)
      = if l.val < 64 then Ideal.div (a0 (ix3 0 r l)) (a0 (ix3 0 r 64))
        else Ideal.div (a1 (ix3 0 r ⟨(l.val + 128 - 64) % 128, Nat.mod_lt _ (by decide)⟩)) (a1 (ix3 0 r 64)) := by
  rw [← select_bool, ← cmp_lane64]
  pointwise [k0_pay1]

/-- A query row's lanes: its entries, three ones, and noughts. -/
theorem lanes (l : Fin 128) (a : ℝ) (X : EReal) (hX : l.val < 64 → X = (a : EReal)) :
    Scalar.select (IntOp.cmpi CmpIPredicate.slt (BitVec.ofNat 32 l.val) 64#32) (X * Ideal.ofBits FTy.f32 0x3E000000#32)
      (Scalar.select (IntOp.andi (IntOp.cmpi CmpIPredicate.sge (BitVec.ofNat 32 l.val) 64#32) (IntOp.cmpi CmpIPredicate.slt (BitVec.ofNat 32 l.val) 67#32)) (1 : EReal) 0)
      = (((if l.val < 64 then a * (1 / 8) else if l.val < 67 then 1 else 0) : ℝ) : EReal) := by
  rw [cmp_lane64, cmp_lane67, select_bool, select_bool, ofBits_eighth]
  by_cases h : l.val < 64
  · rw [if_pos h, if_pos h, hX h, ← EReal.coe_mul]
  · rw [if_neg h, if_neg h]
    by_cases h' : l.val < 67
    · rw [if_pos ⟨by omega, h'⟩, if_pos h', EReal.coe_one]
    · rw [if_neg (fun e => h' e.2), if_neg h', EReal.coe_zero]

theorem pay79_at (x0 : Vec Ideal S1x640x128 .f32) (r : Fin 640) (q : ℕ → ℝ) (hx : ∀ l : Fin 128, x0 (ix3 0 r l) = (q l.val : EReal)) (l : Fin 128) :
    k0_pay79 x0 (ix2 r l) = (((if l.val < 64 then q l.val * (1 / 8) else if l.val < 67 then 1 else 0) : ℝ) : EReal) := by
  rw [← lanes l (q l.val) (x0 (ix3 0 r l)) fun _ => hx l]
  pointwise [k0_pay79, k0_pay78, k0_pay77]

theorem pay80_at (x0 : Vec Ideal S1x640x128 .f32) (r : Fin 640) (q : ℕ → ℝ) (hx : ∀ l : Fin 128, x0 (ix3 0 r l) = (q l.val : EReal)) (l : Fin 128) :
    k0_pay80 x0 (ix2 r l) = (((if l.val < 64 then q (64 + l.val) * (1 / 8) else if l.val < 67 then 1 else 0) : ℝ) : EReal) := by
  have hX : l.val < 64 → x0 (ix3 0 r ⟨(l.val + 128 - 64) % 128, Nat.mod_lt _ (by decide)⟩) = (q (64 + l.val) : EReal) := fun h => by
    rw [hx]
    congr 2
    show (l.val + 128 - 64) % 128 = 64 + l.val
    omega
  rw [← lanes l (q (64 + l.val)) _ hX]
  pointwise [k0_pay80, k0_pay78, k0_pay77]

/-! ## A row over the tiles -/

section
variable (q : FVec Ideal S640x128 .bf16) (K V : ℕ → Vec Ideal S1x128x640 .bf16) (r : Fin 640) (a : ℕ → ℝ) (k : ℕ → ℕ → ℝ) (g : ℕ → ℝ) (v : Fin 128 → ℕ → ℝ)
    (hq : ∀ l : Fin 128, q (ix2 r l) = (((if l.val < 64 then a l.val else if l.val < 67 then 1 else 0) : ℝ) : EReal))
    (hK : ∀ j, j < 13 → ∀ (l : Fin 128) (y : Fin 640), K j (ix3 0 l y)
      = (((if l.val < 64 then k l.val (640 * j + y.val) else if l.val = 64 then -g (640 * j + y.val) else 0) : ℝ) : EReal))
    (hV : ∀ j, j < 13 → ∀ (l : Fin 128) (y : Fin 640), V j (ix3 0 l y) = ((v l (640 * j + y.val) : ℝ) : EReal))

include hq hK in
theorem logit_at (j : ℕ) (hj : j < 13) (y : Fin 640) :
    k0_pay5 q (K j) (ix2 r y) = (((∑ d ∈ Finset.range 64, a d * k d (640 * j + y.val)) - g (640 * j + y.val) : ℝ) : EReal) := by
  rw [pay5_at]
  exact dot128 (fun l => q (ix2 r l)) (fun l => K j (ix3 0 l y)) a (fun d => k d (640 * j + y.val)) (g (640 * j + y.val)) hq (hK j hj · y)

include hq hK hV in
theorem st_inv (j : ℕ) (hj : j ≤ 13) :
    Inv (640 * j) (fun s => (∑ d ∈ Finset.range 64, a d * k d s) - g s) v ((st q K V (fun _ => (⊥ : EReal)) (fun _ => (0 : EReal)) j).1 (ix3 0 r 0))
      (fun l => (st q K V (fun _ => (⊥ : EReal)) (fun _ => (0 : EReal)) j).2 (ix3 0 r l)) := by
  induction j with
  | zero => exact Or.inl ⟨rfl, rfl, fun _ => rfl⟩
  | succ j ih =>
    have e : 640 * (j + 1) = 640 * j + (639 + 1) := by ring
    rw [e]
    refine (ih (by omega)).step (by decide) (fun y => k0_pay5 q (K j) (ix2 r y)) (fun y => ?_) (pay23_at _ _ r) (fun l => ?_)
    · rw [if_pos (by omega)]
      exact logit_at q K r a k g hq hK j (by omega) y
    · refine (pay22_at _ _ _ _ r l).trans ?_
      refine congrArg₂ (· + ·) rfl (Finset.sum_congr rfl fun y _ => ?_)
      rw [hV j (by omega) l y]
      rfl

include hq hK hV in
theorem fin_inv (n : ℕ) (hn : n < 13) :
    ∃ M, Inv (640 * n + (r.val + 1)) (fun s => (∑ d ∈ Finset.range 64, a d * k d s) - g s) v M (fun l => fin q K V n (ix3 0 r l)) := by
  refine ⟨_, (st_inv q K V r a k g v hq hK hV n (by omega)).step r.isLt (fun y => k0_pay58 (k0_pay5 q (K n)) (ix2 r y)) (fun y => ?_) (pay23_at _ _ r) (fun l => ?_)⟩
  · rw [pay58_at, logit_at q K r a k g hq hK n hn y]
  · refine (pay22_at _ _ _ _ r l).trans ?_
    refine congrArg₂ (· + ·) rfl (Finset.sum_congr rfl fun y _ => ?_)
    rw [hV n hn l y]

include hq hK hV in
/-- A lane's quotient by the lane of ones. -/
theorem fin_div (n : ℕ) (hn : n < 13) (l : Fin 128) (ho : v 64 = fun _ => 1) :
    Ideal.div (fin q K V n (ix3 0 r l)) (fin q K V n (ix3 0 r 64))
      = ((att (fun s => (∑ d ∈ Finset.range 64, a d * k d s) - g s) (v l) (640 * n + r.val) : ℝ) : EReal) := by
  obtain ⟨M, h⟩ := fin_inv q K V r a k g v hq hK hV n hn
  exact Inv.div (t := 640 * n + r.val) h l 64 ho

end

/-- The block's entries. -/
theorem block_at (x0 : Vec Ideal S1x640x128 .f32) (R8 R9 : S2x128x8320.Idx → Ideal .bf16) (n : ℕ) (hn : n < 13) (r : Fin 640)
    (q : ℕ → ℝ) (k v : Fin 2 → ℕ → ℕ → ℝ) (g : Fin 2 → ℕ → ℝ)
    (hx : ∀ l : Fin 128, x0 (ix3 0 r l) = (q l.val : EReal))
    (h8 : ∀ (h : Fin 2) (l : Fin 128) (s : Fin 8320), R8 (ix3 h l s) = (((if l.val < 64 then k h l.val s.val else if l.val = 64 then -g h s.val else 0) : ℝ) : EReal))
    (h9 : ∀ (h : Fin 2) (l : Fin 128) (s : Fin 8320), R9 (ix3 h l s) = (((if l.val < 64 then v h l.val s.val else if l.val = 64 then 1 else 0) : ℝ) : EReal))
    (l : Fin 128) (h : Fin 2) (d : ℕ) (hd : d < 64) (hl : l.val = h.val * 64 + d) :
    blockOf x0 R8 R9 n (ix3 0 r l)
      = ((att (fun s => (∑ e ∈ Finset.range 64, q (h.val * 64 + e) * (1 / 8) * k h e s) - g h s) (v h d) (640 * n + r.val) : ℝ) : EReal) := by
  have t8 : ∀ (h : Fin 2) (j : ℕ), j < 13 → ∀ (l : Fin 128) (y : Fin 640), tile R8 h j (ix3 0 l y)
      = (((if l.val < 64 then k h l.val (640 * j + y.val) else if l.val = 64 then -g h (640 * j + y.val) else 0) : ℝ) : EReal) := fun h j hj l y => by
    have e : (640 * j + y.val) % 8320 = 640 * j + y.val := Nat.mod_eq_of_lt (by have := y.isLt; omega)
    refine (h8 h l ⟨(640 * j + y.val) % 8320, Nat.mod_lt _ (by decide)⟩).trans ?_
    show (((if l.val < 64 then k h l.val ((640 * j + y.val) % 8320) else if l.val = 64 then -g h ((640 * j + y.val) % 8320) else 0) : ℝ) : EReal) = _
    rw [e]
  have t9 : ∀ (h : Fin 2) (j : ℕ), j < 13 → ∀ (l : Fin 128) (y : Fin 640), tile R9 h j (ix3 0 l y)
      = (((fun (l : Fin 128) (s : ℕ) => if l.val < 64 then v h l.val s else if l.val = 64 then 1 else 0) l (640 * j + y.val) : ℝ) : EReal) := fun h j hj l y => by
    have e : (640 * j + y.val) % 8320 = 640 * j + y.val := Nat.mod_eq_of_lt (by have := y.isLt; omega)
    refine (h9 h l ⟨(640 * j + y.val) % 8320, Nat.mod_lt _ (by decide)⟩).trans ?_
    show (((if l.val < 64 then v h l.val ((640 * j + y.val) % 8320) else if l.val = 64 then 1 else 0) : ℝ) : EReal) = _
    rw [e]
  unfold blockOf
  rw [pay1_at]
  have hh := h.isLt
  rcases (show h = 0 ∨ h = 1 from by omega) with rfl | rfl
  · have hl' : l.val = d := by simpa using hl
    rw [if_pos (by omega)]
    refine (fin_div (k0_pay79 x0) (tile R8 0) (tile R9 0) r (fun e => q e * (1 / 8)) (k 0) (g 0) (fun (l : Fin 128) (s : ℕ) => if l.val < 64 then v 0 l.val s else if l.val = 64 then 1 else 0) (pay79_at x0 r q hx) (t8 0) (t9 0) n hn l ?_).trans ?_
    · funext s; rfl
    · have e1 : (fun s : ℕ => if l.val < 64 then v 0 l.val s else if l.val = 64 then (1 : ℝ) else 0) = v 0 d := by
        funext s; rw [if_pos (by omega), hl']
      simp only [e1, Fin.val_zero, zero_mul, zero_add]
  · have hl' : l.val = 64 + d := by simpa using hl
    rw [if_neg (by omega)]
    refine (fin_div (k0_pay80 x0) (tile R8 1) (tile R9 1) r (fun e => q (64 + e) * (1 / 8)) (k 1) (g 1) (fun (l : Fin 128) (s : ℕ) => if l.val < 64 then v 1 l.val s else if l.val = 64 then 1 else 0) (pay80_at x0 r q hx) (t8 1) (t9 1) n hn _ ?_).trans ?_
    · funext s; rfl
    · have e0 : (l.val + 128 - 64) % 128 = d := by omega
      have e1 : (fun s : ℕ => if (l.val + 128 - 64) % 128 < 64 then v 1 ((l.val + 128 - 64) % 128) s else if (l.val + 128 - 64) % 128 = 64 then (1 : ℝ) else 0) = v 1 d := by
        funext s; rw [if_pos (by omega), e0]
      simp only [e1, Fin.val_one, one_mul]

end Cert.Kernel5Ideal.Fox
-- ==== Proof.Fox.Row.lean ====
/- The two staged arrays: the keys with the forget logs' rows under them, and the values with the row of ones. -/
module

public import proofs.«01_k».proof.Proof.Fox.Pay

@[expose] public section

set_option maxRecDepth 200000

noncomputable section

namespace Cert.Kernel5Ideal.Fox

open Idealize.ShloMosaic Idealize.ShloMosaic.TcCoe Idealize.ShloMosaic.Tactic
open Cert.Kernel5Ideal Cert.Kernel5Ideal.Gen Cert.Fox

abbrev rows : IVec S64x8320 32 := iota .tc S64x8320 32 [0] iota_S64x8320_d0_w32

/-- The rows under the keys: the negated forget log and what splitting it leaves. -/
abbrev bias (x : EReal) (n : ℕ) : EReal :=
  Scalar.select (IntOp.cmpi CmpIPredicate.eq (BitVec.ofNat 32 n) 0#32) (0 - x)
    (Scalar.select (IntOp.cmpi CmpIPredicate.eq (BitVec.ofNat 32 n) 1#32) (0 - x - (0 - x))
      (Scalar.select (IntOp.cmpi CmpIPredicate.eq (BitVec.ofNat 32 n) 2#32) (0 - x - (0 - x) - (0 - x - (0 - x))) (0 : EReal)))

theorem pay2_at (cc : Vec Ideal S1x1x1x8320 .f32) (kk : Vec Ideal S1x1x64x8320 .f32) (l : Fin 128) (s : Fin 8320) :
    k0_pay2 cc kk (ix3 0 l s) = if h : l.val < 64 then kk (ix4 0 0 ⟨l.val, h⟩ s) else bias (cc (ix4 0 0 0 s)) (l.val - 64) := by
  pointwise [k0_pay2]

theorem pay3_at (kk : Vec Ideal S1x1x64x8320 .f32) (l : Fin 128) (s : Fin 8320) :
    k0_pay3 rows kk (ix3 0 l s) = if h : l.val < 64 then kk (ix4 0 0 ⟨l.val, h⟩ s)
      else Scalar.select (IntOp.cmpi CmpIPredicate.eq (BitVec.ofNat 32 (l.val - 64)) 0#32) (1 : EReal) 0 := by
  pointwise [k0_pay3]

theorem pay4_at (cc : Vec Ideal S1x1x1x8320 .f32) (l : Fin 64) (s : Fin 8320) :
    k0_pay4 rows cc (ix2 l s) = bias (cc (ix4 0 0 0 s)) l.val := by
  pointwise [k0_pay4]

theorem pay75_at (v : FVec Ideal S64x8320 .f32) (kk : Vec Ideal S1x1x64x8320 .f32) (l : Fin 128) (s : Fin 8320) :
    k0_pay75 v kk (ix3 0 l s) = if h : l.val < 64 then kk (ix4 0 0 ⟨l.val, h⟩ s) else v (ix2 ⟨l.val - 64, by omega⟩ s) := by
  pointwise [k0_pay75]

theorem pay76_at (kk : Vec Ideal S1x1x64x8320 .f32) (l : Fin 128) (s : Fin 8320) :
    k0_pay76 rows kk (ix3 0 l s) = if h : l.val < 64 then kk (ix4 0 0 ⟨l.val, h⟩ s)
      else Scalar.select (IntOp.cmpi CmpIPredicate.eq (BitVec.ofNat 32 (l.val - 64)) 0#32) (1 : EReal) 0 := by
  pointwise [k0_pay76]

section
variable (c : Dev nD) (arg4 : Memref sig .tc .vmem S1x2x64x8320 .f32) (harg4 : arg4.IsWhole) (arg5 : Memref sig .tc .vmem S1x2x64x8320 .f32) (harg5 : arg5.IsWhole)
    (arg6 : Memref sig .tc .vmem S1x1x2x8320 .f32) (harg6 : arg6.IsWhole) (x1 x2 : Vec Ideal S1x2x64x8320 .f32) (x3 : Vec Ideal S1x1x2x8320 .f32)

/-- A head's keys, or values, read out of the staged block. -/
theorem readk (arg : Memref sig .tc .vmem S1x2x64x8320 .f32) (harg : arg.IsWhole) (x : Vec Ideal S1x2x64x8320 .f32) (h : Fin 2)
    (inb : ∀ a, (![0, h.val, 0, 0] : Fin 4 → ℕ) a + S1x1x64x8320.size a ≤ S1x2x64x8320.size a) (d : Fin 64) (s : Fin 8320) :
    View.readAt (Elt Ideal) arg.view (Rect.unit (s := S1x2x64x8320) ![0, h.val, 0, 0] S1x1x64x8320.size inb).toLoadRect (harg.unread x) (ix4 0 0 d s)
      = x (ix4 0 h d s) := by
  show arg.view.read (Elt Ideal) (harg.unread x) _ = _
  rw [harg.read_unread]
  refine congrArg x (funext fun a => Fin.ext ?_)
  match a with
  | ⟨0, _⟩ => rfl
  | ⟨1, _⟩ => show h.val + 1 * 0 = h.val; omega
  | ⟨2, _⟩ => show 0 + 1 * d.val = d.val; omega
  | ⟨3, _⟩ => show 0 + 1 * s.val = s.val; omega

/-- A head's forget logs. -/
theorem readc (h : Fin 2) (inb : ∀ a, (![0, 0, h.val, 0] : Fin 4 → ℕ) a + S1x1x1x8320.size a ≤ S1x1x2x8320.size a) (s : Fin 8320) :
    View.readAt (Elt Ideal) arg6.view (Rect.unit (s := S1x1x2x8320) ![0, 0, h.val, 0] S1x1x1x8320.size inb).toLoadRect (harg6.unread x3) (ix4 0 0 0 s)
      = x3 (ix4 0 0 h s) := by
  show arg6.view.read (Elt Ideal) (harg6.unread x3) _ = _
  rw [harg6.read_unread]
  refine congrArg x3 (funext fun a => Fin.ext ?_)
  match a with
  | ⟨0, _⟩ => rfl
  | ⟨1, _⟩ => rfl
  | ⟨2, _⟩ => show h.val + 1 * 0 = h.val; omega
  | ⟨3, _⟩ => show 0 + 1 * s.val = s.val; omega

/-- What two pieces, a head each, leave. -/
theorem two (arg : Memref sig .tc .vmem S2x128x8320 .bf16) (w0 w1 : FVec Ideal S1x128x8320 .bf16)
    (i1 : ∀ a, (![1, 0, 0] : Fin 3 → ℕ) a + S1x128x8320.size a ≤ S2x128x8320.size a)
    (i0 : ∀ a, (![0, 0, 0] : Fin 3 → ℕ) a + S1x128x8320.size a ≤ S2x128x8320.size a) (h : Fin 2) (l : Fin 128) (s : Fin 8320) :
    arg.view.read (Elt Ideal) (arg.view.writes (Elt Ideal) arg.view.junk
      [⟨Rect.unit (s := S2x128x8320) ![1, 0, 0] S1x128x8320.size i1, w1⟩, ⟨Rect.unit (s := S2x128x8320) ![0, 0, 0] S1x128x8320.size i0, w0⟩]) (ix3 h l s)
      = if h = 0 then w0 (ix3 0 l s) else w1 (ix3 0 l s) := by
  rcases (show h = 0 ∨ h = 1 from by omega) with rfl | rfl
  · rw [if_pos rfl]
    have e : (ix3 0 l s : S2x128x8320.Idx) = (Rect.unit (s := S2x128x8320) ![0, 0, 0] S1x128x8320.size i0).toLoadRect.idx (ix3 0 l s) := by
      funext a; refine Fin.ext ?_
      match a with
      | ⟨0, _⟩ => rfl
      | ⟨1, _⟩ => show l.val = 0 + 1 * l.val; omega
      | ⟨2, _⟩ => show s.val = 0 + 1 * s.val; omega
    have hd : LoadRect.disj (Rect.unit (s := S2x128x8320) ![1, 0, 0] S1x128x8320.size i1) (Rect.unit (s := S2x128x8320) ![0, 0, 0] S1x128x8320.size i0).toLoadRect = true := rfl
    have e2 := readAt_skip (Val := Elt Ideal) arg.view arg.view.junk (Rect.unit (s := S2x128x8320) ![1, 0, 0] S1x128x8320.size i1) w1 [⟨Rect.unit (s := S2x128x8320) ![0, 0, 0] S1x128x8320.size i0, w0⟩] _ hd
    have e3 := readAt_hit (Val := Elt Ideal) arg.view arg.view.junk (Rect.unit (s := S2x128x8320) ![0, 0, 0] S1x128x8320.size i0) w0 []
    refine (congrArg (arg.view.read (Elt Ideal) _) e).trans ?_
    exact congrFun (e2.trans e3) (ix3 0 l s)
  · rw [if_neg (by decide)]
    have e : (ix3 1 l s : S2x128x8320.Idx) = (Rect.unit (s := S2x128x8320) ![1, 0, 0] S1x128x8320.size i1).toLoadRect.idx (ix3 0 l s) := by
      funext a; refine Fin.ext ?_
      match a with
      | ⟨0, _⟩ => rfl
      | ⟨1, _⟩ => show l.val = 0 + 1 * l.val; omega
      | ⟨2, _⟩ => show s.val = 0 + 1 * s.val; omega
    refine (congrArg (arg.view.read (Elt Ideal) _) e).trans ?_
    exact congrFun (readAt_hit (Val := Elt Ideal) arg.view arg.view.junk (Rect.unit (s := S2x128x8320) ![1, 0, 0] S1x128x8320.size i1) w1 [⟨Rect.unit (s := S2x128x8320) ![0, 0, 0] S1x128x8320.size i0, w0⟩]) (ix3 0 l s)

/-- The rows under the keys are, of real logs, the negated log and noughts. -/
theorem bias_real (g : ℝ) (l : ℕ) (h : ¬l < 64) (hl : l < 128) : bias (g : EReal) (l - 64) = (((if l = 64 then -g else 0) : ℝ) : EReal) := by
  have e : (0 : EReal) - (g : EReal) = ((-g : ℝ) : EReal) := by rw [EReal.coe_neg]; exact zero_sub _
  have e' : ((-g : ℝ) : EReal) - ((-g : ℝ) : EReal) = 0 := by rw [← EReal.coe_sub, sub_self, EReal.coe_zero]
  have e0 : (0 : EReal) - 0 = 0 := by simp
  unfold bias
  have r0 := cmp_row0 ⟨l, hl⟩; have r1 := cmp_row1 ⟨l, hl⟩; have r2 := cmp_row2 ⟨l, hl⟩
  dsimp only at r0 r1 r2
  rw [e, e', e0, r0, r1, r2, select_bool, select_bool, select_bool]
  by_cases h4 : l = 64
  · rw [if_pos (by omega), if_pos h4]
  · rw [if_neg (by omega), if_neg h4, ite_self, ite_self, EReal.coe_zero]

theorem one_real (l : ℕ) (h : ¬l < 64) (hl : l < 128) :
    Scalar.select (IntOp.cmpi CmpIPredicate.eq (BitVec.ofNat 32 (l - 64)) 0#32) (1 : EReal) 0 = (((if l = 64 then 1 else 0) : ℝ) : EReal) := by
  have r0 := cmp_row0 ⟨l, hl⟩
  dsimp only at r0
  rw [r0, select_bool]
  by_cases h4 : l = 64
  · rw [if_pos (by omega), if_pos h4, EReal.coe_one]
  · rw [if_neg (by omega), if_neg h4, EReal.coe_zero]

variable (k v : Fin 2 → ℕ → ℕ → ℝ) (g : Fin 2 → ℕ → ℝ)

/-- The keys' array. -/
theorem keys_at (arg8 : Memref sig .tc .vmem S2x128x8320 .bf16)
    (hk : ∀ (h : Fin 2) (d : Fin 64) (s : Fin 8320), x1 (ix4 0 h d s) = ((k h d.val s.val : ℝ) : EReal))
    (hg : ∀ (h : Fin 2) (s : Fin 8320), x3 (ix4 0 0 h s) = ((g h s.val : ℝ) : EReal)) (h : Fin 2) (l : Fin 128) (s : Fin 8320) :
    arg8.view.read (Elt Ideal) (arg8.view.writes (Elt Ideal) arg8.view.junk (kernelRun0_A.sl.HS0_2 (F := Ideal) c arg4 harg4 arg6 harg6 x1 x3)) (ix3 h l s)
      = (((if l.val < 64 then k h l.val s.val else if l.val = 64 then -g h s.val else 0) : ℝ) : EReal) := by
  refine (two arg8 (k0_pay2 (View.readAt (Elt Ideal) arg6.view (Rect.unit (s := S1x1x2x8320) ![0, 0, 0, 0] S1x1x1x8320.size (by decide)).toLoadRect (harg6.unread x3))
      (View.readAt (Elt Ideal) arg4.view (Rect.unit (s := S1x2x64x8320) ![0, 0, 0, 0] S1x1x64x8320.size (by decide)).toLoadRect (harg4.unread x1)))
    (k0_pay75 (k0_pay4 rows (View.readAt (Elt Ideal) arg6.view (Rect.unit (s := S1x1x2x8320) ![0, 0, 1, 0] S1x1x1x8320.size (by decide)).toLoadRect (harg6.unread x3)))
      (View.readAt (Elt Ideal) arg4.view (Rect.unit (s := S1x2x64x8320) ![0, 1, 0, 0] S1x1x64x8320.size (by decide)).toLoadRect (harg4.unread x1))) _ _ h l s).trans ?_
  have hl := l.isLt
  by_cases h0 : h = 0
  · rw [if_pos h0, pay2_at]
    by_cases h6 : l.val < 64
    · rw [dif_pos h6, if_pos h6, h0, ← hk 0 ⟨l.val, h6⟩ s]
      exact readk arg4 harg4 x1 0 _ _ _
    · rw [dif_neg h6, if_neg h6, h0, ← bias_real (g 0 s.val) l.val h6 hl, ← hg 0 s]
      exact congrArg (bias · (l.val - 64)) (readc arg6 harg6 x3 0 _ s)
  · have h1 : h = 1 := by omega
    rw [if_neg h0, pay75_at]
    by_cases h6 : l.val < 64
    · rw [dif_pos h6, if_pos h6, h1, ← hk 1 ⟨l.val, h6⟩ s]
      exact readk arg4 harg4 x1 1 _ _ _
    · rw [dif_neg h6, if_neg h6, h1, pay4_at, ← bias_real (g 1 s.val) l.val h6 hl, ← hg 1 s]
      exact congrArg (bias · (l.val - 64)) (readc arg6 harg6 x3 1 _ s)

/-- The values' array. -/
theorem values_at (arg9 : Memref sig .tc .vmem S2x128x8320 .bf16)
    (hv : ∀ (h : Fin 2) (d : Fin 64) (s : Fin 8320), x2 (ix4 0 h d s) = ((v h d.val s.val : ℝ) : EReal)) (h : Fin 2) (l : Fin 128) (s : Fin 8320) :
    arg9.view.read (Elt Ideal) (arg9.view.writes (Elt Ideal) arg9.view.junk (kernelRun0_A.sl.HS1_2 (F := Ideal) c arg5 harg5 x2)) (ix3 h l s)
      = (((if l.val < 64 then v h l.val s.val else if l.val = 64 then 1 else 0) : ℝ) : EReal) := by
  refine (two arg9 (k0_pay3 rows (View.readAt (Elt Ideal) arg5.view (Rect.unit (s := S1x2x64x8320) ![0, 0, 0, 0] S1x1x64x8320.size (by decide)).toLoadRect (harg5.unread x2)))
    (k0_pay76 rows (View.readAt (Elt Ideal) arg5.view (Rect.unit (s := S1x2x64x8320) ![0, 1, 0, 0] S1x1x64x8320.size (by decide)).toLoadRect (harg5.unread x2))) _ _ h l s).trans ?_
  have hl := l.isLt
  by_cases h0 : h = 0
  · rw [if_pos h0, pay3_at]
    by_cases h6 : l.val < 64
    · rw [dif_pos h6, if_pos h6, h0, ← hv 0 ⟨l.val, h6⟩ s]
      exact readk arg5 harg5 x2 0 _ _ _
    · rw [dif_neg h6, if_neg h6, one_real l.val h6 hl]
  · have h1 : h = 1 := by omega
    rw [if_neg h0, pay76_at]
    by_cases h6 : l.val < 64
    · rw [dif_pos h6, if_pos h6, h1, ← hv 1 ⟨l.val, h6⟩ s]
      exact readk arg5 harg5 x2 1 _ _ _
    · rw [dif_neg h6, if_neg h6, one_real l.val h6 hl]

end

end Cert.Kernel5Ideal.Fox
-- ==== Proof.Fox.Value.lean ====
/- The array the attention's call leaves. -/
module

public import proofs.«01_k».proof.Proof.Fox.Row
public import proofs.«01_k».proof.Proof.Gen.Kernel5Ideal.Value
public import Idealize.ShloMosaic.Lib.Pipeline.ValueKit

@[expose] public section

set_option maxRecDepth 16384
set_option maxHeartbeats 4000000

noncomputable section

namespace Cert.Kernel5Ideal.Fox

open Idealize.ShloMosaic Idealize.ShloMosaic.TcCoe Idealize.ShloMosaic.Tactic Idealize.SL.Sem
open Idealize.ShloMosaic.Pipeline (Dat)
open Cert.Kernel5Ideal Cert.Kernel5Ideal.Gen Cert.Kernel5Ideal.Value Cert.Fox

variable (m : (ℓ : Loc nD τ sig) → Buf (Elt Ideal) ℓ)

abbrev zA (c : Dev nD) : FVec Ideal S2x8320x5632 .f32 := V m c main_arg0
abbrev kA (c : Dev nD) : FVec Ideal S2x8x64x8320 .f32 := V m c main_arg1
abbrev vA (c : Dev nD) : FVec Ideal S2x8x64x8320 .f32 := V m c main_arg2
abbrev cA (c : Dev nD) : FVec Ideal S2x8x8320 .f32 := m ((c : Thread nD τ).loc main_arg3)

theorem V_v0 (c : Dev nD) : V m c main_v0 = shapeCast S2x4x2x8320 (cA m c) shapeCasts_S2x8x8320_S2x4x2x8320 := by unfold V; after_results; try rfl

/-! ## The blocks -/

theorem tN (t : Fin grid0.N) : t.val < 104 := Nat.lt_of_lt_of_eq t.isLt N_0

theorem coord0 : ∀ t : Fin grid0.N, (grid0.coords t 0).val = t.val / 52 := by decide +kernel
theorem coord1 : ∀ t : Fin grid0.N, (grid0.coords t 1).val = t.val / 13 % 4 := by decide +kernel
theorem coord2 : ∀ t : Fin grid0.N, (grid0.coords t 2).val = t.val % 13 := by decide +kernel

def bOf (n : ℕ) : Fin 2 := ⟨n / 52 % 2, Nat.mod_lt _ (by decide)⟩
/-- Head `h` of the pair point `n` takes. -/
def hOf (n : ℕ) (h : Fin 2) : Fin 8 := ⟨2 * (n / 13 % 4) + h.val, by have := h.isLt; omega⟩
/-- Row `r` of point `n`'s query block. -/
def rOf (n : ℕ) (r : Fin 640) : Fin 8320 := ⟨640 * (n % 13) + r.val, by have := r.isLt; omega⟩

theorem iblk0_at (c : Dev nD) (t : Fin grid0.N) (r : Fin 640) (l : Fin 128) :
    iblk m c 0 t (ix3 0 r l) = zA m c (ix3 (bOf t.val) (rOf t.val r) ⟨5120 + (2 * (t.val / 13 % 4) * 64 + l.val), by have := l.isLt; omega⟩) := by
  refine congrArg (V m c main_arg0) (funext fun a => Fin.ext ?_)
  have ht := tN t
  have e0 := coord0 t; have e1 := coord1 t; have e2 := coord2 t
  have hl := l.isLt
  match a with
  | ⟨0, _⟩ =>
    show (BitVec.ofNat 32 (grid0.coords t 0).val).toNat * 1 + 1 * 0 = t.val / 52 % 2
    rw [BitVec.toNat_ofNat, e0]; omega
  | ⟨1, _⟩ =>
    show (BitVec.ofNat 32 (grid0.coords t 2).val).toNat * 640 + 1 * r.val = 640 * (t.val % 13) + r.val
    rw [BitVec.toNat_ofNat, e2]; omega
  | ⟨2, _⟩ =>
    show (40#32 + BitVec.ofNat 32 (grid0.coords t 1).val).toNat * 128 + 1 * l.val = 5120 + (2 * (t.val / 13 % 4) * 64 + l.val)
    rw [BitVec.toNat_add, BitVec.toNat_ofNat, BitVec.toNat_ofNat, e1]; omega

theorem iblk1_at (c : Dev nD) (t : Fin grid0.N) (h : Fin 2) (d : Fin 64) (s : Fin 8320) :
    iblk m c 1 t (ix4 0 h d s) = kA m c (ix4 (bOf t.val) (hOf t.val h) d s) := by
  refine congrArg (V m c main_arg1) (funext fun a => Fin.ext ?_)
  have ht := tN t
  have e0 := coord0 t; have e1 := coord1 t
  match a with
  | ⟨0, _⟩ =>
    show (BitVec.ofNat 32 (grid0.coords t 0).val).toNat * 1 + 1 * 0 = t.val / 52 % 2
    rw [BitVec.toNat_ofNat, e0]; omega
  | ⟨1, _⟩ =>
    show (BitVec.ofNat 32 (grid0.coords t 1).val).toNat * 2 + 1 * h.val = 2 * (t.val / 13 % 4) + h.val
    rw [BitVec.toNat_ofNat, e1]; omega
  | ⟨2, _⟩ => show 0 * 64 + 1 * d.val = d.val; omega
  | ⟨3, _⟩ => show 0 * 8320 + 1 * s.val = s.val; omega

theorem iblk2_at (c : Dev nD) (t : Fin grid0.N) (h : Fin 2) (d : Fin 64) (s : Fin 8320) :
    iblk m c 2 t (ix4 0 h d s) = vA m c (ix4 (bOf t.val) (hOf t.val h) d s) := by
  refine congrArg (V m c main_arg2) (funext fun a => Fin.ext ?_)
  have ht := tN t
  have e0 := coord0 t; have e1 := coord1 t
  match a with
  | ⟨0, _⟩ =>
    show (BitVec.ofNat 32 (grid0.coords t 0).val).toNat * 1 + 1 * 0 = t.val / 52 % 2
    rw [BitVec.toNat_ofNat, e0]; omega
  | ⟨1, _⟩ =>
    show (BitVec.ofNat 32 (grid0.coords t 1).val).toNat * 2 + 1 * h.val = 2 * (t.val / 13 % 4) + h.val
    rw [BitVec.toNat_ofNat, e1]; omega
  | ⟨2, _⟩ => show 0 * 64 + 1 * d.val = d.val; omega
  | ⟨3, _⟩ => show 0 * 8320 + 1 * s.val = s.val; omega

theorem pairs_at (x : FVec Ideal S2x8x8320 .f32) (b : Fin 2) (p : Fin 4) (h : Fin 2) (s : Fin 8320) :
    shapeCast S2x4x2x8320 x shapeCasts_S2x8x8320_S2x4x2x8320 (ix4 b p h s) = x (ix3 b ⟨2 * p.val + h.val, by have := p.isLt; have := h.isLt; omega⟩ s) := by
  have e : (⟨2 * p.val + h.val, by have := p.isLt; have := h.isLt; omega⟩ : Fin 8) = ⟨p.val * 2 + h.val, by have := p.isLt; have := h.isLt; omega⟩ :=
    Fin.ext (by show 2 * p.val + h.val = p.val * 2 + h.val; omega)
  rw [e]
  pointwise

theorem iblk3_at (c : Dev nD) (t : Fin grid0.N) (h : Fin 2) (s : Fin 8320) :
    iblk m c 3 t (ix4 0 0 h s) = cA m c (ix3 (bOf t.val) (hOf t.val h) s) := by
  have e : iblk m c 3 t (ix4 0 0 h s) = V m c main_v0 (ix4 (bOf t.val) ⟨t.val / 13 % 4, Nat.mod_lt _ (by decide)⟩ h s) := by
    refine congrArg (V m c main_v0) (funext fun a => Fin.ext ?_)
    have ht := tN t
    have e0 := coord0 t; have e1 := coord1 t
    match a with
    | ⟨0, _⟩ =>
      show (BitVec.ofNat 32 (grid0.coords t 0).val).toNat * 1 + 1 * 0 = t.val / 52 % 2
      rw [BitVec.toNat_ofNat, e0]; omega
    | ⟨1, _⟩ =>
      show (BitVec.ofNat 32 (grid0.coords t 1).val).toNat * 1 + 1 * 0 = t.val / 13 % 4
      rw [BitVec.toNat_ofNat, e1]; omega
    | ⟨2, _⟩ => show 0 * 2 + 1 * h.val = h.val; omega
    | ⟨3, _⟩ => show 0 * 8320 + 1 * s.val = s.val; omega
  rw [e, V_v0 m c]
  exact pairs_at _ _ _ _ _

/-! ## What the two arrays hold through a pair's thirteen points -/

section
variable (c : Dev nD) (f : Fins (zA m c) (kA m c) (vA m c) (cA m c))

def kP (n : ℕ) (h : Fin 2) (d s : ℕ) : ℝ := kR (kA m c) (bOf n) (2 * (n / 13 % 4) + h.val) d s
def vP (n : ℕ) (h : Fin 2) (d s : ℕ) : ℝ := kR (vA m c) (bOf n) (2 * (n / 13 % 4) + h.val) d s
def cP (n : ℕ) (h : Fin 2) (s : ℕ) : ℝ := cR (cA m c) (bOf n) (2 * (n / 13 % 4) + h.val) s

include f in
theorem x1_at (t : Fin grid0.N) (h : Fin 2) (d : Fin 64) (s : Fin 8320) : iblk m c 1 t (ix4 0 h d s) = ((kP m c t.val h d.val s.val : ℝ) : EReal) :=
  (iblk1_at m c t h d s).trans (kR_at _ f.hk _ _ _ _)

include f in
theorem x2_at (t : Fin grid0.N) (h : Fin 2) (d : Fin 64) (s : Fin 8320) : iblk m c 2 t (ix4 0 h d s) = ((vP m c t.val h d.val s.val : ℝ) : EReal) :=
  (iblk2_at m c t h d s).trans (kR_at _ f.hv _ _ _ _)

include f in
theorem x3_at (t : Fin grid0.N) (h : Fin 2) (s : Fin 8320) : iblk m c 3 t (ix4 0 0 h s) = ((cP m c t.val h s.val : ℝ) : EReal) :=
  (iblk3_at m c t h s).trans (f.c_at _ _ _)

include f in
theorem x0_at (t : Fin grid0.N) (r : Fin 640) (l : Fin 128) :
    iblk m c 0 t (ix3 0 r l) = ((qR (zA m c) (bOf t.val) (2 * (t.val / 13 % 4)) (640 * (t.val % 13) + r.val) l.val : ℝ) : EReal) :=
  (iblk0_at m c t r l).trans (f.z_at _ (rOf t.val r) _ _ _ rfl)

def Keys (n : ℕ) (R : S2x128x8320.Idx → Ideal .bf16) : Prop := ∀ (h : Fin 2) (l : Fin 128) (s : Fin 8320),
  R (ix3 h l s) = (((if l.val < 64 then kP m c n h l.val s.val else if l.val = 64 then -cP m c n h s.val else 0) : ℝ) : EReal)
def Vals (n : ℕ) (R : S2x128x8320.Idx → Ideal .bf16) : Prop := ∀ (h : Fin 2) (l : Fin 128) (s : Fin 8320),
  R (ix3 h l s) = (((if l.val < 64 then vP m c n h l.val s.val else if l.val = 64 then 1 else 0) : ℝ) : EReal)

theorem keys_pred (n : ℕ) (h : ¬n % 13 = 0) (R) (hR : Keys m c (n - 1) R) : Keys m c n R := by
  have e : (n - 1) / 13 = n / 13 := by omega
  have e' : bOf (n - 1) = bOf n := Fin.ext (by show (n - 1) / 52 % 2 = n / 52 % 2; omega)
  unfold Keys kP cP at hR ⊢
  rw [e, e'] at hR
  exact hR

theorem vals_pred (n : ℕ) (h : ¬n % 13 = 0) (R) (hR : Vals m c (n - 1) R) : Vals m c n R := by
  have e : (n - 1) / 13 = n / 13 := by omega
  have e' : bOf (n - 1) = bOf n := Fin.ext (by show (n - 1) / 52 % 2 = n / 52 % 2; omega)
  unfold Vals vP at hR ⊢
  rw [e, e'] at hR
  exact hR

/-- What a point's block holds, and what it leaves in the two arrays. -/
def Good (t : Fin grid0.N) (o : Vec Ideal S1x640x128 .f32 × Vec Ideal S2x128x8320 .bf16 × Vec Ideal S2x128x8320 .bf16) : Prop :=
  (∃ R8 R9, Keys m c t.val R8 ∧ Vals m c t.val R9 ∧ o.1 = blockOf (iblk m c 0 t) R8 R9 (t.val % 13)) ∧ Keys m c t.val o.2.1 ∧ Vals m c t.val o.2.2

end

/-! ## What a pair's first point leaves in the two arrays -/

section
variable (c : Dev nD) (i : grid0.Coords) (arg3 : Memref sig .tc .vmem S1x640x128 .f32) (harg3 : arg3.IsWhole) (arg4 : Memref sig .tc .vmem S1x2x64x8320 .f32) (harg4 : arg4.IsWhole) (arg5 : Memref sig .tc .vmem S1x2x64x8320 .f32) (harg5 : arg5.IsWhole) (arg6 : Memref sig .tc .vmem S1x1x2x8320 .f32) (harg6 : arg6.IsWhole) (arg7 : Memref sig .tc .vmem S1x640x128 .f32) (harg7 : arg7.IsWhole) (arg8 : Memref sig .tc .vmem S2x128x8320 .bf16) (harg8 : arg8.IsWhole) (arg9 : Memref sig .tc .vmem S2x128x8320 .bf16) (harg9 : arg9.IsWhole) (arg10 : Memref sig .tc .vmem S2x640x1 .f32) (harg10 : arg10.IsWhole) (arg11 : Memref sig .tc .vmem S2x640x128 .f32) (harg11 : arg11.IsWhole) (hc0 : cond0_0 i) (hc1 : ¬cond0_1 i) (hc2 : cond0_2 i)     (x0 : Vec Ideal S1x640x128 .f32) (x1 : Vec Ideal S1x2x64x8320 .f32) (x2 : Vec Ideal S1x2x64x8320 .f32) (x3 : Vec Ideal S1x1x2x8320 .f32)

theorem left0 : sout0_A_0 (F := Ideal) c i arg3 harg3 arg4 harg4 arg5 harg5 arg6 harg6 arg7 harg7 arg8 harg8 arg9 harg9 arg10 harg10 arg11 harg11 hc0 hc1 hc2 x0 x1 x2 x3
    = arg8.view.read (Elt Ideal) (arg8.view.writes (Elt Ideal) arg8.view.junk (kernelRun0_A.sl.HS0_2 (F := Ideal) c arg4 harg4 arg6 harg6 x1 x3)) := by
  unfold sout0_A_0
  refine (View.read_writes_junk_eq_canon _ _).trans (Eq.trans ?_ (View.read_writes_junk_eq_canon _ _).symm)
  unfold kernelRun0_A
  rfl

theorem left1 : sout0_A_1 (F := Ideal) c i arg3 harg3 arg4 harg4 arg5 harg5 arg6 harg6 arg7 harg7 arg8 harg8 arg9 harg9 arg10 harg10 arg11 harg11 hc0 hc1 hc2 x0 x1 x2 x3
    = arg9.view.read (Elt Ideal) (arg9.view.writes (Elt Ideal) arg9.view.junk (kernelRun0_A.sl.HS1_2 (F := Ideal) c arg5 harg5 x2)) := by
  unfold sout0_A_1
  refine (View.read_writes_junk_eq_canon _ _).trans (Eq.trans ?_ (View.read_writes_junk_eq_canon _ _).symm)
  unfold kernelRun0_A
  rfl

end

section
variable (c : Dev nD) (f : Fins (zA m c) (kA m c) (vA m c) (cA m c))

include f in
theorem keysA (t : Fin grid0.N) (arg8 : Memref sig .tc .vmem S2x128x8320 .bf16) :
    Keys m c t.val (arg8.view.read (Elt Ideal) (arg8.view.writes (Elt Ideal) arg8.view.junk
      (kernelRun0_A.sl.HS0_2 (F := Ideal) c (ms0_1 t) (hs0_1 t) (ms0_3 t) (hs0_3 t) (iblk m c 1 t) (iblk m c 3 t)))) := by
  intro h l s
  exact keys_at c (ms0_1 t) (hs0_1 t) (ms0_3 t) (hs0_3 t) (iblk m c 1 t) (iblk m c 3 t) (kP m c t.val) (cP m c t.val) arg8 (x1_at m c f t) (x3_at m c f t) h l s

include f in
theorem valsA (t : Fin grid0.N) (arg9 : Memref sig .tc .vmem S2x128x8320 .bf16) :
    Vals m c t.val (arg9.view.read (Elt Ideal) (arg9.view.writes (Elt Ideal) arg9.view.junk
      (kernelRun0_A.sl.HS1_2 (F := Ideal) c (ms0_2 t) (hs0_2 t) (iblk m c 2 t)))) := by
  intro h l s
  exact values_at c (ms0_2 t) (hs0_2 t) (iblk m c 2 t) (vP m c t.val) arg9 (x2_at m c f t) h l s

include f in
theorem goodA (t : Fin grid0.N) (h0 : t.val % 13 = 0) : Good m c t (outsAt0 m c t.val t.isLt) := by
  have h1 : ¬(t.val % 13 = 1 ∨ t.val % 13 = 3 ∨ t.val % 13 = 5 ∨ t.val % 13 = 7 ∨ t.val % 13 = 9 ∨ t.val % 13 = 11) := by omega
  have hp : (grid0.coords t 2).val % 2 = 0 := by rw [coord2 t, h0]
  have e := blockA c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hp ((hcond0_0 t).mpr h0) (fun h => h1 ((hcond0_1 t).mp h)) ((hcond0_2 t).mpr h1) (iblk m c 0 t) (iblk m c 1 t) (iblk m c 2 t) (iblk m c 3 t)
  rw [coord2 t] at e
  rw [outsAt0_A m c t h0 h1 h1]
  refine ⟨⟨_, _, keysA m c f t scM0_0, valsA m c f t scM0_1, e⟩, ?_, ?_⟩
  · dsimp only
    rw [left0]
    exact keysA m c f t scM0_0
  · dsimp only
    rw [left1]
    exact valsA m c f t scM0_1

theorem goodB (t : Fin grid0.N) (h0 : ¬t.val % 13 = 0) (h1 : (t.val % 13 = 1 ∨ t.val % 13 = 3 ∨ t.val % 13 = 5 ∨ t.val % 13 = 7 ∨ t.val % 13 = 9 ∨ t.val % 13 = 11))
    (k8 : Keys m c t.val (outsAt0 m c (t.val - 1) (Nat.lt_of_le_of_lt (Nat.sub_le _ _) t.isLt)).2.1)
    (k9 : Vals m c t.val (outsAt0 m c (t.val - 1) (Nat.lt_of_le_of_lt (Nat.sub_le _ _) t.isLt)).2.2) : Good m c t (outsAt0 m c t.val t.isLt) := by
  have h2 := not_not_intro h1
  have hp : (grid0.coords t 2).val % 2 = 1 := by rw [coord2 t]; omega
  rw [outsAt0_B m c t h0 h1 h2]
  generalize outsAt0 m c (t.val - 1) (Nat.lt_of_le_of_lt (Nat.sub_le _ _) t.isLt) = o at k8 k9 ⊢
  have e := blockB c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hp (fun h => h0 ((hcond0_0 t).mp h)) ((hcond0_1 t).mpr h1) (fun h => h2 ((hcond0_2 t).mp h)) (iblk m c 0 t) (iblk m c 1 t) (iblk m c 2 t) (iblk m c 3 t) o.2.1 o.2.2
  rw [coord2 t, Memref.IsWhole.read_unread, Memref.IsWhole.read_unread] at e
  unfold sout0_B_0 sout0_B_1
  exact ⟨⟨_, _, k8, k9, e⟩, k8, k9⟩

theorem goodC (t : Fin grid0.N) (h0 : ¬t.val % 13 = 0) (h1 : ¬(t.val % 13 = 1 ∨ t.val % 13 = 3 ∨ t.val % 13 = 5 ∨ t.val % 13 = 7 ∨ t.val % 13 = 9 ∨ t.val % 13 = 11))
    (k8 : Keys m c t.val (outsAt0 m c (t.val - 1) (Nat.lt_of_le_of_lt (Nat.sub_le _ _) t.isLt)).2.1)
    (k9 : Vals m c t.val (outsAt0 m c (t.val - 1) (Nat.lt_of_le_of_lt (Nat.sub_le _ _) t.isLt)).2.2) : Good m c t (outsAt0 m c t.val t.isLt) := by
  have hp : (grid0.coords t 2).val % 2 = 0 := by rw [coord2 t]; omega
  rw [outsAt0_C m c t h0 h1 h1]
  generalize outsAt0 m c (t.val - 1) (Nat.lt_of_le_of_lt (Nat.sub_le _ _) t.isLt) = o at k8 k9 ⊢
  have e := blockC c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hp (fun h => h0 ((hcond0_0 t).mp h)) (fun h => h1 ((hcond0_1 t).mp h)) ((hcond0_2 t).mpr h1) (iblk m c 0 t) (iblk m c 1 t) (iblk m c 2 t) (iblk m c 3 t) o.2.1 o.2.2
  rw [coord2 t, Memref.IsWhole.read_unread, Memref.IsWhole.read_unread] at e
  unfold sout0_C_0 sout0_C_1
  exact ⟨⟨_, _, k8, k9, e⟩, k8, k9⟩

include f in
theorem good : ∀ (n : ℕ) (hn : n < grid0.N), Good m c ⟨n, hn⟩ (outsAt0 m c n hn) := by
  intro n
  induction n with
  | zero => exact fun hn => goodA m c f ⟨0, hn⟩ rfl
  | succ n ih =>
    intro hn
    by_cases h0 : (n + 1) % 13 = 0
    · exact goodA m c f ⟨n + 1, hn⟩ h0
    · have g := ih (Nat.lt_of_succ_lt hn)
      have k8 := keys_pred m c (n + 1) h0 _ g.2.1
      have k9 := vals_pred m c (n + 1) h0 _ g.2.2
      by_cases h1 : ((n + 1) % 13 = 1 ∨ (n + 1) % 13 = 3 ∨ (n + 1) % 13 = 5 ∨ (n + 1) % 13 = 7 ∨ (n + 1) % 13 = 9 ∨ (n + 1) % 13 = 11)
      · exact goodB m c ⟨n + 1, hn⟩ h0 h1 k8 k9
      · exact goodC m c ⟨n + 1, hn⟩ h0 h1 k8 k9

/-! ## The array -/

theorem emb4 (t : Fin grid0.N) (y : S1x640x128.Idx) :
    (((cfg0.win 4).blk t).view.emb y : S2x8320x512.Idx) = ix3 (bOf t.val) (rOf t.val (y 1)) ⟨2 * (t.val / 13 % 4) * 64 + (y 2).val, by have : (y 2).val < 128 := (y 2).isLt; omega⟩ := by
  have ht := tN t
  have e0 := coord0 t; have e1 := coord1 t; have e2 := coord2 t
  have h0 : (y 0).val < 1 := (y 0).isLt
  refine funext fun a => Fin.ext ?_
  match a with
  | ⟨0, _⟩ =>
    show (BitVec.ofNat 32 (grid0.coords t 0).val).toNat * 1 + 1 * (y 0).val = t.val / 52 % 2
    rw [BitVec.toNat_ofNat, e0]; omega
  | ⟨1, _⟩ =>
    show (BitVec.ofNat 32 (grid0.coords t 2).val).toNat * 640 + 1 * (y 1).val = 640 * (t.val % 13) + (y 1).val
    rw [BitVec.toNat_ofNat, e2]; omega
  | ⟨2, _⟩ =>
    show (BitVec.ofNat 32 (grid0.coords t 1).val).toNat * 128 + 1 * (y 2).val = 2 * (t.val / 13 % 4) * 64 + (y 2).val
    rw [BitVec.toNat_ofNat, e1]; omega

include f in
theorem block_out (t : Fin grid0.N) (r : Fin 640) (l : Fin 128) :
    (outsAt0 m c t.val t.isLt).1 (ix3 0 r l)
      = out (zA m c) (kA m c) (vA m c) (cA m c) (ix3 (bOf t.val) (rOf t.val r) ⟨2 * (t.val / 13 % 4) * 64 + l.val, by have := l.isLt; omega⟩) := by
  obtain ⟨⟨R8, R9, k8, k9, e⟩, -, -⟩ := good m c f t.val t.isLt
  have hl := l.isLt
  rw [e]
  refine (block_at (iblk m c 0 t) R8 R9 (t.val % 13) (Nat.mod_lt _ (by decide)) r (fun d => qR (zA m c) (bOf t.val) (2 * (t.val / 13 % 4)) (640 * (t.val % 13) + r.val) d)
    (kP m c t.val) (vP m c t.val) (cP m c t.val) (x0_at m c f t r) k8 k9 l ⟨l.val / 64, by omega⟩ (l.val % 64) (Nat.mod_lt _ (by decide)) (by show l.val = l.val / 64 * 64 + l.val % 64; omega)).trans ?_
  have eh : (2 * (t.val / 13 % 4) * 64 + l.val) / 64 = 2 * (t.val / 13 % 4) + l.val / 64 := by omega
  have ed : (2 * (t.val / 13 % 4) * 64 + l.val) % 64 = l.val % 64 := by omega
  unfold out
  show _ = ((att (xR (zA m c) (kA m c) (cA m c) (bOf t.val) ((2 * (t.val / 13 % 4) * 64 + l.val) / 64) (640 * (t.val % 13) + r.val))
    (kR (vA m c) (bOf t.val) ((2 * (t.val / 13 % 4) * 64 + l.val) / 64) ((2 * (t.val / 13 % 4) * 64 + l.val) % 64)) (640 * (t.val % 13) + r.val) : ℝ) : EReal)
  rw [eh, ed]
  refine congrArg Real.toEReal (congrArg₂ (fun x v => att x v (640 * (t.val % 13) + r.val)) ?_ rfl)
  funext s
  unfold xR
  refine congrArg₂ (· - ·) (Finset.sum_congr rfl fun e _ => ?_) rfl
  have eq : qR (zA m c) (bOf t.val) (2 * (t.val / 13 % 4)) (640 * (t.val % 13) + r.val) (l.val / 64 * 64 + e)
      = qR (zA m c) (bOf t.val) (2 * (t.val / 13 % 4) + l.val / 64) (640 * (t.val % 13) + r.val) e := by
    have ec : 2 * (t.val / 13 % 4) * 64 + (l.val / 64 * 64 + e) = (2 * (t.val / 13 % 4) + l.val / 64) * 64 + e := by ring
    unfold qR
    simp only [ec]
  show qR _ _ _ _ (l.val / 64 * 64 + e) * (1 / 8) * _ = _
  rw [eq]
  rfl

include f in
theorem final : (dats m 0 c).arrAt 4 cfg0.N = out (zA m c) (kA m c) (vA m c) (cA m c) := by
  refine (dats m 0 c).arrAt_eq_of_covers 4 _ (by decide +kernel) fun t hf (y : S1x640x128.Idx) => ?_
  refine Eq.trans ?_ (congrArg (out (zA m c) (kA m c) (vA m c) (cA m c)) (emb4 t y).symm)
  show (dats m 0 c).after 4 t y = _
  have h0 : y = ix3 0 (y 1) (y 2) := by
    funext a
    match a with
    | ⟨0, _⟩ => exact Fin.ext (by have : (y 0).val < 1 := (y 0).isLt; show (y 0).val = 0; omega)
    | ⟨1, _⟩ => rfl
    | ⟨2, _⟩ => rfl
  rw [after0_4]
  exact (congrArg _ h0).trans (block_out m c f t (y 1) (y 2))

end

end Cert.Kernel5Ideal.Fox
-- ==== Proof.Fox.Ref.lean ====
/- The attention's reference: its logits, their weights, and its result, which is the mean over the reals. -/
module

public import proofs.«01_k».proof.Proof.Fox.Spec
public import proofs.«01_k».proof.Proof.Gen.Reference5Ideal.Run

@[expose] public section

set_option maxRecDepth 200000

noncomputable section

namespace Cert.Reference5Ideal.Fox

open Idealize.ShloMosaic Idealize.ShloMosaic.TcCoe Idealize.SL.Sem Idealize.ShloMosaic.StableHlo
open Cert.Reference5Ideal Cert.Reference5Ideal.Gen Cert.Reference5Ideal.Value Cert.Fox

variable (m : (ℓ : Loc nD τ sig) → Buf (Elt Ideal) ℓ)

abbrev zV (c : Dev nD) : FVec Ideal S2x8320x5632 .f32 := m ((c.tc : Thread nD τ).loc main_arg0)
abbrev kV (c : Dev nD) : FVec Ideal S2x8x64x8320 .f32 := m ((c.tc : Thread nD τ).loc main_arg1)
abbrev vV (c : Dev nD) : FVec Ideal S2x8x64x8320 .f32 := m ((c.tc : Thread nD τ).loc main_arg2)
abbrev cV (c : Dev nD) : FVec Ideal S2x8x8320 .f32 := m ((c.tc : Thread nD τ).loc main_arg3)

/-- The masked logits. -/
def logits (z : FVec Ideal S2x8320x5632 .f32) (k : FVec Ideal S2x8x64x8320 .f32) (g : FVec Ideal S2x8x8320 .f32) : FVec Ideal S2x8x8320x8320 .f32 :=
  select (broadcastInDim S2x8x8320x8320 ![0, 1, 2, 3] bcast_S1x1x8320x8320_S2x8x8320x8320_0_1_2_3 (broadcastInDim S1x1x8320x8320 ![2, 3] bcast_S8320x8320_S1x1x8320x8320_2_3 (cmpi .sle (broadcastInDim
    S8320x8320 ![0, 1] bcast_S1x8320_S8320x8320_0_1 (broadcastInDim S1x8320 ![1] bcast_S8320_S1x8320_1 (iotaInDim S8320 32 0))) (broadcastInDim S8320x8320 ![0, 1] bcast_S8320x1_S8320x8320_0_1
    (broadcastInDim S8320x1 ![0] bcast_S8320_S8320x1_0 (iotaInDim S8320 32 0)))))) (addf (mulf (Host.dotGeneral dot_S2x8320x8x64_S2x8x64x8320_S2x8x8320x8320_3_2_1_3_02_01 none (shapeCast _
    (extractStridedSlice S2x8320x512 ![0, 0, 5120] z slices_S2x8320x5632_S2x8320x512_0_0_5120) shapeCasts_S2x8320x512_S2x8320x8x64) k) (broadcastInDim S2x8x8320x8320 ![] bcast_S_S2x8x8320x8320
    (constant S_ .f32 0x3E000000#32))) (subf (broadcastInDim S2x8x8320x8320 ![0, 1, 2, 3] bcast_S2x8x8320x1_S2x8x8320x8320_0_1_2_3 (broadcastInDim S2x8x8320x1 ![0, 1, 2]
    bcast_S2x8x8320_S2x8x8320x1_0_1_2 g)) (broadcastInDim S2x8x8320x8320 ![0, 1, 2, 3] bcast_S2x8x1x8320_S2x8x8320x8320_0_1_2_3 (broadcastInDim S2x8x1x8320 ![0, 1, 3] bcast_S2x8x8320_S2x8x1x8320_0_1_3
    g)))) (broadcastInDim S2x8x8320x8320 ![] bcast_S_S2x8x8320x8320 (id (constant S_ .f32 0xFF800000#32)))

/-- The rows' greatest entries. -/
def top (Z : FVec Ideal S2x8x8320x8320 .f32) : FVec Ideal S2x8x8320 .f32 :=
  Host.reduce FloatOps.maximumf Z (constant S_ .f32 0xFF800000#32) reducesTo_S2x8x8320x8320_S2x8x8320_d3 h_S_

/-- The exponentials of the logits less their row's greatest. -/
def weights (Z : FVec Ideal S2x8x8320x8320 .f32) (R : FVec Ideal S2x8x8320 .f32) : FVec Ideal S2x8x8320x8320 .f32 :=
  Host.exp (subf Z (broadcastInDim S2x8x8320x8320 ![0, 1, 2, 3] bcast_S2x8x8320x1_S2x8x8320x8320_0_1_2_3 (broadcastInDim S2x8x8320x1 ![0, 1, 2] bcast_S2x8x8320_S2x8x8320x1_0_1_2 (maximumf
    (broadcastInDim S2x8x8320 ![] bcast_S_S2x8x8320 (constant S_ .f32 0xFF800000#32)) R))))

/-- The weights over their row's sum. -/
def probs (E : FVec Ideal S2x8x8320x8320 .f32) : FVec Ideal S2x8x8320x8320 .f32 :=
  Host.divf E (broadcastInDim S2x8x8320x8320 ![0, 1, 2, 3] bcast_S2x8x8320x1_S2x8x8320x8320_0_1_2_3 (broadcastInDim S2x8x8320x1 ![0, 1, 2] bcast_S2x8x8320_S2x8x8320x1_0_1_2 (Host.reduceAdd E (constant
    S_ .f32 0x00000000#32) reducesTo_S2x8x8320x8320_S2x8x8320_d3 h_S_)))

/-- The result of the values and the weights. -/
def result (v : FVec Ideal S2x8x64x8320 .f32) (P : FVec Ideal S2x8x8320x8320 .f32) : FVec Ideal S2x8320x512 .f32 :=
  shapeCast _ (transpose S2x8320x8x64 [0, 3, 1, 2] (Host.dotGeneral dot_S2x8x64x8320_S2x8x8320x8320_S2x8x64x8320_3_3_2_2_01_01 none v P) transposes_S2x8x64x8320_S2x8320x8x64_0_3_1_2)
    shapeCasts_S2x8320x8x64_S2x8320x512

theorem res_eq (c : Dev nD) : res_main_v32 m c = result (vV m c) (probs (weights (logits (zV m c) (kV m c) (cV m c)) (top (logits (zV m c) (kV m c) (cV m c))))) := rfl

theorem logits_at (z : FVec Ideal S2x8320x5632 .f32) (k : FVec Ideal S2x8x64x8320 .f32) (g : FVec Ideal S2x8x8320 .f32)
    (b : Fin 2) (h : Fin 8) (t s : Fin 8320) :
    logits z k g (ix4 b h t s) = Scalar.select (IntOp.cmpi CmpIPredicate.sle (BitVec.ofNat 32 s.val) (BitVec.ofNat 32 t.val))
      ((∑ d : Fin 64, z (ix3 b t ⟨5120 + (h.val * 64 + d.val), by omega⟩) * k (ix4 b h d s)) * Ideal.ofBits FTy.f32 0x3E000000#32
        + (g (ix3 b h t) - g (ix3 b h s))) (Ideal.ofBits FTy.f32 0xFF800000#32) := by
  pointwise [logits]
  rfl

/-- The greatest entry along the last axis. -/
theorem rowmax {n0 n1 n2 n3 : ℕ} (Z : (⟨4, ![n0, n1, n2, n3]⟩ : Shape).Idx → Ideal .f32) (w : S_.Idx → Ideal .f32) (hR : (⟨4, ![n0, n1, n2, n3]⟩ : Shape).ReducesTo [3] ⟨3, ![n0, n1, n2]⟩)
    (hS : 0 < S_.numel) (o : EReal) (hw : w (Shape.Idx.first hS) = o) (b : Fin n0) (h : Fin n1) (t : Fin n2) :
    Host.reduce FloatOps.maximumf Z w hR hS (ix3 b h t) = Finset.fold max o (fun s : Fin n3 => Z (ix4 b h t s)) Finset.univ := by
  subst hw
  pointwise

theorem top_at (Z : FVec Ideal S2x8x8320x8320 .f32) (b : Fin 2) (h : Fin 8) (t : Fin 8320) :
    top Z (ix3 b h t) = Finset.fold max (⊥ : EReal) (fun s : Fin 8320 => Z (ix4 b h t s)) Finset.univ :=
  rowmax Z (constant S_ .f32 0xFF800000#32) reducesTo_S2x8x8320x8320_S2x8x8320_d3 h_S_ ⊥ rfl b h t

theorem weights_at (Z : FVec Ideal S2x8x8320x8320 .f32) (R : FVec Ideal S2x8x8320 .f32) (b : Fin 2) (h : Fin 8) (t s : Fin 8320) :
    weights Z R (ix4 b h t s) = Ideal.exp (Z (ix4 b h t s) - max (Ideal.ofBits FTy.f32 0xFF800000#32) (R (ix3 b h t))) := by
  pointwise [weights]

theorem probs_at (E : FVec Ideal S2x8x8320x8320 .f32) (b : Fin 2) (h : Fin 8) (t s : Fin 8320) :
    probs E (ix4 b h t s) = Ideal.div (E (ix4 b h t s)) (∑ s : Fin 8320, E (ix4 b h t s)) := by
  pointwise [probs]

theorem result_at (v : FVec Ideal S2x8x64x8320 .f32) (P : FVec Ideal S2x8x8320x8320 .f32) (b : Fin 2) (t : Fin 8320) (j : Fin 512) :
    result v P (ix3 b t j) = ∑ s : Fin 8320, v (ix4 b ⟨j.val / 64, by omega⟩ ⟨j.val % 64, by omega⟩ s) * P (ix4 b ⟨j.val / 64, by omega⟩ t s) := by
  pointwise [result]

/-- The reference's result is the mean over the reals. -/
theorem res_out (c : Dev nD) (f : Fins (zV m c) (kV m c) (vV m c) (cV m c)) :
    res_main_v32 m c = out (zV m c) (kV m c) (vV m c) (cV m c) := by
  refine (res_eq m c).trans ?_
  refine funext fun (i : S2x8320x512.Idx) => ?_
  obtain ⟨b, t, j, rfl⟩ : ∃ (b : Fin 2) (t : Fin 8320) (j : Fin 512), i = ix3 b t j := ⟨i 0, i 1, i 2, eq_ix3 i⟩
  refine (result_at _ _ b t j).trans ?_
  have hj := j.isLt
  generalize hL : logits (zV m c) (kV m c) (cV m c) = L
  have hz : ∀ s : Fin 8320, L (ix4 b ⟨j.val / 64, by omega⟩ t s)
      = if s.val ≤ t.val then ((xR (zV m c) (kV m c) (cV m c) b (j.val / 64) t.val s.val + cR (cV m c) b (j.val / 64) t.val : ℝ) : EReal) else ⊥ := fun s => by
    rw [← hL, logits_at, cmp_sle _ _ (by omega) (by omega), select_bool, ofBits_bot, ofBits_eighth]
    refine if_congr Iff.rfl ?_ rfl
    have e : ∀ d : Fin 64, zV m c (ix3 b t ⟨5120 + (j.val / 64 * 64 + d.val), by omega⟩) * kV m c (ix4 b ⟨j.val / 64, by omega⟩ d s)
        = ((qR (zV m c) b (j.val / 64) t.val d.val * kR (kV m c) b (j.val / 64) d.val s.val : ℝ) : EReal) := fun d => by
      rw [f.z_at b t _ (j.val / 64) d.val rfl, kR_at _ f.hk, EReal.coe_mul]
    rw [Finset.sum_congr rfl fun d _ => e d, coe_sum, f.c_at, f.c_at, ← EReal.coe_sub, ← EReal.coe_mul, ← EReal.coe_add]
    refine congrArg Real.toEReal ?_
    unfold xR
    rw [Finset.sum_mul, Finset.sum_range]
    rw [Finset.sum_congr rfl fun (d : Fin 64) _ => show qR (zV m c) b (j.val / 64) t.val d.val * kR (kV m c) b (j.val / 64) d.val s.val * (1 / 8)
      = qR (zV m c) b (j.val / 64) t.val d.val * (1 / 8) * kR (kV m c) b (j.val / 64) d.val s.val by ring]
    ring
  have e := softmax_mean (xR (zV m c) (kV m c) (cV m c) b (j.val / 64) t.val) (kR (vV m c) b (j.val / 64) (j.val % 64)) (cR (cV m c) b (j.val / 64) t.val)
    t.val t.isLt (fun s => L (ix4 b ⟨j.val / 64, by omega⟩ t s)) (fun s => vV m c (ix4 b ⟨j.val / 64, by omega⟩ ⟨j.val % 64, by omega⟩ s)) hz
    (fun s => kR_at _ f.hv b _ _ s)
  refine Eq.trans ?_ e
  refine Finset.sum_congr rfl fun s _ => ?_
  rw [probs_at]
  have ew : ∀ s : Fin 8320, weights L (top L) (ix4 b ⟨j.val / 64, by omega⟩ t s)
      = Ideal.exp (L (ix4 b ⟨j.val / 64, by omega⟩ t s) - max ⊥ (Finset.fold max ⊥ (fun s : Fin 8320 => L (ix4 b ⟨j.val / 64, by omega⟩ t s)) Finset.univ)) := fun s => by
    rw [weights_at, top_at, ofBits_bot]
  rw [ew s, Finset.sum_congr rfl fun s _ => ew s]

end Cert.Reference5Ideal.Fox
-- ==== Proof.Combine.Spec.lean ====
/- The mathematics of the end of the last layer on one row: the residual plus the two experts' rows times their weights, normed. -/
module

public import Idealize.ShloMosaic.Lib.Pointwise

@[expose] public section

set_option maxRecDepth 16384

noncomputable section

namespace Cert.Combine

open Idealize.ShloMosaic

abbrev SX (N : ℕ) : Shape := ⟨2, ![N, 1024]⟩
abbrev SG (N : ℕ) : Shape := ⟨2, ![N, 128]⟩
abbrev SN : Shape := ⟨1, ![1024]⟩

/-- The norm's small constant. -/
def eps : EReal := Ideal.ofBits .f32 0x358637BD#32

/-- Entry `d` of a row of 1024 normed. -/
def norm1024 (x n : Fin 1024 → EReal) (d : Fin 1024) : EReal :=
  x d * Ideal.rsqrt (Ideal.div (∑ k : Fin 1024, x k * x k) (Ideal.ofBits .f32 0x44800000#32) + eps) * n d

/-- Entry `d` of the residual plus the two weighted rows. -/
def mix (x a b : Fin 1024 → EReal) (g : Fin 128 → EReal) (d : Fin 1024) : EReal := x d + (g 0 * a d + g 1 * b d)

/-- The rows the layer ends with, normed. -/
def out (N : ℕ) (x a b : (SX N).Idx → EReal) (g : (SG N).Idx → EReal) (n : SN.Idx → EReal) : (SX N).Idx → EReal := fun i =>
  norm1024 (mix (fun d => x (ix2 (i 0) d)) (fun d => a (ix2 (i 0) d)) (fun d => b (ix2 (i 0) d)) (fun k => g (ix2 (i 0) k))) (fun d => n (ix1 d)) (i 1)

end Cert.Combine

end
-- ==== Proof.Combine.Value6.lean ====
/- The array the last layer's closing call leaves on the prompt's rows. -/
module

public import proofs.«01_k».proof.Proof.Combine.Spec
public import proofs.«01_k».proof.Proof.Gen.Kernel6Ideal.Value
public import Idealize.ShloMosaic.Lib.Pipeline.ValueKit

@[expose] public section

set_option maxRecDepth 16384

noncomputable section

namespace Cert.Kernel6Ideal.Combine

open Idealize.ShloMosaic Idealize.ShloMosaic.TcCoe Idealize.SL.Sem
open Idealize.ShloMosaic.Pipeline (Dat)
open Cert.Kernel6Ideal Cert.Kernel6Ideal.Gen Cert.Kernel6Ideal.Value Cert.Combine

variable (m : (ℓ : Loc nD τ sig) → Buf (Elt Ideal) ℓ)

abbrev xA (c : Dev nD) : FVec Ideal S16640x1024 .f32 := V m c main_arg0
abbrev aA (c : Dev nD) : FVec Ideal S16640x1024 .f32 := V m c main_arg1
abbrev bA (c : Dev nD) : FVec Ideal S16640x1024 .f32 := V m c main_arg2
abbrev gA (c : Dev nD) : FVec Ideal S16640x128 .f32 := V m c main_arg3
abbrev nA (c : Dev nD) : FVec Ideal S1024 .f32 := m ((c : Thread nD τ).loc main_arg4)

/-- What the call leaves. -/
abbrev G (c : Dev nD) : FVec Ideal S16640x1024 .f32 := out 16640 (xA m c) (aA m c) (bA m c) (gA m c) (nA m c)

theorem V_v0 (c : Dev nD) : V m c main_v0 = shapeCast S1x1024 (nA m c) shapeCasts_S1024_S1x1024 := by unfold V; after_results; try rfl

theorem pay1_at (g : FVec Ideal S640x128 .f32) (x a b : FVec Ideal S640x1024 .f32) (n : FVec Ideal S1x1024 .f32) (r : Fin 640) (d : Fin 1024) :
    k0_pay1 (F := Ideal) g x a b n (ix2 r d)
      = norm1024 (mix (fun d => x (ix2 r d)) (fun d => a (ix2 r d)) (fun d => b (ix2 r d)) (fun k => g (ix2 r k))) (fun d => n (ix2 0 d)) d := by
  pointwise! [k0_pay1, norm1024, mix, eps]

/-! ## The blocks -/

theorem tN (t : Fin grid0.N) : t.val < 26 := Nat.lt_of_lt_of_eq t.isLt N_0

/-- Row `r` of point `t`'s block. -/
def rowOf (t : Fin grid0.N) (r : Fin 640) : Fin 16640 := ⟨t.val * 640 + r.val, by have := tN t; have := r.isLt; omega⟩

theorem coord0 : ∀ t : Fin grid0.N, (grid0.coords t 0).val = t.val := by decide +kernel

theorem iblk0_at (c : Dev nD) (t : Fin grid0.N) (r : Fin 640) (d : Fin 1024) :
    iblk m c 0 t (ix2 r d) = xA m c (ix2 (rowOf t r) d) := by
  refine congrArg (V m c main_arg0) (funext fun a => Fin.ext ?_)
  have ht := tN t
  have e0 := coord0 t
  match a with
  | ⟨0, _⟩ =>
    show (BitVec.ofNat 32 (grid0.coords t 0).val).toNat * 640 + 1 * r.val = t.val * 640 + r.val
    rw [BitVec.toNat_ofNat, e0]; omega
  | ⟨1, _⟩ =>
    show 0 * 1024 + 1 * d.val = d.val
    omega

theorem iblk1_at (c : Dev nD) (t : Fin grid0.N) (r : Fin 640) (d : Fin 1024) :
    iblk m c 1 t (ix2 r d) = aA m c (ix2 (rowOf t r) d) := by
  refine congrArg (V m c main_arg1) (funext fun a => Fin.ext ?_)
  have ht := tN t
  have e0 := coord0 t
  match a with
  | ⟨0, _⟩ =>
    show (BitVec.ofNat 32 (grid0.coords t 0).val).toNat * 640 + 1 * r.val = t.val * 640 + r.val
    rw [BitVec.toNat_ofNat, e0]; omega
  | ⟨1, _⟩ =>
    show 0 * 1024 + 1 * d.val = d.val
    omega

theorem iblk2_at (c : Dev nD) (t : Fin grid0.N) (r : Fin 640) (d : Fin 1024) :
    iblk m c 2 t (ix2 r d) = bA m c (ix2 (rowOf t r) d) := by
  refine congrArg (V m c main_arg2) (funext fun a => Fin.ext ?_)
  have ht := tN t
  have e0 := coord0 t
  match a with
  | ⟨0, _⟩ =>
    show (BitVec.ofNat 32 (grid0.coords t 0).val).toNat * 640 + 1 * r.val = t.val * 640 + r.val
    rw [BitVec.toNat_ofNat, e0]; omega
  | ⟨1, _⟩ =>
    show 0 * 1024 + 1 * d.val = d.val
    omega

theorem iblk3_at (c : Dev nD) (t : Fin grid0.N) (r : Fin 640) (d : Fin 128) :
    iblk m c 3 t (ix2 r d) = gA m c (ix2 (rowOf t r) d) := by
  refine congrArg (V m c main_arg3) (funext fun a => Fin.ext ?_)
  have ht := tN t
  have e0 := coord0 t
  match a with
  | ⟨0, _⟩ =>
    show (BitVec.ofNat 32 (grid0.coords t 0).val).toNat * 640 + 1 * r.val = t.val * 640 + r.val
    rw [BitVec.toNat_ofNat, e0]; omega
  | ⟨1, _⟩ =>
    show 0 * 128 + 1 * d.val = d.val
    omega

theorem iblk4_at (c : Dev nD) (t : Fin grid0.N) (k : Fin 1) (d : Fin 1024) : iblk m c 4 t (ix2 k d) = nA m c (ix1 d) := by
  have e : iblk m c 4 t (ix2 k d) = V m c main_v0 (ix2 k d) := by
    refine congrArg (V m c main_v0) (funext fun a => Fin.ext ?_)
    match a with
    | ⟨0, _⟩ => show 0 * 1 + 1 * k.val = k.val; omega
    | ⟨1, _⟩ => show 0 * 1024 + 1 * d.val = d.val; omega
  rw [e, V_v0 m c]
  pointwise

theorem out0_5_at (x a b : FVec Ideal S640x1024 .f32) (g : FVec Ideal S640x128 .f32) (n : FVec Ideal S1x1024 .f32) (r : Fin 640) (d : Fin 1024) :
    out0_5 (F := Ideal) x a b g n (ix2 r d) = k0_pay1 (F := Ideal) g x a b n (ix2 r d) := by
  unfold out0_5
  frame_out

/-! ## The array -/

theorem tile_at (c : Dev nD) (t : Fin grid0.N) (r : Fin 640) (d : Fin 1024) :
    out0_5 (F := Ideal) (iblk m c 0 t) (iblk m c 1 t) (iblk m c 2 t) (iblk m c 3 t) (iblk m c 4 t) (ix2 r d) = G m c (ix2 (rowOf t r) d) := by
  refine (out0_5_at _ _ _ _ _ r d).trans ((pay1_at _ _ _ _ _ r d).trans ?_)
  rw [funext fun d => iblk0_at m c t r d, funext fun d => iblk1_at m c t r d, funext fun d => iblk2_at m c t r d,
    funext fun k => iblk3_at m c t r k, funext fun d => iblk4_at m c t 0 d]
  rfl

theorem emb5 (t : Fin grid0.N) (y : S640x1024.Idx) :
    (((cfg0.win 5).blk t).view.emb y : S16640x1024.Idx) = ix2 (rowOf t (y 0)) (y 1) := by
  have ht := tN t
  have e0 := coord0 t
  refine funext fun a => Fin.ext ?_
  match a with
  | ⟨0, _⟩ =>
    show (BitVec.ofNat 32 (grid0.coords t 0).val).toNat * 640 + 1 * (y 0).val = t.val * 640 + (y 0).val
    rw [BitVec.toNat_ofNat, e0]; omega
  | ⟨1, _⟩ =>
    show 0 * 1024 + 1 * (y 1).val = (y 1).val
    omega

theorem final (c : Dev nD) : (dats m 0 c).arrAt 5 cfg0.N = G m c := by
  refine (dats m 0 c).arrAt_eq_of_covers 5 _ (by decide +kernel) fun t hf (y : S640x1024.Idx) => ?_
  refine Eq.trans ?_ (congrArg (G m c) (emb5 t y).symm)
  show (dats m 0 c).after 5 t y = _
  rw [after0_5, eq_ix2 y]
  exact tile_at m c t (y 0) (y 1)

end Cert.Kernel6Ideal.Combine

end
-- ==== Proof.Combine.Ref6.lean ====
/- The reference's array at the end of the last layer, on the prompt's rows. -/
module

public import proofs.«01_k».proof.Proof.Combine.Spec
public import proofs.«01_k».proof.Proof.Gen.Reference6Ideal.Run

@[expose] public section

set_option maxRecDepth 16384

noncomputable section

namespace Cert.Reference6Ideal.Combine

open Idealize.ShloMosaic Idealize.ShloMosaic.TcCoe Idealize.SL.Sem
open Cert.Reference6Ideal Cert.Reference6Ideal.Gen Cert.Combine

variable (m : (ℓ : Loc nD τ sig) → Buf (Elt Ideal) ℓ)

abbrev xV (c : Dev nD) : FVec Ideal S16640x1024 .f32 := m ((c.tc : Thread nD τ).loc main_arg0)
abbrev aV (c : Dev nD) : FVec Ideal S16640x1024 .f32 := m ((c.tc : Thread nD τ).loc main_arg1)
abbrev bV (c : Dev nD) : FVec Ideal S16640x1024 .f32 := m ((c.tc : Thread nD τ).loc main_arg2)
abbrev gV (c : Dev nD) : FVec Ideal S16640x128 .f32 := m ((c.tc : Thread nD τ).loc main_arg3)
abbrev nV (c : Dev nD) : FVec Ideal S1024 .f32 := m ((c.tc : Thread nD τ).loc main_arg4)
abbrev G (c : Dev nD) : FVec Ideal S16640x1024 .f32 := out 16640 (xV m c) (aV m c) (bV m c) (gV m c) (nV m c)

theorem run (ρ : Dev nD → PrngReg) : θ_run defs (onTc (τ := τ) (main (F := Ideal))) ⟨m, fun _ => 0, ρ⟩ fun r => ∀ c : Dev nD,
      r.2.mem ((c.tc : Thread nD τ).loc main_v20) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Value.run m ρ)
  refine ⟨(h c).1.trans ?_, (h c).2⟩
  refine funext fun (i : S16640x1024.Idx) => ?_
  obtain ⟨p, q, rfl⟩ : ∃ (p : Fin 16640) (q : Fin 1024), i = ix2 p q := ⟨i 0, i 1, eq_ix2 i⟩
  pointwise! [out, norm1024, mix, eps]

end Cert.Reference6Ideal.Combine

end
-- ==== Proof.Combine.Value7.lean ====
/- The array the last layer's closing call leaves on the sample's rows. -/
module

public import proofs.«01_k».proof.Proof.Combine.Spec
public import proofs.«01_k».proof.Proof.Gen.Kernel7Ideal.Value
public import Idealize.ShloMosaic.Lib.Pipeline.ValueKit

@[expose] public section

set_option maxRecDepth 16384

noncomputable section

namespace Cert.Kernel7Ideal.Combine

open Idealize.ShloMosaic Idealize.ShloMosaic.TcCoe Idealize.SL.Sem
open Idealize.ShloMosaic.Pipeline (Dat)
open Cert.Kernel7Ideal Cert.Kernel7Ideal.Gen Cert.Kernel7Ideal.Value Cert.Combine

variable (m : (ℓ : Loc nD τ sig) → Buf (Elt Ideal) ℓ)

abbrev xA (c : Dev nD) : FVec Ideal S128x1024 .f32 := V m c main_arg0
abbrev aA (c : Dev nD) : FVec Ideal S128x1024 .f32 := V m c main_arg1
abbrev bA (c : Dev nD) : FVec Ideal S128x1024 .f32 := V m c main_arg2
abbrev gA (c : Dev nD) : FVec Ideal S128x128 .f32 := V m c main_arg3
abbrev nA (c : Dev nD) : FVec Ideal S1024 .f32 := m ((c : Thread nD τ).loc main_arg4)

/-- What the call leaves. -/
abbrev G (c : Dev nD) : FVec Ideal S128x1024 .f32 := out 128 (xA m c) (aA m c) (bA m c) (gA m c) (nA m c)

theorem V_v0 (c : Dev nD) : V m c main_v0 = shapeCast S1x1024 (nA m c) shapeCasts_S1024_S1x1024 := by unfold V; after_results; try rfl

theorem pay1_at (g : FVec Ideal S128x128 .f32) (x a b : FVec Ideal S128x1024 .f32) (n : FVec Ideal S1x1024 .f32) (r : Fin 128) (d : Fin 1024) :
    k0_pay1 (F := Ideal) g x a b n (ix2 r d)
      = norm1024 (mix (fun d => x (ix2 r d)) (fun d => a (ix2 r d)) (fun d => b (ix2 r d)) (fun k => g (ix2 r k))) (fun d => n (ix2 0 d)) d := by
  pointwise! [k0_pay1, norm1024, mix, eps]

/-! ## The blocks -/

theorem tN (t : Fin grid0.N) : t.val < 1 := Nat.lt_of_lt_of_eq t.isLt N_0

/-- Row `r` of point `t`'s block. -/
def rowOf (t : Fin grid0.N) (r : Fin 128) : Fin 128 := ⟨t.val * 128 + r.val, by have := tN t; have := r.isLt; omega⟩

theorem coord0 : ∀ t : Fin grid0.N, (grid0.coords t 0).val = t.val := by decide +kernel

theorem iblk0_at (c : Dev nD) (t : Fin grid0.N) (r : Fin 128) (d : Fin 1024) :
    iblk m c 0 t (ix2 r d) = xA m c (ix2 (rowOf t r) d) := by
  refine congrArg (V m c main_arg0) (funext fun a => Fin.ext ?_)
  have ht := tN t
  have e0 := coord0 t
  match a with
  | ⟨0, _⟩ =>
    show (BitVec.ofNat 32 (grid0.coords t 0).val).toNat * 128 + 1 * r.val = t.val * 128 + r.val
    rw [BitVec.toNat_ofNat, e0]; omega
  | ⟨1, _⟩ =>
    show 0 * 1024 + 1 * d.val = d.val
    omega

theorem iblk1_at (c : Dev nD) (t : Fin grid0.N) (r : Fin 128) (d : Fin 1024) :
    iblk m c 1 t (ix2 r d) = aA m c (ix2 (rowOf t r) d) := by
  refine congrArg (V m c main_arg1) (funext fun a => Fin.ext ?_)
  have ht := tN t
  have e0 := coord0 t
  match a with
  | ⟨0, _⟩ =>
    show (BitVec.ofNat 32 (grid0.coords t 0).val).toNat * 128 + 1 * r.val = t.val * 128 + r.val
    rw [BitVec.toNat_ofNat, e0]; omega
  | ⟨1, _⟩ =>
    show 0 * 1024 + 1 * d.val = d.val
    omega

theorem iblk2_at (c : Dev nD) (t : Fin grid0.N) (r : Fin 128) (d : Fin 1024) :
    iblk m c 2 t (ix2 r d) = bA m c (ix2 (rowOf t r) d) := by
  refine congrArg (V m c main_arg2) (funext fun a => Fin.ext ?_)
  have ht := tN t
  have e0 := coord0 t
  match a with
  | ⟨0, _⟩ =>
    show (BitVec.ofNat 32 (grid0.coords t 0).val).toNat * 128 + 1 * r.val = t.val * 128 + r.val
    rw [BitVec.toNat_ofNat, e0]; omega
  | ⟨1, _⟩ =>
    show 0 * 1024 + 1 * d.val = d.val
    omega

theorem iblk3_at (c : Dev nD) (t : Fin grid0.N) (r : Fin 128) (d : Fin 128) :
    iblk m c 3 t (ix2 r d) = gA m c (ix2 (rowOf t r) d) := by
  refine congrArg (V m c main_arg3) (funext fun a => Fin.ext ?_)
  have ht := tN t
  have e0 := coord0 t
  match a with
  | ⟨0, _⟩ =>
    show (BitVec.ofNat 32 (grid0.coords t 0).val).toNat * 128 + 1 * r.val = t.val * 128 + r.val
    rw [BitVec.toNat_ofNat, e0]; omega
  | ⟨1, _⟩ =>
    show 0 * 128 + 1 * d.val = d.val
    omega

theorem iblk4_at (c : Dev nD) (t : Fin grid0.N) (k : Fin 1) (d : Fin 1024) : iblk m c 4 t (ix2 k d) = nA m c (ix1 d) := by
  have e : iblk m c 4 t (ix2 k d) = V m c main_v0 (ix2 k d) := by
    refine congrArg (V m c main_v0) (funext fun a => Fin.ext ?_)
    match a with
    | ⟨0, _⟩ => show 0 * 1 + 1 * k.val = k.val; omega
    | ⟨1, _⟩ => show 0 * 1024 + 1 * d.val = d.val; omega
  rw [e, V_v0 m c]
  pointwise

theorem out0_5_at (x a b : FVec Ideal S128x1024 .f32) (g : FVec Ideal S128x128 .f32) (n : FVec Ideal S1x1024 .f32) (r : Fin 128) (d : Fin 1024) :
    out0_5 (F := Ideal) x a b g n (ix2 r d) = k0_pay1 (F := Ideal) g x a b n (ix2 r d) := by
  unfold out0_5
  frame_out

/-! ## The array -/

theorem tile_at (c : Dev nD) (t : Fin grid0.N) (r : Fin 128) (d : Fin 1024) :
    out0_5 (F := Ideal) (iblk m c 0 t) (iblk m c 1 t) (iblk m c 2 t) (iblk m c 3 t) (iblk m c 4 t) (ix2 r d) = G m c (ix2 (rowOf t r) d) := by
  refine (out0_5_at _ _ _ _ _ r d).trans ((pay1_at _ _ _ _ _ r d).trans ?_)
  rw [funext fun d => iblk0_at m c t r d, funext fun d => iblk1_at m c t r d, funext fun d => iblk2_at m c t r d,
    funext fun k => iblk3_at m c t r k, funext fun d => iblk4_at m c t 0 d]
  rfl

theorem emb5 (t : Fin grid0.N) (y : S128x1024.Idx) :
    (((cfg0.win 5).blk t).view.emb y : S128x1024.Idx) = ix2 (rowOf t (y 0)) (y 1) := by
  have ht := tN t
  have e0 := coord0 t
  refine funext fun a => Fin.ext ?_
  match a with
  | ⟨0, _⟩ =>
    show (BitVec.ofNat 32 (grid0.coords t 0).val).toNat * 128 + 1 * (y 0).val = t.val * 128 + (y 0).val
    rw [BitVec.toNat_ofNat, e0]; omega
  | ⟨1, _⟩ =>
    show 0 * 1024 + 1 * (y 1).val = (y 1).val
    omega

theorem final (c : Dev nD) : (dats m 0 c).arrAt 5 cfg0.N = G m c := by
  refine (dats m 0 c).arrAt_eq_of_covers 5 _ (by decide +kernel) fun t hf (y : S128x1024.Idx) => ?_
  refine Eq.trans ?_ (congrArg (G m c) (emb5 t y).symm)
  show (dats m 0 c).after 5 t y = _
  rw [after0_5, eq_ix2 y]
  exact tile_at m c t (y 0) (y 1)

end Cert.Kernel7Ideal.Combine

end
-- ==== Proof.Combine.Ref7.lean ====
/- The reference's array at the end of the last layer, on the sample's rows. -/
module

public import proofs.«01_k».proof.Proof.Combine.Spec
public import proofs.«01_k».proof.Proof.Gen.Reference7Ideal.Run

@[expose] public section

set_option maxRecDepth 16384

noncomputable section

namespace Cert.Reference7Ideal.Combine

open Idealize.ShloMosaic Idealize.ShloMosaic.TcCoe Idealize.SL.Sem
open Cert.Reference7Ideal Cert.Reference7Ideal.Gen Cert.Combine

variable (m : (ℓ : Loc nD τ sig) → Buf (Elt Ideal) ℓ)

abbrev xV (c : Dev nD) : FVec Ideal S128x1024 .f32 := m ((c.tc : Thread nD τ).loc main_arg0)
abbrev aV (c : Dev nD) : FVec Ideal S128x1024 .f32 := m ((c.tc : Thread nD τ).loc main_arg1)
abbrev bV (c : Dev nD) : FVec Ideal S128x1024 .f32 := m ((c.tc : Thread nD τ).loc main_arg2)
abbrev gV (c : Dev nD) : FVec Ideal S128x128 .f32 := m ((c.tc : Thread nD τ).loc main_arg3)
abbrev nV (c : Dev nD) : FVec Ideal S1024 .f32 := m ((c.tc : Thread nD τ).loc main_arg4)
abbrev G (c : Dev nD) : FVec Ideal S128x1024 .f32 := out 128 (xV m c) (aV m c) (bV m c) (gV m c) (nV m c)

theorem run (ρ : Dev nD → PrngReg) : θ_run defs (onTc (τ := τ) (main (F := Ideal))) ⟨m, fun _ => 0, ρ⟩ fun r => ∀ c : Dev nD,
      r.2.mem ((c.tc : Thread nD τ).loc main_v20) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Value.run m ρ)
  refine ⟨(h c).1.trans ?_, (h c).2⟩
  refine funext fun (i : S128x1024.Idx) => ?_
  obtain ⟨p, q, rfl⟩ : ∃ (p : Fin 128) (q : Fin 1024), i = ix2 p q := ⟨i 0, i 1, eq_ix2 i⟩
  pointwise! [out, norm1024, mix, eps]

end Cert.Reference7Ideal.Combine

end
-- ==== Proof.SprojIdeal.Spec.lean ====
/- The mathematics of the sample rows' input projection: the columns and the logarithms it leaves, and why a product of factors split
   into two parts is the plain product when every factor is a real number. -/
module

public import proofs.«01_k».proof.Proof.InprojIdeal.Spec

@[expose] public section

set_option maxRecDepth 16384

noncomputable section

namespace Cert.Sproj

open Idealize.ShloMosaic
open Cert.Merge (norm1024 eps)
open Cert.Inproj (SN SW SA SB SF proj decay logsig)

abbrev SX : Shape := ⟨2, ![128, 1024]⟩
abbrev SZ : Shape := ⟨2, ![128, 6656]⟩
abbrev SL : Shape := ⟨2, ![128, 512]⟩
abbrev SG : Shape := ⟨2, ![128, 128]⟩

/-! ## The results -/

/-- The column of the projection that column `j` of the wide output holds. -/
def src (j : Fin 6656) : Fin 6680 :=
  ⟨if j.val < 2048 then 1024 + j.val else if j.val < 4096 then 4632 + (j.val - 2048) else if j.val < 5120 then j.val - 4096 else 3088 + (j.val - 5120), by
    have := j.isLt
    split
    · omega
    split
    · omega
    split <;> omega⟩

theorem src_val (j : Fin 6656) : (src j).val
    = if j.val < 2048 then 1024 + j.val else if j.val < 4096 then 4632 + (j.val - 2048) else if j.val < 5120 then j.val - 4096 else 3088 + (j.val - 5120) := rfl

/-- The rows the wide output holds. -/
def outZ (x : SX.Idx → EReal) (n : SN.Idx → EReal) (w : SW.Idx → EReal) : SZ.Idx → EReal := fun i =>
  proj (fun d => x (ix2 (i 0) d)) (fun d => n (ix1 d)) w (src (i 1))

/-- The logarithms of the decay. -/
def outL (x : SX.Idx → EReal) (n : SN.Idx → EReal) (w : SW.Idx → EReal) (wa : SA.Idx → EReal) (ba : SB.Idx → EReal) : SL.Idx → EReal := fun i =>
  decay (fun d => x (ix2 (i 0) d)) (fun d => n (ix1 d)) w wa ba (i 1)

/-- Lane `q` of the small output before its logarithm: the forget gates, then the decay's low columns, then zeros. -/
def lane (x n : Fin 1024 → EReal) (w : SW.Idx → EReal) (bf : SF.Idx → EReal) (q : Fin 128) : EReal :=
  if h : q.val < 8 then proj x n w ⟨4624 + q.val, by omega⟩ + bf (ix1 ⟨q.val, h⟩)
  else if h : q.val - 8 < 16 then proj x n w ⟨3072 + (q.val - 8), by omega⟩ else 0

/-- The logarithms of the forget gates, in the first eight lanes. -/
def outF (x : SX.Idx → EReal) (n : SN.Idx → EReal) (w : SW.Idx → EReal) (bf : SF.Idx → EReal) : SG.Idx → EReal := fun i =>
  logsig (lane (fun d => x (ix2 (i 0) d)) (fun d => n (ix1 d)) w bf (i 1))

/-! ## Real numbers -/

/-- The value is a real number. -/
def Re (x : EReal) : Prop := ∃ r : ℝ, x = (r : EReal)

theorem Re.mul {x y : EReal} (hx : Re x) (hy : Re y) : Re (x * y) := by
  obtain ⟨a, rfl⟩ := hx
  obtain ⟨b, rfl⟩ := hy
  exact ⟨a * b, (EReal.coe_mul a b).symm⟩

theorem Re.add {x y : EReal} (hx : Re x) (hy : Re y) : Re (x + y) := by
  obtain ⟨a, rfl⟩ := hx
  obtain ⟨b, rfl⟩ := hy
  exact ⟨a + b, (EReal.coe_add a b).symm⟩

theorem Re.zero : Re 0 := ⟨0, rfl⟩

theorem Re.sum {ι : Type} (s : Finset ι) (f : ι → EReal) (h : ∀ i, Re (f i)) : Re (∑ i ∈ s, f i) := by
  classical
  induction s using Finset.induction_on with
  | empty => exact Re.zero
  | insert a s ha ih => rw [Finset.sum_insert ha]; exact (h a).add ih

theorem Re.sub_self {x : EReal} (hx : Re x) : x - x = 0 := by
  obtain ⟨a, rfl⟩ := hx
  rw [← EReal.coe_sub, _root_.sub_self, EReal.coe_zero]

theorem eps_pos : ∃ e : ℝ, 0 < e ∧ eps = (e : EReal) := by
  refine ⟨8796093 / 2 ^ 43, by norm_num, ?_⟩
  simp [eps, Ideal.ofBits, Ideal.ieee, -EReal.coe_mul]; norm_num

theorem thousand : Ideal.ofBits .f32 0x44800000#32 = ((1024 : ℝ) : EReal) := by
  simp [Ideal.ofBits, Ideal.ieee, -EReal.coe_mul]; norm_num

/-- A sum of squares of reals is a real number that is not negative. -/
theorem squares {ι : Type} (s : Finset ι) (f : ι → EReal) (h : ∀ i, Re (f i)) : ∃ r : ℝ, 0 ≤ r ∧ ∑ i ∈ s, f i * f i = (r : EReal) := by
  classical
  induction s using Finset.induction_on with
  | empty => exact ⟨0, le_rfl, rfl⟩
  | insert a s ha ih =>
    obtain ⟨r, hr, e⟩ := ih
    obtain ⟨b, hb⟩ := h a
    refine ⟨b * b + r, add_nonneg (mul_self_nonneg b) hr, ?_⟩
    rw [Finset.sum_insert ha, e, hb, EReal.coe_add, EReal.coe_mul]

/-- A square is not below zero. -/
theorem square_nonneg (x : EReal) : 0 ≤ x * x := by
  rcases le_total 0 x with h | h
  · exact mul_nonneg h h
  · rw [← neg_mul_neg]
    exact mul_nonneg (EReal.neg_nonneg.2 h) (EReal.neg_nonneg.2 h)

/-- An infinite entry makes the sum of squares infinite. -/
theorem squares_top {ι : Type} [Fintype ι] (f : ι → EReal) (h : ¬∀ i, Re (f i)) : ∑ i, f i * f i = ⊤ := by
  obtain ⟨i, hi⟩ := not_forall.1 h
  have e : f i * f i = ⊤ := by
    rcases hf : f i with _ | _ | r
    · rfl
    · rfl
    · exact absurd ⟨r, hf⟩ hi
  refine top_le_iff.1 (e ▸ ?_)
  exact Finset.single_le_sum (f := fun i => f i * f i) (fun j _ => square_nonneg (f j)) (Finset.mem_univ i)

/-- A normed row under a real scale is real: the root of an infinite sum of squares divides by infinity. -/
theorem norm_re (x n : Fin 1024 → EReal) (hn : ∀ d, Re (n d)) (d : Fin 1024) : Re (norm1024 x n d) := by
  obtain ⟨ε, hε, eε⟩ := eps_pos
  refine Re.mul ?_ (hn d)
  have e1 : ∀ s : EReal, Ideal.div s (Ideal.ofBits .f32 0x44800000#32) + eps = s * ((1024 : ℝ)⁻¹ : ℝ) + (ε : EReal) := fun s => by
    rw [thousand, eε]
    unfold Ideal.div
    rw [if_neg (by rw [← EReal.coe_zero]; exact fun h => by have := EReal.coe_eq_coe_iff.1 h; norm_num at this), ← EReal.coe_inv]
  rw [e1]
  by_cases hx : ∀ d, Re (x d)
  · refine (hx d).mul ?_
    obtain ⟨r, hr, e⟩ := squares Finset.univ x hx
    rw [e, ← EReal.coe_mul, ← EReal.coe_add]
    have hp : 0 < r * (1024 : ℝ)⁻¹ + ε := by positivity
    refine ⟨(Real.sqrt (r * (1024 : ℝ)⁻¹ + ε))⁻¹, ?_⟩
    show (if r * (1024 : ℝ)⁻¹ + ε < 0 then (⊥ : EReal) else if r * (1024 : ℝ)⁻¹ + ε = 0 then ⊤ else ((Real.sqrt (r * (1024 : ℝ)⁻¹ + ε))⁻¹ : ℝ)) = _
    rw [if_neg (not_lt.2 hp.le), if_neg hp.ne']
  · rw [squares_top x hx, EReal.top_mul_coe_of_pos (by norm_num), EReal.top_add_coe]
    show Re (x d * 0)
    rw [mul_zero]
    exact Re.zero

/-- Three products of parts add up to the product of the wholes. -/
theorem split_sum {N : ℕ} (h w : Fin N → EReal) (hh : ∀ k, Re (h k)) (hw : ∀ k, Re (w k)) :
    (∑ k : Fin N, (h k - h k) * w k) + (∑ k : Fin N, h k * (w k - w k)) + ∑ k : Fin N, h k * w k = ∑ k : Fin N, h k * w k := by
  rw [Finset.sum_eq_zero fun k _ => by rw [(hh k).sub_self, zero_mul], Finset.sum_eq_zero fun k _ => by rw [(hw k).sub_self, mul_zero], zero_add, zero_add]

end Cert.Sproj

end
-- ==== Proof.SprojIdeal.Fin.lean ====
/- The precondition of the sample rows' input projection makes the norm's scale and the two weights real. -/
module

public import proofs.«01_k».proof.Proof.SprojIdeal.Spec
public import proofs.«01_k».proof.Proof.Fox.Fin
public import proofs.«01_k».proof.Proof.Gen.Pre_finite8

@[expose] public section

set_option maxRecDepth 16384

noncomputable section

namespace Cert.Sproj

open Idealize.ShloMosaic Idealize.ShloMosaic.TcCoe Idealize.ShloMosaic.Tactic

theorem fins (x : FVec Ideal Cert.Pre_finite8.S128x1024 .f32) (n : FVec Ideal Cert.Pre_finite8.S1024 .f32) (w : FVec Ideal Cert.Pre_finite8.S1024x6680 .f32)
    (a : FVec Ideal Cert.Pre_finite8.S16x512 .f32) (b : FVec Ideal Cert.Pre_finite8.S512 .f32) (g : FVec Ideal Cert.Pre_finite8.S8 .f32)
    (h : Cert.Pre_finite8.fn (F := Ideal) x n w a b g = fun _ => 1#1) :
    (∀ d, Re (n (ix1 d))) ∧ (∀ k j, Re (w (ix2 k j))) ∧ ∀ p j, Re (a (ix2 p j)) := by
  have e := congrFun h (fun a => a.elim0)
  haveI : Subsingleton (Cert.Pre_finite8.S_ : Shape).Idx := ⟨fun x y => funext fun a => a.elim0⟩
  unfold Cert.Pre_finite8.fn at e
  obtain ⟨e1, ea⟩ := IntOp.andi_eq_one.mp e
  obtain ⟨en, ew⟩ := IntOp.andi_eq_one.mp e1
  exact ⟨fun d => Cert.Fox.real_of_lt _ (Host.reduce_andi_all _ _ _ _ _ en (ix1 d)),
    fun k j => Cert.Fox.real_of_lt _ (Host.reduce_andi_all _ _ _ _ _ ew (ix2 k j)), fun p j => Cert.Fox.real_of_lt _ (Host.reduce_andi_all _ _ _ _ _ ea (ix2 p j))⟩

end Cert.Sproj

end
-- ==== Proof.SprojIdeal.Pay.lean ====
/- The payloads of the sample rows' input projection at one entry. -/
module

public import proofs.«01_k».proof.Proof.SprojIdeal.Spec
public import proofs.«01_k».proof.Proof.Gen.Kernel8Ideal.Skeleton
public import Idealize.ShloMosaic.Lib.Pipeline.ValueKit

@[expose] public section

set_option maxRecDepth 16384

noncomputable section

namespace Cert.Kernel8Ideal.Sproj

open Idealize.ShloMosaic Idealize.ShloMosaic.TcCoe Idealize.SL.Sem
open Cert.Kernel8Ideal Cert.Kernel8Ideal.Gen Cert.Sproj
open Cert.Inproj (logsig)
open Cert.Merge (norm1024 eps)

/-- One row of the normed block. -/
abbrev nrow (x : FVec Ideal S128x1024 .f32) (n : FVec Ideal S1x1024 .f32) (r : Fin 128) (k : Fin 1024) : EReal :=
  norm1024 (fun d => x (ix2 r d)) (fun d => n (ix2 0 d)) k

theorem pay2_at (x : FVec Ideal S128x1024 .f32) (n : FVec Ideal S1x1024 .f32) (r : Fin 128) (d : Fin 1024) :
    k0_pay2 (F := Ideal) x n (ix2 r d) = nrow x n r d := by
  pointwise! [k0_pay2, nrow, norm1024, eps]

theorem pay4_at (x : FVec Ideal S128x1024 .f32) (n : FVec Ideal S1x1024 .f32) (r : Fin 128) (d : Fin 1024) :
    k0_pay4 (F := Ideal) x n (ix3 0 r d) = nrow x n r d := by
  rw [← pay2_at]
  unfold k0_pay4 k0_pay3
  generalize k0_pay2 (F := Ideal) x n = h
  pointwise!

theorem pay5_at (x : FVec Ideal S128x1024 .f32) (n : FVec Ideal S1x1024 .f32) (r : Fin 128) (d : Fin 1024) :
    k0_pay5 (F := Ideal) x n (ix3 0 r d) = nrow x n r d - nrow x n r d := by
  rw [← pay2_at]
  unfold k0_pay5 k0_pay3
  generalize k0_pay2 (F := Ideal) x n = h
  pointwise!

theorem pay1_at (w : FVec Ideal S1024x1664 .f32) (l h : FVec Ideal S1x128x1024 .bf16) (r : Fin 128) (j : Fin 1664) :
    k0_pay1 (F := Ideal) w l h h (ix2 r j)
      = (∑ k : Fin 1024, l (ix3 0 r k) * w (ix2 k j)) + (∑ k : Fin 1024, h (ix3 0 r k) * (w (ix2 k j) - w (ix2 k j))) + ∑ k : Fin 1024, h (ix3 0 r k) * w (ix2 k j) := by
  pointwise! [k0_pay1]

theorem pay6_at (x : FVec Ideal S128x1024 .f32) (n : FVec Ideal S1x1024 .f32) (ws : FVec Ideal S1024x128 .f32) (r : Fin 128) (p : Fin 128) :
    k0_pay6 (F := Ideal) x n ws (ix2 r p)
      = (∑ k : Fin 1024, (nrow x n r k - nrow x n r k) * ws (ix2 k p)) + (∑ k : Fin 1024, nrow x n r k * (ws (ix2 k p) - ws (ix2 k p)))
        + ∑ k : Fin 1024, nrow x n r k * ws (ix2 k p) := by
  simp only [← pay2_at]
  unfold k0_pay6
  generalize k0_pay2 (F := Ideal) x n = h
  pointwise!

theorem pay7_at (s : FVec Ideal S128x128 .f32) (wa : FVec Ideal S128x512 .f32) (ba : FVec Ideal S1x512 .f32) (r : Fin 128) (j : Fin 512) :
    k0_pay7 (F := Ideal) s wa ba (ix2 r j)
      = logsig ((∑ p : Fin 128, (s (ix2 r p) - s (ix2 r p)) * wa (ix2 p j)) + (∑ p : Fin 128, s (ix2 r p) * (wa (ix2 p j) - wa (ix2 p j)))
        + (∑ p : Fin 128, s (ix2 r p) * wa (ix2 p j)) + ba (ix2 0 j)) * Ideal.ofBits .f32 0x3D800000#32 := by
  pointwise! [k0_pay7, logsig]

theorem pay8_at (s : FVec Ideal S128x128 .f32) (b : FVec Ideal S1x128 .f32) (r : Fin 128) (p : Fin 128) :
    k0_pay8 (F := Ideal) s b (ix2 r p) = logsig (s (ix2 r p) + b (ix2 0 p)) := by
  pointwise! [k0_pay8, logsig]

end Cert.Kernel8Ideal.Sproj

end
-- ==== Proof.SprojIdeal.Host.lean ====
/- The arrays the host lays out before the sample rows' call: the wide weight, the small weight, the padded second weight of the decay
   and the padded bias of the forget gates. -/
module

public import proofs.«01_k».proof.Proof.SprojIdeal.Pay
public import proofs.«01_k».proof.Proof.Gen.Kernel8Ideal.Frame
public import Idealize.ShloMosaic.Lib.Routing.OpsSet
public import proofs.«01_k».proof.Proof.InprojIdeal.Host

@[expose] public section

set_option maxRecDepth 16384

noncomputable section

namespace Cert.Kernel8Ideal.Sproj

open Idealize.ShloMosaic Idealize.ShloMosaic.TcCoe Idealize.SL.Sem
open Cert.Kernel8Ideal Cert.Kernel8Ideal.Gen Cert.Sproj

/-! ## The layouts -/

/-- The wide weight. -/
def wide (w : FVec Ideal S1024x6680 .f32) : FVec Ideal S1024x6656 .f32 :=
  concatenate S1024x6656 1 [⟨S1024x1024, (extractStridedSlice S1024x1024 ![0, 1024] w slices_S1024x6680_S1024x1024_0_1024 : FVec Ideal S1024x1024 .f32)⟩,
      ⟨S1024x1024, (extractStridedSlice S1024x1024 ![0, 2048] w slices_S1024x6680_S1024x1024_0_2048 : FVec Ideal S1024x1024 .f32)⟩,
      ⟨S1024x1024, (extractStridedSlice S1024x1024 ![0, 4632] w slices_S1024x6680_S1024x1024_0_4632 : FVec Ideal S1024x1024 .f32)⟩,
      ⟨S1024x1024, (extractStridedSlice S1024x1024 ![0, 5656] w slices_S1024x6680_S1024x1024_0_5656 : FVec Ideal S1024x1024 .f32)⟩,
      ⟨S1024x512, (extractStridedSlice S1024x512 ![0, 0] w slices_S1024x6680_S1024x512_0_0 : FVec Ideal S1024x512 .f32)⟩,
      ⟨S1024x512, (extractStridedSlice S1024x512 ![0, 512] w slices_S1024x6680_S1024x512_0_512 : FVec Ideal S1024x512 .f32)⟩,
      ⟨S1024x512, (extractStridedSlice S1024x512 ![0, 3088] w slices_S1024x6680_S1024x512_0_3088 : FVec Ideal S1024x512 .f32)⟩,
      ⟨S1024x512, (extractStridedSlice S1024x512 ![0, 3600] w slices_S1024x6680_S1024x512_0_3600 : FVec Ideal S1024x512 .f32)⟩,
      ⟨S1024x512, (extractStridedSlice S1024x512 ![0, 4112] w slices_S1024x6680_S1024x512_0_4112 : FVec Ideal S1024x512 .f32)⟩]
    concatenates_S1024x1024_S1024x1024_S1024x1024_S1024x1024_S1024x512_S1024x512_S1024x512_S1024x512_S1024x512_S1024x6656_d1

/-- The small weight: the forget gates' columns, the decay's, and zeros. -/
def small (w : FVec Ideal S1024x6680 .f32) : FVec Ideal S1024x128 .f32 :=
  concatenate S1024x128 1 [⟨S1024x8, (extractStridedSlice S1024x8 ![0, 4624] w slices_S1024x6680_S1024x8_0_4624 : FVec Ideal S1024x8 .f32)⟩,
    ⟨S1024x16, (extractStridedSlice S1024x16 ![0, 3072] w slices_S1024x6680_S1024x16_0_3072 : FVec Ideal S1024x16 .f32)⟩,
    ⟨S1024x104, (broadcastInDim S1024x104 ![] bcast_S_S1024x104 (constant S_ .f32 0x00000000#32 : FVec Ideal S_ .f32) : FVec Ideal S1024x104 .f32)⟩]
    concatenates_S1024x8_S1024x16_S1024x104_S1024x128_d1

/-- The decay's second weight, set into rows 8 to 23 of zeros. -/
def padded (a : FVec Ideal S16x512 .f32) : FVec Ideal S128x512 .f32 :=
  Host.scatter scatter_S128x512_S1_S16x512_01_n_0_0 (fun _ b => b)
    (broadcastInDim S128x512 ![] bcast_S_S128x512 (constant S_ .f32 0x00000000#32 : FVec Ideal S_ .f32) : FVec Ideal S128x512 .f32)
    (broadcastInDim S1 ![] bcast_S_S1 (constantI S_ 32 8#32)) a

/-- The place at which the bias is set. -/
def origin : IVec S2 32 :=
  concatenate S2 0 [⟨S1, (broadcastInDim S1 ![] bcast_S_S1 (constantI S_ 32 0#32) : IVec S1 32)⟩, ⟨S1, (broadcastInDim S1 ![] bcast_S_S1 (constantI S_ 32 0#32) : IVec S1 32)⟩]
    concatenates_S1_S1_S2_d0

/-- The forget gates' bias, set into the first eight lanes of zeros. -/
def bias (b : FVec Ideal S8 .f32) : FVec Ideal S1x128 .f32 :=
  Host.scatter scatter_S1x128_S2_S8_0_0_01_0 (fun _ b => b)
    (broadcastInDim S1x128 ![] bcast_S_S1x128 (constant S_ .f32 0x00000000#32 : FVec Ideal S_ .f32) : FVec Ideal S1x128 .f32) origin b

/-- An entry of the projection's weight, its column named in another way. -/
theorem col_congr (w : FVec Ideal S1024x6680 .f32) (k : Fin 1024) (p q : Fin 6680) (h : p.val = q.val) : w (ix2 k p) = w (ix2 k q) := by rw [Fin.ext h]

set_option maxRecDepth 200000 in
theorem wide_at (w : FVec Ideal S1024x6680 .f32) (k : Fin 1024) (j : Fin 6656) : wide w (ix2 k j) = w (ix2 k (src j)) := by
  pointwise! [wide]
  have hj := j.isLt
  by_cases h0 : j.val < 1024
  · refine (dif_pos h0).trans (col_congr w k _ _ (by simp only [src_val]; split_ifs <;> omega))
  refine (dif_neg h0).trans ?_
  by_cases h1 : j.val - 1024 < 1024
  · refine (dif_pos h1).trans (col_congr w k _ _ (by simp only [src_val]; split_ifs <;> omega))
  refine (dif_neg h1).trans ?_
  by_cases h2 : j.val - 1024 - 1024 < 1024
  · refine (dif_pos h2).trans (col_congr w k _ _ (by simp only [src_val]; split_ifs <;> omega))
  refine (dif_neg h2).trans ?_
  by_cases h3 : j.val - 1024 - 1024 - 1024 < 1024
  · refine (dif_pos h3).trans (col_congr w k _ _ (by simp only [src_val]; split_ifs <;> omega))
  refine (dif_neg h3).trans ?_
  by_cases h4 : j.val - 1024 - 1024 - 1024 - 1024 < 512
  · refine (dif_pos h4).trans (col_congr w k _ _ (by simp only [src_val]; split_ifs <;> omega))
  refine (dif_neg h4).trans ?_
  by_cases h5 : j.val - 1024 - 1024 - 1024 - 1024 - 512 < 512
  · refine (dif_pos h5).trans (col_congr w k _ _ (by simp only [src_val]; split_ifs <;> omega))
  refine (dif_neg h5).trans ?_
  by_cases h6 : j.val - 1024 - 1024 - 1024 - 1024 - 512 - 512 < 512
  · refine (dif_pos h6).trans (col_congr w k _ _ (by simp only [src_val]; split_ifs <;> omega))
  refine (dif_neg h6).trans ?_
  by_cases h7 : j.val - 1024 - 1024 - 1024 - 1024 - 512 - 512 - 512 < 512
  · refine (dif_pos h7).trans (col_congr w k _ _ (by simp only [src_val]; split_ifs <;> omega))
  refine (dif_neg h7).trans ?_
  exact col_congr w k _ _ (by simp only [src_val]; split_ifs <;> omega)

theorem small_at (w : FVec Ideal S1024x6680 .f32) (k : Fin 1024) (p : Fin 128) : small w (ix2 k p)
    = if h : p.val < 8 then w (ix2 k ⟨4624 + p.val, by omega⟩) else if h : p.val - 8 < 16 then w (ix2 k ⟨3072 + (p.val - 8), by omega⟩) else 0 := by
  pointwise! [small]

/-! ## The second weight of the decay -/

/-- It is the array of the prompt's call. -/
theorem padded_eq (a : FVec Ideal S16x512 .f32) : padded a = Cert.Kernel2Ideal.Inproj.padded a := rfl

/-! ## The bias -/

theorem origin_at (i : S2.Idx) : origin i = 0#32 := by
  obtain ⟨q, rfl⟩ : ∃ q : Fin 2, i = ix1 q := ⟨i 0, eq_ix1 i⟩
  revert q
  decide +kernel

section
variable (idx : IVec S2 32) (hi : ∀ i, idx i = 0#32) (p : Fin 8)
include hi

theorem bstart (d : Fin 2) : ScatterDims.start scatter_S1x128_S2_S8_0_0_01_0 (ix1 p) idx d = 0 := by
  unfold ScatterDims.start
  refine (dif_pos (by revert d; decide +kernel : d ∈ ([0, 1] : List (Fin 2)))).trans ?_
  rw [hi]
  rfl

theorem bands (q : Fin 1) (i : Fin 128) :
    ScatterDims.resultIdx? scatter_S1x128_S2_S8_0_0_01_0 (ix1 p) idx = some (ix2 q i) ↔ p.val = i.val := by
  refine (Routing.resultIdx?_ix2 scatter_S1x128_S2_S8_0_0_01_0 (ix1 p) idx q i).trans ?_
  rw [bstart idx hi p 0, bstart idx hi p 1, show ScatterDims.window scatter_S1x128_S2_S8_0_0_01_0 (ix1 p) 0 = 0 from rfl,
    show ScatterDims.window scatter_S1x128_S2_S8_0_0_01_0 (ix1 p) 1 = p.val from rfl]
  omega

end

theorem bias_hit (b : FVec Ideal S8 .f32) (p : Fin 8) (q : Fin 128) (hq : q.val = p.val) : bias b (ix2 0 q) = b (ix1 p) := by
  unfold bias
  refine Routing.scatter_set_hit scatter_S1x128_S2_S8_0_0_01_0 _ origin b (ix2 0 q) (b (ix1 p)) (fun k hk => ?_) (ix1 p) ((bands origin origin_at p 0 q).2 hq.symm)
  obtain ⟨p', rfl⟩ : ∃ p' : Fin 8, k = ix1 p' := ⟨k 0, eq_ix1 k⟩
  have h := (bands origin origin_at p' 0 q).1 hk
  obtain rfl : p' = p := Fin.ext (by omega)
  rfl

theorem bias_miss (b : FVec Ideal S8 .f32) (q : Fin 128) (hq : ¬q.val < 8) : bias b (ix2 0 q) = 0 := by
  unfold bias
  refine (Routing.scatter_set_miss scatter_S1x128_S2_S8_0_0_01_0 _ origin b (ix2 0 q) (fun k hk => ?_)).trans ?_
  · obtain ⟨p', rfl⟩ : ∃ p' : Fin 8, k = ix1 p' := ⟨k 0, eq_ix1 k⟩
    have h := (bands origin origin_at p' 0 q).1 hk
    omega
  · pointwise

/-! ## Real numbers -/

theorem small_re (w : FVec Ideal S1024x6680 .f32) (hw : ∀ k j, Re (w (ix2 k j))) (k : Fin 1024) (p : Fin 128) : Re (small w (ix2 k p)) := by
  rw [small_at]
  split
  · exact hw _ _
  split
  · exact hw _ _
  · exact Re.zero

theorem padded_re (a : FVec Ideal S16x512 .f32) (ha : ∀ p j, Re (a (ix2 p j))) (q : Fin 128) (j : Fin 512) : Re (padded a (ix2 q j)) := by
  by_cases h : q.val < 8 ∨ 24 ≤ q.val
  · rw [padded_eq, Cert.Kernel2Ideal.Inproj.padded_miss a q j h]; exact Re.zero
  · rw [padded_eq, Cert.Kernel2Ideal.Inproj.padded_hit a ⟨q.val - 8, by omega⟩ q (by show q.val = 8 + (q.val - 8); omega) j]; exact ha _ _

end Cert.Kernel8Ideal.Sproj

end
-- ==== Proof.SprojIdeal.Cases.lean ====
/- The body of the sample rows' in-projection at one grid point, in its two cases: the first column block, which normalises the rows,
   keeps them as a high and a low part and stores every output, and a later one, which multiplies the kept parts by its own columns of
   the weight. -/
module

public import proofs.«01_k».proof.Proof.Gen.Kernel8Ideal.Frame
public import proofs.«01_k».proof.Proof.Gen.Kernel8Ideal.Points
public import proofs.«01_k».proof.Proof.Gen.Kernel8Ideal.Skeleton
public import Idealize.ShloMosaic.Lib.Pipeline.FrameBody
public import Idealize.ShloMosaic.Lib.Pipeline.TableIdle
public import Idealize.ShloMosaic.Lib.Pipeline.Kit
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.Kernel8Ideal.Sproj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel8Ideal.Gen

variable {F : FTy → Type} [FloatOps F]

local notation "𝕄" => MT nD τ sig Unit (Elt F) ℕ (UR sig nD τ) ℕ

/-- The two planes of the kept rows: the high part and the low part. -/
def plane0 (s : Vec F S2x128x1024 .bf16) : Vec F S1x128x1024 .bf16 :=
  fun y => s ((Rect.unit (s := S2x128x1024) ![0, 0, 0] S1x128x1024.size inb_S2x128x1024_S1x128x1024_0_0_0).toLoadRect.idx y)
def plane1 (s : Vec F S2x128x1024 .bf16) : Vec F S1x128x1024 .bf16 :=
  fun y => s ((Rect.unit (s := S2x128x1024) ![1, 0, 0] S1x128x1024.size inb_S2x128x1024_S1x128x1024_1_0_0).toLoadRect.idx y)

section
variable {sig' : RefSig} {κ : Kind} {sp : Space} (v : View sig' κ sp S2x128x1024 .bf16)

/-- The second plane's store leaves the first plane as it was stored before. -/
theorem plane0_writes (f : v.ty.Contents (Elt F)) (a b : Vec F S1x128x1024 .bf16) :
    plane0 (v.read (Elt F) (v.writes (Elt F) f [⟨Rect.unit (s := S2x128x1024) ![1, 0, 0] S1x128x1024.size inb_S2x128x1024_S1x128x1024_1_0_0, b⟩, ⟨Rect.unit (s := S2x128x1024) ![0, 0, 0] S1x128x1024.size inb_S2x128x1024_S1x128x1024_0_0_0, a⟩])) = a := by
  funext y
  refine (View.read_writes_cons_unit_of_not_mem v f _ b _ _ rfl 0 ?_).trans (View.read_writes_cons_unit_of_mem v f _ a [] _ y rfl fun x => ?_)
  · left
    have h : (y 0).val < 1 := (y 0).isLt
    show 0 + 1 * (y 0).val < 1
    omega
  · show _ + 1 * (y x).val = _
    rw [Nat.one_mul]; rfl

/-- The second plane is as the last store left it. -/
theorem plane1_writes (f : v.ty.Contents (Elt F)) (a b : Vec F S1x128x1024 .bf16) :
    plane1 (v.read (Elt F) (v.writes (Elt F) f [⟨Rect.unit (s := S2x128x1024) ![1, 0, 0] S1x128x1024.size inb_S2x128x1024_S1x128x1024_1_0_0, b⟩, ⟨Rect.unit (s := S2x128x1024) ![0, 0, 0] S1x128x1024.size inb_S2x128x1024_S1x128x1024_0_0_0, a⟩])) = b := by
  funext y
  refine View.read_writes_cons_unit_of_mem v f _ b _ _ y rfl fun x => ?_
  show _ + 1 * (y x).val = _
  rw [Nat.one_mul]; rfl

/-- A load of either plane after both stores reads that plane's store. -/
theorem readCov_plane0 (a b : Vec F S1x128x1024 .bf16) :
    v.readCov [⟨Rect.unit (s := S2x128x1024) ![1, 0, 0] S1x128x1024.size inb_S2x128x1024_S1x128x1024_1_0_0, b⟩, ⟨Rect.unit (s := S2x128x1024) ![0, 0, 0] S1x128x1024.size inb_S2x128x1024_S1x128x1024_0_0_0, a⟩]
      (Rect.unit (s := S2x128x1024) ![0, 0, 0] S1x128x1024.size inb_S2x128x1024_S1x128x1024_0_0_0).toLoadRect = a :=
  plane0_writes v v.junk a b
theorem readCov_plane1 (a b : Vec F S1x128x1024 .bf16) :
    v.readCov [⟨Rect.unit (s := S2x128x1024) ![1, 0, 0] S1x128x1024.size inb_S2x128x1024_S1x128x1024_1_0_0, b⟩, ⟨Rect.unit (s := S2x128x1024) ![0, 0, 0] S1x128x1024.size inb_S2x128x1024_S1x128x1024_0_0_0, a⟩]
      (Rect.unit (s := S2x128x1024) ![1, 0, 0] S1x128x1024.size inb_S2x128x1024_S1x128x1024_1_0_0).toLoadRect = b :=
  plane1_writes v v.junk a b

end

theorem congr2 {α β γ : Type} (f : α → β → γ) {a a' : α} {b b' : β} (ha : a = a') (hb : b = b') : f a b = f a' b' := by
  subst ha; subst hb; rfl
theorem congr3 {α β γ δ : Type} (f : α → β → γ → δ) {a a' : α} {b b' : β} {c c' : γ} (ha : a = a') (hb : b = b') (hc : c = c') : f a b c = f a' b' c' := by
  subst ha; subst hb; subst hc; rfl
theorem congr4 {α β γ δ ε : Type} (f : α → β → γ → δ → ε) {a a' : α} {b b' : β} {c c' : γ} {d d' : δ}
    (ha : a = a') (hb : b = b') (hc : c = c') (hd : d = d') : f a b c d = f a' b' c' d' := by
  subst ha; subst hb; subst hc; subst hd; rfl

set_option maxHeartbeats 8000000 in
/-- The first column block. -/
theorem run_first (c : Dev nD) (i : grid0.Coords) (arg2 : Memref sig .tc .vmem S128x1024 .f32) (harg2 : arg2.IsWhole) (arg3 : Memref sig .tc .vmem S1x1024 .f32) (harg3 : arg3.IsWhole) (arg4 : Memref sig .tc .vmem S1024x1664 .f32) (harg4 : arg4.IsWhole) (arg5 : Memref sig .tc .vmem S1024x128 .f32) (harg5 : arg5.IsWhole) (arg6 : Memref sig .tc .vmem S128x512 .f32) (harg6 : arg6.IsWhole) (arg7 : Memref sig .tc .vmem S1x512 .f32) (harg7 : arg7.IsWhole) (arg8 : Memref sig .tc .vmem S1x128 .f32) (harg8 : arg8.IsWhole) (arg9 : Memref sig .tc .vmem S128x1664 .f32) (harg9 : arg9.IsWhole) (arg10 : Memref sig .tc .vmem S128x512 .f32) (harg10 : arg10.IsWhole) (arg11 : Memref sig .tc .vmem S128x128 .f32) (harg11 : arg11.IsWhole) (arg12 : Memref sig .tc .vmem S2x128x1024 .bf16) (harg12 : arg12.IsWhole)
    (x0 : Vec F S128x1024 .f32) (x1 : Vec F S1x1024 .f32) (x2 : Vec F S1024x1664 .f32) (x3 : Vec F S1024x128 .f32) (x4 : Vec F S128x512 .f32) (x5 : Vec F S1x512 .f32) (x6 : Vec F S1x128 .f32)
    (h0 : k0_cond1 i = 1#1) (E : Set ℕ) (K : PUnit → sProp 𝕄) :
    iprop(owns (c : Thread nD τ) arg2 fullShare (x0) ∗ owns (c : Thread nD τ) arg3 fullShare (x1) ∗ owns (c : Thread nD τ) arg4 fullShare (x2) ∗ owns (c : Thread nD τ) arg5 fullShare (x3) ∗ owns (c : Thread nD τ) arg6 fullShare (x4) ∗ owns (c : Thread nD τ) arg7 fullShare (x5) ∗ owns (c : Thread nD τ) arg8 fullShare (x6) ∗ (∃ d, owns (c : Thread nD τ) arg9 fullShare (d)) ∗ (∃ d, owns (c : Thread nD τ) arg10 fullShare (d)) ∗ (∃ d, owns (c : Thread nD τ) arg11 fullShare (d)) ∗ (∃ d, owns (c : Thread nD τ) arg12 fullShare (d)) ∗ (iprop(owns (c : Thread nD τ) arg2 fullShare (x0) ∗ owns (c : Thread nD τ) arg3 fullShare (x1) ∗ owns (c : Thread nD τ) arg4 fullShare (x2) ∗ owns (c : Thread nD τ) arg5 fullShare (x3) ∗ owns (c : Thread nD τ) arg6 fullShare (x4) ∗ owns (c : Thread nD τ) arg7 fullShare (x5) ∗ owns (c : Thread nD τ) arg8 fullShare (x6) ∗ owns (c : Thread nD τ) arg9 fullShare (k0_pay1 x2 (k0_pay5 x0 x1) (k0_pay4 x0 x1) (k0_pay4 x0 x1)) ∗ owns (c : Thread nD τ) arg10 fullShare (k0_pay7 (k0_pay6 x0 x1 x3) x4 x5) ∗ owns (c : Thread nD τ) arg11 fullShare (k0_pay8 (k0_pay6 x0 x1 x3) x6) ∗ (∃ s : Vec F S2x128x1024 .bf16, ⌜plane0 s = k0_pay4 x0 x1 ∧ plane1 s = k0_pay5 x0 x1⌝ ∗ owns (c : Thread nD τ) arg12 fullShare (s))) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12) K := by
  rw [cc0_inproj_eq_skeleton]; unfold cc0_inproj_skel
  simp only [k0_part1_eq_skeleton, k0_part2_eq_skeleton]; unfold k0_part1_skel k0_part2_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
  sl_exec (disch := first | sl_exact h0)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; swap; · iexact H9
    ipureintro
    exact (View.read_writes_full _ _ _ _ _).trans (congr4 k0_pay1 ((View.readAt_full _ _ _).trans hf4) ((readCov_plane1 _ _ _).trans (congr2 k0_pay5 ((View.readAt_full _ _ _).trans hf2) ((View.readAt_full _ _ _).trans hf3))) ((readCov_plane0 _ _ _).trans (congr2 k0_pay4 ((View.readAt_full _ _ _).trans hf2) ((View.readAt_full _ _ _).trans hf3))) ((readCov_plane0 _ _ _).trans (congr2 k0_pay4 ((View.readAt_full _ _ _).trans hf2) ((View.readAt_full _ _ _).trans hf3))))
  isplitl [H10]
  · iexists _; isplitr; swap; · iexact H10
    ipureintro
    exact (View.read_writes_full _ _ _ _ _).trans (congr3 k0_pay7 (congr3 k0_pay6 ((View.readAt_full _ _ _).trans hf2) ((View.readAt_full _ _ _).trans hf3) ((View.readAt_full _ _ _).trans hf5)) ((View.readAt_full _ _ _).trans hf6) ((View.readAt_full _ _ _).trans hf7))
  isplitl [H11]
  · iexists _; isplitr; swap; · iexact H11
    ipureintro
    exact (View.read_writes_full _ _ _ _ _).trans (congr2 k0_pay8 (congr3 k0_pay6 ((View.readAt_full _ _ _).trans hf2) ((View.readAt_full _ _ _).trans hf3) ((View.readAt_full _ _ _).trans hf5)) ((View.readAt_full _ _ _).trans hf8))
  iexists _; isplitr; swap
  · iexists _; isplitr; swap; · iexact H12
    ipureintro; rfl
  ipureintro
  exact ⟨(plane0_writes _ _ _ _).trans (congr2 k0_pay4 ((View.readAt_full _ _ _).trans hf2) ((View.readAt_full _ _ _).trans hf3)), (plane1_writes _ _ _ _).trans (congr2 k0_pay5 ((View.readAt_full _ _ _).trans hf2) ((View.readAt_full _ _ _).trans hf3))⟩

set_option maxHeartbeats 2000000 in
/-- A later column block: the kept parts times its own columns, everything else as it was. -/
theorem run_later (c : Dev nD) (i : grid0.Coords) (arg2 : Memref sig .tc .vmem S128x1024 .f32) (harg2 : arg2.IsWhole) (arg3 : Memref sig .tc .vmem S1x1024 .f32) (harg3 : arg3.IsWhole) (arg4 : Memref sig .tc .vmem S1024x1664 .f32) (harg4 : arg4.IsWhole) (arg5 : Memref sig .tc .vmem S1024x128 .f32) (harg5 : arg5.IsWhole) (arg6 : Memref sig .tc .vmem S128x512 .f32) (harg6 : arg6.IsWhole) (arg7 : Memref sig .tc .vmem S1x512 .f32) (harg7 : arg7.IsWhole) (arg8 : Memref sig .tc .vmem S1x128 .f32) (harg8 : arg8.IsWhole) (arg9 : Memref sig .tc .vmem S128x1664 .f32) (harg9 : arg9.IsWhole) (arg10 : Memref sig .tc .vmem S128x512 .f32) (harg10 : arg10.IsWhole) (arg11 : Memref sig .tc .vmem S128x128 .f32) (harg11 : arg11.IsWhole) (arg12 : Memref sig .tc .vmem S2x128x1024 .bf16) (harg12 : arg12.IsWhole)
    (x2 : Vec F S1024x1664 .f32) (k : Vec F S2x128x1024 .bf16)
    (h0 : ¬k0_cond1 i = 1#1) (E : Set ℕ) (K : PUnit → sProp 𝕄) :
    iprop(owns (c : Thread nD τ) arg4 fullShare (x2) ∗ (∃ d, owns (c : Thread nD τ) arg9 fullShare (d)) ∗ owns (c : Thread nD τ) arg12 fullShare (k) ∗ (iprop(owns (c : Thread nD τ) arg4 fullShare (x2) ∗ owns (c : Thread nD τ) arg9 fullShare (k0_pay1 x2 (plane1 k) (plane0 k) (plane0 k)) ∗ owns (c : Thread nD τ) arg12 fullShare (k)) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12) K := by
  rw [cc0_inproj_eq_skeleton]; unfold cc0_inproj_skel
  unfold owns
  iintro ⟨⟨%f4, %hf4, H4⟩, ⟨%d9, %f9, -, H9⟩, ⟨%f12, %hf12, H12⟩, Hk⟩
  obtain rfl := harg4.eq_unread hf4; obtain rfl := harg12.eq_unread hf12
  sl_exec (disch := first | sl_exact h0)
  sl_step
  iapply Hk
  isplitl [H4]
  · iexists _; isplitr; · ipureintro; exact harg4.read_unread _
    iexact H4
  isplitl [H9]
  · iexists _; isplitr; swap; · iexact H9
    ipureintro
    exact (View.read_writes_full _ _ _ _ _).trans (congr4 k0_pay1 ((View.readAt_full _ _ _).trans hf4) (congrArg plane1 hf12) (congrArg plane0 hf12) (congrArg plane0 hf12))
  iexists _; isplitr; swap; · iexact H12
  ipureintro
  exact harg12.read_unread _

end Cert.Kernel8Ideal.Sproj

end
-- ==== Proof.SprojIdeal.Frame.lean ====
/- The proof data of the sample rows' in-projection, its body at every point, and what a run leaves: the arguments as they were, every output
   at what the write-backs make of it, no counter raised. -/
module

public import proofs.«01_k».proof.Proof.SprojIdeal.Cases
public import Idealize.ShloMosaic.Lib.Claim

@[expose] public section

set_option maxRecDepth 16384

noncomputable section

namespace Cert.Kernel8Ideal.Sproj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel8Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

theorem lt_N (t : Fin cfg0.N) : t.val < 4 := lt_of_lt_of_eq t.isLt (show cfg0.N = 4 from N_0)

/-- The body's condition holds at the first column block of every row block. -/
theorem first_iff : ∀ t : Fin grid0.N, k0_cond1 (grid0.coords t) = 1#1 ↔ t.val % 4 = 0 := by decide +kernel

/-- The first point of `t`'s row block. -/
def head (t : Fin cfg0.N) : Fin cfg0.N := ⟨t.val - t.val % 4, lt_of_le_of_lt (Nat.sub_le _ _) t.isLt⟩

theorem head_first (t : Fin cfg0.N) (h : t.val % 4 = 0) : head t = t := Fin.ext (by show t.val - t.val % 4 = t.val; omega)

theorem head_later (t : Fin cfg0.N) (h : ¬t.val % 4 = 0) (hp : t.val - 1 < cfg0.N) : head ⟨t.val - 1, hp⟩ = head t :=
  Fin.ext (by show (t.val - 1) - (t.val - 1) % 4 = t.val - t.val % 4; omega)

/-! ## What the buffers hold after each point -/

/-- The high and the low part of the kept rows. -/
def hi (c : Dev nD) (t : Fin cfg0.N) : Vec F S1x128x1024 .bf16 := k0_pay4 (iblk m c 0 (head t)) (iblk m c 1 (head t))
def lo (c : Dev nD) (t : Fin cfg0.N) : Vec F S1x128x1024 .bf16 := k0_pay5 (iblk m c 0 (head t)) (iblk m c 1 (head t))

def zA (c : Dev nD) (t : Fin cfg0.N) : Vec F S128x1664 .f32 := k0_pay1 (iblk m c 2 t) (lo m c t) (hi m c t) (hi m c t)

def laA (c : Dev nD) (t : Fin cfg0.N) : Vec F S128x512 .f32 :=
  k0_pay7 (k0_pay6 (iblk m c 0 (head t)) (iblk m c 1 (head t)) (iblk m c 3 (head t))) (iblk m c 4 (head t)) (iblk m c 5 (head t))

def lfA (c : Dev nD) (t : Fin cfg0.N) : Vec F S128x128 .f32 :=
  k0_pay8 (k0_pay6 (iblk m c 0 (head t)) (iblk m c 1 (head t)) (iblk m c 3 (head t))) (iblk m c 6 (head t))

/-! ## The proof data -/

/-- The kept rows' buffer. -/
abbrev scM : Memref sig .tc .vmem S2x128x1024 .bf16 := Memref.whole cc0_scratch0

theorem rest_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

/-- The invariant before position `n`: at first anything; afterwards the two planes of the kept rows as the last point's row
    block has it. -/
def PhiS (c : Dev nD) : (n : ℕ) → n ≤ cfg0.N → sProp 𝕄
  | 0, _ => Pipeline.ΦA spec0 c
  | n + 1, hn => iprop((∃ s : Vec F S2x128x1024 .bf16, ⌜plane0 s = hi m c ⟨n, hn⟩ ∧ plane1 s = lo m c ⟨n, hn⟩⌝ ∗ owns (c : Thread nD τ) scM fullShare s) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = iprop((∃ s : Vec F S2x128x1024 .bf16, ⌜plane0 s = hi m c ⟨n - 1, by omega⟩ ∧ plane1 s = lo m c ⟨n - 1, by omega⟩⌝ ∗ owns (c : Thread nD τ) scM fullShare s) ∗ (∃ r, prngReg c r)) := by
  cases n with
  | zero => exact absurd rfl hz
  | succ n => rfl

/-- Before any point the kept rows' buffer holds something. -/
theorem PhiS_some (c : Dev nD) (n : ℕ) (h : n ≤ cfg0.N) :
    PhiS m c n h ⊢ iprop((∃ d, owns (c : Thread nD τ) scM fullShare d) ∗ (∃ r, prngReg c r)) := by
  by_cases hz : n = 0
  · rw [PhiS_zero m c n h hz, rest_eq]
  · rw [PhiS_pos m c n h hz]
    iintro ⟨⟨%s, -, HS⟩, Hg⟩
    isplitl [HS]
    · iexists _; iexact HS
    iexact Hg

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => zA m c t
    | ⟨8, _⟩ => laA m c t
    | ⟨9, _⟩ => lfA m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = zA m c t := by dsimp only [dats]
theorem after0_8 (c : Dev nD) (t : Fin cfg0.N) : (dats m 0 c).after 8 t = laA m c t := by dsimp only [dats]
theorem after0_9 (c : Dev nD) (t : Fin cfg0.N) : (dats m 0 c).after 9 t = lfA m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
/-! ## The outputs the body stores only at the first point -/

theorem idle8 (t : Fin cfg0.N) : cfg0.idle 8 (cfg0.grid.coords t) = !decide (t.val % 4 = 0) := by
  show (!(k0_cond1 (grid0.coords t) == 1#1)) = _
  have e1 : (k0_cond1 (grid0.coords t) == 1#1) = decide (t.val % 4 = 0) := by
    rw [Bool.eq_iff_iff, beq_iff_eq, decide_eq_true_iff]; exact first_iff t
  rw [e1]

theorem fresh8 (n : ℕ) (hn : n ≤ cfg0.N) : cfg0.fresh 8 n = decide (n % 4 = 0) := by
  refine cfg0.fresh_tab 8 (fun n => decide (n % 4 = 0)) (by decide) (fun t => ?_) n hn
  have hf' : (cfg0.win 8).flush t = decide (t.val % 4 = 3) := by
    rw [Bool.eq_iff_iff, decide_eq_true_iff]; exact flush0_8 t
  rw [hf', idle8]
  by_cases h6 : t.val % 4 = 3
  · have : (t.val + 1) % 4 = 0 := by omega
    simp [h6, this]
  · have : ¬(t.val + 1) % 4 = 0 := by omega
    simp only [h6, this, decide_false, Bool.false_or]
    by_cases h0 : t.val % 4 = 0 <;> simp [h0]

theorem laA_later (c : Dev nD) (t : Fin cfg0.N) (h : ¬t.val % 4 = 0) (hp : t.val - 1 < cfg0.N) : laA m c ⟨t.val - 1, hp⟩ = laA m c t := by
  unfold laA; rw [head_later t h hp]

theorem before8 (c : Dev nD) (t : Fin cfg0.N) (h0 : ¬t.val % 4 = 0) (d) : (dats m 0 c).before 8 t d = laA m c t := by
  have h := (dats m 0 c).before_out_traj 8 rfl (fun _ _ => rfl) (fun t ht hi hf => by
    rw [after0_8, after0_8]
    have h0 : ¬t.val % 4 = 0 := by
      rw [fresh8 t.val (Nat.le_of_lt t.isLt)] at hf; simpa using hf
    exact (laA_later m c t h0 _).symm) t.val t rfl d
  rw [h, fresh8 t.val (Nat.le_of_lt t.isLt)]
  simp only [h0, decide_false, Bool.false_eq_true, if_false]
  rw [after0_8]
  exact laA_later m c t h0 _

theorem stored8 (c : Dev nD) (t : Fin cfg0.N) (h : t.val % 4 = 0) :
    (dats m 0 c).leavesExact 8 t = owns (c : Thread nD τ) (st0_8 t) fullShare (laA m c t) := by
  rw [← after0_8]
  unfold Dat.leavesExact; rw [idle8 t, decide_eq_true h]; try rfl

theorem kept8 (c : Dev nD) (t : Fin cfg0.N) (h0 : ¬t.val % 4 = 0) :
    owns (c : Thread nD τ) (st0_8 t) fullShare (laA m c t) ⊢ ((dats m 0 c).leavesExact 8 t : sProp 𝕄) := by
  have hi : cfg0.idle 8 (cfg0.grid.coords t) = true := by rw [idle8 t, decide_eq_false h0]; rfl
  cases hf : (cfg0.win 8).flush t with
  | false =>
    rw [Dat.leavesExact_idle (dats m 0 c) 8 t hi hf]
    iintro H
    iexists (fun _ => default)
    rw [before8 m c t h0]
    iexact H
  | true =>
    have e : (dats m 0 c).leavesExact 8 t = owns (c : Thread nD τ) (st0_8 t) fullShare ((dats m 0 c).after 8 t) := by
      unfold Dat.leavesExact; rw [hi, hf]; try rfl
    rw [e, after0_8]

theorem idle9 (t : Fin cfg0.N) : cfg0.idle 9 (cfg0.grid.coords t) = !decide (t.val % 4 = 0) := by
  show (!(k0_cond1 (grid0.coords t) == 1#1)) = _
  have e1 : (k0_cond1 (grid0.coords t) == 1#1) = decide (t.val % 4 = 0) := by
    rw [Bool.eq_iff_iff, beq_iff_eq, decide_eq_true_iff]; exact first_iff t
  rw [e1]

theorem fresh9 (n : ℕ) (hn : n ≤ cfg0.N) : cfg0.fresh 9 n = decide (n % 4 = 0) := by
  refine cfg0.fresh_tab 9 (fun n => decide (n % 4 = 0)) (by decide) (fun t => ?_) n hn
  have hf' : (cfg0.win 9).flush t = decide (t.val % 4 = 3) := by
    rw [Bool.eq_iff_iff, decide_eq_true_iff]; exact flush0_9 t
  rw [hf', idle9]
  by_cases h6 : t.val % 4 = 3
  · have : (t.val + 1) % 4 = 0 := by omega
    simp [h6, this]
  · have : ¬(t.val + 1) % 4 = 0 := by omega
    simp only [h6, this, decide_false, Bool.false_or]
    by_cases h0 : t.val % 4 = 0 <;> simp [h0]

theorem lfA_later (c : Dev nD) (t : Fin cfg0.N) (h : ¬t.val % 4 = 0) (hp : t.val - 1 < cfg0.N) : lfA m c ⟨t.val - 1, hp⟩ = lfA m c t := by
  unfold lfA; rw [head_later t h hp]

theorem before9 (c : Dev nD) (t : Fin cfg0.N) (h0 : ¬t.val % 4 = 0) (d) : (dats m 0 c).before 9 t d = lfA m c t := by
  have h := (dats m 0 c).before_out_traj 9 rfl (fun _ _ => rfl) (fun t ht hi hf => by
    rw [after0_9, after0_9]
    have h0 : ¬t.val % 4 = 0 := by
      rw [fresh9 t.val (Nat.le_of_lt t.isLt)] at hf; simpa using hf
    exact (lfA_later m c t h0 _).symm) t.val t rfl d
  rw [h, fresh9 t.val (Nat.le_of_lt t.isLt)]
  simp only [h0, decide_false, Bool.false_eq_true, if_false]
  rw [after0_9]
  exact lfA_later m c t h0 _

theorem stored9 (c : Dev nD) (t : Fin cfg0.N) (h : t.val % 4 = 0) :
    (dats m 0 c).leavesExact 9 t = owns (c : Thread nD τ) (st0_9 t) fullShare (lfA m c t) := by
  rw [← after0_9]
  unfold Dat.leavesExact; rw [idle9 t, decide_eq_true h]; try rfl

theorem kept9 (c : Dev nD) (t : Fin cfg0.N) (h0 : ¬t.val % 4 = 0) :
    owns (c : Thread nD τ) (st0_9 t) fullShare (lfA m c t) ⊢ ((dats m 0 c).leavesExact 9 t : sProp 𝕄) := by
  have hi : cfg0.idle 9 (cfg0.grid.coords t) = true := by rw [idle9 t, decide_eq_false h0]; rfl
  cases hf : (cfg0.win 9).flush t with
  | false =>
    rw [Dat.leavesExact_idle (dats m 0 c) 9 t hi hf]
    iintro H
    iexists (fun _ => default)
    rw [before9 m c t h0]
    iexact H
  | true =>
    have e : (dats m 0 c).leavesExact 9 t = owns (c : Thread nD τ) (st0_9 t) fullShare ((dats m 0 c).after 9 t) := by
      unfold Dat.leavesExact; rw [hi, hf]; try rfl
    rw [e, after0_9]

/-! ## The body's obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ (dats m 0 c).leavesExact 8 t
    ∗ (dats m 0 c).leavesExact 9 t)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl, after0_0, after0_1, after0_2, after0_3, after0_4, after0_5, after0_6, after0_7]
  rw [show (dats m 0 c).Φ t.succ = iprop((∃ s : Vec F S2x128x1024 .bf16, ⌜plane0 s = hi m c t ∧ plane1 s = lo m c t⌝ ∗ owns (c : Thread nD τ) scM fullShare s) ∗ (∃ r, prngReg c r)) from rfl,
    show (dats m 0 c).Φ t.castSucc = PhiS m c t.val (Nat.le_of_lt t.isLt) from by dsimp only [dats]; exact Pipeline.Dat.Φ_castSucc (PhiS m c) t]
  by_cases h0 : t.val % 4 = 0
  · rw [stored8 m c t h0, stored9 m c t h0]
    unfold zA laA lfA hi lo
    rw [head_first t h0]
    refine (sep_mono (PhiS_some m c _ _) .rfl).trans ?_
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run_first c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) ((first_iff t).mpr h0) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS]; · iexact HS
    iintro ⟨H0, H1, H2, H3, H4, H5, H6, H7, H8, H9, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · have hz : t.val ≠ 0 := fun h => h0 (by rw [h])
    rw [PhiS_pos m c _ _ hz]
    simp only [before8 m c t h0, before9 m c t h0]
    iintro ⟨⟨⟨%s, %hs, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    have hs' : plane0 s = hi m c t ∧ plane1 s = lo m c t :=
      ⟨hs.1.trans (by unfold hi; rw [head_later t h0]), hs.2.trans (by unfold lo; rw [head_later t h0])⟩
    have ez : zA m c t = k0_pay1 (iblk m c 2 t) (plane1 s) (plane0 s) (plane0 s) := by unfold zA; rw [hs'.1, hs'.2]
    rw [ez]
    iapply (run_later c (grid0.coords t) _ _ _ _ _ _ _ _ _ _ _ _ _ _ _ _ _ _ _ _ _ _ (iblk m c 2 t) s (fun h => h0 ((first_iff t).mp h)) Set.univ _)
    isplitl [H2]; · iexact H2
    isplitl [H7]; · iexists _; iexact H7
    isplitl [HS]; · iexact HS
    iintro ⟨H2, H7, HS⟩
    isplitl [HS Hg]
    · isplitl [HS]
      · iexists s; isplitr; · ipureintro; exact hs'
        iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iapply (kept8 m c t h0); iexact H8
    iapply (kept9 m c t h0); iexact H9

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

theorem hin (c : Dev nD) : Pipeline.ΦA spec0 c ⊢ (dats m 0 c).Φ 0 := by
  rw [show (dats m 0 c).Φ 0 = PhiS m c 0 (Nat.zero_le _) from rfl, PhiS_zero m c 0 _ rfl]
theorem hout (c : Dev nD) : (dats m 0 c).Φ (Fin.last cfg0.N) ⊢ Pipeline.ΦA spec0 c := by
  rw [show (dats m 0 c).Φ (Fin.last cfg0.N) = PhiS m c cfg0.N (Nat.le_refl _) from rfl, rest_eq]
  exact PhiS_some m c _ _

set_option backward.isDefEq.respectTransparency.types false in
/-- Every run terminates with each array of the call at what its points leave, and no counter raised. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The arguments end unchanged and no counter is raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

/-- What a run leaves in the three outputs. -/
theorem run_outputs : θ_run defs (onTc (τ := τ) (main (F := F))) ⟨m, fun _ => 0, ρ⟩ (fun r => ∀ c : Dev nD,
      r.2.mem ((c.tc : Thread nD τ).loc (Pipeline.arrRef spec0 7)) = (dats m 0 c).arrAt 7 cfg0.N
      ∧ r.2.mem ((c.tc : Thread nD τ).loc (Pipeline.arrRef spec0 8)) = (dats m 0 c).arrAt 8 cfg0.N
      ∧ r.2.mem ((c.tc : Thread nD τ).loc (Pipeline.arrRef spec0 9)) = (dats m 0 c).arrAt 9 cfg0.N) :=
  (θ_run defs _ _).mono (fun _ h c => ⟨(h.1 c).1 7, (h.1 c).1 8, (h.1 c).1 9⟩) (run_quiescent m ρ)

end Cert.Kernel8Ideal.Sproj

end
-- ==== Proof.SprojIdeal.Value.lean ====
/- The arrays the sample rows' call leaves, its factors real. -/
module

public import proofs.«01_k».proof.Proof.SprojIdeal.Host
public import proofs.«01_k».proof.Proof.SprojIdeal.Frame

@[expose] public section

set_option maxRecDepth 16384

noncomputable section

namespace Cert.Kernel8Ideal.Sproj

open Idealize.ShloMosaic Idealize.ShloMosaic.TcCoe Idealize.SL.Sem
open Cert.Kernel8Ideal Cert.Kernel8Ideal.Gen Cert.Sproj
open Idealize.ShloMosaic.Pipeline (Dat)
open Cert.Merge (norm1024)
open Cert.Inproj (proj decay logsig)

variable (m : (ℓ : Loc nD τ sig) → Buf (Elt Ideal) ℓ)

abbrev xA (c : Dev nD) : FVec Ideal S128x1024 .f32 := V m c main_arg0
abbrev nA (c : Dev nD) : FVec Ideal S1024 .f32 := m ((c : Thread nD τ).loc main_arg1)
abbrev wA (c : Dev nD) : FVec Ideal S1024x6680 .f32 := m ((c : Thread nD τ).loc main_arg2)
abbrev aA (c : Dev nD) : FVec Ideal S16x512 .f32 := m ((c : Thread nD τ).loc main_arg3)
abbrev bA (c : Dev nD) : FVec Ideal S512 .f32 := m ((c : Thread nD τ).loc main_arg4)
abbrev gA (c : Dev nD) : FVec Ideal S8 .f32 := m ((c : Thread nD τ).loc main_arg5)

/-! ## What the host operations before the call leave -/

theorem V_v26 (c : Dev nD) : V m c main_v26 = shapeCast S1x1024 (nA m c) shapeCasts_S1024_S1x1024 := by unfold V; after_results; try rfl
theorem V_v11 (c : Dev nD) : V m c main_v11 = wide (wA m c) := by unfold V; after_results; try rfl
theorem V_v13 (c : Dev nD) : V m c main_v13 = small (wA m c) := by unfold V; after_results; try rfl
theorem V_v19 (c : Dev nD) : V m c main_v19 = padded (aA m c) := by unfold V; after_results; try rfl
theorem V_v20 (c : Dev nD) : V m c main_v20 = shapeCast S1x512 (bA m c) shapeCasts_S512_S1x512 := by unfold V; after_results; try rfl
theorem V_v25 (c : Dev nD) : V m c main_v25 = bias (gA m c) := by unfold V; after_results; try rfl

/-! ## The blocks -/

/-- Column `j` of point `t`'s column block. -/
def colOf (t : Fin cfg0.N) (j : Fin 1664) : Fin 6656 := ⟨t.val % 4 * 1664 + j.val, by have := j.isLt; omega⟩

theorem coord1 : ∀ t : Fin grid0.N, (grid0.coords t 1).val = t.val % 4 := by decide +kernel
theorem coord0 : ∀ t : Fin grid0.N, (grid0.coords t 0).val = 0 := by decide +kernel

theorem iblk0_at (c : Dev nD) (t : Fin cfg0.N) (r : Fin 128) (d : Fin 1024) : iblk m c 0 t (ix2 r d) = xA m c (ix2 r d) := by
  refine congrArg (V m c main_arg0) (funext fun a => Fin.ext ?_)
  have e0 := coord0 t
  match a with
  | ⟨0, _⟩ =>
    show (BitVec.ofNat 32 (grid0.coords t 0).val).toNat * 128 + 1 * r.val = r.val
    rw [BitVec.toNat_ofNat, e0]; omega
  | ⟨1, _⟩ => show 0 * 1024 + 1 * d.val = d.val; omega

theorem iblk2_at (c : Dev nD) (t : Fin cfg0.N) (k : Fin 1024) (j : Fin 1664) :
    iblk m c 2 t (ix2 k j) = wA m c (ix2 k (src (colOf t j))) := by
  have e : iblk m c 2 t (ix2 k j) = V m c main_v11 (ix2 k (colOf t j)) := by
    refine congrArg (V m c main_v11) (funext fun a => Fin.ext ?_)
    have e1 := coord1 t
    match a with
    | ⟨0, _⟩ =>
      show 0 * 1024 + 1 * k.val = k.val
      omega
    | ⟨1, _⟩ =>
      show (BitVec.ofNat 32 (grid0.coords t 1).val).toNat * 1664 + 1 * j.val = t.val % 4 * 1664 + j.val
      rw [BitVec.toNat_ofNat, e1]; omega
  rw [e, V_v11 m c]
  exact wide_at _ _ _

theorem iblk1_at (c : Dev nD) (t : Fin cfg0.N) (k : Fin 1) (d : Fin 1024) : iblk m c 1 t (ix2 k d) = nA m c (ix1 d) := by
  have e : iblk m c 1 t (ix2 k d) = V m c main_v26 (ix2 k d) := by
    refine congrArg (V m c main_v26) (funext fun a => Fin.ext ?_)
    match a with
    | ⟨0, _⟩ => show 0 * 1 + 1 * k.val = k.val; omega
    | ⟨1, _⟩ => show 0 * 1024 + 1 * d.val = d.val; omega
  rw [e, V_v26 m c]
  pointwise

theorem iblk3_at (c : Dev nD) (t : Fin cfg0.N) (k : Fin 1024) (d : Fin 128) : iblk m c 3 t (ix2 k d) = small (wA m c) (ix2 k d) := by
  have e : iblk m c 3 t (ix2 k d) = V m c main_v13 (ix2 k d) := by
    refine congrArg (V m c main_v13) (funext fun a => Fin.ext ?_)
    match a with
    | ⟨0, _⟩ => show 0 * 1024 + 1 * k.val = k.val; omega
    | ⟨1, _⟩ => show 0 * 128 + 1 * d.val = d.val; omega
  rw [e, V_v13 m c]

theorem iblk4_at (c : Dev nD) (t : Fin cfg0.N) (k : Fin 128) (d : Fin 512) : iblk m c 4 t (ix2 k d) = padded (aA m c) (ix2 k d) := by
  have e : iblk m c 4 t (ix2 k d) = V m c main_v19 (ix2 k d) := by
    refine congrArg (V m c main_v19) (funext fun a => Fin.ext ?_)
    match a with
    | ⟨0, _⟩ => show 0 * 128 + 1 * k.val = k.val; omega
    | ⟨1, _⟩ => show 0 * 512 + 1 * d.val = d.val; omega
  rw [e, V_v19 m c]

theorem iblk5_at (c : Dev nD) (t : Fin cfg0.N) (k : Fin 1) (d : Fin 512) : iblk m c 5 t (ix2 k d) = bA m c (ix1 d) := by
  have e : iblk m c 5 t (ix2 k d) = V m c main_v20 (ix2 k d) := by
    refine congrArg (V m c main_v20) (funext fun a => Fin.ext ?_)
    match a with
    | ⟨0, _⟩ => show 0 * 1 + 1 * k.val = k.val; omega
    | ⟨1, _⟩ => show 0 * 512 + 1 * d.val = d.val; omega
  rw [e, V_v20 m c]
  pointwise

theorem iblk6_at (c : Dev nD) (t : Fin cfg0.N) (k : Fin 1) (d : Fin 128) : iblk m c 6 t (ix2 k d) = bias (gA m c) (ix2 k d) := by
  have e : iblk m c 6 t (ix2 k d) = V m c main_v25 (ix2 k d) := by
    refine congrArg (V m c main_v25) (funext fun a => Fin.ext ?_)
    match a with
    | ⟨0, _⟩ => show 0 * 1 + 1 * k.val = k.val; omega
    | ⟨1, _⟩ => show 0 * 128 + 1 * d.val = d.val; omega
  rw [e, V_v25 m c]

/-! ## What one point computes -/

abbrev xrow (c : Dev nD) (r : Fin 128) : Fin 1024 → EReal := fun d => xA m c (ix2 r d)
abbrev nvec (c : Dev nD) : Fin 1024 → EReal := fun d => nA m c (ix1 d)

theorem nrow_at (c : Dev nD) (t : Fin cfg0.N) (r : Fin 128) (k : Fin 1024) :
    nrow (iblk m c 0 t) (iblk m c 1 t) r k = norm1024 (xrow m c r) (nvec m c) k := by
  show norm1024 _ _ _ = norm1024 _ _ _
  rw [funext fun d => iblk0_at m c t r d, funext fun d => iblk1_at m c t 0 d]

theorem small_lr (w : FVec Ideal S1024x6680 .f32) (k : Fin 1024) (p : Fin 16) :
    small w (ix2 k ⟨8 + p.val, by omega⟩) = w (ix2 k ⟨3072 + p.val, by omega⟩) := by
  rw [small_at, dif_neg (by show ¬8 + p.val < 8; omega), dif_pos (by show 8 + p.val - 8 < 16; omega)]
  exact col_congr _ _ _ _ (by show 3072 + (8 + p.val - 8) = 3072 + p.val; omega)

section
variable (c : Dev nD) (hn : ∀ d, Re (nA m c (ix1 d))) (hw : ∀ k j, Re (wA m c (ix2 k j)))
include hn hw

omit hw in
theorem row_re (r : Fin 128) (k : Fin 1024) : Re (norm1024 (xrow m c r) (nvec m c) k) := norm_re _ _ hn k

theorem zA_at (t : Fin cfg0.N) (r : Fin 128) (j : Fin 1664) :
    zA m c t (ix2 r j) = proj (xrow m c r) (nvec m c) (wA m c) (src (colOf t j)) := by
  unfold zA hi lo
  refine (pay1_at _ _ _ r j).trans ?_
  simp only [pay4_at, pay5_at, nrow_at, iblk2_at]
  exact split_sum (fun k => norm1024 (xrow m c r) (nvec m c) k) (fun k => wA m c (ix2 k (src (colOf t j)))) (row_re m c hn r) fun k => hw k _

/-- The row's product with column `p` of the small weight. -/
abbrev low (r p : Fin 128) : EReal := ∑ k : Fin 1024, norm1024 (xrow m c r) (nvec m c) k * small (wA m c) (ix2 k p)

theorem pay6_low (t : Fin cfg0.N) (r p : Fin 128) : k0_pay6 (F := Ideal) (iblk m c 0 t) (iblk m c 1 t) (iblk m c 3 t) (ix2 r p) = low m c r p := by
  refine (pay6_at (iblk m c 0 t) (iblk m c 1 t) (iblk m c 3 t) r p).trans ?_
  simp only [nrow_at, iblk3_at]
  exact split_sum (fun k => norm1024 (xrow m c r) (nvec m c) k) (fun k => small (wA m c) (ix2 k p)) (row_re m c hn r) fun k => small_re _ hw k p

theorem low_re (r p : Fin 128) : Re (low m c r p) := Re.sum _ _ fun k => (row_re m c hn r k).mul (small_re _ hw k p)

theorem laA_at (ha : ∀ p j, Re (aA m c (ix2 p j))) (t : Fin cfg0.N) (r : Fin 128) (j : Fin 512) :
    laA m c t (ix2 r j) = decay (xrow m c r) (nvec m c) (wA m c) (aA m c) (bA m c) j := by
  unfold laA decay
  refine (pay7_at _ _ _ r j).trans (congrArg (fun q => logsig q * Ideal.ofBits .f32 0x3D800000#32) ?_)
  simp only [pay6_low m c hn hw, iblk4_at, iblk5_at]
  refine congrArg (· + bA m c (ix1 j)) ?_
  refine (split_sum (fun p => low m c r p) (fun p => padded (aA m c) (ix2 p j)) (low_re m c hn hw r) fun p => padded_re _ ha p j).trans ?_
  refine (Cert.Kernel2Ideal.Inproj.padded_sum (aA m c) (fun p => low m c r p) j).trans (Finset.sum_congr rfl fun p _ => ?_)
  refine congrArg (· * aA m c (ix2 p j)) (Finset.sum_congr rfl fun k _ => ?_)
  rw [small_lr]

theorem lfA_at (t : Fin cfg0.N) (r p : Fin 128) :
    lfA m c t (ix2 r p) = logsig (lane (xrow m c r) (nvec m c) (wA m c) (gA m c) p) := by
  unfold lfA
  refine (pay8_at _ _ r p).trans (congrArg logsig ?_)
  rw [pay6_low m c hn hw, iblk6_at]
  unfold lane low
  by_cases h : p.val < 8
  · rw [dif_pos h, bias_hit (gA m c) ⟨p.val, h⟩ p rfl]
    refine congrArg (· + gA m c (ix1 ⟨p.val, h⟩)) (Finset.sum_congr rfl fun k _ => ?_)
    rw [small_at, dif_pos h]
  rw [dif_neg h, bias_miss (gA m c) p h, add_zero]
  by_cases h2 : p.val - 8 < 16
  · rw [dif_pos h2]
    refine Finset.sum_congr rfl fun k _ => ?_
    rw [small_at, dif_neg h, dif_pos h2]
  · rw [dif_neg h2]
    refine Finset.sum_eq_zero fun k _ => ?_
    rw [small_at, dif_neg h, dif_neg h2, mul_zero]

end

/-! ## The arrays -/

theorem emb7 (t : Fin cfg0.N) (y : S128x1664.Idx) :
    (((cfg0.win 7).blk t).view.emb y : S128x6656.Idx) = ix2 (y 0) (colOf t (y 1)) := by
  refine funext fun a => Fin.ext ?_
  have e0 := coord0 t
  match a with
  | ⟨0, _⟩ =>
    show (BitVec.ofNat 32 (grid0.coords t 0).val).toNat * 128 + 1 * (y 0).val = (y 0).val
    rw [BitVec.toNat_ofNat, e0]; omega
  | ⟨1, _⟩ =>
    show (BitVec.ofNat 32 (grid0.coords t 1).val).toNat * 1664 + 1 * (y 1).val = t.val % 4 * 1664 + (y 1).val
    rw [BitVec.toNat_ofNat, coord1 t]; omega

theorem emb8 (t : Fin cfg0.N) (y : S128x512.Idx) :
    (((cfg0.win 8).blk t).view.emb y : S128x512.Idx) = ix2 (y 0) (y 1) := by
  refine funext fun a => Fin.ext ?_
  have e0 := coord0 t
  match a with
  | ⟨0, _⟩ =>
    show (BitVec.ofNat 32 (grid0.coords t 0).val).toNat * 128 + 1 * (y 0).val = (y 0).val
    rw [BitVec.toNat_ofNat, e0]; omega
  | ⟨1, _⟩ =>
    show 0 * 512 + 1 * (y 1).val = (y 1).val
    omega

theorem emb9 (t : Fin cfg0.N) (y : S128x128.Idx) :
    (((cfg0.win 9).blk t).view.emb y : S128x128.Idx) = ix2 (y 0) (y 1) := by
  refine funext fun a => Fin.ext ?_
  have e0 := coord0 t
  match a with
  | ⟨0, _⟩ =>
    show (BitVec.ofNat 32 (grid0.coords t 0).val).toNat * 128 + 1 * (y 0).val = (y 0).val
    rw [BitVec.toNat_ofNat, e0]; omega
  | ⟨1, _⟩ =>
    show 0 * 128 + 1 * (y 1).val = (y 1).val
    omega

abbrev outZA (c : Dev nD) : FVec Ideal S128x6656 .f32 := outZ (xA m c) (nA m c) (wA m c)
abbrev outLA (c : Dev nD) : FVec Ideal S128x512 .f32 := outL (xA m c) (nA m c) (wA m c) (aA m c) (bA m c)
abbrev outFA (c : Dev nD) : FVec Ideal S128x128 .f32 := outF (xA m c) (nA m c) (wA m c) (gA m c)

section
variable (c : Dev nD) (hn : ∀ d, Re (nA m c (ix1 d))) (hw : ∀ k j, Re (wA m c (ix2 k j)))
include hn hw

theorem final7 : (dats m 0 c).arrAt 7 cfg0.N = outZA m c := by
  refine (dats m 0 c).arrAt_eq_of_covers 7 _ (by decide +kernel) fun t hf (y : S128x1664.Idx) => ?_
  refine Eq.trans ?_ (congrArg (outZA m c) (emb7 t y).symm)
  show (dats m 0 c).after 7 t y = _
  rw [after0_7, eq_ix2 y]
  exact zA_at m c hn hw t (y 0) (y 1)

theorem final8 (ha : ∀ p j, Re (aA m c (ix2 p j))) : (dats m 0 c).arrAt 8 cfg0.N = outLA m c := by
  refine (dats m 0 c).arrAt_eq_of_covers 8 _ (by decide +kernel) fun t hf (y : S128x512.Idx) => ?_
  refine Eq.trans ?_ (congrArg (outLA m c) (emb8 t y).symm)
  show (dats m 0 c).after 8 t y = _
  rw [after0_8, eq_ix2 y]
  exact laA_at m c hn hw ha t (y 0) (y 1)

theorem final9 : (dats m 0 c).arrAt 9 cfg0.N = outFA m c := by
  refine (dats m 0 c).arrAt_eq_of_covers 9 _ (by decide +kernel) fun t hf (y : S128x128.Idx) => ?_
  refine Eq.trans ?_ (congrArg (outFA m c) (emb9 t y).symm)
  show (dats m 0 c).after 9 t y = _
  rw [after0_9, eq_ix2 y]
  exact lfA_at m c hn hw t (y 0) (y 1)

end

end Cert.Kernel8Ideal.Sproj

end
-- ==== Proof.SprojIdeal.Ref.lean ====
/- The reference's results of the sample rows' projection are the projected rows, the logarithms of the decay and the logarithms of the
   small columns. -/
module

public import proofs.«01_k».proof.Proof.SprojIdeal.Spec
public import proofs.«01_k».proof.Proof.Gen.Reference8Ideal.Run

@[expose] public section

set_option maxRecDepth 16384

noncomputable section

namespace Cert.Reference8Ideal.Sproj

open Idealize.ShloMosaic Idealize.ShloMosaic.TcCoe Idealize.SL.Sem
open Cert.Reference8Ideal Cert.Reference8Ideal.Gen Cert.Sproj
open Cert.Inproj (proj decay logsig logsig_softplus div_sixteen)

variable (m : (ℓ : Loc nD τ sig) → Buf (Elt Ideal) ℓ)

abbrev xV (c : Dev nD) : FVec Ideal S128x1024 .f32 := m ((c.tc : Thread nD τ).loc main_arg0)
abbrev nV (c : Dev nD) : FVec Ideal S1024 .f32 := m ((c.tc : Thread nD τ).loc main_arg1)
abbrev wV (c : Dev nD) : FVec Ideal S1024x6680 .f32 := m ((c.tc : Thread nD τ).loc main_arg2)
abbrev aV (c : Dev nD) : FVec Ideal S16x512 .f32 := m ((c.tc : Thread nD τ).loc main_arg3)
abbrev bV (c : Dev nD) : FVec Ideal S512 .f32 := m ((c.tc : Thread nD τ).loc main_arg4)
abbrev gV (c : Dev nD) : FVec Ideal S8 .f32 := m ((c.tc : Thread nD τ).loc main_arg5)

/-- An entry of the projection written out, its column named in another way. -/
theorem proj_congr (x : FVec Ideal S128x1024 .f32) (n : FVec Ideal S1024 .f32) (w : FVec Ideal S1024x6680 .f32) (r r' : Fin 128) (p q : Fin 6680)
    (hr : r.val = r'.val) (h : p.val = q.val) :
    (∑ k : Fin 1024, x (ix2 r k) * Ideal.rsqrt (Ideal.div (∑ k : Fin 1024, x (ix2 r k) * x (ix2 r k)) (Ideal.ofBits .f32 0x44800000#32) + Ideal.ofBits .f32 0x358637BD#32)
      * n (ix1 k) * w (ix2 k p)) = proj (fun d => x (ix2 r' d)) (fun d => n (ix1 d)) w q := by
  obtain rfl := Fin.ext h
  obtain rfl := Fin.ext hr
  rfl

/-- The logarithm of the sigmoid as the host computes it, guarded against values that are not numbers. -/
theorem softplus_eq (s t : EReal) (h : s = t) [Decidable (-s ≠ -s)] :
    -(if -s ≠ -s then -s else max (-s) 0 + Ideal.log1p (Ideal.exp (-FloatOps.absf (F := Ideal) (φ := .f32) (-s)))) = logsig t := by
  subst h
  rw [if_neg fun q => q rfl]
  exact logsig_softplus s

set_option maxRecDepth 200000 in
theorem outZ_eq (c : Dev nD) : Value.res_main_v38 m c = outZ (xV m c) (nV m c) (wV m c) := by
  unfold Value.res_main_v38
  refine funext fun (i : S128x6656.Idx) => ?_
  obtain ⟨r, j, rfl⟩ : ∃ (r : Fin 128) (j : Fin 6656), i = ix2 r j := ⟨i 0, i 1, eq_ix2 i⟩
  show _ = proj (fun d => xV m c (ix2 r d)) (fun d => nV m c (ix1 d)) (wV m c) (src j)
  generalize hq : proj (fun d => xV m c (ix2 r d)) (fun d => nV m c (ix1 d)) (wV m c) (src j) = q
  pointwise!
  subst hq
  have hj := j.isLt
  by_cases h0 : j.val < 1024
  · refine (dif_pos h0).trans (proj_congr (xV m c) (nV m c) (wV m c) r r _ (src j) rfl (by simp only [src_val]; split_ifs <;> omega))
  refine (dif_neg h0).trans ?_
  by_cases h1 : j.val - 1024 < 1024
  · refine (dif_pos h1).trans (proj_congr (xV m c) (nV m c) (wV m c) r r _ (src j) rfl (by simp only [src_val]; split_ifs <;> omega))
  refine (dif_neg h1).trans ?_
  by_cases h2 : j.val - 1024 - 1024 < 1024
  · refine (dif_pos h2).trans (proj_congr (xV m c) (nV m c) (wV m c) r r _ (src j) rfl (by simp only [src_val]; split_ifs <;> omega))
  refine (dif_neg h2).trans ?_
  by_cases h3 : j.val - 1024 - 1024 - 1024 < 1024
  · refine (dif_pos h3).trans (proj_congr (xV m c) (nV m c) (wV m c) r r _ (src j) rfl (by simp only [src_val]; split_ifs <;> omega))
  refine (dif_neg h3).trans ?_
  by_cases h4 : j.val - 1024 - 1024 - 1024 - 1024 < 512
  · refine (dif_pos h4).trans (proj_congr (xV m c) (nV m c) (wV m c) r r _ (src j) rfl (by simp only [src_val]; split_ifs <;> omega))
  refine (dif_neg h4).trans ?_
  by_cases h5 : j.val - 1024 - 1024 - 1024 - 1024 - 512 < 512
  · refine (dif_pos h5).trans (proj_congr (xV m c) (nV m c) (wV m c) r r _ (src j) rfl (by simp only [src_val]; split_ifs <;> omega))
  refine (dif_neg h5).trans ?_
  by_cases h6 : j.val - 1024 - 1024 - 1024 - 1024 - 512 - 512 < 512
  · refine (dif_pos h6).trans (proj_congr (xV m c) (nV m c) (wV m c) r r _ (src j) rfl (by simp only [src_val]; split_ifs <;> omega))
  refine (dif_neg h6).trans ?_
  by_cases h7 : j.val - 1024 - 1024 - 1024 - 1024 - 512 - 512 - 512 < 512
  · refine (dif_pos h7).trans (proj_congr (xV m c) (nV m c) (wV m c) r r _ (src j) rfl (by simp only [src_val]; split_ifs <;> omega))
  refine (dif_neg h7).trans ?_
  exact proj_congr (xV m c) (nV m c) (wV m c) r r _ (src j) rfl (by simp only [src_val]; split_ifs <;> omega)

theorem outL_eq (c : Dev nD) : Value.res_main_v31 m c = outL (xV m c) (nV m c) (wV m c) (aV m c) (bV m c) := by
  unfold Value.res_main_v31
  refine funext fun (i : S128x512.Idx) => ?_
  obtain ⟨r, j, rfl⟩ : ∃ (r : Fin 128) (j : Fin 512), i = ix2 r j := ⟨i 0, i 1, eq_ix2 i⟩
  show _ = decay (fun d => xV m c (ix2 r d)) (fun d => nV m c (ix1 d)) (wV m c) (aV m c) (bV m c) j
  unfold decay
  rw [← div_sixteen]
  generalize hq : logsig _ = q
  pointwise!
  subst hq
  refine congrArg (fun q => Ideal.div q (Ideal.ofBits .f32 0x41800000#32)) (softplus_eq _ _ ?_)
  rfl

set_option maxRecDepth 200000 in
theorem outF_eq (c : Dev nD) : Value.res_main_v37 m c = outF (xV m c) (nV m c) (wV m c) (gV m c) := by
  unfold Value.res_main_v37
  refine funext fun (i : S128x128.Idx) => ?_
  obtain ⟨r, p, rfl⟩ : ∃ (r : Fin 128) (p : Fin 128), i = ix2 r p := ⟨i 0, i 1, eq_ix2 i⟩
  show _ = logsig (lane (fun d => xV m c (ix2 r d)) (fun d => nV m c (ix1 d)) (wV m c) (gV m c) p)
  generalize hq : logsig _ = q
  pointwise!
  subst hq
  refine softplus_eq _ _ ?_
  unfold lane
  by_cases h : p.val < 8
  · refine (dif_pos h).trans (Eq.trans ?_ (dif_pos h).symm)
    rfl
  refine (dif_neg h).trans (Eq.trans ?_ (dif_neg h).symm)
  by_cases h2 : p.val - 8 < 16
  · refine (dif_pos h2).trans (Eq.trans ?_ (dif_pos h2).symm)
    rfl
  rw [dif_neg h2, dif_neg h2]

theorem run (ρ : Dev nD → PrngReg) : θ_run defs (onTc (τ := τ) (main (F := Ideal))) ⟨m, fun _ => 0, ρ⟩ fun r => ∀ c : Dev nD,
      r.2.mem ((c.tc : Thread nD τ).loc main_v38) = outZ (xV m c) (nV m c) (wV m c)
      ∧ r.2.mem ((c.tc : Thread nD τ).loc main_v31) = outL (xV m c) (nV m c) (wV m c) (aV m c) (bV m c)
      ∧ r.2.mem ((c.tc : Thread nD τ).loc main_v37) = outF (xV m c) (nV m c) (wV m c) (gV m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ?_) (Value.run m ρ)
  obtain ⟨h0, h1, h2, hr⟩ := h c
  exact ⟨h0.trans (outZ_eq m c), h1.trans (outL_eq m c), h2.trans (outF_eq m c), hr⟩

end Cert.Reference8Ideal.Sproj

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.ReferenceIdeal.Run
public import proofs.«01_k».proof.Proof.Gen.Pre_experts_in_range
public import proofs.«01_k».proof.Proof.Gen.Kernel2
public import proofs.«01_k».proof.Proof.Gen.Kernel2.Skeleton
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Pre_finite
public import proofs.«01_k».proof.Proof.Gen.Pre_finite8
public import proofs.«01_k».proof.Proof.Moe.Ok
public import proofs.«01_k».proof.Proof.MoeIdeal.Value
public import proofs.«01_k».proof.Proof.MoeRef.Value
public import proofs.«01_k».proof.Proof.Inproj.Frame
public import proofs.«01_k».proof.Proof.InprojIdeal.Value
public import proofs.«01_k».proof.Proof.InprojIdeal.Ref
public import proofs.«01_k».proof.Proof.Ffn.Value
public import proofs.«01_k».proof.Proof.Ffn.Ref
public import proofs.«01_k».proof.Proof.Merge.Value
public import proofs.«01_k».proof.Proof.Merge.Ref
public import proofs.«01_k».proof.Proof.Fox.Fin
public import proofs.«01_k».proof.Proof.Fox.Value
public import proofs.«01_k».proof.Proof.Fox.Ref
public import proofs.«01_k».proof.Proof.Combine.Value6
public import proofs.«01_k».proof.Proof.Combine.Ref6
public import proofs.«01_k».proof.Proof.Combine.Value7
public import proofs.«01_k».proof.Proof.Combine.Ref7
public import proofs.«01_k».proof.Proof.Sproj.Frame
public import proofs.«01_k».proof.Proof.SprojIdeal.Fin
public import proofs.«01_k».proof.Proof.SprojIdeal.Value
public import proofs.«01_k».proof.Proof.SprojIdeal.Ref
public import Idealize.ShloMosaic.Lib.Claim
public import Idealize.ShloMosaic.Lib.Quiescent

@[expose] public section

set_option maxRecDepth 16384

namespace Cert.Proof

open Idealize.ShloMosaic Idealize.ShloMosaic.TcCoe

/-! ## The expert call -/

theorem moe_range (m : (ℓ : Loc Cert.Kernel.nD Cert.Kernel.τ Cert.Kernel.sig) → Buf (Elt Bits) ℓ) (h : Cert.Pre_Kernel m) :
    Cert.Kernel.Moe.InRange m :=
  fun k => Cert.Kernel.Moe.lt8_of_pre _ _ _ _ _ _ (h 0) k

theorem moe_range_ideal (m : (ℓ : Loc Cert.KernelIdeal.nD Cert.KernelIdeal.τ Cert.KernelIdeal.sig) → Buf (Elt Ideal) ℓ) (h : Cert.Pre_KernelIdeal m) :
    Cert.KernelIdeal.Moe.InRange m :=
  fun k => Cert.KernelIdeal.Moe.lt8_of_pre _ _ _ _ _ _ (h 0) k

theorem moe_frame : Cert.quiescent_Kernel := fun m ρ h =>
  Cert.Kernel.Moe.frame m ρ (Cert.Kernel.Moe.ok_of_range m (moe_range m h))

theorem moe_frame_ideal : Cert.quiescent_KernelIdeal := fun m ρ h =>
  Cert.KernelIdeal.Moe.frame m ρ (Cert.KernelIdeal.Moe.ok_of_range m (moe_range_ideal m h))

theorem moe_frame_ref : Cert.quiescent_ReferenceIdeal := fun m ρ _ =>
  (θ_run _ _ _).mono (fun r h => ⟨fun c => (h c).2, sem_eq_zero_of_no_sems (by decide) r.2⟩) (Cert.ReferenceIdeal.Value.run m ρ)

/-- The reference's array at the kernel's arguments is the array the kernel leaves. -/
theorem moe_value (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hR : Cert.KernelIdeal.Moe.InRange m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Moe.outV (StableHlo.launchContents m' c) = Cert.KernelIdeal.Moe.G m hR c := by
  obtain rfl : c = 0 := Subsingleton.elim _ _
  have et : ∀ q : Fin 40, (ix1 q : Cert.KernelIdeal.S40.Idx) = Cert.KernelIdeal.Moe.tile q := fun q => funext fun a => match a with | ⟨0, _⟩ => rfl
  have e0 : Cert.ReferenceIdeal.Moe.teV (StableHlo.launchContents m' 0) = Cert.KernelIdeal.Moe.tbl m 0 := h0
  have e1 : Cert.ReferenceIdeal.Moe.tvV (StableHlo.launchContents m' 0) = Cert.KernelIdeal.Moe.tbl m 1 := h1
  have e2 : Cert.ReferenceIdeal.Moe.hsV (StableHlo.launchContents m' 0) = Cert.KernelIdeal.Moe.hsA m 0 := h2
  have e3 : Cert.ReferenceIdeal.Moe.w1V (StableHlo.launchContents m' 0) = Cert.KernelIdeal.Moe.w1A m 0 := h3
  have e4 : Cert.ReferenceIdeal.Moe.w3V (StableHlo.launchContents m' 0) = Cert.KernelIdeal.Moe.w3A m 0 := h4
  have e5 : Cert.ReferenceIdeal.Moe.w2V (StableHlo.launchContents m' 0) = Cert.KernelIdeal.Moe.w2A m 0 := h5
  have hR' : ∀ k, (Cert.ReferenceIdeal.Moe.teV (StableHlo.launchContents m' 0) k).toNat < 8 := fun k => by rw [e0]; exact hR k
  refine funext fun (i : Cert.KernelIdeal.S40960x1024.Idx) => ?_
  refine (congrArg (Cert.ReferenceIdeal.Moe.outV (StableHlo.launchContents m' 0)) (eq_ix2 i)).trans ?_
  refine (Cert.ReferenceIdeal.Moe.out_eq _ hR' (i 0) (i 1)).trans ?_
  unfold Cert.KernelIdeal.Moe.G
  have ee : (⟨(Cert.ReferenceIdeal.Moe.teV (StableHlo.launchContents m' 0) (ix1 (Cert.KernelIdeal.Moe.tileOf (i 0)))).toNat, hR' _⟩ : Fin 8)
      = Cert.KernelIdeal.Moe.expert m hR (Cert.KernelIdeal.Moe.tileOf (i 0)) :=
    Fin.ext (congrArg BitVec.toNat ((congrFun e0 _).trans (congrArg (Cert.KernelIdeal.Moe.tbl m 0) (et _))))
  have ev : Cert.ReferenceIdeal.Moe.tvV (StableHlo.launchContents m' 0) (ix1 (Cert.KernelIdeal.Moe.tileOf (i 0)))
      = Cert.KernelIdeal.Moe.tbl m 1 (Cert.KernelIdeal.Moe.tile (Cert.KernelIdeal.Moe.tileOf (i 0))) :=
    (congrFun e1 _).trans (congrArg (Cert.KernelIdeal.Moe.tbl m 1) (et _))
  refine if_congr (iff_of_eq (congrArg (fun x => IntOp.cmpi .sgt x 0#32 = 1#1) ev)) ?_ rfl
  rw [e2, e3, e4, e5]
  exact congrArg (fun e => Cert.Moe.glu _ _ _ _ e (i 0) (i 1)) ee

theorem moe_algebraic : Cert.algebraic_KernelIdeal_ReferenceIdeal := fun m g m' g' hpre hagree => by
  have hR := moe_range_ideal m hpre
  have hO := Cert.KernelIdeal.Moe.ok_of_range m hR
  refine ⟨fun c => Cert.KernelIdeal.Moe.G m hR c, ?_, ?_⟩
  · refine (θ_run _ _ _).mono (fun r h c => ⟨(h.2.1 c).trans (Cert.KernelIdeal.Moe.final m hO hR c), h.1 c⟩) (Cert.KernelIdeal.Moe.run m g hO)
  · refine (θ_run _ _ _).mono (fun r h c => ⟨((h c).1.trans (Cert.ReferenceIdeal.Value.val3_main_v133 _).symm).trans
      (moe_value m m' hR c (hagree c).1 (hagree c).2.1 (hagree c).2.2.1 (hagree c).2.2.2.1 (hagree c).2.2.2.2.1 (hagree c).2.2.2.2.2), (h c).2⟩)
      (Cert.ReferenceIdeal.Value.run m' g')

/-! ## The input projection -/

theorem inproj_frame : Cert.quiescent_Kernel2 := fun m ρ _ => Cert.Kernel2.Inproj.frame m ρ

theorem inproj_frame_ideal : Cert.quiescent_Kernel2Ideal := fun m ρ _ => Cert.Kernel2Ideal.Inproj.frame m ρ

theorem inproj_frame_ref : Cert.quiescent_Reference2Ideal := fun m ρ _ =>
  (θ_run _ _ _).mono (fun r h => ⟨fun c => (h c).2.2.2.2.2, sem_eq_zero_of_no_sems (by decide) r.2⟩) (Cert.Reference2Ideal.Value.run m ρ)

theorem inproj_algebraic : Cert.algebraic_Kernel2Ideal_Reference2Ideal := fun m g m' g' _ hagree => by
  refine ⟨fun c => Cert.Kernel2Ideal.Inproj.outZA m c, fun c => Cert.Kernel2Ideal.Inproj.outLA m c, fun c => Cert.Kernel2Ideal.Inproj.outKA m c,
    fun c => Cert.Kernel2Ideal.Inproj.outVA m c, fun c => Cert.Kernel2Ideal.Inproj.outFA m c, ?_, ?_⟩
  · refine (θ_run _ _ _).mono (fun r h c => ?_) (θ_run_and (Cert.Kernel2Ideal.Inproj.run_outputs m g) (Cert.Kernel2Ideal.Inproj.frame m g))
    obtain ⟨k0, k1, k2, k3, k4⟩ := h.1 c
    exact ⟨k0.trans (Cert.Kernel2Ideal.Inproj.final10 m c), k1.trans (Cert.Kernel2Ideal.Inproj.final11 m c), k2.trans (Cert.Kernel2Ideal.Inproj.final12 m c),
      k3.trans (Cert.Kernel2Ideal.Inproj.final13 m c), k4.trans (Cert.Kernel2Ideal.Inproj.final14 m c), h.2.1 c⟩
  · refine (θ_run _ _ _).mono (fun r h c => ?_) (Cert.Reference2Ideal.Inproj.run m' g')
    obtain ⟨h0, h1, h2, h3, h4, hr⟩ := h c
    obtain ⟨a0, a1, a2, a3, a4, a5⟩ := hagree c
    have e0 : Cert.Reference2Ideal.Inproj.xV m' c = Cert.Kernel2Ideal.Inproj.xA m c := a0.trans (Cert.Kernel2Ideal.Gen.V_main_arg0 m c).symm
    have e1 : Cert.Reference2Ideal.Inproj.nV m' c = Cert.Kernel2Ideal.Inproj.nA m c := a1
    have e2 : Cert.Reference2Ideal.Inproj.wV m' c = Cert.Kernel2Ideal.Inproj.wA m c := a2
    have e3 : Cert.Reference2Ideal.Inproj.aV m' c = Cert.Kernel2Ideal.Inproj.aA m c := a3
    have e4 : Cert.Reference2Ideal.Inproj.bV m' c = Cert.Kernel2Ideal.Inproj.bA m c := a4
    have e5 : Cert.Reference2Ideal.Inproj.gV m' c = Cert.Kernel2Ideal.Inproj.gA m c := a5
    refine ⟨h0.trans ?_, h1.trans ?_, h2.trans ?_, h3.trans ?_, h4.trans ?_, hr⟩
    · rw [e0, e1, e2]
    · rw [e0, e1, e2, e3, e4]
    · rw [e0, e1, e2]
    · rw [e0, e1, e2]
    · rw [e0, e1, e2, e5]

/-! ## The dense feed-forward -/

theorem ffn_frame : Cert.quiescent_Kernel3 := fun m ρ _ => Cert.Kernel3.Gen.frame m ρ

theorem ffn_frame_ideal : Cert.quiescent_Kernel3Ideal := fun m ρ _ => Cert.Kernel3Ideal.Gen.frame m ρ

theorem ffn_frame_ref : Cert.quiescent_Reference3Ideal := fun m ρ _ =>
  (θ_run _ _ _).mono (fun r h => ⟨fun c => (h c).2, sem_eq_zero_of_no_sems (by decide) r.2⟩) (Cert.Reference3Ideal.Value.run m ρ)

theorem ffn_algebraic : Cert.algebraic_Kernel3Ideal_Reference3Ideal := fun m g m' g' _ hagree => by
  refine ⟨fun c => Cert.Kernel3Ideal.Ffn.G m c, ?_, ?_⟩
  · exact (θ_run _ _ _).mono (fun r h c => ⟨(h c).1.trans (Cert.Kernel3Ideal.Ffn.final m c), (h c).2⟩) (Cert.Kernel3Ideal.Value.run_blocks m g)
  · refine (θ_run _ _ _).mono (fun r h c => ⟨(h c).1.trans ?_, (h c).2⟩) (Cert.Reference3Ideal.Ffn.run m' g')
    obtain ⟨a0, a1, a2, a3, a4⟩ := hagree c
    have e0 : Cert.Reference3Ideal.Ffn.hV m' c = Cert.Kernel3Ideal.Ffn.hA m c := a0.trans (Cert.Kernel3Ideal.Gen.V_main_arg0 m c).symm
    have e1 : Cert.Reference3Ideal.Ffn.xV m' c = Cert.Kernel3Ideal.Ffn.xA m c := a1.trans (Cert.Kernel3Ideal.Gen.V_main_arg1 m c).symm
    have e2 : Cert.Reference3Ideal.Ffn.w1V m' c = Cert.Kernel3Ideal.Ffn.w1A m c := a2.trans (Cert.Kernel3Ideal.Gen.V_main_arg2 m c).symm
    have e3 : Cert.Reference3Ideal.Ffn.w3V m' c = Cert.Kernel3Ideal.Ffn.w3A m c := a3.trans (Cert.Kernel3Ideal.Gen.V_main_arg3 m c).symm
    have e4 : Cert.Reference3Ideal.Ffn.w2V m' c = Cert.Kernel3Ideal.Ffn.w2A m c := a4.trans (Cert.Kernel3Ideal.Gen.V_main_arg4 m c).symm
    rw [e0, e1, e2, e3, e4]

/-! ## The merge -/

theorem merge_frame : Cert.quiescent_Kernel4 := fun m ρ _ => Cert.Kernel4.Gen.frame m ρ

theorem merge_frame_ideal : Cert.quiescent_Kernel4Ideal := fun m ρ _ => Cert.Kernel4Ideal.Gen.frame m ρ

theorem merge_frame_ref : Cert.quiescent_Reference4Ideal := fun m ρ _ =>
  (θ_run _ _ _).mono (fun r h => ⟨fun c => (h c).2.2, sem_eq_zero_of_no_sems (by decide) r.2⟩) (Cert.Reference4Ideal.Value.run m ρ)

theorem merge_algebraic : Cert.algebraic_Kernel4Ideal_Reference4Ideal := fun m g m' g' _ hagree => by
  refine ⟨fun c => Cert.Kernel4Ideal.Merge.G m c, fun c => Cert.Merge.outN (Cert.Kernel4Ideal.Merge.G m c) (Cert.Kernel4Ideal.Merge.nA m c), ?_, ?_⟩
  · exact (θ_run _ _ _).mono (fun r h c => ⟨(h c).1.trans (Cert.Kernel4Ideal.Merge.final m c), (h c).2.1.trans (Cert.Kernel4Ideal.Merge.finalN m c), (h c).2.2⟩)
      (Cert.Kernel4Ideal.Value.run_blocks m g)
  · refine (θ_run _ _ _).mono (fun r h c => ?_) (Cert.Reference4Ideal.Merge.run m' g')
    obtain ⟨h0, h1, hr⟩ := h c
    obtain ⟨a0, a1, a2, a3, a4, a5, a6, a7, a8⟩ := hagree c
    have e0 : Cert.Reference4Ideal.Merge.xV m' c = Cert.Kernel4Ideal.Merge.xA m c := a0.trans (Cert.Kernel4Ideal.Gen.V_main_arg0 m c).symm
    have e1 : Cert.Reference4Ideal.Merge.zV m' c = Cert.Kernel4Ideal.Merge.zA m c := a1.trans (Cert.Kernel4Ideal.Gen.V_main_arg1 m c).symm
    have e2 : Cert.Reference4Ideal.Merge.oV m' c = Cert.Kernel4Ideal.Merge.oA m c := a2.trans (Cert.Kernel4Ideal.Gen.V_main_arg2 m c).symm
    have e3 : Cert.Reference4Ideal.Merge.bV m' c = Cert.Kernel4Ideal.Merge.bA m c := a3.trans (Cert.Kernel4Ideal.Gen.V_main_arg3 m c).symm
    have e : Cert.Reference4Ideal.Merge.G m' c = Cert.Kernel4Ideal.Merge.G m c := by
      have e4 : Cert.Reference4Ideal.Merge.gV m' c = Cert.Kernel4Ideal.Merge.gA m c := a4
      have e5 : Cert.Reference4Ideal.Merge.waV m' c = Cert.Kernel4Ideal.Merge.waA m c := a5
      have e6 : Cert.Reference4Ideal.Merge.wbV m' c = Cert.Kernel4Ideal.Merge.wbA m c := a6
      have e7 : Cert.Reference4Ideal.Merge.woV m' c = Cert.Kernel4Ideal.Merge.woA m c := a7
      show Cert.Merge.out (Cert.Reference4Ideal.Merge.xV m' c) (Cert.Reference4Ideal.Merge.zV m' c) (Cert.Reference4Ideal.Merge.oV m' c) (Cert.Reference4Ideal.Merge.bV m' c) (Cert.Reference4Ideal.Merge.gV m' c) (Cert.Reference4Ideal.Merge.waV m' c) (Cert.Reference4Ideal.Merge.wbV m' c) (Cert.Reference4Ideal.Merge.woV m' c) = _
      rw [e0, e1, e2, e3, e4, e5, e6, e7]
    refine ⟨h0.trans e, h1.trans ?_, hr⟩
    have e8 : Cert.Reference4Ideal.Merge.nV m' c = Cert.Kernel4Ideal.Merge.nA m c := a8
    rw [e, e8]

/-! ## The forgetting attention -/

theorem fox_frame : Cert.quiescent_Kernel5 := fun m ρ _ => Cert.Kernel5.Gen.frame m ρ

theorem fox_frame_ideal : Cert.quiescent_Kernel5Ideal := fun m ρ _ => Cert.Kernel5Ideal.Gen.frame m ρ

theorem fox_frame_ideal_finite : Cert.quiescent_Kernel5Ideal_pre_finite := fun m ρ _ => Cert.Kernel5Ideal.Gen.frame m ρ

theorem fox_frame_ref : Cert.quiescent_Reference5Ideal := fun m ρ _ =>
  (θ_run _ _ _).mono (fun r h => ⟨fun c => (h c).2, sem_eq_zero_of_no_sems (by decide) r.2⟩) (Cert.Reference5Ideal.Value.run m ρ)

theorem fox_frame_ref_finite : Cert.quiescent_Reference5Ideal_pre_finite := fun m ρ _ =>
  (θ_run _ _ _).mono (fun r h => ⟨fun c => (h c).2, sem_eq_zero_of_no_sems (by decide) r.2⟩) (Cert.Reference5Ideal.Value.run m ρ)

theorem fox_preserves : Cert.preserves_Kernel5_Kernel5Ideal :=
  IdealRules.named_const.statement Cert.Kernel5Ideal.κ "mask" .f32 0xF149F2CA#32 ⊥ rfl

theorem fox_value (m : (ℓ : Loc Cert.Kernel5Ideal.nD Cert.Kernel5Ideal.τ Cert.Kernel5Ideal.sig) → Buf (Elt Ideal) ℓ)
    (m' : (ℓ : Loc Cert.Reference5Ideal.nD Cert.Reference5Ideal.τ Cert.Reference5Ideal.sig) → Buf (Elt Ideal) ℓ)
    (hpre : Cert.Pre_Kernel5Ideal_finite m) (c : Dev Cert.Kernel5Ideal.nD)
    (a0 : m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0))
    (a1 : m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1))
    (a2 : m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2))
    (a3 : m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) :
    Cert.Fox.Fins (Cert.Kernel5Ideal.Fox.zA m c) (Cert.Kernel5Ideal.Fox.kA m c) (Cert.Kernel5Ideal.Fox.vA m c) (Cert.Kernel5Ideal.Fox.cA m c)
    ∧ Cert.Reference5Ideal.Value.res_main_v32 m' c
      = Cert.Fox.out (Cert.Kernel5Ideal.Fox.zA m c) (Cert.Kernel5Ideal.Fox.kA m c) (Cert.Kernel5Ideal.Fox.vA m c) (Cert.Kernel5Ideal.Fox.cA m c) := by
  have e0 : Cert.Reference5Ideal.Fox.zV m' c = Cert.Kernel5Ideal.Fox.zA m c := a0.trans (Cert.Kernel5Ideal.Gen.V_main_arg0 m c).symm
  have e1 : Cert.Reference5Ideal.Fox.kV m' c = Cert.Kernel5Ideal.Fox.kA m c := a1.trans (Cert.Kernel5Ideal.Gen.V_main_arg1 m c).symm
  have e2 : Cert.Reference5Ideal.Fox.vV m' c = Cert.Kernel5Ideal.Fox.vA m c := a2.trans (Cert.Kernel5Ideal.Gen.V_main_arg2 m c).symm
  have e3 : Cert.Reference5Ideal.Fox.cV m' c = Cert.Kernel5Ideal.Fox.cA m c := a3
  have f := Cert.Fox.fins _ _ _ _ (hpre c)
  rw [← a0, ← a1, ← a2, ← a3] at f
  have f' : Cert.Fox.Fins (Cert.Reference5Ideal.Fox.zV m' c) (Cert.Reference5Ideal.Fox.kV m' c) (Cert.Reference5Ideal.Fox.vV m' c) (Cert.Reference5Ideal.Fox.cV m' c) := f
  have r := Cert.Reference5Ideal.Fox.res_out m' c f'
  rw [e0, e1, e2, e3] at f' r
  exact ⟨f', r⟩

theorem fox_algebraic : Cert.algebraic_Kernel5Ideal_Reference5Ideal_pre_finite := fun m g m' g' hpre hagree => by
  refine ⟨fun c => Cert.Fox.out (Cert.Kernel5Ideal.Fox.zA m c) (Cert.Kernel5Ideal.Fox.kA m c) (Cert.Kernel5Ideal.Fox.vA m c) (Cert.Kernel5Ideal.Fox.cA m c), ?_, ?_⟩
  · refine (θ_run _ _ _).mono (fun r h c => ?_) (Cert.Kernel5Ideal.Value.run_blocks m g)
    exact ⟨(h c).1.trans (Cert.Kernel5Ideal.Fox.final m c (fox_value m m' hpre c (hagree c).1 (hagree c).2.1 (hagree c).2.2.1 (hagree c).2.2.2).1), (h c).2⟩
  · refine (θ_run _ _ _).mono (fun r h c => ?_) (Cert.Reference5Ideal.Value.run m' g')
    exact ⟨(h c).1.trans (fox_value m m' hpre c (hagree c).1 (hagree c).2.1 (hagree c).2.2.1 (hagree c).2.2.2).2, (h c).2⟩

/-! ## The end of the last layer -/

theorem combine_frame : Cert.quiescent_Kernel6 := fun m ρ _ => Cert.Kernel6.Gen.frame m ρ

theorem combine_frame_ideal : Cert.quiescent_Kernel6Ideal := fun m ρ _ => Cert.Kernel6Ideal.Gen.frame m ρ

theorem combine_frame_ref : Cert.quiescent_Reference6Ideal := fun m ρ _ =>
  (θ_run _ _ _).mono (fun r h => ⟨fun c => (h c).2, sem_eq_zero_of_no_sems (by decide) r.2⟩) (Cert.Reference6Ideal.Value.run m ρ)

theorem combine_algebraic : Cert.algebraic_Kernel6Ideal_Reference6Ideal := fun m g m' g' _ hagree => by
  refine ⟨fun c => Cert.Kernel6Ideal.Combine.G m c, ?_, ?_⟩
  · exact (θ_run _ _ _).mono (fun r h c => ⟨(h c).1.trans (Cert.Kernel6Ideal.Combine.final m c), (h c).2⟩) (Cert.Kernel6Ideal.Value.run_blocks m g)
  · refine (θ_run _ _ _).mono (fun r h c => ?_) (Cert.Reference6Ideal.Combine.run m' g')
    obtain ⟨a0, a1, a2, a3, a4⟩ := hagree c
    have e0 : Cert.Reference6Ideal.Combine.xV m' c = Cert.Kernel6Ideal.Combine.xA m c := a0.trans (Cert.Kernel6Ideal.Gen.V_main_arg0 m c).symm
    have e1 : Cert.Reference6Ideal.Combine.aV m' c = Cert.Kernel6Ideal.Combine.aA m c := a1.trans (Cert.Kernel6Ideal.Gen.V_main_arg1 m c).symm
    have e2 : Cert.Reference6Ideal.Combine.bV m' c = Cert.Kernel6Ideal.Combine.bA m c := a2.trans (Cert.Kernel6Ideal.Gen.V_main_arg2 m c).symm
    have e3 : Cert.Reference6Ideal.Combine.gV m' c = Cert.Kernel6Ideal.Combine.gA m c := a3.trans (Cert.Kernel6Ideal.Gen.V_main_arg3 m c).symm
    have e4 : Cert.Reference6Ideal.Combine.nV m' c = Cert.Kernel6Ideal.Combine.nA m c := a4
    refine ⟨(h c).1.trans ?_, (h c).2⟩
    show Cert.Combine.out 16640 (Cert.Reference6Ideal.Combine.xV m' c) (Cert.Reference6Ideal.Combine.aV m' c) (Cert.Reference6Ideal.Combine.bV m' c) (Cert.Reference6Ideal.Combine.gV m' c) (Cert.Reference6Ideal.Combine.nV m' c) = _
    rw [e0, e1, e2, e3, e4]

theorem combine_sample_frame : Cert.quiescent_Kernel7 := fun m ρ _ => Cert.Kernel7.Gen.frame m ρ

theorem combine_sample_frame_ideal : Cert.quiescent_Kernel7Ideal := fun m ρ _ => Cert.Kernel7Ideal.Gen.frame m ρ

theorem combine_sample_frame_ref : Cert.quiescent_Reference7Ideal := fun m ρ _ =>
  (θ_run _ _ _).mono (fun r h => ⟨fun c => (h c).2, sem_eq_zero_of_no_sems (by decide) r.2⟩) (Cert.Reference7Ideal.Value.run m ρ)

theorem combine_sample_algebraic : Cert.algebraic_Kernel7Ideal_Reference7Ideal := fun m g m' g' _ hagree => by
  refine ⟨fun c => Cert.Kernel7Ideal.Combine.G m c, ?_, ?_⟩
  · exact (θ_run _ _ _).mono (fun r h c => ⟨(h c).1.trans (Cert.Kernel7Ideal.Combine.final m c), (h c).2⟩) (Cert.Kernel7Ideal.Value.run_blocks m g)
  · refine (θ_run _ _ _).mono (fun r h c => ?_) (Cert.Reference7Ideal.Combine.run m' g')
    obtain ⟨a0, a1, a2, a3, a4⟩ := hagree c
    have e0 : Cert.Reference7Ideal.Combine.xV m' c = Cert.Kernel7Ideal.Combine.xA m c := a0.trans (Cert.Kernel7Ideal.Gen.V_main_arg0 m c).symm
    have e1 : Cert.Reference7Ideal.Combine.aV m' c = Cert.Kernel7Ideal.Combine.aA m c := a1.trans (Cert.Kernel7Ideal.Gen.V_main_arg1 m c).symm
    have e2 : Cert.Reference7Ideal.Combine.bV m' c = Cert.Kernel7Ideal.Combine.bA m c := a2.trans (Cert.Kernel7Ideal.Gen.V_main_arg2 m c).symm
    have e3 : Cert.Reference7Ideal.Combine.gV m' c = Cert.Kernel7Ideal.Combine.gA m c := a3.trans (Cert.Kernel7Ideal.Gen.V_main_arg3 m c).symm
    have e4 : Cert.Reference7Ideal.Combine.nV m' c = Cert.Kernel7Ideal.Combine.nA m c := a4
    refine ⟨(h c).1.trans ?_, (h c).2⟩
    show Cert.Combine.out 128 (Cert.Reference7Ideal.Combine.xV m' c) (Cert.Reference7Ideal.Combine.aV m' c) (Cert.Reference7Ideal.Combine.bV m' c) (Cert.Reference7Ideal.Combine.gV m' c) (Cert.Reference7Ideal.Combine.nV m' c) = _
    rw [e0, e1, e2, e3, e4]

/-! ## The input projection of the sample's rows -/

theorem sproj_frame : Cert.quiescent_Kernel8 := fun m ρ _ => Cert.Kernel8.Sproj.frame m ρ

theorem sproj_frame_ideal : Cert.quiescent_Kernel8Ideal := fun m ρ _ => Cert.Kernel8Ideal.Sproj.frame m ρ

theorem sproj_frame_ideal_finite : Cert.quiescent_Kernel8Ideal_pre_finite8 := fun m ρ _ => Cert.Kernel8Ideal.Sproj.frame m ρ

theorem sproj_frame_ref : Cert.quiescent_Reference8Ideal := fun m ρ _ =>
  (θ_run _ _ _).mono (fun r h => ⟨fun c => (h c).2.2.2, sem_eq_zero_of_no_sems (by decide) r.2⟩) (Cert.Reference8Ideal.Value.run m ρ)

theorem sproj_frame_ref_finite : Cert.quiescent_Reference8Ideal_pre_finite8 := fun m ρ _ =>
  (θ_run _ _ _).mono (fun r h => ⟨fun c => (h c).2.2.2, sem_eq_zero_of_no_sems (by decide) r.2⟩) (Cert.Reference8Ideal.Value.run m ρ)

theorem sproj_algebraic : Cert.algebraic_Kernel8Ideal_Reference8Ideal_pre_finite8 := fun m g m' g' hpre hagree => by
  refine ⟨fun c => Cert.Kernel8Ideal.Sproj.outZA m c, fun c => Cert.Kernel8Ideal.Sproj.outLA m c, fun c => Cert.Kernel8Ideal.Sproj.outFA m c, ?_, ?_⟩
  · refine (θ_run _ _ _).mono (fun r h c => ?_) (θ_run_and (Cert.Kernel8Ideal.Sproj.run_outputs m g) (Cert.Kernel8Ideal.Sproj.frame m g))
    obtain ⟨k0, k1, k2⟩ := h.1 c
    obtain ⟨hn, hw, ha⟩ := Cert.Sproj.fins _ _ _ _ _ _ (hpre c)
    exact ⟨k0.trans (Cert.Kernel8Ideal.Sproj.final7 m c hn hw), k1.trans (Cert.Kernel8Ideal.Sproj.final8 m c hn hw ha),
      k2.trans (Cert.Kernel8Ideal.Sproj.final9 m c hn hw), h.2.1 c⟩
  · refine (θ_run _ _ _).mono (fun r h c => ?_) (Cert.Reference8Ideal.Sproj.run m' g')
    obtain ⟨h0, h1, h2, hr⟩ := h c
    obtain ⟨a0, a1, a2, a3, a4, a5⟩ := hagree c
    have e0 : Cert.Reference8Ideal.Sproj.xV m' c = Cert.Kernel8Ideal.Sproj.xA m c := a0.trans (Cert.Kernel8Ideal.Gen.V_main_arg0 m c).symm
    have e1 : Cert.Reference8Ideal.Sproj.nV m' c = Cert.Kernel8Ideal.Sproj.nA m c := a1
    have e2 : Cert.Reference8Ideal.Sproj.wV m' c = Cert.Kernel8Ideal.Sproj.wA m c := a2
    have e3 : Cert.Reference8Ideal.Sproj.aV m' c = Cert.Kernel8Ideal.Sproj.aA m c := a3
    have e4 : Cert.Reference8Ideal.Sproj.bV m' c = Cert.Kernel8Ideal.Sproj.bA m c := a4
    have e5 : Cert.Reference8Ideal.Sproj.gV m' c = Cert.Kernel8Ideal.Sproj.gA m c := a5
    refine ⟨h0.trans ?_, h1.trans ?_, h2.trans ?_, hr⟩
    · rw [e0, e1, e2]
    · rw [e0, e1, e2, e3, e4]
    · rw [e0, e1, e2, e5]

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts, Cert.Kernel7.Gen.facts, Cert.Kernel7Ideal.Gen.facts, Cert.Reference7Ideal.Gen.facts,
    Cert.Kernel8.Gen.facts, Cert.Kernel8Ideal.Gen.facts, Cert.Reference8Ideal.Gen.facts, Cert.Pre_experts_in_range.Gen.facts, Cert.Pre_finite.Gen.facts, Cert.Pre_finite8.Gen.facts,
    moe_frame, moe_frame_ideal, moe_frame_ref, inproj_frame, inproj_frame_ideal, inproj_frame_ref,
    ffn_frame, ffn_frame_ideal, ffn_frame_ref, merge_frame, merge_frame_ideal, merge_frame_ref,
    fox_frame, fox_frame_ideal, fox_frame_ideal_finite, fox_frame_ref, fox_frame_ref_finite,
    combine_frame, combine_frame_ideal, combine_frame_ref, combine_sample_frame, combine_sample_frame_ideal, combine_sample_frame_ref,
    sproj_frame, sproj_frame_ideal, sproj_frame_ideal_finite, sproj_frame_ref, sproj_frame_ref_finite,
    trivial, moe_algebraic, trivial, inproj_algebraic, trivial, ffn_algebraic, trivial, merge_algebraic, fox_preserves, fox_algebraic,
    trivial, combine_algebraic, trivial, combine_sample_algebraic, trivial, sproj_algebraic⟩

end Cert.Proof
